-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_gate [hPre_finite_gate : Cert.Pre_finite_gate.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_gate.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_gate [hPre_finite_gate : Cert.Pre_finite_gate.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_gate.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_finite_gate [hKernel7Ideal : Cert.Kernel7Ideal.Facts] [hPre_finite_gate : Cert.Pre_finite_gate.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_gate m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_finite_gate [hReference7Ideal : Cert.Reference7Ideal.Facts] [hPre_finite_gate : Cert.Pre_finite_gate.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_gate m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_v121) = v1 c
          ∧ r.2.mem ((c.tc : Thread Cert.ReferenceIdeal.nD Cert.ReferenceIdeal.τ).loc Cert.ReferenceIdeal.main_v83) = v2 c
          ∧ r.2.mem ((c.tc : Thread Cert.ReferenceIdeal.nD Cert.ReferenceIdeal.τ).loc Cert.ReferenceIdeal.main_v75) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_v9) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal_pre_finite_gate [hKernel7Ideal : Cert.Kernel7Ideal.Facts] [hReference7Ideal : Cert.Reference7Ideal.Facts] [hPre_finite_gate : Cert.Pre_finite_gate.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_gate m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v44_0)) (v1 : (c : Dev Cert.Kernel7Ideal.nD) → Buf (Elt Ideal) ((c.tc : Thread Cert.Kernel7Ideal.nD Cert.Kernel7Ideal.τ).loc Cert.Kernel7Ideal.main_v44_1)) (v2 : (c : Dev Cert.Kernel7Ideal.nD) → Buf (Elt Ideal) ((c.tc : Thread Cert.Kernel7Ideal.nD Cert.Kernel7Ideal.τ).loc Cert.Kernel7Ideal.main_v44_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v44_0) = v0 c
          ∧ r.2.mem ((c.tc : Thread Cert.Kernel7Ideal.nD Cert.Kernel7Ideal.τ).loc Cert.Kernel7Ideal.main_v44_1) = v1 c
          ∧ r.2.mem ((c.tc : Thread Cert.Kernel7Ideal.nD Cert.Kernel7Ideal.τ).loc Cert.Kernel7Ideal.main_v44_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v67) = v0 c
          ∧ r.2.mem ((c.tc : Thread Cert.Reference7Ideal.nD Cert.Reference7Ideal.τ).loc Cert.Reference7Ideal.main_v66) = v1 c
          ∧ r.2.mem ((c.tc : Thread Cert.Reference7Ideal.nD Cert.Reference7Ideal.τ).loc Cert.Reference7Ideal.main_v75) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v12) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v9) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_v9) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v9) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v10) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v7) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v7) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v70) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hPre_finite_gate : Cert.Pre_finite_gate.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_gate (hKernel7Ideal := hKernel7Ideal) (hPre_finite_gate := hPre_finite_gate)
    ∧ quiescent_Reference7Ideal (hReference7Ideal := hReference7Ideal)
    ∧ quiescent_Reference7Ideal_pre_finite_gate (hReference7Ideal := hReference7Ideal) (hPre_finite_gate := hPre_finite_gate)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_gate (hKernel7Ideal := hKernel7Ideal) (hReference7Ideal := hReference7Ideal) (hPre_finite_gate := hPre_finite_gate)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Pre_finite_gate.lean ====
abbrev S2x4x2048x704 : Shape := ⟨4, ![2, 4, 2048, 704]⟩
abbrev S2x4x3x704 : Shape := ⟨4, ![2, 4, 3, 704]⟩
abbrev S4x2048x704 : Shape := ⟨3, ![4, 2048, 704]⟩
abbrev S2x4x1024x704 : Shape := ⟨4, ![2, 4, 1024, 704]⟩
abbrev S8x128 : Shape := ⟨2, ![8, 128]⟩
abbrev S_ : Shape := ⟨0, ![]⟩

class Facts : Prop where
  bitsLt_bf16_f32 : FTy.bits .bf16 < FTy.bits .f32
  bcast_S_S2x4x2048x704 : S_.BroadcastsInDim S2x4x2048x704 (![] : Fin 0 → Fin S2x4x2048x704.rank)
  reducesTo_S2x4x2048x704_S_d0_1_2_3 : S2x4x2048x704.ReducesTo [0, 1, 2, 3] S_
  h_S_ : 0 < S_.numel
  bcast_S_S2x4x3x704 : S_.BroadcastsInDim S2x4x3x704 (![] : Fin 0 → Fin S2x4x3x704.rank)
  reducesTo_S2x4x3x704_S_d0_1_2_3 : S2x4x3x704.ReducesTo [0, 1, 2, 3] S_
  bcast_S_S4x2048x704 : S_.BroadcastsInDim S4x2048x704 (![] : Fin 0 → Fin S4x2048x704.rank)
  reducesTo_S4x2048x704_S_d0_1_2 : S4x2048x704.ReducesTo [0, 1, 2] S_

variable [Facts]

def fn {F : FTy → Type} [FloatOps F] (main_arg0 : FVec F S2x4x2048x704 .bf16) (main_arg1 : FVec F S2x4x3x704 .f32) (main_arg2 : FVec F S4x2048x704 .bf16) (main_arg3 : FVec F S2x4x1024x704 .bf16) (main_arg4 : FVec F S8x128 .f32) : IVec S_ 1 :=
  let main_v0 : FVec F S2x4x2048x704 .f32 := (extf .f32 · bitsLt_bf16_f32) main_arg0
  let main_v1 : FVec F S2x4x2048x704 .f32 := Host.absf main_v0
  let main_cst : FVec F S_ .f32 := constant S_ .f32 0x7F800000#32
  let main_v2 : FVec F S2x4x2048x704 .f32 := broadcastInDim S2x4x2048x704 ![] bcast_S_S2x4x2048x704 main_cst
  let main_v3 : IVec S2x4x2048x704 1 := cmpf .olt main_v1 main_v2
  let main_c : IVec S_ 1 := constantI S_ 1 1#1
  let main_v4 : IVec S_ 1 := (fun x v => Host.reduce IntOp.andi x v reducesTo_S2x4x2048x704_S_d0_1_2_3 h_S_) main_v3 main_c
  let main_v5 : FVec F S2x4x3x704 .f32 := Host.absf main_arg1
  let main_cst_0 : FVec F S_ .f32 := constant S_ .f32 0x7F800000#32
  let main_v6 : FVec F S2x4x3x704 .f32 := broadcastInDim S2x4x3x704 ![] bcast_S_S2x4x3x704 main_cst_0
  let main_v7 : IVec S2x4x3x704 1 := cmpf .olt main_v5 main_v6
  let main_c_1 : IVec S_ 1 := constantI S_ 1 1#1
  let main_v8 : IVec S_ 1 := (fun x v => Host.reduce IntOp.andi x v reducesTo_S2x4x3x704_S_d0_1_2_3 h_S_) main_v7 main_c_1
  let main_v9 : IVec S_ 1 := andi main_v4 main_v8
  let main_v10 : FVec F S4x2048x704 .f32 := (extf .f32 · bitsLt_bf16_f32) main_arg2
  let main_v11 : FVec F S4x2048x704 .f32 := Host.absf main_v10
  let main_cst_2 : FVec F S_ .f32 := constant S_ .f32 0x7F800000#32
  let main_v12 : FVec F S4x2048x704 .f32 := broadcastInDim S4x2048x704 ![] bcast_S_S4x2048x704 main_cst_2
  let main_v13 : IVec S4x2048x704 1 := cmpf .olt main_v11 main_v12
  let main_c_3 : IVec S_ 1 := constantI S_ 1 1#1
  let main_v14 : IVec S_ 1 := (fun x v => Host.reduce IntOp.andi x v reducesTo_S4x2048x704_S_d0_1_2 h_S_) main_v13 main_c_3
  let main_v15 : IVec S_ 1 := andi main_v9 main_v14
  main_v15
-- ==== Kernel.lean ====
abbrev S8x2048x256 : Shape := ⟨3, ![8, 2048, 256]⟩
abbrev S2x2048x512 : Shape := ⟨3, ![2, 2048, 512]⟩
abbrev S3x512 : Shape := ⟨2, ![3, 512]⟩
abbrev S4x128x128 : Shape := ⟨3, ![4, 128, 128]⟩
abbrev S1x512 : Shape := ⟨2, ![1, 512]⟩
abbrev S8x128 : Shape := ⟨2, ![8, 128]⟩
abbrev S4x2x2048x256 : Shape := ⟨4, ![4, 2, 2048, 256]⟩
abbrev S1x2048x128 : Shape := ⟨3, ![1, 2048, 128]⟩
abbrev S2x2048x128 : Shape := ⟨3, ![2, 2048, 128]⟩
abbrev S3x128 : Shape := ⟨2, ![3, 128]⟩
abbrev S1x128x128 : Shape := ⟨3, ![1, 128, 128]⟩
abbrev S1x128 : Shape := ⟨2, ![1, 128]⟩
abbrev S4x1x2048x128 : Shape := ⟨4, ![4, 1, 2048, 128]⟩
abbrev S2048x128 : Shape := ⟨2, ![2048, 128]⟩
abbrev S1x1x2048x128 : Shape := ⟨4, ![1, 1, 2048, 128]⟩
abbrev S128 : Shape := ⟨1, ![128]⟩
abbrev S128x128 : Shape := ⟨2, ![128, 128]⟩

abbrev nBuf : Space → Nat
  | .hbm => 10
  | .vmem => 24
  | .smem => 0
  | _ => 0

abbrev bufTy : (tb : Table) → Fin (tcTables nBuf tb) → BufTy
  | .hbm, ⟨0, _⟩ => ⟨S8x2048x256, .bf16⟩
  | .hbm, ⟨1, _⟩ => ⟨S2x2048x512, .f32⟩
  | .hbm, ⟨2, _⟩ => ⟨S3x512, .f32⟩
  | .hbm, ⟨3, _⟩ => ⟨S4x128x128, .f32⟩
  | .hbm, ⟨4, _⟩ => ⟨S1x512, .f32⟩
  | .hbm, ⟨5, _⟩ => ⟨S8x128, .f32⟩
  | .hbm, ⟨6, _⟩ => ⟨S4x2x2048x256, .bf16⟩
  | .hbm, ⟨7, _⟩ => ⟨S3x512, .f32⟩
  | .hbm, ⟨8, _⟩ => ⟨S4x128x128, .f32⟩
  | .hbm, ⟨9, _⟩ => ⟨S1x512, .f32⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S2x2048x128, .f32⟩
  | .local _ .vmem, ⟨9, _⟩ => ⟨S2x2048x128, .f32⟩
  | .local _ .vmem, ⟨10, _⟩ => ⟨S3x128, .f32⟩
  | .local _ .vmem, ⟨11, _⟩ => ⟨S3x128, .f32⟩
  | .local _ .vmem, ⟨12, _⟩ => ⟨S1x128x128, .f32⟩
  | .local _ .vmem, ⟨13, _⟩ => ⟨S1x128x128, .f32⟩
  | .local _ .vmem, ⟨14, _⟩ => ⟨S1x128, .f32⟩
  | .local _ .vmem, ⟨15, _⟩ => ⟨S1x128, .f32⟩
  | .local _ .vmem, ⟨16, _⟩ => ⟨S4x1x2048x128, .bf16⟩
  | .local _ .vmem, ⟨17, _⟩ => ⟨S4x1x2048x128, .bf16⟩
  | .local _ .vmem, ⟨18, _⟩ => ⟨S3x128, .f32⟩
  | .local _ .vmem, ⟨19, _⟩ => ⟨S3x128, .f32⟩
  | .local _ .vmem, ⟨20, _⟩ => ⟨S1x128x128, .f32⟩
  | .local _ .vmem, ⟨21, _⟩ => ⟨S1x128x128, .f32⟩
  | .local _ .vmem, ⟨22, _⟩ => ⟨S1x128, .f32⟩
  | .local _ .vmem, ⟨23, _⟩ => ⟨S1x128, .f32⟩
  | _, _ => ⟨S8x2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v87 : BitVec 1 := Scalar.cmpi .eq arg0 c0_i32
  let v88 : BitVec 32 := Scalar.extui v87
  let c0_i32_39 : BitVec 32 := 0#32
  let v89 : BitVec 1 := Scalar.cmpi .ne v88 c0_i32_39
  v89

def k0_cond2 (i : grid0.Coords) : BitVec 1 :=
  let arg0 : BitVec 32 := BitVec.ofNat 32 (i 0).val
  let c1_i32_40 : BitVec 32 := 1#32
  let v90 : BitVec 1 := Scalar.cmpi .eq arg0 c1_i32_40
  let v91 : BitVec 32 := Scalar.extui v90
  let c0_i32_41 : BitVec 32 := 0#32
  let v92 : BitVec 1 := Scalar.cmpi .ne v91 c0_i32_41
  v92

def k0_cond3 (i : grid0.Coords) : BitVec 1 :=
  let arg0 : BitVec 32 := BitVec.ofNat 32 (i 0).val
  let c2_i32_42 : BitVec 32 := 2#32
  let v93 : BitVec 1 := Scalar.cmpi .eq arg0 c2_i32_42
  let v94 : BitVec 32 := Scalar.extui v93
  let c0_i32_43 : BitVec 32 := 0#32
  let v95 : BitVec 1 := Scalar.cmpi .ne v94 c0_i32_43
  v95

def k0_cond4 (i : grid0.Coords) : BitVec 1 :=
  let arg0 : BitVec 32 := BitVec.ofNat 32 (i 0).val
  let c3_i32 : BitVec 32 := 3#32
  let v96 : BitVec 1 := Scalar.cmpi .eq arg0 c3_i32
  let v97 : BitVec 32 := Scalar.extui v96
  let c0_i32_44 : BitVec 32 := 0#32
  let v98 : BitVec 1 := Scalar.cmpi .ne v97 c0_i32_44
  v98

def cc0_transform_0 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.addi c2_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.addi c4_i32 v16
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, c0_i32_10.toNat, v27.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.addi c6_i32 v16
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, c0_i32_10.toNat, v27.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x1x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S3x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S8x2048x256 : Shape := ⟨3, ![8, 2048, 256]⟩
abbrev S2x2048x512 : Shape := ⟨3, ![2, 2048, 512]⟩
abbrev S3x512 : Shape := ⟨2, ![3, 512]⟩
abbrev S4x128x128 : Shape := ⟨3, ![4, 128, 128]⟩
abbrev S1x512 : Shape := ⟨2, ![1, 512]⟩
abbrev S8x128 : Shape := ⟨2, ![8, 128]⟩
abbrev S4 : Shape := ⟨1, ![4]⟩
abbrev S2048x8x256 : Shape := ⟨3, ![2048, 8, 256]⟩
abbrev S2048x2048 : Shape := ⟨2, ![2048, 2048]⟩
abbrev S2048x512 : Shape := ⟨2, ![2048, 512]⟩
abbrev S2x512 : Shape := ⟨2, ![2, 512]⟩
abbrev S_ : Shape := ⟨0, ![]⟩
abbrev S2046x512 : Shape := ⟨2, ![2046, 512]⟩
abbrev S2047x512 : Shape := ⟨2, ![2047, 512]⟩
abbrev S2048x4x128 : Shape := ⟨3, ![2048, 4, 128]⟩
abbrev S2048 : Shape := ⟨1, ![2048]⟩
abbrev S2048x1 : Shape := ⟨2, ![2048, 1]⟩
abbrev S1x2048 : Shape := ⟨2, ![1, 2048]⟩
abbrev S4x1x1 : Shape := ⟨3, ![4, 1, 1]⟩
abbrev S1x2048x2048 : Shape := ⟨3, ![1, 2048, 2048]⟩
abbrev S4x2048x2048 : Shape := ⟨3, ![4, 2048, 2048]⟩
abbrev S1x4 : Shape := ⟨2, ![1, 4]⟩
abbrev S2048x4 : Shape := ⟨2, ![2048, 4]⟩
abbrev S2048x4x1 : Shape := ⟨3, ![2048, 4, 1]⟩
abbrev S4x128x2048 : Shape := ⟨3, ![4, 128, 2048]⟩
abbrev S1x2048x512 : Shape := ⟨3, ![1, 2048, 512]⟩
abbrev S512 : Shape := ⟨1, ![512]⟩
abbrev S4x2048x128 : Shape := ⟨3, ![4, 2048, 128]⟩
abbrev S4x2x2048x256 : Shape := ⟨4, ![4, 2, 2048, 256]⟩

abbrev nBuf : Space → Nat
  | .hbm => 152
  | .vmem => 0
  | .smem => 0
  | _ => 0

abbrev hbmTy0_0 (i : Nat) : BufTy := match i % 128 with
  | 0 => ⟨S8x2048x256, .bf16⟩
  | 1 => ⟨S2x2048x512, .f32⟩
  | 2 => ⟨S3x512, .f32⟩
  | 3 => ⟨S4x128x128, .f32⟩
  | 4 => ⟨S1x512, .f32⟩
  | 5 => ⟨S8x128, .f32⟩
  | 6 => ⟨S4, .i32⟩
  | 7 => ⟨S8x2048x256, .f32⟩
  | 8 => ⟨S2048x8x256, .f32⟩
  | 9 => ⟨S2048x2048, .f32⟩
  | 10 => ⟨S2048x512, .f32⟩
  | 11 => ⟨S2048x512, .f32⟩
  | 12 => ⟨S2048x512, .f32⟩
  | 13 => ⟨S2048x512, .f32⟩
  | 14 => ⟨S2048x512, .f32⟩
  | 15 => ⟨S1x512, .f32⟩
  | 16 => ⟨S2x512, .f32⟩
  | 17 => ⟨S_, .f32⟩
  | 18 => ⟨S2x512, .f32⟩
  | 19 => ⟨S2046x512, .f32⟩
  | 20 => ⟨S2048x512, .f32⟩
  | 21 => ⟨S_, .f32⟩
  | 22 => ⟨S2x512, .f32⟩
  | 23 => ⟨S2048x512, .f32⟩
  | 24 => ⟨S2048x512, .f32⟩
  | 25 => ⟨S_, .f32⟩
  | 26 => ⟨S2048x512, .f32⟩
  | 27 => ⟨S2048x512, .f32⟩
  | 28 => ⟨S1x512, .f32⟩
  | 29 => ⟨S1x512, .f32⟩
  | 30 => ⟨S_, .f32⟩
  | 31 => ⟨S1x512, .f32⟩
  | 32 => ⟨S2047x512, .f32⟩
  | 33 => ⟨S2048x512, .f32⟩
  | 34 => ⟨S_, .f32⟩
  | 35 => ⟨S1x512, .f32⟩
  | 36 => ⟨S2048x512, .f32⟩
  | 37 => ⟨S2048x512, .f32⟩
  | 38 => ⟨S2048x512, .f32⟩
  | 39 => ⟨S1x512, .f32⟩
  | 40 => ⟨S2048x512, .f32⟩
  | 41 => ⟨S2048x512, .f32⟩
  | 42 => ⟨S2048x512, .f32⟩
  | 43 => ⟨S2048x512, .f32⟩
  | 44 => ⟨S2048x4x128, .f32⟩
  | 45 => ⟨S2048, .i32⟩
  | 46 => ⟨S2048x1, .i32⟩
  | 47 => ⟨S1x2048, .i32⟩
  | 48 => ⟨S2048x2048, .i32⟩
  | 49 => ⟨S2048x2048, .i32⟩
  | 50 => ⟨S2048x2048, .i32⟩
  | 51 => ⟨S_, .i32⟩
  | 52 => ⟨S2048x2048, .i32⟩
  | 53 => ⟨S2048x2048, .i1⟩
  | 54 => ⟨S4x1x1, .i32⟩
  | 55 => ⟨S1x2048x2048, .i32⟩
  | 56 => ⟨S4x2048x2048, .i32⟩
  | 57 => ⟨S4x2048x2048, .i32⟩
  | 58 => ⟨S4x2048x2048, .i1⟩
  | 59 => ⟨S1x2048x2048, .i1⟩
  | 60 => ⟨S4x2048x2048, .i1⟩
  | 61 => ⟨S4x2048x2048, .i1⟩
  | 62 => ⟨S4x2048x2048, .f32⟩
  | 63 => ⟨S2048x1, .i32⟩
  | 64 => ⟨S_, .i32⟩
  | 65 => ⟨S2048x1, .i32⟩
  | 66 => ⟨S2048x1, .i32⟩
  | 67 => ⟨S1x4, .i32⟩
  | 68 => ⟨S2048x4, .i32⟩
  | 69 => ⟨S2048x4, .i32⟩
  | 70 => ⟨S2048x4, .i32⟩
  | 71 => ⟨S2048x4, .f32⟩
  | 72 => ⟨S2048x4x1, .f32⟩
  | 73 => ⟨S4x128x2048, .f32⟩
  | 74 => ⟨S2048x4x128, .f32⟩
  | 75 => ⟨S2048x4x128, .f32⟩
  | 76 => ⟨S2048x4x128, .f32⟩
  | 77 => ⟨S2048x4x128, .f32⟩
  | 78 => ⟨S4x128x2048, .f32⟩
  | 79 => ⟨S2048x4x128, .f32⟩
  | 80 => ⟨S2048x512, .f32⟩
  | 81 => ⟨S2048x512, .f32⟩
  | 82 => ⟨S2048x512, .f32⟩
  | 83 => ⟨S1x2048x512, .f32⟩
  | 84 => ⟨S2048x512, .f32⟩
  | 85 => ⟨S1x2048x512, .f32⟩
  | 86 => ⟨S2048x512, .f32⟩
  | 87 => ⟨S2048x512, .f32⟩
  | 88 => ⟨S_, .f32⟩
  | 89 => ⟨S512, .f32⟩
  | 90 => ⟨S1x512, .f32⟩
  | 91 => ⟨S2048x512, .f32⟩
  | 92 => ⟨S2048x512, .f32⟩
  | 93 => ⟨S2048x4x128, .f32⟩
  | 94 => ⟨S4x128x2048, .f32⟩
  | 95 => ⟨S4x2048x128, .f32⟩
  | 96 => ⟨S2048x4x128, .f32⟩
  | 97 => ⟨S4x128x128, .f32⟩
  | 98 => ⟨S4x128x128, .f32⟩
  | 99 => ⟨S2048x4x128, .f32⟩
  | 100 => ⟨S2048x4x128, .f32⟩
  | 101 => ⟨S2048x4x128, .f32⟩
  | 102 => ⟨S4x128x2048, .f32⟩
  | 103 => ⟨S4x128x2048, .f32⟩
  | 104 => ⟨S2048x4x128, .f32⟩
  | 105 => ⟨S2048x4x128, .f32⟩
  | 106 => ⟨S2048x512, .f32⟩
  | 107 => ⟨S2048x512, .f32⟩
  | 108 => ⟨S2048x512, .f32⟩
  | 109 => ⟨S2048x512, .f32⟩
  | 110 => ⟨S2048x512, .f32⟩
  | 111 => ⟨S2048x512, .f32⟩
  | 112 => ⟨S_, .f32⟩
  | 113 => ⟨S512, .f32⟩
  | 114 => ⟨S1x512, .f32⟩
  | 115 => ⟨S_, .f32⟩
  | 116 => ⟨S3x512, .f32⟩
  | 117 => ⟨S2048x512, .f32⟩
  | 118 => ⟨S2048x512, .f32⟩
  | 119 => ⟨S2048x512, .f32⟩
  | 120 => ⟨S_, .f32⟩
  | 121 => ⟨S512, .f32⟩
  | 122 => ⟨S1x512, .f32⟩
  | 123 => ⟨S1x512, .f32⟩
  | 124 => ⟨S2047x512, .f32⟩
  | 125 => ⟨S_, .f32⟩
  | 126 => ⟨S2048x512, .f32⟩
  | 127 => ⟨S2048x512, .f32⟩
  | _ => ⟨S8x2048x256, .bf16⟩

abbrev hbmTy0_1 (i : Nat) : BufTy := match i % 128 with
  | 0 => ⟨S_, .f32⟩
  | 1 => ⟨S3x512, .f32⟩
  | 2 => ⟨S3x512, .f32⟩
  | 3 => ⟨S2048x512, .f32⟩
  | 4 => ⟨S2048x512, .f32⟩
  | 5 => ⟨S2048x512, .f32⟩
  | 6 => ⟨S_, .f32⟩
  | 7 => ⟨S512, .f32⟩
  | 8 => ⟨S1x512, .f32⟩
  | 9 => ⟨S2x512, .f32⟩
  | 10 => ⟨S2046x512, .f32⟩
  | 11 => ⟨S_, .f32⟩
  | 12 => ⟨S2048x512, .f32⟩
  | 13 => ⟨S2048x512, .f32⟩
  | 14 => ⟨S_, .f32⟩
  | 15 => ⟨S3x512, .f32⟩
  | 16 => ⟨S3x512, .f32⟩
  | 17 => ⟨S2048x512, .f32⟩
  | 18 => ⟨S2048x512, .f32⟩
  | 19 => ⟨S2048x2048, .f32⟩
  | 20 => ⟨S2048x8x256, .f32⟩
  | 21 => ⟨S8x2048x256, .f32⟩
  | 22 => ⟨S8x2048x256, .bf16⟩
  | 23 => ⟨S4x2x2048x256, .bf16⟩
  | _ => ⟨S8x2048x256, .bf16⟩

abbrev hbmTy (i : Nat) : BufTy := match i / 128 with
  | 0 => hbmTy0_0 i
  | 1 => hbmTy0_1 i
  | _ => ⟨S8x2048x256, .bf16⟩

abbrev bufTy : (tb : Table) → Fin (tcTables nBuf tb) → BufTy
  | .hbm, ⟨i, _⟩ => hbmTy i
  | _, _ => ⟨S8x2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_c_4 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_c_5 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_cst_6 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_cst_7 : Ref sig .tc := ⟨.hbm, 112, rfl⟩
abbrev main_v97 : Ref sig .tc := ⟨.hbm, 113, rfl⟩
abbrev main_v98 : Ref sig .tc := ⟨.hbm, 114, rfl⟩
abbrev main_cst_8 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_cst_9 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_cst_10 : Ref sig .tc := ⟨.hbm, 125, rfl⟩
abbrev main_v107 : Ref sig .tc := ⟨.hbm, 126, rfl⟩
abbrev main_v108 : Ref sig .tc := ⟨.hbm, 127, rfl⟩
abbrev main_cst_11 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_cst_12 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_cst_13 : Ref sig .tc := ⟨.hbm, 139, rfl⟩
abbrev main_v118 : Ref sig .tc := ⟨.hbm, 140, rfl⟩
abbrev main_v119 : Ref sig .tc := ⟨.hbm, 141, rfl⟩
abbrev main_cst_14 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩

abbrev nD : Nat := 1
abbrev τ : Topo := Topo.v7x

variable {F : FTy → Type} [FloatOps F]
-- ==== Kernel2.lean ====
abbrev S2048x1024 : Shape := ⟨2, ![2048, 1024]⟩
abbrev S8x1024x704 : Shape := ⟨3, ![8, 1024, 704]⟩
abbrev S8x2048x704 : Shape := ⟨3, ![8, 2048, 704]⟩
abbrev S1x1024x704 : Shape := ⟨3, ![1, 1024, 704]⟩
abbrev S1x2048x704 : Shape := ⟨3, ![1, 2048, 704]⟩
abbrev S1024x704 : Shape := ⟨2, ![1024, 704]⟩
abbrev S2048x704 : Shape := ⟨2, ![2048, 704]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S8x1024x704, .bf16⟩
  | .hbm, ⟨2, _⟩ => ⟨S8x2048x704, .bf16⟩
  | .local _ .vmem, ⟨0, _⟩ => ⟨S2048x1024, .bf16⟩
  | .local _ .vmem, ⟨1, _⟩ => ⟨S1x1024x704, .bf16⟩
  | .local _ .vmem, ⟨2, _⟩ => ⟨S1x1024x704, .bf16⟩
  | .local _ .vmem, ⟨3, _⟩ => ⟨S1x2048x704, .bf16⟩
  | .local _ .vmem, ⟨4, _⟩ => ⟨S1x2048x704, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S2048x1024 : Shape := ⟨2, ![2048, 1024]⟩
abbrev S8x1024x704 : Shape := ⟨3, ![8, 1024, 704]⟩
abbrev S1024x8x704 : Shape := ⟨3, ![1024, 8, 704]⟩
abbrev S1024x5632 : Shape := ⟨2, ![1024, 5632]⟩
abbrev S2048x5632 : Shape := ⟨2, ![2048, 5632]⟩
abbrev S2048x8x704 : Shape := ⟨3, ![2048, 8, 704]⟩
abbrev S8x2048x704 : Shape := ⟨3, ![8, 2048, 704]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S8x1024x704, .bf16⟩
  | .hbm, ⟨2, _⟩ => ⟨S2048x1024, .f32⟩
  | .hbm, ⟨3, _⟩ => ⟨S8x1024x704, .f32⟩
  | .hbm, ⟨4, _⟩ => ⟨S1024x8x704, .f32⟩
  | .hbm, ⟨5, _⟩ => ⟨S1024x5632, .f32⟩
  | .hbm, ⟨6, _⟩ => ⟨S2048x5632, .f32⟩
  | .hbm, ⟨7, _⟩ => ⟨S2048x8x704, .f32⟩
  | .hbm, ⟨8, _⟩ => ⟨S8x2048x704, .f32⟩
  | .hbm, ⟨9, _⟩ => ⟨S8x2048x704, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel3.lean ====
abbrev S4x2048x704 : Shape := ⟨3, ![4, 2048, 704]⟩
abbrev S4x704x1024 : Shape := ⟨3, ![4, 704, 1024]⟩
abbrev S2048x1024 : Shape := ⟨2, ![2048, 1024]⟩
abbrev S1x1024 : Shape := ⟨2, ![1, 1024]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩

abbrev nBuf : Space → Nat
  | .hbm => 6
  | .vmem => 10
  | .smem => 0
  | _ => 0

abbrev bufTy : (tb : Table) → Fin (tcTables nBuf tb) → BufTy
  | .hbm, ⟨0, _⟩ => ⟨S4x2048x704, .bf16⟩
  | .hbm, ⟨1, _⟩ => ⟨S4x704x1024, .bf16⟩
  | .hbm, ⟨2, _⟩ => ⟨S2048x1024, .f32⟩
  | .hbm, ⟨3, _⟩ => ⟨S1x1024, .f32⟩
  | .hbm, ⟨4, _⟩ => ⟨S2048x1024, .bf16⟩
  | .hbm, ⟨5, _⟩ => ⟨S2048x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x704x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | _, _ => ⟨S4x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S4x2048x704 : Shape := ⟨3, ![4, 2048, 704]⟩
abbrev S4x704x1024 : Shape := ⟨3, ![4, 704, 1024]⟩
abbrev S2048x1024 : Shape := ⟨2, ![2048, 1024]⟩
abbrev S1x1024 : Shape := ⟨2, ![1, 1024]⟩
abbrev S2048x4x704 : Shape := ⟨3, ![2048, 4, 704]⟩
abbrev S2048x2816 : Shape := ⟨2, ![2048, 2816]⟩
abbrev S2816x1024 : Shape := ⟨2, ![2816, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4x2048x704, .bf16⟩
  | .hbm, ⟨1, _⟩ => ⟨S4x704x1024, .bf16⟩
  | .hbm, ⟨2, _⟩ => ⟨S2048x1024, .f32⟩
  | .hbm, ⟨3, _⟩ => ⟨S1x1024, .f32⟩
  | .hbm, ⟨4, _⟩ => ⟨S4x2048x704, .f32⟩
  | .hbm, ⟨5, _⟩ => ⟨S4x704x1024, .f32⟩
  | .hbm, ⟨6, _⟩ => ⟨S2048x4x704, .f32⟩
  | .hbm, ⟨7, _⟩ => ⟨S2048x2816, .f32⟩
  | .hbm, ⟨8, _⟩ => ⟨S2816x1024, .f32⟩
  | .hbm, ⟨9, _⟩ => ⟨S2048x1024, .f32⟩
  | .hbm, ⟨10, _⟩ => ⟨S2048x1024, .bf16⟩
  | .hbm, ⟨11, _⟩ => ⟨S2048x1024, .f32⟩
  | .hbm, ⟨12, _⟩ => ⟨S2048x1024, .f32⟩
  | .hbm, ⟨13, _⟩ => ⟨S2048x1024, .f32⟩
  | _, _ => ⟨S4x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel4.lean ====
abbrev S2048x1024 : Shape := ⟨2, ![2048, 1024]⟩
abbrev S4x704x1024 : Shape := ⟨3, ![4, 704, 1024]⟩
abbrev S4x2048x704 : Shape := ⟨3, ![4, 2048, 704]⟩
abbrev S1x704x1024 : Shape := ⟨3, ![1, 704, 1024]⟩
abbrev S1x2048x704 : Shape := ⟨3, ![1, 2048, 704]⟩
abbrev S704x1024 : Shape := ⟨2, ![704, 1024]⟩
abbrev S2048x704 : Shape := ⟨2, ![2048, 704]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S4x704x1024, .bf16⟩
  | .hbm, ⟨2, _⟩ => ⟨S4x2048x704, .bf16⟩
  | .local _ .vmem, ⟨0, _⟩ => ⟨S2048x1024, .bf16⟩
  | .local _ .vmem, ⟨1, _⟩ => ⟨S1x704x1024, .bf16⟩
  | .local _ .vmem, ⟨2, _⟩ => ⟨S1x704x1024, .bf16⟩
  | .local _ .vmem, ⟨3, _⟩ => ⟨S1x2048x704, .bf16⟩
  | .local _ .vmem, ⟨4, _⟩ => ⟨S1x2048x704, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S2048x1024 : Shape := ⟨2, ![2048, 1024]⟩
abbrev S4x704x1024 : Shape := ⟨3, ![4, 704, 1024]⟩
abbrev S_ : Shape := ⟨0, ![]⟩
abbrev S4x2048x704 : Shape := ⟨3, ![4, 2048, 704]⟩
abbrev S2048x4x704 : Shape := ⟨3, ![2048, 4, 704]⟩
abbrev S2048x2816 : Shape := ⟨2, ![2048, 2816]⟩
abbrev S2816x1024 : Shape := ⟨2, ![2816, 1024]⟩

abbrev nBuf : Space → Nat
  | .hbm => 14
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x704x1024, .bf16⟩
  | .hbm, ⟨2, _⟩ => ⟨S4x704x1024, .f32⟩
  | .hbm, ⟨3, _⟩ => ⟨S_, .f32⟩
  | .hbm, ⟨4, _⟩ => ⟨S4x2048x704, .f32⟩
  | .hbm, ⟨5, _⟩ => ⟨S2048x4x704, .f32⟩
  | .hbm, ⟨6, _⟩ => ⟨S2048x2816, .f32⟩
  | .hbm, ⟨7, _⟩ => ⟨S2816x1024, .f32⟩
  | .hbm, ⟨8, _⟩ => ⟨S2048x1024, .f32⟩
  | .hbm, ⟨9, _⟩ => ⟨S2048x1024, .f32⟩
  | .hbm, ⟨10, _⟩ => ⟨S2048x2816, .f32⟩
  | .hbm, ⟨11, _⟩ => ⟨S2048x4x704, .f32⟩
  | .hbm, ⟨12, _⟩ => ⟨S4x2048x704, .f32⟩
  | .hbm, ⟨13, _⟩ => ⟨S4x2048x704, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel5.lean ====
abbrev S4x2048x704 : Shape := ⟨3, ![4, 2048, 704]⟩
abbrev S2048x1024 : Shape := ⟨2, ![2048, 1024]⟩
abbrev S4x704x1024 : Shape := ⟨3, ![4, 704, 1024]⟩
abbrev S1x2048x704 : Shape := ⟨3, ![1, 2048, 704]⟩
abbrev S1x704x1024 : Shape := ⟨3, ![1, 704, 1024]⟩
abbrev S2048x704 : Shape := ⟨2, ![2048, 704]⟩
abbrev S704x1024 : Shape := ⟨2, ![704, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4x2048x704, .bf16⟩
  | .hbm, ⟨1, _⟩ => ⟨S2048x1024, .bf16⟩
  | .hbm, ⟨2, _⟩ => ⟨S4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S1x704x1024, .bf16⟩
  | .local _ .vmem, ⟨4, _⟩ => ⟨S1x704x1024, .bf16⟩
  | _, _ => ⟨S4x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4x2048x704 : Shape := ⟨3, ![4, 2048, 704]⟩
abbrev S2048x1024 : Shape := ⟨2, ![2048, 1024]⟩
abbrev S_ : Shape := ⟨0, ![]⟩
abbrev S4x704x1024 : Shape := ⟨3, ![4, 704, 1024]⟩
abbrev S2048x4x704 : Shape := ⟨3, ![2048, 4, 704]⟩
abbrev S2048x2816 : Shape := ⟨2, ![2048, 2816]⟩
abbrev S2816x1024 : Shape := ⟨2, ![2816, 1024]⟩
abbrev S1024x2816 : Shape := ⟨2, ![1024, 2816]⟩

abbrev nBuf : Space → Nat
  | .hbm => 14
  | .vmem => 0
  | .smem => 0
  | _ => 0

abbrev bufTy : (tb : Table) → Fin (tcTables nBuf tb) → BufTy
  | .hbm, ⟨0, _⟩ => ⟨S4x2048x704, .bf16⟩
  | .hbm, ⟨1, _⟩ => ⟨S2048x1024, .bf16⟩
  | .hbm, ⟨2, _⟩ => ⟨S4x2048x704, .f32⟩
  | .hbm, ⟨3, _⟩ => ⟨S_, .f32⟩
  | .hbm, ⟨4, _⟩ => ⟨S4x704x1024, .f32⟩
  | .hbm, ⟨5, _⟩ => ⟨S2048x4x704, .f32⟩
  | .hbm, ⟨6, _⟩ => ⟨S2048x2816, .f32⟩
  | .hbm, ⟨7, _⟩ => ⟨S2816x1024, .f32⟩
  | .hbm, ⟨8, _⟩ => ⟨S2048x1024, .f32⟩
  | .hbm, ⟨9, _⟩ => ⟨S2048x1024, .f32⟩
  | .hbm, ⟨10, _⟩ => ⟨S1024x2816, .f32⟩
  | .hbm, ⟨11, _⟩ => ⟨S2816x1024, .f32⟩
  | .hbm, ⟨12, _⟩ => ⟨S4x704x1024, .f32⟩
  | .hbm, ⟨13, _⟩ => ⟨S4x704x1024, .bf16⟩
  | _, _ => ⟨S4x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel6.lean ====
abbrev S2048x1024 : Shape := ⟨2, ![2048, 1024]⟩
abbrev S8x2048x704 : Shape := ⟨3, ![8, 2048, 704]⟩
abbrev S8x704x1024 : Shape := ⟨3, ![8, 704, 1024]⟩
abbrev S1x2048x704 : Shape := ⟨3, ![1, 2048, 704]⟩
abbrev S1x704x1024 : Shape := ⟨3, ![1, 704, 1024]⟩
abbrev S2048x704 : Shape := ⟨2, ![2048, 704]⟩
abbrev S704x1024 : Shape := ⟨2, ![704, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S8x2048x704, .bf16⟩
  | .hbm, ⟨2, _⟩ => ⟨S8x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S1x704x1024, .bf16⟩
  | .local _ .vmem, ⟨4, _⟩ => ⟨S1x704x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S2048x1024 : Shape := ⟨2, ![2048, 1024]⟩
abbrev S8x2048x704 : Shape := ⟨3, ![8, 2048, 704]⟩
abbrev S2048x8x704 : Shape := ⟨3, ![2048, 8, 704]⟩
abbrev S2048x5632 : Shape := ⟨2, ![2048, 5632]⟩
abbrev S_ : Shape := ⟨0, ![]⟩
abbrev S8x1024x704 : Shape := ⟨3, ![8, 1024, 704]⟩
abbrev S1024x8x704 : Shape := ⟨3, ![1024, 8, 704]⟩
abbrev S1024x5632 : Shape := ⟨2, ![1024, 5632]⟩
abbrev S5632x1024 : Shape := ⟨2, ![5632, 1024]⟩
abbrev S8x704x1024 : Shape := ⟨3, ![8, 704, 1024]⟩

abbrev nBuf : Space → Nat
  | .hbm => 17
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S8x2048x704, .bf16⟩
  | .hbm, ⟨2, _⟩ => ⟨S8x2048x704, .f32⟩
  | .hbm, ⟨3, _⟩ => ⟨S2048x8x704, .f32⟩
  | .hbm, ⟨4, _⟩ => ⟨S2048x5632, .f32⟩
  | .hbm, ⟨5, _⟩ => ⟨S2048x1024, .f32⟩
  | .hbm, ⟨6, _⟩ => ⟨S_, .f32⟩
  | .hbm, ⟨7, _⟩ => ⟨S8x1024x704, .f32⟩
  | .hbm, ⟨8, _⟩ => ⟨S1024x8x704, .f32⟩
  | .hbm, ⟨9, _⟩ => ⟨S1024x5632, .f32⟩
  | .hbm, ⟨10, _⟩ => ⟨S2048x5632, .f32⟩
  | .hbm, ⟨11, _⟩ => ⟨S5632x1024, .f32⟩
  | .hbm, ⟨12, _⟩ => ⟨S1024x5632, .f32⟩
  | .hbm, ⟨13, _⟩ => ⟨S1024x8x704, .f32⟩
  | .hbm, ⟨14, _⟩ => ⟨S8x1024x704, .f32⟩
  | .hbm, ⟨15, _⟩ => ⟨S8x704x1024, .f32⟩
  | .hbm, ⟨16, _⟩ => ⟨S8x704x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel7.lean ====
abbrev S2x4x2048x704 : Shape := ⟨4, ![2, 4, 2048, 704]⟩
abbrev S2x4x3x704 : Shape := ⟨4, ![2, 4, 3, 704]⟩
abbrev S4x2048x704 : Shape := ⟨3, ![4, 2048, 704]⟩
abbrev S2x4x1024x704 : Shape := ⟨4, ![2, 4, 1024, 704]⟩
abbrev S8x128 : Shape := ⟨2, ![8, 128]⟩
abbrev S2x4x1x704 : Shape := ⟨4, ![2, 4, 1, 704]⟩
abbrev S2x4x2x704 : Shape := ⟨4, ![2, 4, 2, 704]⟩
abbrev S_ : Shape := ⟨0, ![]⟩
abbrev S2x4x2046x704 : Shape := ⟨4, ![2, 4, 2046, 704]⟩
abbrev S2x4x2047x704 : Shape := ⟨4, ![2, 4, 2047, 704]⟩
abbrev S1x4x2048x704 : Shape := ⟨4, ![1, 4, 2048, 704]⟩
abbrev S2048x1024 : Shape := ⟨2, ![2048, 1024]⟩
abbrev S2x1x256x704 : Shape := ⟨4, ![2, 1, 256, 704]⟩
abbrev S2x1x16x704 : Shape := ⟨4, ![2, 1, 16, 704]⟩
abbrev S1x256x704 : Shape := ⟨3, ![1, 256, 704]⟩
abbrev S1x16x704 : Shape := ⟨3, ![1, 16, 704]⟩
abbrev S256x1024 : Shape := ⟨2, ![256, 1024]⟩
abbrev S1x1x3x704 : Shape := ⟨4, ![1, 1, 3, 704]⟩
abbrev S3x704 : Shape := ⟨2, ![3, 704]⟩
abbrev S256x704 : Shape := ⟨2, ![256, 704]⟩
abbrev S16x704 : Shape := ⟨2, ![16, 704]⟩
abbrev S272x704 : Shape := ⟨2, ![272, 704]⟩
abbrev S1x1x256x704 : Shape := ⟨4, ![1, 1, 256, 704]⟩
abbrev S1x1x16x704 : Shape := ⟨4, ![1, 1, 16, 704]⟩
abbrev S1x704 : Shape := ⟨2, ![1, 704]⟩
abbrev S1x1x1024x704 : Shape := ⟨4, ![1, 1, 1024, 704]⟩
abbrev S1024x704 : Shape := ⟨2, ![1024, 704]⟩
abbrev S704 : Shape := ⟨1, ![704]⟩
abbrev S1x1x1x704 : Shape := ⟨4, ![1, 1, 1, 704]⟩

abbrev nBuf : Space → Nat
  | .hbm => 59
  | .vmem => 18
  | .smem => 0
  | _ => 0

abbrev bufTy : (tb : Table) → Fin (tcTables nBuf tb) → BufTy
  | .hbm, ⟨0, _⟩ => ⟨S2x4x2048x704, .bf16⟩
  | .hbm, ⟨1, _⟩ => ⟨S2x4x3x704, .f32⟩
  | .hbm, ⟨2, _⟩ => ⟨S4x2048x704, .bf16⟩
  | .hbm, ⟨3, _⟩ => ⟨S2x4x1024x704, .bf16⟩
  | .hbm, ⟨4, _⟩ => ⟨S8x128, .f32⟩
  | .hbm, ⟨5, _⟩ => ⟨S2x4x2048x704, .f32⟩
  | .hbm, ⟨6, _⟩ => ⟨S2x4x1x704, .f32⟩
  | .hbm, ⟨7, _⟩ => ⟨S2x4x2x704, .f32⟩
  | .hbm, ⟨8, _⟩ => ⟨S_, .f32⟩
  | .hbm, ⟨9, _⟩ => ⟨S2x4x2x704, .f32⟩
  | .hbm, ⟨10, _⟩ => ⟨S2x4x2046x704, .f32⟩
  | .hbm, ⟨11, _⟩ => ⟨S2x4x2048x704, .f32⟩
  | .hbm, ⟨12, _⟩ => ⟨S2x4x2048x704, .f32⟩
  | .hbm, ⟨13, _⟩ => ⟨S2x4x2048x704, .f32⟩
  | .hbm, ⟨14, _⟩ => ⟨S_, .f32⟩
  | .hbm, ⟨15, _⟩ => ⟨S2x4x2048x704, .f32⟩
  | .hbm, ⟨16, _⟩ => ⟨S2x4x2048x704, .f32⟩
  | .hbm, ⟨17, _⟩ => ⟨S2x4x1x704, .f32⟩
  | .hbm, ⟨18, _⟩ => ⟨S2x4x1x704, .f32⟩
  | .hbm, ⟨19, _⟩ => ⟨S_, .f32⟩
  | .hbm, ⟨20, _⟩ => ⟨S2x4x1x704, .f32⟩
  | .hbm, ⟨21, _⟩ => ⟨S2x4x2047x704, .f32⟩
  | .hbm, ⟨22, _⟩ => ⟨S2x4x2048x704, .f32⟩
  | .hbm, ⟨23, _⟩ => ⟨S2x4x2048x704, .f32⟩
  | .hbm, ⟨24, _⟩ => ⟨S2x4x2048x704, .f32⟩
  | .hbm, ⟨25, _⟩ => ⟨S2x4x2048x704, .f32⟩
  | .hbm, ⟨26, _⟩ => ⟨S2x4x1x704, .f32⟩
  | .hbm, ⟨27, _⟩ => ⟨S2x4x2048x704, .f32⟩
  | .hbm, ⟨28, _⟩ => ⟨S2x4x2048x704, .f32⟩
  | .hbm, ⟨29, _⟩ => ⟨S2x4x2048x704, .f32⟩
  | .hbm, ⟨30, _⟩ => ⟨S1x4x2048x704, .f32⟩
  | .hbm, ⟨31, _⟩ => ⟨S4x2048x704, .f32⟩
  | .hbm, ⟨32, _⟩ => ⟨S1x4x2048x704, .f32⟩
  | .hbm, ⟨33, _⟩ => ⟨S4x2048x704, .f32⟩
  | .hbm, ⟨34, _⟩ => ⟨S4x2048x704, .f32⟩
  | .hbm, ⟨35, _⟩ => ⟨S4x2048x704, .f32⟩
  | .hbm, ⟨36, _⟩ => ⟨S_, .f32⟩
  | .hbm, ⟨37, _⟩ => ⟨S4x2048x704, .f32⟩
  | .hbm, ⟨38, _⟩ => ⟨S4x2048x704, .f32⟩
  | .hbm, ⟨39, _⟩ => ⟨S_, .f32⟩
  | .hbm, ⟨40, _⟩ => ⟨S4x2048x704, .f32⟩
  | .hbm, ⟨41, _⟩ => ⟨S4x2048x704, .f32⟩
  | .hbm, ⟨42, _⟩ => ⟨S4x2048x704, .f32⟩
  | .hbm, ⟨43, _⟩ => ⟨S_, .f32⟩
  | .hbm, ⟨44, _⟩ => ⟨S4x2048x704, .f32⟩
  | .hbm, ⟨45, _⟩ => ⟨S4x2048x704, .f32⟩
  | .hbm, ⟨46, _⟩ => ⟨S4x2048x704, .f32⟩
  | .hbm, ⟨47, _⟩ => ⟨S_, .f32⟩
  | .hbm, ⟨48, _⟩ => ⟨S4x2048x704, .f32⟩
  | .hbm, ⟨49, _⟩ => ⟨S4x2048x704, .f32⟩
  | .hbm, ⟨50, _⟩ => ⟨S4x2048x704, .f32⟩
  | .hbm, ⟨51, _⟩ => ⟨S4x2048x704, .f32⟩
  | .hbm, ⟨52, _⟩ => ⟨S1x4x2048x704, .f32⟩
  | .hbm, ⟨53, _⟩ => ⟨S1x4x2048x704, .f32⟩
  | .hbm, ⟨54, _⟩ => ⟨S2x4x2048x704, .f32⟩
  | .hbm, ⟨55, _⟩ => ⟨S2x4x2048x704, .bf16⟩
  | .hbm, ⟨56, _⟩ => ⟨S2x4x2048x704, .bf16⟩
  | .hbm, ⟨57, _⟩ => ⟨S2x4x3x704, .f32⟩
  | .hbm, ⟨58, _⟩ => ⟨S2048x1024, .bf16⟩
  | .local _ .vmem, ⟨0, _⟩ => ⟨S2x1x256x704, .bf16⟩
  | .local _ .vmem, ⟨1, _⟩ => ⟨S2x1x256x704, .bf16⟩
  | .local _ .vmem, ⟨2, _⟩ => ⟨S2x1x256x704, .bf16⟩
  | .local _ .vmem, ⟨3, _⟩ => ⟨S2x1x256x704, .bf16⟩
  | .local _ .vmem, ⟨4, _⟩ => ⟨S2x1x16x704, .bf16⟩
  | .local _ .vmem, ⟨5, _⟩ => ⟨S2x1x16x704, .bf16⟩
  | .local _ .vmem, ⟨6, _⟩ => ⟨S2x4x3x704, .f32⟩
  | .local _ .vmem, ⟨7, _⟩ => ⟨S1x256x704, .bf16⟩
  | .local _ .vmem, ⟨8, _⟩ => ⟨S1x256x704, .bf16⟩
  | .local _ .vmem, ⟨9, _⟩ => ⟨S1x16x704, .bf16⟩
  | .local _ .vmem, ⟨10, _⟩ => ⟨S1x16x704, .bf16⟩
  | .local _ .vmem, ⟨11, _⟩ => ⟨S2x4x1024x704, .bf16⟩
  | .local _ .vmem, ⟨12, _⟩ => ⟨S2x1x256x704, .bf16⟩
  | .local _ .vmem, ⟨13, _⟩ => ⟨S2x1x256x704, .bf16⟩
  | .local _ .vmem, ⟨14, _⟩ => ⟨S2x4x3x704, .f32⟩
  | .local _ .vmem, ⟨15, _⟩ => ⟨S256x1024, .bf16⟩
  | .local _ .vmem, ⟨16, _⟩ => ⟨S256x1024, .bf16⟩
  | .local _ .vmem, ⟨17, _⟩ => ⟨S256x1024, .f32⟩
  | _, _ => ⟨S2x4x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44_0 : Ref sig .tc := ⟨.hbm, 56, rfl⟩
abbrev main_v44_1 : Ref sig .tc := ⟨.hbm, 57, rfl⟩
abbrev main_v44_2 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![8, 4], ![false, false]⟩

def k0_off1 (i : grid0.Coords) : Fin 4 → Nat :=
  let c0 : Index := 0#32
  let arg1 : BitVec 32 := BitVec.ofNat 32 (i 1).val
  let v4 : Index := Scalar.indexCast arg1
  let c0_0 : Index := 0#32
  let c0_1 : Index := 0#32
  ![0, v4.toNat, 0, 0]
def k0_off2 (i : grid0.Coords) : Fin 4 → Nat :=
  let c1 : Index := 1#32
  let arg1 : BitVec 32 := BitVec.ofNat 32 (i 1).val
  let v7 : Index := Scalar.indexCast arg1
  let c0_2 : Index := 0#32
  let c0_3 : Index := 0#32
  ![1, v7.toNat, 0, 0]
def k0_off3 (i : grid0.Coords) : Fin 4 → Nat :=
  let c0_30 : Index := 0#32
  let arg1 : BitVec 32 := BitVec.ofNat 32 (i 1).val
  let v53 : Index := Scalar.indexCast arg1
  let c0_31 : Index := 0#32
  let c0_32 : Index := 0#32
  ![0, v53.toNat, 0, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v69 : BitVec 32 := Scalar.extui v0
  let c0_i32_40 : BitVec 32 := 0#32
  let v70 : BitVec 1 := Scalar.cmpi .ne v69 c0_i32_40
  v70

def k0_off4 (i : grid0.Coords) : Fin 4 → Nat :=
  let c0_79 : Index := 0#32
  let arg1 : BitVec 32 := BitVec.ofNat 32 (i 1).val
  let v145 : Index := Scalar.indexCast arg1
  let c0_80 : Index := 0#32
  let c0_81 : Index := 0#32
  ![0, v145.toNat, 0, 0]
def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v71 : BitVec 1 := Scalar.xori v0 v_true
  let v72 : BitVec 32 := Scalar.extui v71
  let c0_i32_41 : BitVec 32 := 0#32
  let v73 : BitVec 1 := Scalar.cmpi .ne v72 c0_i32_41
  v73

def k0_off5 (i : grid0.Coords) : Fin 4 → Nat :=
  let c0_79 : Index := 0#32
  let arg1 : BitVec 32 := BitVec.ofNat 32 (i 1).val
  let v145 : Index := Scalar.indexCast arg1
  let c0_80 : Index := 0#32
  let c0_81 : Index := 0#32
  ![0, v145.toNat, 0, 0]
def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v74 : BitVec 32 := Scalar.extui v0
  let c0_i32_42 : BitVec 32 := 0#32
  let v75 : BitVec 1 := Scalar.cmpi .ne v74 c0_i32_42
  v75

def k0_off6 (i : grid0.Coords) : Fin 4 → Nat :=
  let c0_79 : Index := 0#32
  let arg1 : BitVec 32 := BitVec.ofNat 32 (i 1).val
  let v145 : Index := Scalar.indexCast arg1
  let c1_80 : Index := 1#32
  let c0_81 : Index := 0#32
  ![0, v145.toNat, 1, 0]
def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_43 : BitVec 1 := 1#1
  let v76 : BitVec 1 := Scalar.xori v0 true_43
  let v77 : BitVec 32 := Scalar.extui v76
  let c0_i32_44 : BitVec 32 := 0#32
  let v78 : BitVec 1 := Scalar.cmpi .ne v77 c0_i32_44
  v78

def k0_off7 (i : grid0.Coords) : Fin 4 → Nat :=
  let c0_79 : Index := 0#32
  let arg1 : BitVec 32 := BitVec.ofNat 32 (i 1).val
  let v145 : Index := Scalar.indexCast arg1
  let c1_80 : Index := 1#32
  let c0_81 : Index := 0#32
  ![0, v145.toNat, 1, 0]
def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v79 : BitVec 32 := Scalar.extui v0
  let c0_i32_45 : BitVec 32 := 0#32
  let v80 : BitVec 1 := Scalar.cmpi .ne v79 c0_i32_45
  v80

def k0_off8 (i : grid0.Coords) : Fin 4 → Nat :=
  let c0_79 : Index := 0#32
  let arg1 : BitVec 32 := BitVec.ofNat 32 (i 1).val
  let v145 : Index := Scalar.indexCast arg1
  let c2 : Index := 2#32
  let c0_80 : Index := 0#32
  ![0, v145.toNat, 2, 0]
def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_46 : BitVec 1 := 1#1
  let v81 : BitVec 1 := Scalar.xori v0 true_46
  let v82 : BitVec 32 := Scalar.extui v81
  let c0_i32_47 : BitVec 32 := 0#32
  let v83 : BitVec 1 := Scalar.cmpi .ne v82 c0_i32_47
  v83

def k0_off9 (i : grid0.Coords) : Fin 4 → Nat :=
  let c0_79 : Index := 0#32
  let arg1 : BitVec 32 := BitVec.ofNat 32 (i 1).val
  let v145 : Index := Scalar.indexCast arg1
  let c2 : Index := 2#32
  let c0_80 : Index := 0#32
  ![0, v145.toNat, 2, 0]
def k0_off10 (i : grid0.Coords) : Fin 4 → Nat :=
  let c1_54 : Index := 1#32
  let arg1 : BitVec 32 := BitVec.ofNat 32 (i 1).val
  let v104 : Index := Scalar.indexCast arg1
  let c0_55 : Index := 0#32
  let c0_56 : Index := 0#32
  ![1, v104.toNat, 0, 0]
def k0_cond7 (i : grid0.Coords) : BitVec 1 :=
  let arg0 : BitVec 32 := BitVec.ofNat 32 (i 0).val
  let c0_i32 : BitVec 32 := 0#32
  let v0 : BitVec 1 := Scalar.cmpi .eq arg0 c0_i32
  let v121 : BitVec 32 := Scalar.extui v0
  let c0_i32_65 : BitVec 32 := 0#32
  let v122 : BitVec 1 := Scalar.cmpi .ne v121 c0_i32_65
  v122

def k0_off11 (i : grid0.Coords) : Fin 4 → Nat :=
  let c1_79 : Index := 1#32
  let arg1 : BitVec 32 := BitVec.ofNat 32 (i 1).val
  let v145 : Index := Scalar.indexCast arg1
  let c0_80 : Index := 0#32
  let c0_81 : Index := 0#32
  ![1, v145.toNat, 0, 0]
def k0_cond8 (i : grid0.Coords) : BitVec 1 :=
  let arg0 : BitVec 32 := BitVec.ofNat 32 (i 0).val
  let c0_i32 : BitVec 32 := 0#32
  let v0 : BitVec 1 := Scalar.cmpi .eq arg0 c0_i32
  let true_66 : BitVec 1 := 1#1
  let v123 : BitVec 1 := Scalar.xori v0 true_66
  let v124 : BitVec 32 := Scalar.extui v123
  let c0_i32_67 : BitVec 32 := 0#32
  let v125 : BitVec 1 := Scalar.cmpi .ne v124 c0_i32_67
  v125

def k0_off12 (i : grid0.Coords) : Fin 4 → Nat :=
  let c1_79 : Index := 1#32
  let arg1 : BitVec 32 := BitVec.ofNat 32 (i 1).val
  let v145 : Index := Scalar.indexCast arg1
  let c0_80 : Index := 0#32
  let c0_81 : Index := 0#32
  ![1, v145.toNat, 0, 0]
def k0_cond9 (i : grid0.Coords) : BitVec 1 :=
  let arg0 : BitVec 32 := BitVec.ofNat 32 (i 0).val
  let c0_i32 : BitVec 32 := 0#32
  let v0 : BitVec 1 := Scalar.cmpi .eq arg0 c0_i32
  let v126 : BitVec 32 := Scalar.extui v0
  let c0_i32_68 : BitVec 32 := 0#32
  let v127 : BitVec 1 := Scalar.cmpi .ne v126 c0_i32_68
  v127

def k0_off13 (i : grid0.Coords) : Fin 4 → Nat :=
  let c1_79 : Index := 1#32
  let arg1 : BitVec 32 := BitVec.ofNat 32 (i 1).val
  let v145 : Index := Scalar.indexCast arg1
  let c1_80 : Index := 1#32
  let c0_81 : Index := 0#32
  ![1, v145.toNat, 1, 0]
def k0_cond10 (i : grid0.Coords) : BitVec 1 :=
  let arg0 : BitVec 32 := BitVec.ofNat 32 (i 0).val
  let c0_i32 : BitVec 32 := 0#32
  let v0 : BitVec 1 := Scalar.cmpi .eq arg0 c0_i32
  let true_69 : BitVec 1 := 1#1
  let v128 : BitVec 1 := Scalar.xori v0 true_69
  let v129 : BitVec 32 := Scalar.extui v128
  let c0_i32_70 : BitVec 32 := 0#32
  let v130 : BitVec 1 := Scalar.cmpi .ne v129 c0_i32_70
  v130

def k0_off14 (i : grid0.Coords) : Fin 4 → Nat :=
  let c1_79 : Index := 1#32
  let arg1 : BitVec 32 := BitVec.ofNat 32 (i 1).val
  let v145 : Index := Scalar.indexCast arg1
  let c1_80 : Index := 1#32
  let c0_81 : Index := 0#32
  ![1, v145.toNat, 1, 0]
def k0_cond11 (i : grid0.Coords) : BitVec 1 :=
  let arg0 : BitVec 32 := BitVec.ofNat 32 (i 0).val
  let c0_i32 : BitVec 32 := 0#32
  let v0 : BitVec 1 := Scalar.cmpi .eq arg0 c0_i32
  let v131 : BitVec 32 := Scalar.extui v0
  let c0_i32_71 : BitVec 32 := 0#32
  let v132 : BitVec 1 := Scalar.cmpi .ne v131 c0_i32_71
  v132

def k0_off15 (i : grid0.Coords) : Fin 4 → Nat :=
  let c1_79 : Index := 1#32
  let arg1 : BitVec 32 := BitVec.ofNat 32 (i 1).val
  let v145 : Index := Scalar.indexCast arg1
  let c2 : Index := 2#32
  let c0_80 : Index := 0#32
  ![1, v145.toNat, 2, 0]
def k0_cond12 (i : grid0.Coords) : BitVec 1 :=
  let arg0 : BitVec 32 := BitVec.ofNat 32 (i 0).val
  let c0_i32 : BitVec 32 := 0#32
  let v0 : BitVec 1 := Scalar.cmpi .eq arg0 c0_i32
  let true_72 : BitVec 1 := 1#1
  let v133 : BitVec 1 := Scalar.xori v0 true_72
  let v134 : BitVec 32 := Scalar.extui v133
  let c0_i32_73 : BitVec 32 := 0#32
  let v135 : BitVec 1 := Scalar.cmpi .ne v134 c0_i32_73
  v135

def k0_off16 (i : grid0.Coords) : Fin 4 → Nat :=
  let c1_79 : Index := 1#32
  let arg1 : BitVec 32 := BitVec.ofNat 32 (i 1).val
  let v145 : Index := Scalar.indexCast arg1
  let c2 : Index := 2#32
  let c0_80 : Index := 0#32
  ![1, v145.toNat, 2, 0]
def k0_cond15 (i : grid0.Coords) : BitVec 1 :=
  let arg1 : BitVec 32 := BitVec.ofNat 32 (i 1).val
  let c3_i32 : BitVec 32 := 3#32
  let v142 : BitVec 1 := Scalar.cmpi .eq arg1 c3_i32
  let v143 : BitVec 32 := Scalar.extui v142
  let c0_i32_78 : BitVec 32 := 0#32
  let v144 : BitVec 1 := Scalar.cmpi .ne v143 c0_i32_78
  v144

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, arg1.toNat, v2.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![arg1.toNat, v2.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2x1x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1x256x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1x16x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2x4x3x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S2x4x1024x704 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2x1x256x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S2x4x3x704 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference7Ideal.lean ====
abbrev S2x4x2048x704 : Shape := ⟨4, ![2, 4, 2048, 704]⟩
abbrev S2x4x3x704 : Shape := ⟨4, ![2, 4, 3, 704]⟩
abbrev S4x2048x704 : Shape := ⟨3, ![4, 2048, 704]⟩
abbrev S2x4x1024x704 : Shape := ⟨4, ![2, 4, 1024, 704]⟩
abbrev S8x128 : Shape := ⟨2, ![8, 128]⟩
abbrev S2x4x1x704 : Shape := ⟨4, ![2, 4, 1, 704]⟩
abbrev S2x4x2x704 : Shape := ⟨4, ![2, 4, 2, 704]⟩
abbrev S_ : Shape := ⟨0, ![]⟩
abbrev S2x4x2046x704 : Shape := ⟨4, ![2, 4, 2046, 704]⟩
abbrev S2x4x2047x704 : Shape := ⟨4, ![2, 4, 2047, 704]⟩
abbrev S1x4x2048x704 : Shape := ⟨4, ![1, 4, 2048, 704]⟩
abbrev S2x4x704 : Shape := ⟨3, ![2, 4, 704]⟩
abbrev S2048x1024 : Shape := ⟨2, ![2048, 1024]⟩
abbrev S2x4x704x2048 : Shape := ⟨4, ![2, 4, 704, 2048]⟩

abbrev nBuf : Space → Nat
  | .hbm => 112
  | .vmem => 0
  | .smem => 0
  | _ => 0

abbrev bufTy : (tb : Table) → Fin (tcTables nBuf tb) → BufTy
  | .hbm, ⟨0, _⟩ => ⟨S2x4x2048x704, .bf16⟩
  | .hbm, ⟨1, _⟩ => ⟨S2x4x3x704, .f32⟩
  | .hbm, ⟨2, _⟩ => ⟨S4x2048x704, .bf16⟩
  | .hbm, ⟨3, _⟩ => ⟨S2x4x1024x704, .bf16⟩
  | .hbm, ⟨4, _⟩ => ⟨S8x128, .f32⟩
  | .hbm, ⟨5, _⟩ => ⟨S2x4x2048x704, .f32⟩
  | .hbm, ⟨6, _⟩ => ⟨S2x4x1x704, .f32⟩
  | .hbm, ⟨7, _⟩ => ⟨S2x4x2x704, .f32⟩
  | .hbm, ⟨8, _⟩ => ⟨S_, .f32⟩
  | .hbm, ⟨9, _⟩ => ⟨S2x4x2x704, .f32⟩
  | .hbm, ⟨10, _⟩ => ⟨S2x4x2046x704, .f32⟩
  | .hbm, ⟨11, _⟩ => ⟨S2x4x2048x704, .f32⟩
  | .hbm, ⟨12, _⟩ => ⟨S_, .f32⟩
  | .hbm, ⟨13, _⟩ => ⟨S2x4x2x704, .f32⟩
  | .hbm, ⟨14, _⟩ => ⟨S2x4x2048x704, .f32⟩
  | .hbm, ⟨15, _⟩ => ⟨S2x4x2048x704, .f32⟩
  | .hbm, ⟨16, _⟩ => ⟨S_, .f32⟩
  | .hbm, ⟨17, _⟩ => ⟨S2x4x2048x704, .f32⟩
  | .hbm, ⟨18, _⟩ => ⟨S2x4x2048x704, .f32⟩
  | .hbm, ⟨19, _⟩ => ⟨S2x4x1x704, .f32⟩
  | .hbm, ⟨20, _⟩ => ⟨S2x4x1x704, .f32⟩
  | .hbm, ⟨21, _⟩ => ⟨S_, .f32⟩
  | .hbm, ⟨22, _⟩ => ⟨S2x4x1x704, .f32⟩
  | .hbm, ⟨23, _⟩ => ⟨S2x4x2047x704, .f32⟩
  | .hbm, ⟨24, _⟩ => ⟨S2x4x2048x704, .f32⟩
  | .hbm, ⟨25, _⟩ => ⟨S_, .f32⟩
  | .hbm, ⟨26, _⟩ => ⟨S2x4x1x704, .f32⟩
  | .hbm, ⟨27, _⟩ => ⟨S2x4x2048x704, .f32⟩
  | .hbm, ⟨28, _⟩ => ⟨S2x4x2048x704, .f32⟩
  | .hbm, ⟨29, _⟩ => ⟨S2x4x2048x704, .f32⟩
  | .hbm, ⟨30, _⟩ => ⟨S2x4x1x704, .f32⟩
  | .hbm, ⟨31, _⟩ => ⟨S2x4x2048x704, .f32⟩
  | .hbm, ⟨32, _⟩ => ⟨S2x4x2048x704, .f32⟩
  | .hbm, ⟨33, _⟩ => ⟨S2x4x2048x704, .f32⟩
  | .hbm, ⟨34, _⟩ => ⟨S1x4x2048x704, .f32⟩
  | .hbm, ⟨35, _⟩ => ⟨S4x2048x704, .f32⟩
  | .hbm, ⟨36, _⟩ => ⟨S4x2048x704, .f32⟩
  | .hbm, ⟨37, _⟩ => ⟨S4x2048x704, .f32⟩
  | .hbm, ⟨38, _⟩ => ⟨S_, .f32⟩
  | .hbm, ⟨39, _⟩ => ⟨S4x2048x704, .f32⟩
  | .hbm, ⟨40, _⟩ => ⟨S4x2048x704, .f32⟩
  | .hbm, ⟨41, _⟩ => ⟨S_, .f32⟩
  | .hbm, ⟨42, _⟩ => ⟨S4x2048x704, .f32⟩
  | .hbm, ⟨43, _⟩ => ⟨S4x2048x704, .f32⟩
  | .hbm, ⟨44, _⟩ => ⟨S_, .f32⟩
  | .hbm, ⟨45, _⟩ => ⟨S4x2048x704, .f32⟩
  | .hbm, ⟨46, _⟩ => ⟨S4x2048x704, .f32⟩
  | .hbm, ⟨47, _⟩ => ⟨S4x2048x704, .f32⟩
  | .hbm, ⟨48, _⟩ => ⟨S4x2048x704, .f32⟩
  | .hbm, ⟨49, _⟩ => ⟨S1x4x2048x704, .f32⟩
  | .hbm, ⟨50, _⟩ => ⟨S4x2048x704, .f32⟩
  | .hbm, ⟨51, _⟩ => ⟨S4x2048x704, .f32⟩
  | .hbm, ⟨52, _⟩ => ⟨S4x2048x704, .f32⟩
  | .hbm, ⟨53, _⟩ => ⟨S4x2048x704, .f32⟩
  | .hbm, ⟨54, _⟩ => ⟨S4x2048x704, .f32⟩
  | .hbm, ⟨55, _⟩ => ⟨S1x4x2048x704, .f32⟩
  | .hbm, ⟨56, _⟩ => ⟨S_, .f32⟩
  | .hbm, ⟨57, _⟩ => ⟨S2x4x2048x704, .f32⟩
  | .hbm, ⟨58, _⟩ => ⟨S4x2048x704, .f32⟩
  | .hbm, ⟨59, _⟩ => ⟨S4x2048x704, .f32⟩
  | .hbm, ⟨60, _⟩ => ⟨S4x2048x704, .f32⟩
  | .hbm, ⟨61, _⟩ => ⟨S4x2048x704, .f32⟩
  | .hbm, ⟨62, _⟩ => ⟨S1x4x2048x704, .f32⟩
  | .hbm, ⟨63, _⟩ => ⟨S_, .f32⟩
  | .hbm, ⟨64, _⟩ => ⟨S2x4x2048x704, .f32⟩
  | .hbm, ⟨65, _⟩ => ⟨S2x4x2048x704, .f32⟩
  | .hbm, ⟨66, _⟩ => ⟨S2x4x2048x704, .f32⟩
  | .hbm, ⟨67, _⟩ => ⟨S2x4x2048x704, .f32⟩
  | .hbm, ⟨68, _⟩ => ⟨S2x4x2048x704, .f32⟩
  | .hbm, ⟨69, _⟩ => ⟨S_, .f32⟩
  | .hbm, ⟨70, _⟩ => ⟨S2x4x704, .f32⟩
  | .hbm, ⟨71, _⟩ => ⟨S2x4x1x704, .f32⟩
  | .hbm, ⟨72, _⟩ => ⟨S_, .f32⟩
  | .hbm, ⟨73, _⟩ => ⟨S2x4x3x704, .f32⟩
  | .hbm, ⟨74, _⟩ => ⟨S2x4x2048x704, .f32⟩
  | .hbm, ⟨75, _⟩ => ⟨S2x4x2048x704, .f32⟩
  | .hbm, ⟨76, _⟩ => ⟨S2x4x2048x704, .f32⟩
  | .hbm, ⟨77, _⟩ => ⟨S_, .f32⟩
  | .hbm, ⟨78, _⟩ => ⟨S2x4x704, .f32⟩
  | .hbm, ⟨79, _⟩ => ⟨S2x4x1x704, .f32⟩
  | .hbm, ⟨80, _⟩ => ⟨S2x4x1x704, .f32⟩
  | .hbm, ⟨81, _⟩ => ⟨S2x4x2047x704, .f32⟩
  | .hbm, ⟨82, _⟩ => ⟨S_, .f32⟩
  | .hbm, ⟨83, _⟩ => ⟨S2x4x2048x704, .f32⟩
  | .hbm, ⟨84, _⟩ => ⟨S2x4x2048x704, .f32⟩
  | .hbm, ⟨85, _⟩ => ⟨S_, .f32⟩
  | .hbm, ⟨86, _⟩ => ⟨S2x4x3x704, .f32⟩
  | .hbm, ⟨87, _⟩ => ⟨S2x4x3x704, .f32⟩
  | .hbm, ⟨88, _⟩ => ⟨S2x4x2048x704, .f32⟩
  | .hbm, ⟨89, _⟩ => ⟨S2x4x2048x704, .f32⟩
  | .hbm, ⟨90, _⟩ => ⟨S2x4x2048x704, .f32⟩
  | .hbm, ⟨91, _⟩ => ⟨S_, .f32⟩
  | .hbm, ⟨92, _⟩ => ⟨S2x4x704, .f32⟩
  | .hbm, ⟨93, _⟩ => ⟨S2x4x1x704, .f32⟩
  | .hbm, ⟨94, _⟩ => ⟨S2x4x2x704, .f32⟩
  | .hbm, ⟨95, _⟩ => ⟨S2x4x2046x704, .f32⟩
  | .hbm, ⟨96, _⟩ => ⟨S_, .f32⟩
  | .hbm, ⟨97, _⟩ => ⟨S2x4x2048x704, .f32⟩
  | .hbm, ⟨98, _⟩ => ⟨S2x4x2048x704, .f32⟩
  | .hbm, ⟨99, _⟩ => ⟨S_, .f32⟩
  | .hbm, ⟨100, _⟩ => ⟨S2x4x3x704, .f32⟩
  | .hbm, ⟨101, _⟩ => ⟨S2x4x3x704, .f32⟩
  | .hbm, ⟨102, _⟩ => ⟨S2x4x2048x704, .bf16⟩
  | .hbm, ⟨103, _⟩ => ⟨S_, .f32⟩
  | .hbm, ⟨104, _⟩ => ⟨S2048x1024, .f32⟩
  | .hbm, ⟨105, _⟩ => ⟨S2x4x1024x704, .f32⟩
  | .hbm, ⟨106, _⟩ => ⟨S2x4x704x2048, .f32⟩
  | .hbm, ⟨107, _⟩ => ⟨S2x4x2048x704, .f32⟩
  | .hbm, ⟨108, _⟩ => ⟨S2x4x2048x704, .f32⟩
  | .hbm, ⟨109, _⟩ => ⟨S2x4x704x2048, .f32⟩
  | .hbm, ⟨110, _⟩ => ⟨S2048x1024, .f32⟩
  | .hbm, ⟨111, _⟩ => ⟨S2048x1024, .bf16⟩
  | _, _ => ⟨S2x4x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v26_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v26_1 : Ref sig .tc := ⟨.hbm, 47, rfl⟩
abbrev main_v26_0 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_4 : Ref sig .tc := ⟨.hbm, 56, rfl⟩
abbrev main_v34 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v35 : Ref sig .tc := ⟨.hbm, 61, rfl⟩
abbrev main_v36 : Ref sig .tc := ⟨.hbm, 62, rfl⟩
abbrev main_cst_5 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_6 : Ref sig .tc := ⟨.hbm, 69, rfl⟩
abbrev main_v42 : Ref sig .tc := ⟨.hbm, 70, rfl⟩
abbrev main_v43 : Ref sig .tc := ⟨.hbm, 71, rfl⟩
abbrev main_cst_7 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_8 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_9 : Ref sig .tc := ⟨.hbm, 82, rfl⟩
abbrev main_v52 : Ref sig .tc := ⟨.hbm, 83, rfl⟩
abbrev main_v53 : Ref sig .tc := ⟨.hbm, 84, rfl⟩
abbrev main_cst_10 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_11 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_12 : Ref sig .tc := ⟨.hbm, 96, rfl⟩
abbrev main_v63 : Ref sig .tc := ⟨.hbm, 97, rfl⟩
abbrev main_v64 : Ref sig .tc := ⟨.hbm, 98, rfl⟩
abbrev main_cst_13 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_14 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩

abbrev nD : Nat := 1
abbrev τ : Topo := Topo.v7x

variable {F : FTy → Type} [FloatOps F]
-- ==== Kernel8.lean ====
abbrev S2048x1024 : Shape := ⟨2, ![2048, 1024]⟩
abbrev S8x1024x256 : Shape := ⟨3, ![8, 1024, 256]⟩
abbrev S8x2048x256 : Shape := ⟨3, ![8, 2048, 256]⟩
abbrev S1x1024x256 : Shape := ⟨3, ![1, 1024, 256]⟩
abbrev S1x2048x256 : Shape := ⟨3, ![1, 2048, 256]⟩
abbrev S1024x256 : Shape := ⟨2, ![1024, 256]⟩
abbrev S2048x256 : Shape := ⟨2, ![2048, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S8x1024x256, .bf16⟩
  | .hbm, ⟨2, _⟩ => ⟨S8x2048x256, .bf16⟩
  | .local _ .vmem, ⟨0, _⟩ => ⟨S2048x1024, .bf16⟩
  | .local _ .vmem, ⟨1, _⟩ => ⟨S1x1024x256, .bf16⟩
  | .local _ .vmem, ⟨2, _⟩ => ⟨S1x1024x256, .bf16⟩
  | .local _ .vmem, ⟨3, _⟩ => ⟨S1x2048x256, .bf16⟩
  | .local _ .vmem, ⟨4, _⟩ => ⟨S1x2048x256, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S2048x1024 : Shape := ⟨2, ![2048, 1024]⟩
abbrev S8x1024x256 : Shape := ⟨3, ![8, 1024, 256]⟩
abbrev S1024x8x256 : Shape := ⟨3, ![1024, 8, 256]⟩
abbrev S1024x2048 : Shape := ⟨2, ![1024, 2048]⟩
abbrev S2048x2048 : Shape := ⟨2, ![2048, 2048]⟩
abbrev S2048x8x256 : Shape := ⟨3, ![2048, 8, 256]⟩
abbrev S8x2048x256 : Shape := ⟨3, ![8, 2048, 256]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S8x1024x256, .bf16⟩
  | .hbm, ⟨2, _⟩ => ⟨S2048x1024, .f32⟩
  | .hbm, ⟨3, _⟩ => ⟨S8x1024x256, .f32⟩
  | .hbm, ⟨4, _⟩ => ⟨S1024x8x256, .f32⟩
  | .hbm, ⟨5, _⟩ => ⟨S1024x2048, .f32⟩
  | .hbm, ⟨6, _⟩ => ⟨S2048x2048, .f32⟩
  | .hbm, ⟨7, _⟩ => ⟨S2048x8x256, .f32⟩
  | .hbm, ⟨8, _⟩ => ⟨S8x2048x256, .f32⟩
  | .hbm, ⟨9, _⟩ => ⟨S8x2048x256, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel9.lean ====
abbrev S2048x1024 : Shape := ⟨2, ![2048, 1024]⟩
abbrev S8x2048x256 : Shape := ⟨3, ![8, 2048, 256]⟩
abbrev S8x1024x256 : Shape := ⟨3, ![8, 1024, 256]⟩
abbrev S1x2048x256 : Shape := ⟨3, ![1, 2048, 256]⟩
abbrev S1x1024x256 : Shape := ⟨3, ![1, 1024, 256]⟩
abbrev S2048x256 : Shape := ⟨2, ![2048, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S8x2048x256, .bf16⟩
  | .hbm, ⟨2, _⟩ => ⟨S8x1024x256, .bf16⟩
  | .local _ .vmem, ⟨0, _⟩ => ⟨S2048x1024, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x1024x256, .bf16⟩
  | .local _ .vmem, ⟨4, _⟩ => ⟨S1x1024x256, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S2048x1024 : Shape := ⟨2, ![2048, 1024]⟩
abbrev S8x2048x256 : Shape := ⟨3, ![8, 2048, 256]⟩
abbrev S2048x8x256 : Shape := ⟨3, ![2048, 8, 256]⟩
abbrev S2048x2048 : Shape := ⟨2, ![2048, 2048]⟩
abbrev S_ : Shape := ⟨0, ![]⟩
abbrev S8x1024x256 : Shape := ⟨3, ![8, 1024, 256]⟩
abbrev S1024x8x256 : Shape := ⟨3, ![1024, 8, 256]⟩
abbrev S1024x2048 : Shape := ⟨2, ![1024, 2048]⟩

abbrev nBuf : Space → Nat
  | .hbm => 16
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S8x2048x256, .bf16⟩
  | .hbm, ⟨2, _⟩ => ⟨S8x2048x256, .f32⟩
  | .hbm, ⟨3, _⟩ => ⟨S2048x8x256, .f32⟩
  | .hbm, ⟨4, _⟩ => ⟨S2048x2048, .f32⟩
  | .hbm, ⟨5, _⟩ => ⟨S2048x1024, .f32⟩
  | .hbm, ⟨6, _⟩ => ⟨S_, .f32⟩
  | .hbm, ⟨7, _⟩ => ⟨S8x1024x256, .f32⟩
  | .hbm, ⟨8, _⟩ => ⟨S1024x8x256, .f32⟩
  | .hbm, ⟨9, _⟩ => ⟨S1024x2048, .f32⟩
  | .hbm, ⟨10, _⟩ => ⟨S2048x2048, .f32⟩
  | .hbm, ⟨11, _⟩ => ⟨S2048x1024, .f32⟩
  | .hbm, ⟨12, _⟩ => ⟨S1024x2048, .f32⟩
  | .hbm, ⟨13, _⟩ => ⟨S1024x8x256, .f32⟩
  | .hbm, ⟨14, _⟩ => ⟨S8x1024x256, .f32⟩
  | .hbm, ⟨15, _⟩ => ⟨S8x1024x256, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel10.lean ====
abbrev S8x2048x256 : Shape := ⟨3, ![8, 2048, 256]⟩
abbrev S8x1024x256 : Shape := ⟨3, ![8, 1024, 256]⟩
abbrev S2048x1024 : Shape := ⟨2, ![2048, 1024]⟩
abbrev S1024x1024 : Shape := ⟨2, ![1024, 1024]⟩
abbrev S1x1024x256 : Shape := ⟨3, ![1, 1024, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S8x2048x256, .bf16⟩
  | .hbm, ⟨1, _⟩ => ⟨S8x1024x256, .bf16⟩
  | .hbm, ⟨2, _⟩ => ⟨S2048x1024, .bf16⟩
  | .local _ .vmem, ⟨0, _⟩ => ⟨S8x1024x256, .bf16⟩
  | .local _ .vmem, ⟨1, _⟩ => ⟨S8x1024x256, .bf16⟩
  | .local _ .vmem, ⟨2, _⟩ => ⟨S8x1024x256, .bf16⟩
  | .local _ .vmem, ⟨3, _⟩ => ⟨S1024x1024, .bf16⟩
  | .local _ .vmem, ⟨4, _⟩ => ⟨S1024x1024, .bf16⟩
  | _, _ => ⟨S8x2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference10Ideal.lean ====
abbrev S8x2048x256 : Shape := ⟨3, ![8, 2048, 256]⟩
abbrev S8x1024x256 : Shape := ⟨3, ![8, 1024, 256]⟩
abbrev S2048x8x256 : Shape := ⟨3, ![2048, 8, 256]⟩
abbrev S2048x2048 : Shape := ⟨2, ![2048, 2048]⟩
abbrev S_ : Shape := ⟨0, ![]⟩
abbrev S2048x1024 : Shape := ⟨2, ![2048, 1024]⟩
abbrev S1024x8x256 : Shape := ⟨3, ![1024, 8, 256]⟩
abbrev S1024x2048 : Shape := ⟨2, ![1024, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8x2048x256, .bf16⟩
  | .hbm, ⟨1, _⟩ => ⟨S8x1024x256, .bf16⟩
  | .hbm, ⟨2, _⟩ => ⟨S8x2048x256, .f32⟩
  | .hbm, ⟨3, _⟩ => ⟨S2048x8x256, .f32⟩
  | .hbm, ⟨4, _⟩ => ⟨S2048x2048, .f32⟩
  | .hbm, ⟨5, _⟩ => ⟨S8x1024x256, .f32⟩
  | .hbm, ⟨6, _⟩ => ⟨S_, .f32⟩
  | .hbm, ⟨7, _⟩ => ⟨S2048x1024, .f32⟩
  | .hbm, ⟨8, _⟩ => ⟨S1024x8x256, .f32⟩
  | .hbm, ⟨9, _⟩ => ⟨S1024x2048, .f32⟩
  | .hbm, ⟨10, _⟩ => ⟨S2048x2048, .f32⟩
  | .hbm, ⟨11, _⟩ => ⟨S2048x1024, .f32⟩
  | .hbm, ⟨12, _⟩ => ⟨S2048x1024, .bf16⟩
  | _, _ => ⟨S8x2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel11.lean ====
abbrev S2x2048x512 : Shape := ⟨3, ![2, 2048, 512]⟩
abbrev S2x512x1024 : Shape := ⟨3, ![2, 512, 1024]⟩
abbrev S2048x1024 : Shape := ⟨2, ![2048, 1024]⟩
abbrev S1x1024 : Shape := ⟨2, ![1, 1024]⟩
abbrev S2x1024x512 : Shape := ⟨3, ![2, 1024, 512]⟩
abbrev S1024x1024 : Shape := ⟨2, ![1024, 1024]⟩
abbrev S1x1024x512 : Shape := ⟨3, ![1, 1024, 512]⟩
abbrev S1024x512 : Shape := ⟨2, ![1024, 512]⟩
abbrev S1x512x1024 : Shape := ⟨3, ![1, 512, 1024]⟩
abbrev S512x1024 : Shape := ⟨2, ![512, 1024]⟩

abbrev nBuf : Space → Nat
  | .hbm => 6
  | .vmem => 10
  | .smem => 0
  | _ => 0

abbrev bufTy : (tb : Table) → Fin (tcTables nBuf tb) → BufTy
  | .hbm, ⟨0, _⟩ => ⟨S2x2048x512, .bf16⟩
  | .hbm, ⟨1, _⟩ => ⟨S2x512x1024, .bf16⟩
  | .hbm, ⟨2, _⟩ => ⟨S2048x1024, .f32⟩
  | .hbm, ⟨3, _⟩ => ⟨S1x1024, .f32⟩
  | .hbm, ⟨4, _⟩ => ⟨S2048x1024, .bf16⟩
  | .hbm, ⟨5, _⟩ => ⟨S2048x1024, .f32⟩
  | .local _ .vmem, ⟨0, _⟩ => ⟨S2x1024x512, .bf16⟩
  | .local _ .vmem, ⟨1, _⟩ => ⟨S2x1024x512, .bf16⟩
  | .local _ .vmem, ⟨2, _⟩ => ⟨S2x512x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | _, _ => ⟨S2x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference11Ideal.lean ====
abbrev S2x2048x512 : Shape := ⟨3, ![2, 2048, 512]⟩
abbrev S2x512x1024 : Shape := ⟨3, ![2, 512, 1024]⟩
abbrev S2048x1024 : Shape := ⟨2, ![2048, 1024]⟩
abbrev S1x1024 : Shape := ⟨2, ![1, 1024]⟩
abbrev S2048x2x512 : Shape := ⟨3, ![2048, 2, 512]⟩
abbrev S1024x1024 : Shape := ⟨2, ![1024, 1024]⟩

abbrev nBuf : Space → Nat
  | .hbm => 14
  | .vmem => 0
  | .smem => 0
  | _ => 0

abbrev bufTy : (tb : Table) → Fin (tcTables nBuf tb) → BufTy
  | .hbm, ⟨0, _⟩ => ⟨S2x2048x512, .bf16⟩
  | .hbm, ⟨1, _⟩ => ⟨S2x512x1024, .bf16⟩
  | .hbm, ⟨2, _⟩ => ⟨S2048x1024, .f32⟩
  | .hbm, ⟨3, _⟩ => ⟨S1x1024, .f32⟩
  | .hbm, ⟨4, _⟩ => ⟨S2x2048x512, .f32⟩
  | .hbm, ⟨5, _⟩ => ⟨S2x512x1024, .f32⟩
  | .hbm, ⟨6, _⟩ => ⟨S2048x2x512, .f32⟩
  | .hbm, ⟨7, _⟩ => ⟨S2048x1024, .f32⟩
  | .hbm, ⟨8, _⟩ => ⟨S1024x1024, .f32⟩
  | .hbm, ⟨9, _⟩ => ⟨S2048x1024, .f32⟩
  | .hbm, ⟨10, _⟩ => ⟨S2048x1024, .bf16⟩
  | .hbm, ⟨11, _⟩ => ⟨S2048x1024, .f32⟩
  | .hbm, ⟨12, _⟩ => ⟨S2048x1024, .f32⟩
  | .hbm, ⟨13, _⟩ => ⟨S2048x1024, .f32⟩
  | _, _ => ⟨S2x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel12.lean ====
abbrev S2048x1024 : Shape := ⟨2, ![2048, 1024]⟩
abbrev S2x512x1024 : Shape := ⟨3, ![2, 512, 1024]⟩
abbrev S2x2048x512 : Shape := ⟨3, ![2, 2048, 512]⟩
abbrev S1x512x1024 : Shape := ⟨3, ![1, 512, 1024]⟩
abbrev S1x2048x512 : Shape := ⟨3, ![1, 2048, 512]⟩
abbrev S512x1024 : Shape := ⟨2, ![512, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2x512x1024, .bf16⟩
  | .hbm, ⟨2, _⟩ => ⟨S2x2048x512, .f32⟩
  | .local _ .vmem, ⟨0, _⟩ => ⟨S2048x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x2048x512, .f32⟩
  | .local _ .vmem, ⟨4, _⟩ => ⟨S1x2048x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S2048x1024 : Shape := ⟨2, ![2048, 1024]⟩
abbrev S2x512x1024 : Shape := ⟨3, ![2, 512, 1024]⟩
abbrev S_ : Shape := ⟨0, ![]⟩
abbrev S2x2048x512 : Shape := ⟨3, ![2, 2048, 512]⟩
abbrev S2048x2x512 : Shape := ⟨3, ![2048, 2, 512]⟩
abbrev S1024x1024 : Shape := ⟨2, ![1024, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2x512x1024, .bf16⟩
  | .hbm, ⟨2, _⟩ => ⟨S2x512x1024, .f32⟩
  | .hbm, ⟨3, _⟩ => ⟨S_, .f32⟩
  | .hbm, ⟨4, _⟩ => ⟨S2x2048x512, .f32⟩
  | .hbm, ⟨5, _⟩ => ⟨S2048x2x512, .f32⟩
  | .hbm, ⟨6, _⟩ => ⟨S2048x1024, .f32⟩
  | .hbm, ⟨7, _⟩ => ⟨S1024x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x2x512, .f32⟩
  | .hbm, ⟨12, _⟩ => ⟨S2x2048x512, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel13.lean ====
abbrev S2x2048x512 : Shape := ⟨3, ![2, 2048, 512]⟩
abbrev S2048x1024 : Shape := ⟨2, ![2048, 1024]⟩
abbrev S2x512x1024 : Shape := ⟨3, ![2, 512, 1024]⟩
abbrev S1x2048x512 : Shape := ⟨3, ![1, 2048, 512]⟩
abbrev S1x512x1024 : Shape := ⟨3, ![1, 512, 1024]⟩
abbrev S2048x512 : Shape := ⟨2, ![2048, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2x2048x512, .bf16⟩
  | .hbm, ⟨1, _⟩ => ⟨S2048x1024, .bf16⟩
  | .hbm, ⟨2, _⟩ => ⟨S2x512x1024, .bf16⟩
  | .local _ .vmem, ⟨0, _⟩ => ⟨S1x2048x512, .bf16⟩
  | .local _ .vmem, ⟨1, _⟩ => ⟨S1x2048x512, .bf16⟩
  | .local _ .vmem, ⟨2, _⟩ => ⟨S2048x1024, .bf16⟩
  | .local _ .vmem, ⟨3, _⟩ => ⟨S1x512x1024, .bf16⟩
  | .local _ .vmem, ⟨4, _⟩ => ⟨S1x512x1024, .bf16⟩
  | _, _ => ⟨S2x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S2x2048x512 : Shape := ⟨3, ![2, 2048, 512]⟩
abbrev S2048x1024 : Shape := ⟨2, ![2048, 1024]⟩
abbrev S_ : Shape := ⟨0, ![]⟩
abbrev S2x512x1024 : Shape := ⟨3, ![2, 512, 1024]⟩
abbrev S2048x2x512 : Shape := ⟨3, ![2048, 2, 512]⟩
abbrev S1024x1024 : Shape := ⟨2, ![1024, 1024]⟩

abbrev nBuf : Space → Nat
  | .hbm => 14
  | .vmem => 0
  | .smem => 0
  | _ => 0

abbrev bufTy : (tb : Table) → Fin (tcTables nBuf tb) → BufTy
  | .hbm, ⟨0, _⟩ => ⟨S2x2048x512, .bf16⟩
  | .hbm, ⟨1, _⟩ => ⟨S2048x1024, .bf16⟩
  | .hbm, ⟨2, _⟩ => ⟨S2x2048x512, .f32⟩
  | .hbm, ⟨3, _⟩ => ⟨S_, .f32⟩
  | .hbm, ⟨4, _⟩ => ⟨S2x512x1024, .f32⟩
  | .hbm, ⟨5, _⟩ => ⟨S2048x2x512, .f32⟩
  | .hbm, ⟨6, _⟩ => ⟨S2048x1024, .f32⟩
  | .hbm, ⟨7, _⟩ => ⟨S1024x1024, .f32⟩
  | .hbm, ⟨8, _⟩ => ⟨S2048x1024, .f32⟩
  | .hbm, ⟨9, _⟩ => ⟨S2048x1024, .f32⟩
  | .hbm, ⟨10, _⟩ => ⟨S1024x1024, .f32⟩
  | .hbm, ⟨11, _⟩ => ⟨S1024x1024, .f32⟩
  | .hbm, ⟨12, _⟩ => ⟨S2x512x1024, .f32⟩
  | .hbm, ⟨13, _⟩ => ⟨S2x512x1024, .bf16⟩
  | _, _ => ⟨S2x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel14.lean ====
abbrev S2048x1024 : Shape := ⟨2, ![2048, 1024]⟩
abbrev S1536x1024 : Shape := ⟨2, ![1536, 1024]⟩
abbrev S2048x1536 : Shape := ⟨2, ![2048, 1536]⟩
abbrev S1024x1024 : Shape := ⟨2, ![1024, 1024]⟩
abbrev S1024x1536 : Shape := ⟨2, ![1024, 1536]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1536x1024, .bf16⟩
  | .hbm, ⟨2, _⟩ => ⟨S2048x1536, .f32⟩
  | .local _ .vmem, ⟨0, _⟩ => ⟨S1024x1024, .bf16⟩
  | .local _ .vmem, ⟨1, _⟩ => ⟨S1024x1024, .bf16⟩
  | .local _ .vmem, ⟨2, _⟩ => ⟨S1536x1024, .bf16⟩
  | .local _ .vmem, ⟨3, _⟩ => ⟨S1024x1536, .f32⟩
  | .local _ .vmem, ⟨4, _⟩ => ⟨S1024x1536, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S2048x1024 : Shape := ⟨2, ![2048, 1024]⟩
abbrev S1536x1024 : Shape := ⟨2, ![1536, 1024]⟩
abbrev S1024x1536 : Shape := ⟨2, ![1024, 1536]⟩
abbrev S2048x1536 : Shape := ⟨2, ![2048, 1536]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1536x1024, .bf16⟩
  | .hbm, ⟨2, _⟩ => ⟨S2048x1024, .f32⟩
  | .hbm, ⟨3, _⟩ => ⟨S1536x1024, .f32⟩
  | .hbm, ⟨4, _⟩ => ⟨S1024x1536, .f32⟩
  | .hbm, ⟨5, _⟩ => ⟨S2048x1536, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel15.lean ====
abbrev S2048x1536 : Shape := ⟨2, ![2048, 1536]⟩
abbrev S1536x1024 : Shape := ⟨2, ![1536, 1024]⟩
abbrev S2048x1024 : Shape := ⟨2, ![2048, 1024]⟩
abbrev S1024x1536 : Shape := ⟨2, ![1024, 1536]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1536, .bf16⟩
  | .hbm, ⟨1, _⟩ => ⟨S1536x1024, .bf16⟩
  | .hbm, ⟨2, _⟩ => ⟨S2048x1024, .bf16⟩
  | .local _ .vmem, ⟨0, _⟩ => ⟨S1024x1536, .bf16⟩
  | .local _ .vmem, ⟨1, _⟩ => ⟨S1024x1536, .bf16⟩
  | .local _ .vmem, ⟨2, _⟩ => ⟨S1536x1024, .bf16⟩
  | .local _ .vmem, ⟨3, _⟩ => ⟨S1024x1024, .bf16⟩
  | .local _ .vmem, ⟨4, _⟩ => ⟨S1024x1024, .bf16⟩
  | _, _ => ⟨S2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference15Ideal.lean ====
abbrev S2048x1536 : Shape := ⟨2, ![2048, 1536]⟩
abbrev S1536x1024 : Shape := ⟨2, ![1536, 1024]⟩
abbrev S_ : Shape := ⟨0, ![]⟩
abbrev S2048x1024 : Shape := ⟨2, ![2048, 1024]⟩
abbrev S1024x1536 : Shape := ⟨2, ![1024, 1536]⟩

abbrev nBuf : Space → Nat
  | .hbm => 10
  | .vmem => 0
  | .smem => 0
  | _ => 0

abbrev bufTy : (tb : Table) → Fin (tcTables nBuf tb) → BufTy
  | .hbm, ⟨0, _⟩ => ⟨S2048x1536, .bf16⟩
  | .hbm, ⟨1, _⟩ => ⟨S1536x1024, .bf16⟩
  | .hbm, ⟨2, _⟩ => ⟨S1536x1024, .f32⟩
  | .hbm, ⟨3, _⟩ => ⟨S_, .f32⟩
  | .hbm, ⟨4, _⟩ => ⟨S2048x1024, .f32⟩
  | .hbm, ⟨5, _⟩ => ⟨S1024x1536, .f32⟩
  | .hbm, ⟨6, _⟩ => ⟨S2048x1536, .f32⟩
  | .hbm, ⟨7, _⟩ => ⟨S2048x1536, .f32⟩
  | .hbm, ⟨8, _⟩ => ⟨S2048x1024, .f32⟩
  | .hbm, ⟨9, _⟩ => ⟨S2048x1024, .bf16⟩
  | _, _ => ⟨S2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel16.lean ====
abbrev S2048x1536 : Shape := ⟨2, ![2048, 1536]⟩
abbrev S2048x1024 : Shape := ⟨2, ![2048, 1024]⟩
abbrev S1536x1024 : Shape := ⟨2, ![1536, 1024]⟩
abbrev S2048x768 : Shape := ⟨2, ![2048, 768]⟩
abbrev S768x1024 : Shape := ⟨2, ![768, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1536, .bf16⟩
  | .hbm, ⟨1, _⟩ => ⟨S2048x1024, .bf16⟩
  | .hbm, ⟨2, _⟩ => ⟨S1536x1024, .f32⟩
  | .local _ .vmem, ⟨0, _⟩ => ⟨S2048x768, .bf16⟩
  | .local _ .vmem, ⟨1, _⟩ => ⟨S2048x768, .bf16⟩
  | .local _ .vmem, ⟨2, _⟩ => ⟨S2048x1024, .bf16⟩
  | .local _ .vmem, ⟨3, _⟩ => ⟨S768x1024, .f32⟩
  | .local _ .vmem, ⟨4, _⟩ => ⟨S768x1024, .f32⟩
  | _, _ => ⟨S2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference16Ideal.lean ====
abbrev S2048x1536 : Shape := ⟨2, ![2048, 1536]⟩
abbrev S2048x1024 : Shape := ⟨2, ![2048, 1024]⟩
abbrev S_ : Shape := ⟨0, ![]⟩
abbrev S1536x1024 : Shape := ⟨2, ![1536, 1024]⟩
abbrev S1024x1536 : Shape := ⟨2, ![1024, 1536]⟩

abbrev nBuf : Space → Nat
  | .hbm => 11
  | .vmem => 0
  | .smem => 0
  | _ => 0

abbrev bufTy : (tb : Table) → Fin (tcTables nBuf tb) → BufTy
  | .hbm, ⟨0, _⟩ => ⟨S2048x1536, .bf16⟩
  | .hbm, ⟨1, _⟩ => ⟨S2048x1024, .bf16⟩
  | .hbm, ⟨2, _⟩ => ⟨S2048x1024, .f32⟩
  | .hbm, ⟨3, _⟩ => ⟨S_, .f32⟩
  | .hbm, ⟨4, _⟩ => ⟨S1536x1024, .f32⟩
  | .hbm, ⟨5, _⟩ => ⟨S1024x1536, .f32⟩
  | .hbm, ⟨6, _⟩ => ⟨S2048x1536, .f32⟩
  | .hbm, ⟨7, _⟩ => ⟨S2048x1536, .f32⟩
  | .hbm, ⟨8, _⟩ => ⟨S1536x1024, .f32⟩
  | .hbm, ⟨9, _⟩ => ⟨S1024x1536, .f32⟩
  | .hbm, ⟨10, _⟩ => ⟨S1536x1024, .f32⟩
  | _, _ => ⟨S2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel17.lean ====
abbrev S2048x1024 : Shape := ⟨2, ![2048, 1024]⟩
abbrev S2048x256 : Shape := ⟨2, ![2048, 256]⟩
abbrev S1024x256 : Shape := ⟨2, ![1024, 256]⟩
abbrev S2048x512 : Shape := ⟨2, ![2048, 512]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x256, .bf16⟩
  | .hbm, ⟨2, _⟩ => ⟨S1024x256, .f32⟩
  | .local _ .vmem, ⟨0, _⟩ => ⟨S2048x512, .bf16⟩
  | .local _ .vmem, ⟨1, _⟩ => ⟨S2048x512, .bf16⟩
  | .local _ .vmem, ⟨2, _⟩ => ⟨S2048x256, .bf16⟩
  | .local _ .vmem, ⟨3, _⟩ => ⟨S512x256, .f32⟩
  | .local _ .vmem, ⟨4, _⟩ => ⟨S512x256, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference17Ideal.lean ====
abbrev S2048x1024 : Shape := ⟨2, ![2048, 1024]⟩
abbrev S2048x256 : Shape := ⟨2, ![2048, 256]⟩
abbrev S_ : Shape := ⟨0, ![]⟩
abbrev S1024x256 : Shape := ⟨2, ![1024, 256]⟩
abbrev S256x1024 : Shape := ⟨2, ![256, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x256, .bf16⟩
  | .hbm, ⟨2, _⟩ => ⟨S2048x256, .f32⟩
  | .hbm, ⟨3, _⟩ => ⟨S_, .f32⟩
  | .hbm, ⟨4, _⟩ => ⟨S1024x256, .f32⟩
  | .hbm, ⟨5, _⟩ => ⟨S256x1024, .f32⟩
  | .hbm, ⟨6, _⟩ => ⟨S2048x1024, .f32⟩
  | .hbm, ⟨7, _⟩ => ⟨S2048x1024, .f32⟩
  | .hbm, ⟨8, _⟩ => ⟨S1024x256, .f32⟩
  | .hbm, ⟨9, _⟩ => ⟨S256x1024, .f32⟩
  | .hbm, ⟨10, _⟩ => ⟨S1024x256, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel18.lean ====
abbrev S2048x128 : Shape := ⟨2, ![2048, 128]⟩
abbrev S2048x1536 : Shape := ⟨2, ![2048, 1536]⟩
abbrev S128x1536 : Shape := ⟨2, ![128, 1536]⟩
abbrev S2048x512 : Shape := ⟨2, ![2048, 512]⟩
abbrev S128x512 : Shape := ⟨2, ![128, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x128, .bf16⟩
  | .hbm, ⟨1, _⟩ => ⟨S2048x1536, .bf16⟩
  | .hbm, ⟨2, _⟩ => ⟨S128x1536, .f32⟩
  | .local _ .vmem, ⟨0, _⟩ => ⟨S2048x128, .bf16⟩
  | .local _ .vmem, ⟨1, _⟩ => ⟨S2048x512, .bf16⟩
  | .local _ .vmem, ⟨2, _⟩ => ⟨S2048x512, .bf16⟩
  | .local _ .vmem, ⟨3, _⟩ => ⟨S128x512, .f32⟩
  | .local _ .vmem, ⟨4, _⟩ => ⟨S128x512, .f32⟩
  | _, _ => ⟨S2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference18Ideal.lean ====
abbrev S2048x128 : Shape := ⟨2, ![2048, 128]⟩
abbrev S2048x1536 : Shape := ⟨2, ![2048, 1536]⟩
abbrev S_ : Shape := ⟨0, ![]⟩
abbrev S128x1536 : Shape := ⟨2, ![128, 1536]⟩
abbrev S1536x128 : Shape := ⟨2, ![1536, 128]⟩

abbrev nBuf : Space → Nat
  | .hbm => 9
  | .vmem => 0
  | .smem => 0
  | _ => 0

abbrev bufTy : (tb : Table) → Fin (tcTables nBuf tb) → BufTy
  | .hbm, ⟨0, _⟩ => ⟨S2048x128, .bf16⟩
  | .hbm, ⟨1, _⟩ => ⟨S2048x1536, .bf16⟩
  | .hbm, ⟨2, _⟩ => ⟨S2048x128, .f32⟩
  | .hbm, ⟨3, _⟩ => ⟨S_, .f32⟩
  | .hbm, ⟨4, _⟩ => ⟨S128x1536, .f32⟩
  | .hbm, ⟨5, _⟩ => ⟨S2048x1536, .f32⟩
  | .hbm, ⟨6, _⟩ => ⟨S2048x1536, .f32⟩
  | .hbm, ⟨7, _⟩ => ⟨S1536x128, .f32⟩
  | .hbm, ⟨8, _⟩ => ⟨S128x1536, .f32⟩
  | _, _ => ⟨S2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel19.lean ====
abbrev S8x2048x256 : Shape := ⟨3, ![8, 2048, 256]⟩
abbrev S3x512 : Shape := ⟨2, ![3, 512]⟩
abbrev S4x128x128 : Shape := ⟨3, ![4, 128, 128]⟩
abbrev S1x512 : Shape := ⟨2, ![1, 512]⟩
abbrev S2x2048x512 : Shape := ⟨3, ![2, 2048, 512]⟩
abbrev S1x2048x128 : Shape := ⟨3, ![1, 2048, 128]⟩
abbrev S3x128 : Shape := ⟨2, ![3, 128]⟩
abbrev S1x128x128 : Shape := ⟨3, ![1, 128, 128]⟩
abbrev S1x128 : Shape := ⟨2, ![1, 128]⟩
abbrev S2x2048x128 : Shape := ⟨3, ![2, 2048, 128]⟩
abbrev S2048x128 : Shape := ⟨2, ![2048, 128]⟩
abbrev S128x128 : Shape := ⟨2, ![128, 128]⟩

abbrev nBuf : Space → Nat
  | .hbm => 5
  | .vmem => 16
  | .smem => 0
  | _ => 0

abbrev bufTy : (tb : Table) → Fin (tcTables nBuf tb) → BufTy
  | .hbm, ⟨0, _⟩ => ⟨S8x2048x256, .bf16⟩
  | .hbm, ⟨1, _⟩ => ⟨S3x512, .f32⟩
  | .hbm, ⟨2, _⟩ => ⟨S4x128x128, .f32⟩
  | .hbm, ⟨3, _⟩ => ⟨S1x512, .f32⟩
  | .hbm, ⟨4, _⟩ => ⟨S2x2048x512, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S3x128, .f32⟩
  | .local _ .vmem, ⟨9, _⟩ => ⟨S3x128, .f32⟩
  | .local _ .vmem, ⟨10, _⟩ => ⟨S1x128x128, .f32⟩
  | .local _ .vmem, ⟨11, _⟩ => ⟨S1x128x128, .f32⟩
  | .local _ .vmem, ⟨12, _⟩ => ⟨S1x128, .f32⟩
  | .local _ .vmem, ⟨13, _⟩ => ⟨S1x128, .f32⟩
  | .local _ .vmem, ⟨14, _⟩ => ⟨S2x2048x128, .bf16⟩
  | .local _ .vmem, ⟨15, _⟩ => ⟨S2x2048x128, .bf16⟩
  | _, _ => ⟨S8x2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.addi c2_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.addi c4_i32 v16
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, c0_i32_10.toNat, v27.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.addi c6_i32 v16
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, c0_i32_10.toNat, v27.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference19Ideal.lean ====
abbrev S8x2048x256 : Shape := ⟨3, ![8, 2048, 256]⟩
abbrev S3x512 : Shape := ⟨2, ![3, 512]⟩
abbrev S4x128x128 : Shape := ⟨3, ![4, 128, 128]⟩
abbrev S1x512 : Shape := ⟨2, ![1, 512]⟩
abbrev S4 : Shape := ⟨1, ![4]⟩
abbrev S2048x8x256 : Shape := ⟨3, ![2048, 8, 256]⟩
abbrev S2048x2048 : Shape := ⟨2, ![2048, 2048]⟩
abbrev S2048x512 : Shape := ⟨2, ![2048, 512]⟩
abbrev S2x512 : Shape := ⟨2, ![2, 512]⟩
abbrev S_ : Shape := ⟨0, ![]⟩
abbrev S2046x512 : Shape := ⟨2, ![2046, 512]⟩
abbrev S2047x512 : Shape := ⟨2, ![2047, 512]⟩
abbrev S2048x4x128 : Shape := ⟨3, ![2048, 4, 128]⟩
abbrev S2048 : Shape := ⟨1, ![2048]⟩
abbrev S2048x1 : Shape := ⟨2, ![2048, 1]⟩
abbrev S1x2048 : Shape := ⟨2, ![1, 2048]⟩
abbrev S4x1x1 : Shape := ⟨3, ![4, 1, 1]⟩
abbrev S1x2048x2048 : Shape := ⟨3, ![1, 2048, 2048]⟩
abbrev S4x2048x2048 : Shape := ⟨3, ![4, 2048, 2048]⟩
abbrev S1x4 : Shape := ⟨2, ![1, 4]⟩
abbrev S2048x4 : Shape := ⟨2, ![2048, 4]⟩
abbrev S2048x4x1 : Shape := ⟨3, ![2048, 4, 1]⟩
abbrev S4x128x2048 : Shape := ⟨3, ![4, 128, 2048]⟩
abbrev S1x2048x512 : Shape := ⟨3, ![1, 2048, 512]⟩
abbrev S2x2048x512 : Shape := ⟨3, ![2, 2048, 512]⟩

abbrev nBuf : Space → Nat
  | .hbm => 81
  | .vmem => 0
  | .smem => 0
  | _ => 0

abbrev bufTy : (tb : Table) → Fin (tcTables nBuf tb) → BufTy
  | .hbm, ⟨0, _⟩ => ⟨S8x2048x256, .bf16⟩
  | .hbm, ⟨1, _⟩ => ⟨S3x512, .f32⟩
  | .hbm, ⟨2, _⟩ => ⟨S4x128x128, .f32⟩
  | .hbm, ⟨3, _⟩ => ⟨S1x512, .f32⟩
  | .hbm, ⟨4, _⟩ => ⟨S4, .i32⟩
  | .hbm, ⟨5, _⟩ => ⟨S8x2048x256, .f32⟩
  | .hbm, ⟨6, _⟩ => ⟨S2048x8x256, .f32⟩
  | .hbm, ⟨7, _⟩ => ⟨S2048x2048, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S2048x512, .f32⟩
  | .hbm, ⟨12, _⟩ => ⟨S2048x512, .f32⟩
  | .hbm, ⟨13, _⟩ => ⟨S1x512, .f32⟩
  | .hbm, ⟨14, _⟩ => ⟨S2x512, .f32⟩
  | .hbm, ⟨15, _⟩ => ⟨S_, .f32⟩
  | .hbm, ⟨16, _⟩ => ⟨S2x512, .f32⟩
  | .hbm, ⟨17, _⟩ => ⟨S2046x512, .f32⟩
  | .hbm, ⟨18, _⟩ => ⟨S2048x512, .f32⟩
  | .hbm, ⟨19, _⟩ => ⟨S2048x512, .f32⟩
  | .hbm, ⟨20, _⟩ => ⟨S2048x512, .f32⟩
  | .hbm, ⟨21, _⟩ => ⟨S_, .f32⟩
  | .hbm, ⟨22, _⟩ => ⟨S2048x512, .f32⟩
  | .hbm, ⟨23, _⟩ => ⟨S2048x512, .f32⟩
  | .hbm, ⟨24, _⟩ => ⟨S1x512, .f32⟩
  | .hbm, ⟨25, _⟩ => ⟨S1x512, .f32⟩
  | .hbm, ⟨26, _⟩ => ⟨S_, .f32⟩
  | .hbm, ⟨27, _⟩ => ⟨S1x512, .f32⟩
  | .hbm, ⟨28, _⟩ => ⟨S2047x512, .f32⟩
  | .hbm, ⟨29, _⟩ => ⟨S2048x512, .f32⟩
  | .hbm, ⟨30, _⟩ => ⟨S2048x512, .f32⟩
  | .hbm, ⟨31, _⟩ => ⟨S2048x512, .f32⟩
  | .hbm, ⟨32, _⟩ => ⟨S2048x512, .f32⟩
  | .hbm, ⟨33, _⟩ => ⟨S1x512, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S2048x512, .f32⟩
  | .hbm, ⟨38, _⟩ => ⟨S2048x4x128, .f32⟩
  | .hbm, ⟨39, _⟩ => ⟨S2048, .i32⟩
  | .hbm, ⟨40, _⟩ => ⟨S2048x1, .i32⟩
  | .hbm, ⟨41, _⟩ => ⟨S1x2048, .i32⟩
  | .hbm, ⟨42, _⟩ => ⟨S2048x2048, .i32⟩
  | .hbm, ⟨43, _⟩ => ⟨S2048x2048, .i32⟩
  | .hbm, ⟨44, _⟩ => ⟨S2048x2048, .i32⟩
  | .hbm, ⟨45, _⟩ => ⟨S_, .i32⟩
  | .hbm, ⟨46, _⟩ => ⟨S2048x2048, .i32⟩
  | .hbm, ⟨47, _⟩ => ⟨S2048x2048, .i1⟩
  | .hbm, ⟨48, _⟩ => ⟨S4x1x1, .i32⟩
  | .hbm, ⟨49, _⟩ => ⟨S1x2048x2048, .i32⟩
  | .hbm, ⟨50, _⟩ => ⟨S4x2048x2048, .i32⟩
  | .hbm, ⟨51, _⟩ => ⟨S4x2048x2048, .i32⟩
  | .hbm, ⟨52, _⟩ => ⟨S4x2048x2048, .i1⟩
  | .hbm, ⟨53, _⟩ => ⟨S1x2048x2048, .i1⟩
  | .hbm, ⟨54, _⟩ => ⟨S4x2048x2048, .i1⟩
  | .hbm, ⟨55, _⟩ => ⟨S4x2048x2048, .i1⟩
  | .hbm, ⟨56, _⟩ => ⟨S4x2048x2048, .f32⟩
  | .hbm, ⟨57, _⟩ => ⟨S2048x1, .i32⟩
  | .hbm, ⟨58, _⟩ => ⟨S_, .i32⟩
  | .hbm, ⟨59, _⟩ => ⟨S2048x1, .i32⟩
  | .hbm, ⟨60, _⟩ => ⟨S2048x1, .i32⟩
  | .hbm, ⟨61, _⟩ => ⟨S1x4, .i32⟩
  | .hbm, ⟨62, _⟩ => ⟨S2048x4, .i32⟩
  | .hbm, ⟨63, _⟩ => ⟨S2048x4, .i32⟩
  | .hbm, ⟨64, _⟩ => ⟨S2048x4, .i32⟩
  | .hbm, ⟨65, _⟩ => ⟨S2048x4, .f32⟩
  | .hbm, ⟨66, _⟩ => ⟨S2048x4x1, .f32⟩
  | .hbm, ⟨67, _⟩ => ⟨S4x128x2048, .f32⟩
  | .hbm, ⟨68, _⟩ => ⟨S2048x4x128, .f32⟩
  | .hbm, ⟨69, _⟩ => ⟨S2048x4x128, .f32⟩
  | .hbm, ⟨70, _⟩ => ⟨S2048x4x128, .f32⟩
  | .hbm, ⟨71, _⟩ => ⟨S2048x4x128, .f32⟩
  | .hbm, ⟨72, _⟩ => ⟨S4x128x2048, .f32⟩
  | .hbm, ⟨73, _⟩ => ⟨S2048x4x128, .f32⟩
  | .hbm, ⟨74, _⟩ => ⟨S2048x512, .f32⟩
  | .hbm, ⟨75, _⟩ => ⟨S2048x512, .f32⟩
  | .hbm, ⟨76, _⟩ => ⟨S2048x512, .f32⟩
  | .hbm, ⟨77, _⟩ => ⟨S1x2048x512, .f32⟩
  | .hbm, ⟨78, _⟩ => ⟨S1x2048x512, .f32⟩
  | .hbm, ⟨79, _⟩ => ⟨S2x2048x512, .f32⟩
  | .hbm, ⟨80, _⟩ => ⟨S2x2048x512, .bf16⟩
  | _, _ => ⟨S8x2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_c_2 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_c_3 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩

abbrev nD : Nat := 1
abbrev τ : Topo := Topo.v7x

variable {F : FTy → Type} [FloatOps F]
-- ==== Proof.Window.lean ====
/- Hand-written, untrusted: sums over a window of rows, trailing (the `n` rows up to `t`) and leading (the `n` rows from
   `t` on), both cut at the ends of the array, and the doubling step: a window of `2 n` rows is a window of `n` rows and
   the window of `n` rows just beyond it. -/
module

public import Mathlib.Algebra.BigOperators.Fin
public import Mathlib.Algebra.BigOperators.Group.Finset.Basic

@[expose] public section

namespace Cert.Window

open scoped BigOperators

variable {M : Type*} [AddCommMonoid M] {N : ℕ}

/-- The sum of `f` over the `n` rows that end at `t`, as far as they exist. -/
def trail (n : ℕ) (f : Fin N → M) (t : Fin N) : M := ∑ s : Fin N, if s.val ≤ t.val ∧ t.val < s.val + n then f s else 0

/-- The sum of `f` over the `n` rows that begin at `t`, as far as they exist. -/
def lead (n : ℕ) (f : Fin N → M) (t : Fin N) : M := ∑ s : Fin N, if t.val ≤ s.val ∧ s.val < t.val + n then f s else 0

theorem trail_one (f : Fin N → M) (t : Fin N) : trail 1 f t = f t := by
  refine (Finset.sum_eq_single t (fun s _ hs => if_neg fun h => hs (Fin.ext (by omega))) fun h => absurd (Finset.mem_univ _) h).trans ?_
  exact if_pos ⟨le_rfl, by omega⟩

theorem lead_one (f : Fin N → M) (t : Fin N) : lead 1 f t = f t := by
  refine (Finset.sum_eq_single t (fun s _ hs => if_neg fun h => hs (Fin.ext (by omega))) fun h => absurd (Finset.mem_univ _) h).trans ?_
  exact if_pos ⟨le_rfl, by omega⟩

/-- Doubling a trailing window. -/
theorem trail_double (n : ℕ) (f : Fin N → M) (t : Fin N) :
    trail (n + n) f t = trail n f t + if h : n ≤ t.val then trail n f ⟨t.val - n, by omega⟩ else 0 := by
  unfold trail
  by_cases h : n ≤ t.val
  · rw [dif_pos h, ← Finset.sum_add_distrib]
    refine Finset.sum_congr rfl fun s _ => ?_
    dsimp only
    by_cases h1 : s.val ≤ t.val ∧ t.val < s.val + n
    · rw [if_pos h1, if_pos (by omega), if_neg (by omega), add_zero]
    · by_cases h2 : s.val ≤ t.val - n ∧ t.val - n < s.val + n
      · rw [if_neg h1, if_pos (by omega), if_pos h2, zero_add]
      · rw [if_neg h1, if_neg (by omega), if_neg h2, add_zero]
  · rw [dif_neg h, add_zero]
    refine Finset.sum_congr rfl fun s _ => ?_
    by_cases h1 : s.val ≤ t.val ∧ t.val < s.val + n
    · rw [if_pos h1, if_pos (by omega)]
    · rw [if_neg h1, if_neg (by omega)]

/-- Doubling a leading window. -/
theorem lead_double (n : ℕ) (f : Fin N → M) (t : Fin N) :
    lead (n + n) f t = lead n f t + if h : t.val + n < N then lead n f ⟨t.val + n, h⟩ else 0 := by
  unfold lead
  by_cases h : t.val + n < N
  · rw [dif_pos h, ← Finset.sum_add_distrib]
    refine Finset.sum_congr rfl fun s _ => ?_
    dsimp only
    by_cases h1 : t.val ≤ s.val ∧ s.val < t.val + n
    · rw [if_pos h1, if_pos (by omega), if_neg (by omega), add_zero]
    · by_cases h2 : t.val + n ≤ s.val ∧ s.val < t.val + n + n
      · rw [if_neg h1, if_pos (by omega), if_pos h2, zero_add]
      · rw [if_neg h1, if_neg (by omega), if_neg h2, add_zero]
  · rw [dif_neg h, add_zero]
    refine Finset.sum_congr rfl fun s _ => ?_
    by_cases h1 : t.val ≤ s.val ∧ s.val < t.val + n
    · rw [if_pos h1, if_pos (by omega)]
    · rw [if_neg h1, if_neg (by omega)]

end Cert.Window
-- ==== Proof.MixSpec.lean ====
/- Hand-written, untrusted: what the gradient of the two sequence mixers computes for one group of 128 columns, as
   formulas over extended reals: the gated short convolution `b · conv(c · a)` and the pooling
   `(mean of the last n rows − the row) · mix · scale`. Both programs are read down to these formulas. -/
module

public import Idealize.ShloMosaic.Lib.Pointwise
public import proofs.«01_k».proof.Proof.Window

@[expose] public section

noncomputable section

namespace Cert.MixSpec

open Idealize.ShloMosaic Cert.Window
open scoped BigOperators

/-- A column of the sequence. -/
abbrev Col := Fin 2048 → EReal
/-- 128 columns of the sequence. -/
abbrev Cols := Fin 2048 → Fin 128 → EReal

/-- The entry `k` rows earlier, zero before the first row. -/
def before (k : ℕ) (f : Col) (r : Fin 2048) : EReal := if h : k ≤ r.val then f ⟨r.val - k, by omega⟩ else 0
/-- The entry `k` rows later, zero after the last row. -/
def later (k : ℕ) (f : Col) (r : Fin 2048) : EReal := if h : r.val + k < 2048 then f ⟨r.val + k, h⟩ else 0

/-! ## The gated short convolution -/

/-- The convolved column. -/
def conv (w : Fin 3 → Fin 128 → EReal) (C A : Cols) (r : Fin 2048) (l : Fin 128) : EReal :=
  w 0 l * before 2 (fun s => C s l * A s l) r + w 1 l * before 1 (fun s => C s l * A s l) r + w 2 l * (C r l * A r l)
/-- The gradient of the gate's first factor. -/
def dgate (w : Fin 3 → Fin 128 → EReal) (C A D : Cols) (r : Fin 2048) (l : Fin 128) : EReal := D r l * conv w C A r l
/-- The gradient of the convolution's input. -/
def dconvIn (w : Fin 3 → Fin 128 → EReal) (B D : Cols) (r : Fin 2048) (l : Fin 128) : EReal :=
  w 2 l * (D r l * B r l) + w 1 l * later 1 (fun s => D s l * B s l) r + w 0 l * later 2 (fun s => D s l * B s l) r
/-- The gradient of the convolution's weights: tap `k` looks `2 - k` rows back. -/
def dtap (B C A D : Cols) (k : ℕ) (l : Fin 128) : EReal :=
  ∑ s : Fin 2048, (D s l * B s l) * before (2 - k) (fun q => C q l * A q l) s

/-! ## The pooling -/

/-- How many rows a trailing window of `n` rows has at row `r`. -/
def cnt (n : ℕ) (r : Fin 2048) : EReal :=
  FloatOps.sitofp (F := Ideal) FTy.f32 (IntOp.minsi (IntOp.addi (BitVec.ofNat 32 r.val) 1#32) (BitVec.ofNat 32 n))
/-- Trailing mean minus the row. -/
def pooled (n : ℕ) (P : Cols) (r : Fin 2048) (l : Fin 128) : EReal :=
  Ideal.div (trail n (fun s => P s l) r) (cnt n r) - P r l
/-- The gradient of the mixed rows. -/
def dmixed (D : Cols) (sc : Fin 128 → EReal) (r : Fin 2048) (d : Fin 128) : EReal := D r d * sc d
/-- The gradient of the pooled rows. -/
def dpooled (D : Cols) (sc : Fin 128 → EReal) (mix : Fin 128 → Fin 128 → EReal) (r : Fin 2048) (l : Fin 128) : EReal :=
  ∑ d : Fin 128, dmixed D sc r d * mix l d
/-- The gradient of the pooling's input. -/
def dpoolIn (n : ℕ) (D : Cols) (sc : Fin 128 → EReal) (mix : Fin 128 → Fin 128 → EReal) (r : Fin 2048) (l : Fin 128) : EReal :=
  lead n (fun s => Ideal.div (dpooled D sc mix s l) (cnt n s)) r - dpooled D sc mix r l
/-- The gradient of the mixing matrix. -/
def dmixW (n : ℕ) (P D : Cols) (sc : Fin 128 → EReal) (l d : Fin 128) : EReal :=
  ∑ s : Fin 2048, pooled n P s l * dmixed D sc s d
/-- The gradient of the scale. -/
def dscale (n : ℕ) (P D : Cols) (mix : Fin 128 → Fin 128 → EReal) (d : Fin 128) : EReal :=
  ∑ s : Fin 2048, D s d * ∑ l : Fin 128, pooled n P s l * mix l d

end Cert.MixSpec

end
-- ==== Proof.MixKernel.lean ====
/- Hand-written, untrusted: what the body of the mixers' gradient stores, read at an index, as the formulas of
   MixSpec.lean: first the shifts and the window sums by doubling, then one lemma per stored piece. -/
module

public import proofs.«01_k».proof.Proof.Gen.KernelIdeal.Skeleton
public import Idealize.ShloMosaic.Lib.Pointwise
public import Idealize.ShloMosaic.Lib.WordCmp
public import proofs.«01_k».proof.Proof.MixSpec

@[expose] public section

set_option maxRecDepth 16384

noncomputable section

open Idealize.ShloMosaic Idealize.ShloMosaic.TcCoe Idealize.SL.Sem
open scoped BigOperators

namespace Cert.KernelIdeal.Mix

open Cert.KernelIdeal Cert.KernelIdeal.Gen Cert.Window Cert.MixSpec

/-- 2048 rows of 128 lanes. -/
local notation "V" => FVec Ideal S2048x128 FTy.f32

/-- Rows moved down by `k`, zero rows in front. -/
def dn (k : BitVec 32) (v : V) : V :=
  select (cmpi .sge (iota .tc S2048x128 32 [0] iota_S2048x128_d0_w32) (broadcast S2048x128 k))
    (dynamicRotate 0 k none v rotates_S2048x128_d0) (broadcast S2048x128 (Scalar.ofBits .f32 0x00000000#32))
/-- Rows rotated by `k` with the rows from `k` on zero: moved up by `2048 - k`. -/
def up (k : BitVec 32) (v : V) : V :=
  select (cmpi .slt (iota .tc S2048x128 32 [0] iota_S2048x128_d0_w32) (broadcast S2048x128 k))
    (dynamicRotate 0 k none v rotates_S2048x128_d0) (broadcast S2048x128 (Scalar.ofBits .f32 0x00000000#32))

theorem dn1 (v : V) (r : Fin 2048) (l : Fin 128) : dn 1#32 v (ix2 r l) = before 1 (fun s => v (ix2 s l)) r := by
  pointwise [dn]; word_cmp; unfold before
  by_cases h : 1 ≤ r.val
  · rw [if_pos h, dif_pos h]; congr 2; exact Fin.ext (by simp only; omega)
  · rw [if_neg h, dif_neg h]
theorem dn2 (v : V) (r : Fin 2048) (l : Fin 128) : dn 2#32 v (ix2 r l) = before 2 (fun s => v (ix2 s l)) r := by
  pointwise [dn]; word_cmp; unfold before
  by_cases h : 2 ≤ r.val
  · rw [if_pos h, dif_pos h]; congr 2; exact Fin.ext (by simp only; omega)
  · rw [if_neg h, dif_neg h]
theorem dn4 (v : V) (r : Fin 2048) (l : Fin 128) : dn 4#32 v (ix2 r l) = before 4 (fun s => v (ix2 s l)) r := by
  pointwise [dn]; word_cmp; unfold before
  by_cases h : 4 ≤ r.val
  · rw [if_pos h, dif_pos h]; congr 2; exact Fin.ext (by simp only; omega)
  · rw [if_neg h, dif_neg h]
theorem dn8 (v : V) (r : Fin 2048) (l : Fin 128) : dn 8#32 v (ix2 r l) = before 8 (fun s => v (ix2 s l)) r := by
  pointwise [dn]; word_cmp; unfold before
  by_cases h : 8 ≤ r.val
  · rw [if_pos h, dif_pos h]; congr 2; exact Fin.ext (by simp only; omega)
  · rw [if_neg h, dif_neg h]
theorem up1 (v : V) (r : Fin 2048) (l : Fin 128) : up 2047#32 v (ix2 r l) = later 1 (fun s => v (ix2 s l)) r := by
  pointwise [up]; word_cmp; unfold later
  by_cases h : r.val + 1 < 2048
  · rw [if_pos (by omega), dif_pos h]; congr 2; exact Fin.ext (by simp only; omega)
  · rw [if_neg (by omega), dif_neg h]
theorem up2 (v : V) (r : Fin 2048) (l : Fin 128) : up 2046#32 v (ix2 r l) = later 2 (fun s => v (ix2 s l)) r := by
  pointwise [up]; word_cmp; unfold later
  by_cases h : r.val + 2 < 2048
  · rw [if_pos (by omega), dif_pos h]; congr 2; exact Fin.ext (by simp only; omega)
  · rw [if_neg (by omega), dif_neg h]
theorem up4 (v : V) (r : Fin 2048) (l : Fin 128) : up 2044#32 v (ix2 r l) = later 4 (fun s => v (ix2 s l)) r := by
  pointwise [up]; word_cmp; unfold later
  by_cases h : r.val + 4 < 2048
  · rw [if_pos (by omega), dif_pos h]; congr 2; exact Fin.ext (by simp only; omega)
  · rw [if_neg (by omega), dif_neg h]
theorem up8 (v : V) (r : Fin 2048) (l : Fin 128) : up 2040#32 v (ix2 r l) = later 8 (fun s => v (ix2 s l)) r := by
  pointwise [up]; word_cmp; unfold later
  by_cases h : r.val + 8 < 2048
  · rw [if_pos (by omega), dif_pos h]; congr 2; exact Fin.ext (by simp only; omega)
  · rw [if_neg (by omega), dif_neg h]

/-! ## Window sums by doubling -/

/-- One doubling step, on a vector whose columns are trailing sums. -/
theorem trail_step (n : ℕ) (f : Col) (g : Col) (hg : ∀ r, g r = trail n f r) (r : Fin 2048) :
    g r + before n g r = trail (n + n) f r := by
  rw [trail_double, hg]; unfold before
  by_cases h : n ≤ r.val
  · rw [dif_pos h, dif_pos h, hg]
  · rw [dif_neg h, dif_neg h]
theorem lead_step (n : ℕ) (f : Col) (g : Col) (hg : ∀ r, g r = lead n f r) (r : Fin 2048) :
    g r + later n g r = lead (n + n) f r := by
  rw [lead_double, hg]; unfold later
  by_cases h : r.val + n < 2048
  · rw [dif_pos h, dif_pos h, hg]
  · rw [dif_neg h, dif_neg h]

def T2 (v : V) : V := addf v (dn 1#32 v)
def T4 (v : V) : V := addf (T2 v) (dn 2#32 (T2 v))
def T8 (v : V) : V := addf (T4 v) (dn 4#32 (T4 v))
def T16 (v : V) : V := addf (T8 v) (dn 8#32 (T8 v))
def L2 (v : V) : V := addf v (up 2047#32 v)
def L4 (v : V) : V := addf (L2 v) (up 2046#32 (L2 v))
def L8 (v : V) : V := addf (L4 v) (up 2044#32 (L4 v))
def L16 (v : V) : V := addf (L8 v) (up 2040#32 (L8 v))

theorem T2_at (v : V) (r : Fin 2048) (l : Fin 128) : T2 v (ix2 r l) = trail 2 (fun s => v (ix2 s l)) r := by
  pointwise [T2]; rw [dn1]; exact trail_step 1 (fun s => v (ix2 s l)) (fun s => v (ix2 s l)) (fun r => (trail_one (fun s => v (ix2 s l)) r).symm) r
theorem T4_at (v : V) (r : Fin 2048) (l : Fin 128) : T4 v (ix2 r l) = trail 4 (fun s => v (ix2 s l)) r := by
  pointwise [T4]; rw [dn2]; exact trail_step 2 (fun s => v (ix2 s l)) (fun s => T2 v (ix2 s l)) (fun r => T2_at v r l) r
theorem T8_at (v : V) (r : Fin 2048) (l : Fin 128) : T8 v (ix2 r l) = trail 8 (fun s => v (ix2 s l)) r := by
  pointwise [T8]; rw [dn4]; exact trail_step 4 (fun s => v (ix2 s l)) (fun s => T4 v (ix2 s l)) (fun r => T4_at v r l) r
theorem T16_at (v : V) (r : Fin 2048) (l : Fin 128) : T16 v (ix2 r l) = trail 16 (fun s => v (ix2 s l)) r := by
  pointwise [T16]; rw [dn8]; exact trail_step 8 (fun s => v (ix2 s l)) (fun s => T8 v (ix2 s l)) (fun r => T8_at v r l) r
theorem L2_at (v : V) (r : Fin 2048) (l : Fin 128) : L2 v (ix2 r l) = lead 2 (fun s => v (ix2 s l)) r := by
  pointwise [L2]; rw [up1]; exact lead_step 1 (fun s => v (ix2 s l)) (fun s => v (ix2 s l)) (fun r => (lead_one (fun s => v (ix2 s l)) r).symm) r
theorem L4_at (v : V) (r : Fin 2048) (l : Fin 128) : L4 v (ix2 r l) = lead 4 (fun s => v (ix2 s l)) r := by
  pointwise [L4]; rw [up2]; exact lead_step 2 (fun s => v (ix2 s l)) (fun s => L2 v (ix2 s l)) (fun r => L2_at v r l) r
theorem L8_at (v : V) (r : Fin 2048) (l : Fin 128) : L8 v (ix2 r l) = lead 8 (fun s => v (ix2 s l)) r := by
  pointwise [L8]; rw [up4]; exact lead_step 4 (fun s => v (ix2 s l)) (fun s => L4 v (ix2 s l)) (fun r => L4_at v r l) r
theorem L16_at (v : V) (r : Fin 2048) (l : Fin 128) : L16 v (ix2 r l) = lead 16 (fun s => v (ix2 s l)) r := by
  pointwise [L16]; rw [up8]; exact lead_step 8 (fun s => v (ix2 s l)) (fun s => L8 v (ix2 s l)) (fun r => L8_at v r l) r

/-! ## The pooling's pieces, for any window whose sums are known

`T` and `L` are the kernel's window sums, `K` its row counts. -/

section Pool

variable (n : ℕ) (T L : V → V) (K : V)
  (hT : ∀ v r l, T v (ix2 r l) = trail n (fun s => v (ix2 s l)) r)
  (hL : ∀ v r l, L v (ix2 r l) = lead n (fun s => v (ix2 s l)) r)
  (hK : ∀ r l, K (ix2 r l) = cnt n r)

/-- A block of 128 columns. -/
abbrev cols {φ : FTy} (X : FVec Ideal S1x2048x128 φ) : Cols := fun s l => X (ix3 0 s l)

def vP (X : FVec Ideal S1x2048x128 .bf16) : V := extf .f32 (shapeCast S2048x128 X shapeCasts_S1x2048x128_S2048x128) bitsLt_bf16_f32
def vD (D : FVec Ideal S1x2048x128 .f32) : V := shapeCast S2048x128 D shapeCasts_S1x2048x128_S2048x128
def vM (M : FVec Ideal S1x128x128 .f32) : FVec Ideal S128x128 .f32 := shapeCast S128x128 M shapeCasts_S1x128x128_S128x128
def vPooled (X : FVec Ideal S1x2048x128 .bf16) : V := subf (divf (T (vP X)) K) (vP X)
def vDmixed (D : FVec Ideal S1x2048x128 .f32) (sc : FVec Ideal S1x128 .f32) : V :=
  mulf (vD D) (broadcastTo S2048x128 sc broadcasts_S1x128_S2048x128)
def vDpooled (D : FVec Ideal S1x2048x128 .f32) (sc : FVec Ideal S1x128 .f32) (M : FVec Ideal S1x128x128 .f32) : V :=
  matmul dot_S2048x128_S128x128_S2048x128_1_1_0_0_n_n none (truncf .bf16 (vDmixed D sc) bitsLt_bf16_f32)
    (truncf .bf16 (vM M) bitsLt_bf16_f32) (constant S2048x128 .f32 0x00000000#32)
def vDz (D : FVec Ideal S1x2048x128 .f32) (sc : FVec Ideal S1x128 .f32) (M : FVec Ideal S1x128x128 .f32) : FVec Ideal S1x1x2048x128 .bf16 :=
  shapeCast S1x1x2048x128 (truncf .bf16 (subf (L (divf (vDpooled D sc M) K)) (vDpooled D sc M)) bitsLt_bf16_f32)
    shapeCasts_S2048x128_S1x1x2048x128
def vDmix (X : FVec Ideal S1x2048x128 .bf16) (D : FVec Ideal S1x2048x128 .f32) (sc : FVec Ideal S1x128 .f32) : FVec Ideal S1x128x128 .f32 :=
  shapeCast S1x128x128 (matmul dot_S2048x128_S2048x128_S128x128_0_0_1_1_n_n none (truncf .bf16 (vPooled T K X) bitsLt_bf16_f32)
    (truncf .bf16 (vDmixed D sc) bitsLt_bf16_f32) (constant S128x128 .f32 0x00000000#32)) shapeCasts_S128x128_S1x128x128
def vDsc (X : FVec Ideal S1x2048x128 .bf16) (D : FVec Ideal S1x2048x128 .f32) (M : FVec Ideal S1x128x128 .f32) : FVec Ideal S1x128 .f32 :=
  shapeCast S1x128 (multiReduction .add [0] S128 (mulf (vD D)
    (matmul dot_S2048x128_S128x128_S2048x128_1_0_0_1_n_n none (truncf .bf16 (vPooled T K X) bitsLt_bf16_f32)
      (truncf .bf16 (vM M) bitsLt_bf16_f32) (constant S2048x128 .f32 0x00000000#32))) 0x00000000#32 reduces_S2048x128_S128 (.inl rfl) rfl)
    shapeCasts_S128_S1x128

theorem vP_at (X : FVec Ideal S1x2048x128 .bf16) (r : Fin 2048) (l : Fin 128) : vP X (ix2 r l) = cols X r l := by
  pointwise [vP]
theorem vPooled_at (X : FVec Ideal S1x2048x128 .bf16) (r : Fin 2048) (l : Fin 128) (hT : ∀ v r l, T v (ix2 r l) = trail n (fun s => v (ix2 s l)) r)
    (hK : ∀ r l, K (ix2 r l) = cnt n r) : vPooled T K X (ix2 r l) = pooled n (cols X) r l := by
  pointwise [vPooled]; rw [hT, hK]; simp only [vP_at]; rfl
theorem vDmixed_at (D : FVec Ideal S1x2048x128 .f32) (sc : FVec Ideal S1x128 .f32) (r : Fin 2048) (l : Fin 128) :
    vDmixed D sc (ix2 r l) = dmixed (cols D) (fun d => sc (ix2 0 d)) r l := by
  pointwise [vDmixed, vD]; rfl
theorem vDpooled_at (D : FVec Ideal S1x2048x128 .f32) (sc : FVec Ideal S1x128 .f32) (M : FVec Ideal S1x128x128 .f32) (r : Fin 2048) (l : Fin 128) :
    vDpooled D sc M (ix2 r l) = dpooled (cols D) (fun d => sc (ix2 0 d)) (fun a b => M (ix3 0 a b)) r l := by
  pointwise [vDpooled, vM]; simp only [vDmixed_at, zero_add]; rfl
theorem vDz_at (D : FVec Ideal S1x2048x128 .f32) (sc : FVec Ideal S1x128 .f32) (M : FVec Ideal S1x128x128 .f32) (r : Fin 2048) (l : Fin 128)
    (hL : ∀ v r l, L v (ix2 r l) = lead n (fun s => v (ix2 s l)) r) (hK : ∀ r l, K (ix2 r l) = cnt n r) :
    vDz L K D sc M (ix4 0 0 r l) = dpoolIn n (cols D) (fun d => sc (ix2 0 d)) (fun a b => M (ix3 0 a b)) r l := by
  pointwise [vDz]; rw [hL]
  have e : ∀ s : Fin 2048, divf (vDpooled D sc M) K (ix2 s l)
      = Ideal.div (dpooled (cols D) (fun d => sc (ix2 0 d)) (fun a b => M (ix3 0 a b)) s l) (cnt n s) := fun s => by
    pointwise; rw [vDpooled_at, hK]
  simp only [e, vDpooled_at]; rfl
theorem vDmix_at (X : FVec Ideal S1x2048x128 .bf16) (D : FVec Ideal S1x2048x128 .f32) (sc : FVec Ideal S1x128 .f32) (a b : Fin 128)
    (hT : ∀ v r l, T v (ix2 r l) = trail n (fun s => v (ix2 s l)) r) (hK : ∀ r l, K (ix2 r l) = cnt n r) :
    vDmix T K X D sc (ix3 0 a b) = dmixW n (cols X) (cols D) (fun d => sc (ix2 0 d)) a b := by
  pointwise [vDmix]; simp only [vDmixed_at, vPooled_at n T K _ _ _ hT hK, zero_add]; rfl
theorem vDsc_at (X : FVec Ideal S1x2048x128 .bf16) (D : FVec Ideal S1x2048x128 .f32) (M : FVec Ideal S1x128x128 .f32) (b : Fin 128)
    (hT : ∀ v r l, T v (ix2 r l) = trail n (fun s => v (ix2 s l)) r) (hK : ∀ r l, K (ix2 r l) = cnt n r) :
    vDsc T K X D M (ix2 0 b) = dscale n (cols X) (cols D) (fun a b => M (ix3 0 a b)) b := by
  pointwise [vDsc, vD, vM]; simp only [vPooled_at n T K _ _ _ hT hK, zero_add]; rfl

end Pool

/-! ## The four windows -/

theorem K2_at (r : Fin 2048) (l : Fin 128) : k0_pay13 (F := Ideal) (ix2 r l) = cnt 2 r := by pointwise [k0_pay13]; rfl
theorem K4_at (r : Fin 2048) (l : Fin 128) : k0_pay20 (F := Ideal) (ix2 r l) = cnt 4 r := by pointwise [k0_pay20]; rfl
theorem K8_at (r : Fin 2048) (l : Fin 128) : k0_pay25 (F := Ideal) (ix2 r l) = cnt 8 r := by pointwise [k0_pay25]; rfl
theorem K16_at (r : Fin 2048) (l : Fin 128) : k0_pay35 (F := Ideal) (ix2 r l) = cnt 16 r := by pointwise [k0_pay35]; rfl

variable (X : FVec Ideal S1x2048x128 .bf16) (D : FVec Ideal S1x2048x128 .f32) (sc : FVec Ideal S1x128 .f32) (M : FVec Ideal S1x128x128 .f32)

theorem dzA (r l) : k0_pay5 (F := Ideal) (k0_pay12 M) k0_pay13 (k0_pay16 D sc) (ix4 0 0 r l)
    = dpoolIn 2 (cols D) (fun d => sc (ix2 0 d)) (fun a b => M (ix3 0 a b)) r l :=
  (congrFun (show _ = vDz L2 k0_pay13 D sc M from rfl) _).trans (vDz_at 2 L2 _ D sc M r l L2_at K2_at)
theorem dzB (r l) : k0_pay8 (F := Ideal) (k0_pay18 D) (k0_pay19 M) k0_pay20 sc (ix4 0 0 r l)
    = dpoolIn 4 (cols D) (fun d => sc (ix2 0 d)) (fun a b => M (ix3 0 a b)) r l :=
  (congrFun (show _ = vDz L4 k0_pay20 D sc M from rfl) _).trans (vDz_at 4 L4 _ D sc M r l L4_at K4_at)
theorem dzC (r l) : k0_pay9 (F := Ideal) (k0_pay31 (k0_pay23 D) (k0_pay24 M) k0_pay25 sc) (ix4 0 0 r l)
    = dpoolIn 8 (cols D) (fun d => sc (ix2 0 d)) (fun a b => M (ix3 0 a b)) r l :=
  (congrFun (show _ = vDz L8 k0_pay25 D sc M from rfl) _).trans (vDz_at 8 L8 _ D sc M r l L8_at K8_at)
theorem dzD (r l) : k0_pay10 (F := Ideal) (k0_pay43 (k0_pay33 D) (k0_pay34 M) sc) (k0_pay44 (k0_pay33 D) (k0_pay34 M) k0_pay35 sc)
      (iota .tc S2048x128 32 [0] iota_S2048x128_d0_w32) (ix4 0 0 r l)
    = dpoolIn 16 (cols D) (fun d => sc (ix2 0 d)) (fun a b => M (ix3 0 a b)) r l :=
  (congrFun (show _ = vDz L16 k0_pay35 D sc M from rfl) _).trans (vDz_at 16 L16 _ D sc M r l L16_at K16_at)

theorem dmixA (a b) : k0_pay4 (F := Ideal) (k0_pay17 X D sc) (ix3 0 a b) = dmixW 2 (cols X) (cols D) (fun d => sc (ix2 0 d)) a b :=
  (congrFun (show _ = vDmix T2 k0_pay13 X D sc from rfl) _).trans (vDmix_at 2 T2 _ X D sc a b T2_at K2_at)
theorem dmixB (a b) : k0_pay7 (F := Ideal) (k0_pay18 D) (k0_pay21 X) sc (ix3 0 a b) = dmixW 4 (cols X) (cols D) (fun d => sc (ix2 0 d)) a b :=
  (congrFun (show _ = vDmix T4 k0_pay20 X D sc from rfl) _).trans (vDmix_at 4 T4 _ X D sc a b T4_at K4_at)
theorem dmixC (a b) : k0_pay30 (F := Ideal) (k0_pay23 D) (k0_pay26 X) sc (ix3 0 a b) = dmixW 8 (cols X) (cols D) (fun d => sc (ix2 0 d)) a b :=
  (congrFun (show _ = vDmix T8 k0_pay25 X D sc from rfl) _).trans (vDmix_at 8 T8 _ X D sc a b T8_at K8_at)
theorem dmixD (a b) : k0_pay42 (F := Ideal) (k0_pay32 X) (k0_pay33 D) k0_pay35 (k0_pay36 X) k0_pay37 (k0_pay38 X) sc (ix3 0 a b)
    = dmixW 16 (cols X) (cols D) (fun d => sc (ix2 0 d)) a b :=
  (congrFun (show _ = vDmix T16 k0_pay35 X D sc from rfl) _).trans (vDmix_at 16 T16 _ X D sc a b T16_at K16_at)

theorem dscA (b) : k0_pay15 (F := Ideal) X D M (ix2 0 b) = dscale 2 (cols X) (cols D) (fun a b => M (ix3 0 a b)) b :=
  (congrFun (show _ = vDsc T2 k0_pay13 X D M from rfl) _).trans (vDsc_at 2 T2 _ X D M b T2_at K2_at)
theorem dscB (b) : k0_pay22 (F := Ideal) X D M (ix2 0 b) = dscale 4 (cols X) (cols D) (fun a b => M (ix3 0 a b)) b :=
  (congrFun (show _ = vDsc T4 k0_pay20 X D M from rfl) _).trans (vDsc_at 4 T4 _ X D M b T4_at K4_at)
theorem dscC (b) : k0_pay28 (F := Ideal) (k0_pay23 D) (k0_pay27 X M) (ix2 0 b) = dscale 8 (cols X) (cols D) (fun a b => M (ix3 0 a b)) b :=
  (congrFun (show _ = vDsc T8 k0_pay25 X D M from rfl) _).trans (vDsc_at 8 T8 _ X D M b T8_at K8_at)
theorem dscD (b) : k0_pay40 (F := Ideal) (k0_pay32 X) (k0_pay33 D) (k0_pay34 M) k0_pay35 (k0_pay36 X) k0_pay37 (k0_pay38 X) (ix2 0 b)
    = dscale 16 (cols X) (cols D) (fun a b => M (ix3 0 a b)) b :=
  (congrFun (show _ = vDsc T16 k0_pay35 X D M from rfl) _).trans (vDsc_at 16 T16 _ X D M b T16_at K16_at)

/-! ## The convolution's pieces -/

variable (B C A : FVec Ideal S1x2048x128 .bf16) (W : FVec Ideal S3x128 .f32)

def vCg : V := mulf (vP C) (vP A)
def vDconv : V := mulf (vD D) (vP B)
def vW (k : ℕ) (h : S3x128.Slices ![k, 0] S1x128) : V := broadcastTo S2048x128 (extractStridedSlice S1x128 ![k, 0] W h) broadcasts_S1x128_S2048x128

theorem vCg_at (r l) : vCg C A (ix2 r l) = cols C r l * cols A r l := by pointwise [vCg, vP]
theorem vDconv_at (r l) : vDconv D B (ix2 r l) = cols D r l * cols B r l := by pointwise [vDconv, vP, vD]

/-- The convolution of `c · a`, then times the upstream gradient. -/
def vGate : FVec Ideal S1x1x2048x128 .bf16 :=
  shapeCast S1x1x2048x128 (truncf .bf16 (mulf (vD D) (addf (addf (mulf (vW W 0 slices_S3x128_o0_0_S1x128) (dn 2#32 (vCg C A)))
    (mulf (vW W 1 slices_S3x128_o1_0_S1x128) (dn 1#32 (vCg C A)))) (mulf (vW W 2 slices_S3x128_o2_0_S1x128) (vCg C A)))) bitsLt_bf16_f32)
    shapeCasts_S2048x128_S1x1x2048x128
/-- The gradient of the convolution's input. -/
def vDcg : V :=
  addf (addf (mulf (vW W 2 slices_S3x128_o2_0_S1x128) (vDconv D B)) (mulf (vW W 1 slices_S3x128_o1_0_S1x128) (up 2047#32 (vDconv D B))))
    (mulf (vW W 0 slices_S3x128_o0_0_S1x128) (up 2046#32 (vDconv D B)))
def vTap (v : V) : FVec Ideal S1x128 .f32 :=
  shapeCast S1x128 (multiReduction .add [0] S128 (mulf (vDconv D B) v) 0x00000000#32 reduces_S2048x128_S128 (.inl rfl) rfl) shapeCasts_S128_S1x128

theorem gate_at (r l) : k0_pay53 (F := Ideal) (k0_pay52 C A W D) (ix4 0 0 r l)
    = dgate (fun k l => W (ix2 k l)) (cols C) (cols A) (cols D) r l := by
  refine (congrFun (show _ = vGate D C A W from rfl) _).trans ?_
  pointwise [vGate, vW, vD]; rw [dn1, dn2]; simp only [vCg_at]; rfl
theorem vDcg_at (r l) : vDcg D B W (ix2 r l) = dconvIn (fun k l => W (ix2 k l)) (cols B) (cols D) r l := by
  pointwise [vDcg, vW]; rw [up1, up2]; simp only [vDconv_at]; rfl
theorem dc_at (r l) : k0_pay57 (F := Ideal) (k0_pay45 B) (k0_pay46 C) W (k0_pay48 D) (ix4 0 0 r l)
    = dconvIn (fun k l => W (ix2 k l)) (cols B) (cols D) r l * cols C r l := by
  refine (congrFun (show _ = shapeCast S1x1x2048x128 (truncf .bf16 (mulf (vDcg D B W) (vP C)) bitsLt_bf16_f32)
    shapeCasts_S2048x128_S1x1x2048x128 from rfl) _).trans ?_
  pointwise; rw [vDcg_at, vP_at]
theorem da_at (r l) : k0_pay56 (F := Ideal) (k0_pay45 B) (k0_pay47 A) W (k0_pay48 D) (ix4 0 0 r l)
    = dconvIn (fun k l => W (ix2 k l)) (cols B) (cols D) r l * cols A r l := by
  refine (congrFun (show _ = shapeCast S1x1x2048x128 (truncf .bf16 (mulf (vDcg D B W) (vP A)) bitsLt_bf16_f32)
    shapeCasts_S2048x128_S1x1x2048x128 from rfl) _).trans ?_
  pointwise; rw [vDcg_at, vP_at]
theorem tap2_at (l) : k0_pay3 (F := Ideal) (k0_pay49 C A) (k0_pay54 (k0_pay45 B) (k0_pay48 D)) (ix2 0 l)
    = dtap (cols B) (cols C) (cols A) (cols D) 2 l := by
  refine (congrFun (show _ = vTap D B (vCg C A) from rfl) _).trans ?_
  pointwise [vTap]; simp only [vDconv_at, vCg_at]; rfl
theorem tap1_at (l) : k0_pay2 (F := Ideal) (k0_pay50 C A) (k0_pay54 (k0_pay45 B) (k0_pay48 D)) (ix2 0 l)
    = dtap (cols B) (cols C) (cols A) (cols D) 1 l := by
  refine (congrFun (show _ = vTap D B (dn 1#32 (vCg C A)) from rfl) _).trans ?_
  pointwise [vTap]; simp only [vDconv_at, dn1, vCg_at]; rfl
theorem tap0_at (l) : k0_pay1 (F := Ideal) (k0_pay58 (k0_pay45 B) (k0_pay48 D) (k0_pay51 C A)) (ix2 0 l)
    = dtap (cols B) (cols C) (cols A) (cols D) 0 l := by
  refine (congrFun (show _ = vTap D B (dn 2#32 (vCg C A)) from rfl) _).trans ?_
  pointwise [vTap]; simp only [vDconv_at, dn2, vCg_at]; rfl

end Cert.KernelIdeal.Mix

end
-- ==== Proof.MixReference.lean ====
/- Hand-written, untrusted: the reference's four results read at an index, as the formulas of MixSpec.lean. -/
module

public import proofs.«01_k».proof.Proof.Gen.ReferenceIdeal.Run
public import Idealize.ShloMosaic.Lib.Pointwise
public import Idealize.ShloMosaic.Lib.WordCmp
public import proofs.«01_k».proof.Proof.MixSpec

@[expose] public section

set_option maxRecDepth 16384

noncomputable section

open Idealize.ShloMosaic Idealize.ShloMosaic.TcCoe Idealize.SL.Sem
open scoped BigOperators

namespace Cert.ReferenceIdeal.Mix

open Cert.ReferenceIdeal Cert.ReferenceIdeal.Gen Cert.ReferenceIdeal.Value Cert.Window Cert.MixSpec

/-! ## The reference's intermediate arrays -/

variable (z : FVec Ideal S8x2048x256 .bf16) (dy : FVec Ideal S2x2048x512 .f32) (w : FVec Ideal S3x512 .f32)
  (mix : FVec Ideal S4x128x128 .f32) (sc : FVec Ideal S1x512 .f32)

def rows : FVec Ideal S2048x2048 .f32 :=
  shapeCast S2048x2048 (transpose S2048x8x256 [1, 0, 2] (extf .f32 z bitsLt_bf16_f32) transposes_S8x2048x256_S2048x8x256_1_0_2)
    shapeCasts_S2048x8x256_S2048x2048
def aB : FVec Ideal S2048x512 .f32 := extractStridedSlice S2048x512 ![0, 0] (rows z) slices_S2048x2048_S2048x512_0_0
def aC : FVec Ideal S2048x512 .f32 := extractStridedSlice S2048x512 ![0, 512] (rows z) slices_S2048x2048_S2048x512_0_512
def aA : FVec Ideal S2048x512 .f32 := extractStridedSlice S2048x512 ![0, 1024] (rows z) slices_S2048x2048_S2048x512_0_1024
def aP : FVec Ideal S2048x512 .f32 := extractStridedSlice S2048x512 ![0, 1536] (rows z) slices_S2048x2048_S2048x512_0_1536
def aDa : FVec Ideal S2048x512 .f32 :=
  shapeCast S2048x512 (extractStridedSlice S1x2048x512 ![0, 0, 0] dy slices_S2x2048x512_S1x2048x512_0_0_0) shapeCasts_S1x2048x512_S2048x512
def aDb : FVec Ideal S2048x512 .f32 :=
  shapeCast S2048x512 (extractStridedSlice S1x2048x512 ![1, 0, 0] dy slices_S2x2048x512_S1x2048x512_1_0_0) shapeCasts_S1x2048x512_S2048x512
def aCg : FVec Ideal S2048x512 .f32 := mulf (aC z) (aA z)
/-- Rows two down, and one down. -/
def aS2 : FVec Ideal S2048x512 .f32 :=
  concatenate S2048x512 0 [⟨S2x512, broadcastInDim S2x512 ![] bcast_S_S2x512 (constant (F := Ideal) S_ .f32 0x00000000#32)⟩,
    ⟨S2046x512, extractStridedSlice S2046x512 ![0, 0] (aCg z) slices_S2048x512_S2046x512_0_0⟩] concatenates_S2x512_S2046x512_S2048x512_d0
def aS1 : FVec Ideal S2048x512 .f32 :=
  concatenate S2048x512 0 [⟨S1x512, broadcastInDim S1x512 ![] bcast_S_S1x512 (constant (F := Ideal) S_ .f32 0x00000000#32)⟩,
    ⟨S2047x512, extractStridedSlice S2047x512 ![0, 0] (aCg z) slices_S2048x512_S2047x512_0_0⟩] concatenates_S1x512_S2047x512_S2048x512_d0
def aW0 : FVec Ideal S2048x512 .f32 := broadcastInDim S2048x512 ![0, 1] bcast_S1x512_S2048x512_0_1 (extractStridedSlice S1x512 ![0, 0] w slices_S3x512_S1x512_0_0)
def aW1 : FVec Ideal S2048x512 .f32 := broadcastInDim S2048x512 ![0, 1] bcast_S1x512_S2048x512_0_1 (extractStridedSlice S1x512 ![1, 0] w slices_S3x512_S1x512_1_0)
def aW2 : FVec Ideal S2048x512 .f32 := broadcastInDim S2048x512 ![0, 1] bcast_S1x512_S2048x512_0_1 (extractStridedSlice S1x512 ![2, 0] w slices_S3x512_S1x512_2_0)
def aConv : FVec Ideal S2048x512 .f32 :=
  addf (addf (addf (broadcastInDim S2048x512 ![] bcast_S_S2048x512 (constant S_ .f32 0x00000000#32)) (mulf (aW0 w) (aS2 z))) (mulf (aW1 w) (aS1 z)))
    (mulf (aW2 w) (aCg z))
def aDconv : FVec Ideal S2048x512 .f32 := mulf (aB z) (aDa dy)
def aDcg : FVec Ideal S2048x512 .f32 :=
  addf (addf (mulf (aW2 w) (aDconv z dy))
    (pad S2048x512 ![0, 0] ![1, 0] ![0, 0] (extractStridedSlice S2047x512 ![1, 0] (mulf (aW1 w) (aDconv z dy)) slices_S2048x512_S2047x512_1_0)
      (constant S_ .f32 0x00000000#32) pads_S2047x512_S2048x512_010_000 h_S_))
    (pad S2048x512 ![0, 0] ![2, 0] ![0, 0] (extractStridedSlice S2046x512 ![2, 0] (mulf (aW0 w) (aDconv z dy)) slices_S2048x512_S2046x512_2_0)
      (constant S_ .f32 0x00000000#32) pads_S2046x512_S2048x512_020_000 h_S_)
def tapRow (v : FVec Ideal S2048x512 .f32) : FVec Ideal S1x512 .f32 :=
  shapeCast S1x512 (Host.reduceAdd (mulf (aDconv z dy) v) (constant S_ .f32 0x00000000#32) reducesTo_S2048x512_S512_d0 h_S_) shapeCasts_S512_S1x512
def aDw : FVec Ideal S3x512 .f32 :=
  addf (addf (pad S3x512 ![2, 0] ![0, 0] ![0, 0] (tapRow z dy (aCg z)) (constant S_ .f32 0x00000000#32) pads_S1x512_S3x512_200_000 h_S_)
    (pad S3x512 ![1, 0] ![1, 0] ![0, 0] (tapRow z dy (aS1 z)) (constant S_ .f32 0x00000000#32) pads_S1x512_S3x512_110_000 h_S_))
    (pad S3x512 ![0, 0] ![2, 0] ![0, 0] (tapRow z dy (aS2 z)) (constant S_ .f32 0x00000000#32) pads_S1x512_S3x512_020_000 h_S_)

/-! ## One group of 128 columns -/

/-- Column `l` of group `g`. -/
def col (g : Fin 4) (l : Fin 128) : Fin 512 := ⟨g.val * 128 + l.val, by omega⟩
abbrev grp (v : FVec Ideal S2048x512 .f32) (g : Fin 4) : Cols := fun s l => v (ix2 s (col g l))

theorem aCg_at (r : Fin 2048) (q : Fin 512) : aCg z (ix2 r q) = aC z (ix2 r q) * aA z (ix2 r q) := by
  pointwise [aCg]
theorem aDconv_at (r : Fin 2048) (q : Fin 512) : aDconv z dy (ix2 r q) = aDa dy (ix2 r q) * aB z (ix2 r q) := by
  pointwise [aDconv]; exact mul_comm _ _
theorem aS2_at (r : Fin 2048) (q : Fin 512) : aS2 z (ix2 r q) = before 2 (fun s => aCg z (ix2 s q)) r := by
  pointwise [aS2]; unfold before
  by_cases h : r.val < 2
  · rw [dif_pos h, dif_neg (by omega)]
  · rw [dif_neg h, dif_pos (by omega)]

theorem aS1_at (r : Fin 2048) (q : Fin 512) : aS1 z (ix2 r q) = before 1 (fun s => aCg z (ix2 s q)) r := by
  pointwise [aS1]; unfold before
  by_cases h : r.val < 1
  · rw [dif_pos h, dif_neg (by omega)]
  · rw [dif_neg h, dif_pos (by omega)]

theorem aConv_at (g r l) : aConv z w (ix2 r (col g l)) = conv (fun k l => w (ix2 k (col g l))) (grp (aC z) g) (grp (aA z) g) r l := by
  pointwise [aConv, aW0, aW1, aW2]; rw [aS1_at, aS2_at]; simp only [aCg_at]; rfl

theorem aDcg_at (g r l) : aDcg z dy w (ix2 r (col g l)) = dconvIn (fun k l => w (ix2 k (col g l))) (grp (aB z) g) (grp (aDa dy) g) r l := by
  pointwise [aDcg, aW0, aW1, aW2]; simp only [aDconv_at]
  unfold dconvIn later; congr 1
  · congr 1
    by_cases h : r.val + 1 < 2048
    · rw [dif_pos (by omega), dif_pos h]; congr 4 <;> exact Fin.ext (by simp only; omega)
    · rw [dif_neg (by omega), dif_neg h, mul_zero]
  · by_cases h : r.val + 2 < 2048
    · rw [dif_pos (by omega), dif_pos h]; congr 4 <;> exact Fin.ext (by simp only; omega)
    · rw [dif_neg (by omega), dif_neg h, mul_zero]

theorem aDw_at (g : Fin 4) (k : Fin 3) (l : Fin 128) : aDw z dy (ix2 k (col g l)) = dtap (grp (aB z) g) (grp (aC z) g) (grp (aA z) g) (grp (aDa dy) g) k.val l := by
  pointwise [aDw, tapRow]; simp only [aDconv_at, aS1_at, aS2_at, aCg_at]
  fin_cases k <;> simp [dtap, before]

theorem read_dw (m : (ℓ : Loc nD τ sig) → Buf (Elt Ideal) ℓ) (c : Dev nD) :
    res_out1 m c = aDw (m ((c.tc : Thread nD τ).loc main_arg0)) (m ((c.tc : Thread nD τ).loc main_arg1)) := rfl

/-! ## The pooling -/

def aP3 : FVec Ideal S2048x4x128 .f32 := shapeCast S2048x4x128 (aP z) shapeCasts_S2048x512_S2048x4x128
def winLen : IVec S4 32 := fun i => lit0 (S4.rowMajor i)
def lag : IVec S2048x2048 32 :=
  subi (broadcastInDim S2048x2048 ![0, 1] bcast_S2048x1_S2048x2048_0_1 (broadcastInDim S2048x1 ![0] bcast_S2048_S2048x1_0 (iotaInDim S2048 32 0)))
    (broadcastInDim S2048x2048 ![0, 1] bcast_S1x2048_S2048x2048_0_1 (broadcastInDim S1x2048 ![1] bcast_S2048_S1x2048_1 (iotaInDim S2048 32 0)))
def band : FVec Ideal S4x2048x2048 .f32 :=
  uitofp .f32 (andi
    (broadcastInDim S4x2048x2048 ![0, 1, 2] bcast_S1x2048x2048_S4x2048x2048_0_1_2 (broadcastInDim S1x2048x2048 ![1, 2] bcast_S2048x2048_S1x2048x2048_1_2
      (cmpi .sge lag (broadcastInDim S2048x2048 ![] bcast_S_S2048x2048 (constantI S_ 32 0#32)))))
    (cmpi .slt (broadcastInDim S4x2048x2048 ![0, 1, 2] bcast_S1x2048x2048_S4x2048x2048_0_1_2 (broadcastInDim S1x2048x2048 ![1, 2] bcast_S2048x2048_S1x2048x2048_1_2 lag))
      (broadcastInDim S4x2048x2048 ![0, 1, 2] bcast_S4x1x1_S4x2048x2048_0_1_2 (broadcastInDim S4x1x1 ![0] bcast_S4_S4x1x1_0 winLen))))
def count : FVec Ideal S2048x4x128 .f32 :=
  broadcastInDim S2048x4x128 ![0, 1, 2] bcast_S2048x4x1_S2048x4x128_0_1_2 (broadcastInDim S2048x4x1 ![0, 1] bcast_S2048x4_S2048x4x1_0_1 (sitofp .f32
    (minsi (broadcastInDim S2048x4 ![0, 1] bcast_S2048x1_S2048x4_0_1 (addi (broadcastInDim S2048x1 ![0] bcast_S2048_S2048x1_0 (iotaInDim S2048 32 0))
      (broadcastInDim S2048x1 ![] bcast_S_S2048x1 (constantI S_ 32 1#32))))
      (broadcastInDim S2048x4 ![0, 1] bcast_S1x4_S2048x4_0_1 (broadcastInDim S1x4 ![1] bcast_S4_S1x4_1 winLen)))))
def aPooled : FVec Ideal S2048x4x128 .f32 :=
  subf (Host.divf (transpose S2048x4x128 [2, 0, 1] (Host.dotGeneral dot_S2048x4x128_S4x2048x2048_S4x128x2048_0_2_2_1_1_0 none (aP3 z) band)
    transposes_S4x128x2048_S2048x4x128_2_0_1) count) (aP3 z)
def aDmixedT : FVec Ideal S4x128x2048 .f32 :=
  transpose S4x128x2048 [1, 2, 0] (shapeCast S2048x4x128 (mulf (aDb dy) (broadcastInDim S2048x512 ![0, 1] bcast_S1x512_S2048x512_0_1 sc))
    shapeCasts_S2048x512_S2048x4x128) transposes_S2048x4x128_S4x128x2048_1_2_0
def aDpooled : FVec Ideal S2048x4x128 .f32 :=
  transpose S2048x4x128 [1, 0, 2] (Host.dotGeneral dot_S4x128x2048_S4x128x128_S4x2048x128_1_2_2_1_0_0 none (aDmixedT dy sc) mix)
    transposes_S4x2048x128_S2048x4x128_1_0_2
def aDp : FVec Ideal S2048x512 .f32 :=
  shapeCast S2048x512 (addf (Host.negf (aDpooled dy mix sc)) (transpose S2048x4x128 [2, 0, 1]
    (Host.dotGeneral dot_S4x128x2048_S4x2048x2048_S4x128x2048_2_1_1_2_0_0 none
      (transpose S4x128x2048 [1, 2, 0] (Host.divf (aDpooled dy mix sc) count) transposes_S2048x4x128_S4x128x2048_1_2_0) band)
    transposes_S4x128x2048_S2048x4x128_2_0_1)) shapeCasts_S2048x4x128_S2048x512
def aDmix : FVec Ideal S4x128x128 .f32 :=
  transpose S4x128x128 [0, 2, 1] (Host.dotGeneral dot_S4x128x2048_S2048x4x128_S4x128x128_2_0_1_2_0_1 none (aDmixedT dy sc) (aPooled z))
    transposes_S4x128x128_S4x128x128_0_2_1
def aDsc : FVec Ideal S1x512 .f32 :=
  shapeCast S1x512 (Host.reduceAdd (mulf (shapeCast S2048x512 (transpose S2048x4x128 [2, 0, 1]
    (Host.dotGeneral dot_S4x128x128_S2048x4x128_S4x128x2048_1_2_2_0_0_1 none mix (aPooled z)) transposes_S4x128x2048_S2048x4x128_2_0_1)
    shapeCasts_S2048x4x128_S2048x512) (aDb dy)) (constant S_ .f32 0x00000000#32) reducesTo_S2048x512_S512_d0 h_S_) shapeCasts_S512_S1x512
def aDz : FVec Ideal S4x2x2048x256 .bf16 :=
  shapeCast S4x2x2048x256 (truncf .bf16 (transpose S8x2048x256 [1, 0, 2] (shapeCast S2048x8x256 (concatenate S2048x2048 1
    [⟨S2048x512, mulf (aDa dy) (aConv z w)⟩, ⟨S2048x512, mulf (aDcg z dy w) (aA z)⟩, ⟨S2048x512, mulf (aC z) (aDcg z dy w)⟩, ⟨S2048x512, aDp dy mix sc⟩]
    concatenates_S2048x512_S2048x512_S2048x512_S2048x512_S2048x2048_d1) shapeCasts_S2048x2048_S2048x8x256) transposes_S2048x8x256_S8x2048x256_1_0_2) bitsLt_bf16_f32)
    shapeCasts_S8x2048x256_S4x2x2048x256

theorem read_dz (m : (ℓ : Loc nD τ sig) → Buf (Elt Ideal) ℓ) (c : Dev nD) :
    res_out0 m c = aDz (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

/-- The window of each group. -/
def win (g : Fin 4) : ℕ := 2 ^ (g.val + 1)

theorem band_at (g : Fin 4) (t s : Fin 2048) : band (ix3 g t s) = if s.val ≤ t.val ∧ t.val < s.val + win g then 1 else 0 := by
  have hw : lit0 (S4.rowMajor (ix1 g)) = BitVec.ofNat 32 (win g) := by fin_cases g <;> decide
  pointwise [band, lag, winLen]
  rw [hw]
  have hg : win g ≤ 16 := by fin_cases g <;> decide
  by_cases h : s.val ≤ t.val
  · have e : IntOp.subi (BitVec.ofNat 32 t.val) (BitVec.ofNat 32 s.val) = BitVec.ofNat 32 (t.val - s.val) := by
      unfold IntOp.subi; apply BitVec.eq_of_toNat_eq; simp; omega
    rw [e]; word_cmp
    by_cases h2 : t.val < s.val + win g
    · rw [if_pos ⟨h, h2⟩, decide_eq_true (by omega : 0 ≤ t.val - s.val), decide_eq_true (by omega : t.val - s.val < win g)]
      show (((1#1).toNat : ℝ) : EReal) = 1
      simp
    · rw [if_neg fun q => h2 q.2, decide_eq_false (by omega : ¬(t.val - s.val < win g)), Bool.and_false]
      show (((0#1).toNat : ℝ) : EReal) = 0
      simp
  · rw [if_neg fun q => h q.1]
    have e : IntOp.cmpi CmpIPredicate.sge (IntOp.subi (BitVec.ofNat 32 t.val) (BitVec.ofNat 32 s.val)) 0#32 = 0#1 := by
      have hs := s.isLt
      have : (BitVec.ofNat 32 t.val - BitVec.ofNat 32 s.val).toInt < 0 := by
        have e : (BitVec.ofNat 32 t.val - BitVec.ofNat 32 s.val).toNat = 4294967296 + t.val - s.val := by
          rw [BitVec.toNat_sub, BitVec.toNat_ofNat, BitVec.toNat_ofNat]; omega
        rw [BitVec.toInt_eq_toNat_cond, e, if_neg (by omega)]; omega
      simp only [IntOp.cmpi, IntOp.subi]
      rw [show (0#32).sle (BitVec.ofNat 32 t.val - BitVec.ofNat 32 s.val) = false from by
        simp only [BitVec.sle, BitVec.toInt_zero, decide_eq_false_iff_not]; omega]
      rfl
    rw [e]
    show (((IntOp.andi 0#1 _).toNat : ℝ) : EReal) = 0
    simp [IntOp.andi]

theorem count_at (r g l) : count (ix3 r g l) = cnt (win g) r := by
  have hw : lit0 (S4.rowMajor (ix1 g)) = BitVec.ofNat 32 (win g) := by fin_cases g <;> decide
  pointwise [count, winLen]
  rw [hw]; rfl
theorem aP3_at (r g l) : aP3 z (ix3 r g l) = grp (aP z) g r l := by
  pointwise [aP3]; rfl
theorem aPooled_at (r g l) : aPooled z (ix3 r g l) = pooled (win g) (grp (aP z) g) r l := by
  pointwise [aPooled]; rw [count_at]; simp only [aP3_at, band_at]
  unfold pooled trail; congr 2
  refine Finset.sum_congr rfl fun x _ => ?_
  by_cases h : x.val ≤ r.val ∧ r.val < x.val + win g
  · rw [if_pos h, if_pos h, mul_one]
  · rw [if_neg h, if_neg h, mul_zero]

theorem aDmixedT_at (r g l) : aDmixedT dy sc (ix3 g l r) = dmixed (grp (aDb dy) g) (fun l => sc (ix2 0 (col g l))) r l := by
  pointwise [aDmixedT]; rfl
theorem aDpooled_at (r g l) : aDpooled dy mix sc (ix3 r g l) = dpooled (grp (aDb dy) g) (fun l => sc (ix2 0 (col g l))) (fun a b => mix (ix3 g a b)) r l := by
  pointwise [aDpooled]; simp only [aDmixedT_at]; rfl
theorem aDp_at (r g l) : aDp dy mix sc (ix2 r (col g l)) = dpoolIn (win g) (grp (aDb dy) g) (fun l => sc (ix2 0 (col g l))) (fun a b => mix (ix3 g a b)) r l := by
  have e1 : ∀ h, (⟨(col g l).val / 128, h⟩ : Fin 4) = g := fun h => Fin.ext (by simp only [col]; omega)
  have e2 : ∀ h, (⟨(col g l).val % 128, h⟩ : Fin 128) = l := fun h => Fin.ext (by simp only [col]; omega)
  pointwise [aDp]; simp only [e1, e2, aDpooled_at, count_at, band_at]
  unfold dpoolIn lead; rw [add_comm, sub_eq_add_neg]; congr 1
  refine Finset.sum_congr rfl fun x _ => ?_
  by_cases h : r.val ≤ x.val ∧ x.val < r.val + win g
  · rw [if_pos h, if_pos h, mul_one]
  · rw [if_neg h, if_neg h, mul_zero]

theorem aDmix_at (g a b) : aDmix z dy sc (ix3 g a b) = dmixW (win g) (grp (aP z) g) (grp (aDb dy) g) (fun l => sc (ix2 0 (col g l))) a b := by
  pointwise [aDmix]; simp only [aDmixedT_at, aPooled_at]
  exact Finset.sum_congr rfl fun x _ => mul_comm _ _
theorem aDsc_at (g l) : aDsc z dy mix (ix2 0 (col g l)) = dscale (win g) (grp (aP z) g) (grp (aDb dy) g) (fun a b => mix (ix3 g a b)) l := by
  have e1 : ∀ h, (⟨(col g l).val / 128, h⟩ : Fin 4) = g := fun h => Fin.ext (by simp only [col]; omega)
  have e2 : ∀ h, (⟨(col g l).val % 128, h⟩ : Fin 128) = l := fun h => Fin.ext (by simp only [col]; omega)
  pointwise [aDsc]; simp only [e1, e2, aPooled_at]
  exact Finset.sum_congr rfl fun x _ => (mul_comm _ _).trans (congrArg _ (Finset.sum_congr rfl fun y _ => mul_comm _ _))

/-! ## The gradient of the packed rows

Entry `(i, k, r, 128·h + l)` belongs to group `2k + h`. -/

def cell (h : Fin 2) (l : Fin 128) : Fin 256 := ⟨h.val * 128 + l.val, by omega⟩
def gr (k h : Fin 2) : Fin 4 := ⟨k.val * 2 + h.val, by omega⟩

variable (k h : Fin 2) (r : Fin 2048) (l : Fin 128)

theorem dz0 : aDz z dy w mix sc (ix4 0 k r (cell h l))
    = dgate (fun t l => w (ix2 t (col (gr k h) l))) (grp (aC z) (gr k h)) (grp (aA z) (gr k h)) (grp (aDa dy) (gr k h)) r l := by
  pointwise [aDz]; unfold dgate; rw [← aConv_at]
  rw [dif_pos (by simp only [cell, Fin.val_zero]; omega)]
  congr 3 <;> exact Fin.ext (by simp only [cell, col, gr, Fin.val_zero]; omega)
theorem dz1 : aDz z dy w mix sc (ix4 1 k r (cell h l))
    = dconvIn (fun t l => w (ix2 t (col (gr k h) l))) (grp (aB z) (gr k h)) (grp (aDa dy) (gr k h)) r l * grp (aA z) (gr k h) r l := by
  pointwise [aDz]; rw [← aDcg_at]
  rw [dif_neg (by simp only [cell, Fin.val_one]; omega), dif_pos (by simp only [cell, Fin.val_one]; omega)]
  congr 3 <;> exact Fin.ext (by simp only [cell, col, gr, Fin.val_one]; omega)
theorem dz2 : aDz z dy w mix sc (ix4 2 k r (cell h l))
    = dconvIn (fun t l => w (ix2 t (col (gr k h) l))) (grp (aB z) (gr k h)) (grp (aDa dy) (gr k h)) r l * grp (aC z) (gr k h) r l := by
  pointwise [aDz]; rw [← aDcg_at]
  rw [dif_neg (by simp only [cell, Fin.val_two]; omega), dif_neg (by simp only [cell, Fin.val_two]; omega), dif_pos (by simp only [cell, Fin.val_two]; omega)]
  refine (mul_comm _ _).trans ?_
  congr 3 <;> exact Fin.ext (by simp only [cell, col, gr, Fin.val_two]; omega)
theorem dz3 : aDz z dy w mix sc (ix4 3 k r (cell h l))
    = dpoolIn (win (gr k h)) (grp (aDb dy) (gr k h)) (fun l => sc (ix2 0 (col (gr k h) l))) (fun a b => mix (ix3 (gr k h) a b)) r l := by
  pointwise [aDz]; rw [← aDp_at]
  have e3 : (3 : Fin 4).val = 3 := rfl
  rw [dif_neg (by simp only [cell, e3]; omega), dif_neg (by simp only [cell, e3]; omega), dif_neg (by simp only [cell, e3]; omega)]
  congr 2; exact Fin.ext (by simp only [cell, col, gr, e3]; omega)

/-- A read of the packed rows by group. -/
theorem aB_at : grp (aB z) (gr k h) r l = z (ix3 (⟨k.val, by omega⟩ : Fin 8) r (cell h l)) := by
  pointwise [aB, rows]
  congr 2 <;> exact Fin.ext (by simp only [cell, col, gr]; omega)
theorem aC_at : grp (aC z) (gr k h) r l = z (ix3 (⟨2 + k.val, by omega⟩ : Fin 8) r (cell h l)) := by
  pointwise [aC, rows]
  congr 2 <;> exact Fin.ext (by simp only [cell, col, gr]; omega)
theorem aA_at : grp (aA z) (gr k h) r l = z (ix3 (⟨4 + k.val, by omega⟩ : Fin 8) r (cell h l)) := by
  pointwise [aA, rows]
  congr 2 <;> exact Fin.ext (by simp only [cell, col, gr]; omega)
theorem aP_at : grp (aP z) (gr k h) r l = z (ix3 (⟨6 + k.val, by omega⟩ : Fin 8) r (cell h l)) := by
  pointwise [aP, rows]
  congr 2 <;> exact Fin.ext (by simp only [cell, col, gr]; omega)
theorem aDa_at (g : Fin 4) : grp (aDa dy) g r l = dy (ix3 0 r (col g l)) := by pointwise [aDa]
theorem aDb_at (g : Fin 4) : grp (aDb dy) g r l = dy (ix3 1 r (col g l)) := by pointwise [aDb]

/-- The reference's run, its four results by the names above. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v128) = aDz (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v121) = aDw (m ((c.tc : Thread nD τ).loc main_arg0)) (m ((c.tc : Thread nD τ).loc main_arg1))
      ∧ r.2.mem ((c.tc : Thread nD τ).loc main_v83) = aDmix (m ((c.tc : Thread nD τ).loc main_arg0)) (m ((c.tc : Thread nD τ).loc main_arg1)) (m ((c.tc : Thread nD τ).loc main_arg4))
      ∧ r.2.mem ((c.tc : Thread nD τ).loc main_v75) = aDsc (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (read_dz m c), (h c).2.1.trans (read_dw m c), (h c).2.2.1.trans rfl, (h c).2.2.2.1.trans rfl,
    (h c).2.2.2.2⟩) (run m ρ)

end Cert.ReferenceIdeal.Mix

end
-- ==== Proof.MixBridge.lean ====
/- Hand-written, untrusted: the four arrays the mixers' gradient leaves, as the reference's arrays: where each block of a
   grid point sits in its array, the stored pieces against the reference at that place, and the four arrays whole. -/
module

public import proofs.«01_k».proof.Proof.Gen.KernelIdeal.Value
public import proofs.«01_k».proof.Proof.Gen.ReferenceIdeal.Run
public import Idealize.ShloMosaic.Lib.Pipeline.ValueKit
public import Idealize.ShloMosaic.Lib.Pointwise
public import proofs.«01_k».proof.Proof.MixKernel
public import proofs.«01_k».proof.Proof.MixReference

@[expose] public section

set_option maxRecDepth 16384

noncomputable section

open Idealize.ShloMosaic Idealize.ShloMosaic.TcCoe Idealize.SL.Sem
open Idealize.ShloMosaic.Pipeline (Dat)
open scoped BigOperators

namespace Cert.KernelIdeal.Mix

open Cert.KernelIdeal Cert.KernelIdeal.Gen Cert.MixSpec
open Cert.ReferenceIdeal.Mix (aB aC aA aP aDa aDb aDz aDw aDmix aDsc grp col cell gr win)

variable (m : (ℓ : Loc nD τ sig) → Buf (Elt Ideal) ℓ) (c : Dev nD)

/-! ## Where the blocks sit -/

/-- Grid point `t` works on group `t`: lane block `t / 2`, half `t % 2`. -/
def kq (t : Fin cfg0.N) : Fin 2 := ⟨t.val / 2, by have h : t.val < 4 := t.isLt; omega⟩
def hq (t : Fin cfg0.N) : Fin 2 := ⟨t.val % 2, by omega⟩
def gq (t : Fin cfg0.N) : Fin 4 := gr (kq t) (hq t)
theorem gq_val (t : Fin cfg0.N) : (gq t).val = t.val := by
  simp only [gq, gr, kq, hq]; omega
theorem win_gq (t : Fin cfg0.N) : win (gq t) = 2 ^ (t.val + 1) := by unfold win; rw [gq_val]

theorem idx : ∀ t : Fin cfg0.N, win0_0.index t = ![t.val / 2, 0, t.val % 2] ∧ win0_1.index t = ![2 + t.val / 2, 0, t.val % 2]
    ∧ win0_2.index t = ![4 + t.val / 2, 0, t.val % 2] ∧ win0_3.index t = ![6 + t.val / 2, 0, t.val % 2] ∧ win0_4.index t = ![0, 0, t.val]
    ∧ win0_5.index t = ![0, t.val] ∧ win0_6.index t = ![t.val, 0, 0] ∧ win0_7.index t = ![0, t.val]
    ∧ win0_8.index t = ![0, t.val / 2, 0, t.val % 2] ∧ win0_9.index t = ![0, t.val] ∧ win0_10.index t = ![t.val, 0, 0] ∧ win0_11.index t = ![0, t.val] :=
  (by decide +kernel : ∀ t : Fin grid0.N, _)

theorem in0 (t : Fin cfg0.N) (s : Fin 2048) (l : Fin 128) : (iblk m c 0 t : FVec Ideal S1x2048x128 .bf16) (ix3 0 s l)
    = grp (aB (m ((c.tc : Thread nD τ).loc main_arg0))) (gq t) s l := by
  unfold gq; rw [Cert.ReferenceIdeal.Mix.aB_at]; blk_ext [iblk, V, idx t, cell, kq, hq]
theorem in1 (t : Fin cfg0.N) (s : Fin 2048) (l : Fin 128) : (iblk m c 1 t : FVec Ideal S1x2048x128 .bf16) (ix3 0 s l)
    = grp (aC (m ((c.tc : Thread nD τ).loc main_arg0))) (gq t) s l := by
  unfold gq; rw [Cert.ReferenceIdeal.Mix.aC_at]; blk_ext [iblk, V, idx t, cell, kq, hq]
theorem in2 (t : Fin cfg0.N) (s : Fin 2048) (l : Fin 128) : (iblk m c 2 t : FVec Ideal S1x2048x128 .bf16) (ix3 0 s l)
    = grp (aA (m ((c.tc : Thread nD τ).loc main_arg0))) (gq t) s l := by
  unfold gq; rw [Cert.ReferenceIdeal.Mix.aA_at]; blk_ext [iblk, V, idx t, cell, kq, hq]
theorem in3 (t : Fin cfg0.N) (s : Fin 2048) (l : Fin 128) : (iblk m c 3 t : FVec Ideal S1x2048x128 .bf16) (ix3 0 s l)
    = grp (aP (m ((c.tc : Thread nD τ).loc main_arg0))) (gq t) s l := by
  unfold gq; rw [Cert.ReferenceIdeal.Mix.aP_at]; blk_ext [iblk, V, idx t, cell, kq, hq]
theorem in4a (t : Fin cfg0.N) (s : Fin 2048) (l : Fin 128) : (iblk m c 4 t : FVec Ideal S2x2048x128 .f32) (ix3 0 s l)
    = grp (aDa (m ((c.tc : Thread nD τ).loc main_arg1))) (gq t) s l := by
  rw [Cert.ReferenceIdeal.Mix.aDa_at]; blk_ext [iblk, V, idx t, col, gq_val]
theorem in4b (t : Fin cfg0.N) (s : Fin 2048) (l : Fin 128) : (iblk m c 4 t : FVec Ideal S2x2048x128 .f32) (ix3 1 s l)
    = grp (aDb (m ((c.tc : Thread nD τ).loc main_arg1))) (gq t) s l := by
  rw [Cert.ReferenceIdeal.Mix.aDb_at]; blk_ext [iblk, V, idx t, col, gq_val]
theorem in5 (t : Fin cfg0.N) (k : Fin 3) (l : Fin 128) : (iblk m c 5 t : FVec Ideal S3x128 .f32) (ix2 k l)
    = (m ((c.tc : Thread nD τ).loc main_arg2) : FVec Ideal S3x512 .f32) (ix2 k (col (gq t) l)) := by
  blk_ext [iblk, V, idx t, col, gq_val]
theorem in6 (t : Fin cfg0.N) (a b : Fin 128) : (iblk m c 6 t : FVec Ideal S1x128x128 .f32) (ix3 0 a b)
    = (m ((c.tc : Thread nD τ).loc main_arg3) : FVec Ideal S4x128x128 .f32) (ix3 (gq t) a b) := by
  blk_ext [iblk, V, idx t, gq_val]
theorem in7 (t : Fin cfg0.N) (l : Fin 128) : (iblk m c 7 t : FVec Ideal S1x128 .f32) (ix2 0 l)
    = (m ((c.tc : Thread nD τ).loc main_arg4) : FVec Ideal S1x512 .f32) (ix2 0 (col (gq t) l)) := by
  blk_ext [iblk, V, idx t, col, gq_val]

theorem emb8 (t : Fin cfg0.N) (y : ((cfg0.win 8).xblock (cfg0.grid.coords t)).Idx) (i : Fin 4) (r : Fin 2048) (l : Fin 128)
    (e0 : (y 0).val = i.val) (e2 : (y 2).val = r.val) (e3 : (y 3).val = l.val) :
    ((View.whole main_v0_0).slice (win0_8.rect t)).emb y = ix4 i (kq t) r (cell (hq t) l) := by
  blk_ext [idx t, cell, kq, hq]

theorem emb9 (t : Fin cfg0.N) (y : ((cfg0.win 9).xblock (cfg0.grid.coords t)).Idx) (k : Fin 3) (l : Fin 128)
    (e0 : (y 0).val = k.val) (e1 : (y 1).val = l.val) :
    ((View.whole main_v0_1).slice (win0_9.rect t)).emb y = ix2 k (col (gq t) l) := by
  blk_ext [idx t, col, gq_val]
theorem emb10 (t : Fin cfg0.N) (y : ((cfg0.win 10).xblock (cfg0.grid.coords t)).Idx) (a b : Fin 128)
    (e1 : (y 1).val = a.val) (e2 : (y 2).val = b.val) :
    ((View.whole main_v0_2).slice (win0_10.rect t)).emb y = ix3 (gq t) a b := by
  blk_ext [idx t, gq_val]
theorem emb11 (t : Fin cfg0.N) (y : ((cfg0.win 11).xblock (cfg0.grid.coords t)).Idx) (l : Fin 128) (e1 : (y 1).val = l.val) :
    ((View.whole main_v0_3).slice (win0_11.rect t)).emb y = ix2 0 (col (gq t) l) := by
  blk_ext [idx t, col, gq_val]

/-! ## Columns of the blocks -/

variable (t : Fin cfg0.N) (D0 D1 : FVec Ideal S1x2048x128 .f32)

/-- The two halves of the upstream gradient a point loads. -/
def IsDa : Prop := ∀ s l, D0 (ix3 0 s l) = grp (aDa (m ((c.tc : Thread nD τ).loc main_arg1))) (gq t) s l
def IsDb : Prop := ∀ s l, D1 (ix3 0 s l) = grp (aDb (m ((c.tc : Thread nD τ).loc main_arg1))) (gq t) s l

theorem colsB : cols (φ := .bf16) (iblk m c 0 t) = grp (aB (m ((c.tc : Thread nD τ).loc main_arg0))) (gq t) := funext fun s => funext fun l => in0 m c t s l
theorem colsC : cols (φ := .bf16) (iblk m c 1 t) = grp (aC (m ((c.tc : Thread nD τ).loc main_arg0))) (gq t) := funext fun s => funext fun l => in1 m c t s l
theorem colsA : cols (φ := .bf16) (iblk m c 2 t) = grp (aA (m ((c.tc : Thread nD τ).loc main_arg0))) (gq t) := funext fun s => funext fun l => in2 m c t s l
theorem colsP : cols (φ := .bf16) (iblk m c 3 t) = grp (aP (m ((c.tc : Thread nD τ).loc main_arg0))) (gq t) := funext fun s => funext fun l => in3 m c t s l
theorem colsDa (h : IsDa m c t D0) : cols D0 = grp (aDa (m ((c.tc : Thread nD τ).loc main_arg1))) (gq t) := funext fun s => funext fun l => h s l
theorem colsDb (h : IsDb m c t D1) : cols D1 = grp (aDb (m ((c.tc : Thread nD τ).loc main_arg1))) (gq t) := funext fun s => funext fun l => h s l
theorem wEq : (fun k l => (iblk m c 5 t : FVec Ideal S3x128 .f32) (ix2 k l)) = fun k l => ((m ((c.tc : Thread nD τ).loc main_arg2)) : FVec Ideal S3x512 .f32) (ix2 k (col (gq t) l)) :=
  funext fun k => funext fun l => in5 m c t k l
theorem mixEq : (fun a b => (iblk m c 6 t : FVec Ideal S1x128x128 .f32) (ix3 0 a b)) = fun a b => ((m ((c.tc : Thread nD τ).loc main_arg3)) : FVec Ideal S4x128x128 .f32) (ix3 (gq t) a b) :=
  funext fun a => funext fun b => in6 m c t a b
theorem scEq : (fun l => (iblk m c 7 t : FVec Ideal S1x128 .f32) (ix2 0 l)) = fun l => ((m ((c.tc : Thread nD τ).loc main_arg4)) : FVec Ideal S1x512 .f32) (ix2 0 (col (gq t) l)) :=
  funext fun l => in7 m c t l

/-! ## The stored pieces against the reference -/

theorem pieceIdx (y : S1x1x2048x128.Idx) : y = ix4 0 0 (y 2) (y 3) := by
  idx_vars y; blk_ext
theorem rowIdx (y : S1x128.Idx) : y = ix2 0 (y 1) := by
  idx_vars y; blk_ext
theorem matIdx (y : S1x128x128.Idx) : y = ix3 0 (y 1) (y 2) := by
  idx_vars y; blk_ext

theorem piece3 (n : ℕ) (hn : win (gq t) = n) (v : FVec Ideal S1x1x2048x128 .bf16) (hD : IsDb m c t D1)
    (hv : ∀ r l, v (ix4 0 0 r l) = dpoolIn n (cols D1) (fun d => (iblk m c 7 t : FVec Ideal S1x128 .f32) (ix2 0 d))
      (fun a b => (iblk m c 6 t : FVec Ideal S1x128x128 .f32) (ix3 0 a b)) r l)
    (y : S1x1x2048x128.Idx) (r : Fin 2048) (l : Fin 128) (hy : y = ix4 0 0 r l) :
    v y = aDz (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix4 3 (kq t) r (cell (hq t) l)) := by
  subst hy; rw [Cert.ReferenceIdeal.Mix.dz3, hv, colsDb m c t D1 hD, mixEq, scEq, ← hn]; rfl
theorem piece2 (hD : IsDa m c t D0) (y : S1x1x2048x128.Idx) (r : Fin 2048) (l : Fin 128) (hy : y = ix4 0 0 r l) :
    k0_pay57 (F := Ideal) (k0_pay45 (iblk m c 0 t)) (k0_pay46 (iblk m c 1 t)) (iblk m c 5 t) (k0_pay48 D0) y
      = aDz (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix4 2 (kq t) r (cell (hq t) l)) := by
  subst hy; rw [Cert.ReferenceIdeal.Mix.dz2, dc_at, colsDa m c t D0 hD, wEq, colsB, colsC]; rfl
theorem piece1 (hD : IsDa m c t D0) (y : S1x1x2048x128.Idx) (r : Fin 2048) (l : Fin 128) (hy : y = ix4 0 0 r l) :
    k0_pay56 (F := Ideal) (k0_pay45 (iblk m c 0 t)) (k0_pay47 (iblk m c 2 t)) (iblk m c 5 t) (k0_pay48 D0) y
      = aDz (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix4 1 (kq t) r (cell (hq t) l)) := by
  subst hy; rw [Cert.ReferenceIdeal.Mix.dz1, da_at, colsDa m c t D0 hD, wEq, colsB, colsA]; rfl
theorem piece0 (hD : IsDa m c t D0) (y : S1x1x2048x128.Idx) (r : Fin 2048) (l : Fin 128) (hy : y = ix4 0 0 r l) :
    k0_pay53 (F := Ideal) (k0_pay52 (iblk m c 1 t) (iblk m c 2 t) (iblk m c 5 t) D0) y
      = aDz (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix4 0 (kq t) r (cell (hq t) l)) := by
  subst hy; rw [Cert.ReferenceIdeal.Mix.dz0, gate_at, colsDa m c t D0 hD, wEq, colsC, colsA]; rfl

theorem tapRow2 (hD : IsDa m c t D0) (y : S1x128.Idx) (l : Fin 128) (hy : y = ix2 0 l) :
    k0_pay3 (F := Ideal) (k0_pay49 (iblk m c 1 t) (iblk m c 2 t)) (k0_pay54 (k0_pay45 (iblk m c 0 t)) (k0_pay48 D0)) y
      = aDw (m ((c.tc : Thread nD τ).loc main_arg0)) (m ((c.tc : Thread nD τ).loc main_arg1)) (ix2 2 (col (gq t) l)) := by
  subst hy; rw [Cert.ReferenceIdeal.Mix.aDw_at, tap2_at, colsDa m c t D0 hD, colsB, colsC, colsA]; rfl
theorem tapRow1 (hD : IsDa m c t D0) (y : S1x128.Idx) (l : Fin 128) (hy : y = ix2 0 l) :
    k0_pay2 (F := Ideal) (k0_pay50 (iblk m c 1 t) (iblk m c 2 t)) (k0_pay54 (k0_pay45 (iblk m c 0 t)) (k0_pay48 D0)) y
      = aDw (m ((c.tc : Thread nD τ).loc main_arg0)) (m ((c.tc : Thread nD τ).loc main_arg1)) (ix2 1 (col (gq t) l)) := by
  subst hy; rw [Cert.ReferenceIdeal.Mix.aDw_at, tap1_at, colsDa m c t D0 hD, colsB, colsC, colsA]; rfl
theorem tapRow0 (hD : IsDa m c t D0) (y : S1x128.Idx) (l : Fin 128) (hy : y = ix2 0 l) :
    k0_pay1 (F := Ideal) (k0_pay58 (k0_pay45 (iblk m c 0 t)) (k0_pay48 D0) (k0_pay51 (iblk m c 1 t) (iblk m c 2 t))) y
      = aDw (m ((c.tc : Thread nD τ).loc main_arg0)) (m ((c.tc : Thread nD τ).loc main_arg1)) (ix2 0 (col (gq t) l)) := by
  subst hy; rw [Cert.ReferenceIdeal.Mix.aDw_at, tap0_at, colsDa m c t D0 hD, colsB, colsC, colsA]; rfl

theorem mixPiece (n : ℕ) (hn : win (gq t) = n) (v : FVec Ideal S1x128x128 .f32) (hD : IsDb m c t D1)
    (hv : ∀ a b, v (ix3 0 a b) = dmixW n (cols (φ := .bf16) (iblk m c 3 t)) (cols D1) (fun d => (iblk m c 7 t : FVec Ideal S1x128 .f32) (ix2 0 d)) a b)
    (y : S1x128x128.Idx) (a b : Fin 128) (hy : y = ix3 0 a b) : v y = aDmix (m ((c.tc : Thread nD τ).loc main_arg0)) (m ((c.tc : Thread nD τ).loc main_arg1)) (m ((c.tc : Thread nD τ).loc main_arg4)) (ix3 (gq t) a b) := by
  subst hy; rw [Cert.ReferenceIdeal.Mix.aDmix_at, hv, colsDb m c t D1 hD, colsP, scEq, ← hn]
theorem scPiece (n : ℕ) (hn : win (gq t) = n) (v : FVec Ideal S1x128 .f32) (hD : IsDb m c t D1)
    (hv : ∀ b, v (ix2 0 b) = dscale n (cols (φ := .bf16) (iblk m c 3 t)) (cols D1) (fun a b => (iblk m c 6 t : FVec Ideal S1x128x128 .f32) (ix3 0 a b)) b)
    (y : S1x128.Idx) (b : Fin 128) (hy : y = ix2 0 b) : v y = aDsc (m ((c.tc : Thread nD τ).loc main_arg0)) (m ((c.tc : Thread nD τ).loc main_arg1)) (m ((c.tc : Thread nD τ).loc main_arg3)) (ix2 0 (col (gq t) b)) := by
  subst hy; rw [Cert.ReferenceIdeal.Mix.aDsc_at, hv, colsDb m c t D1 hD, colsP, mixEq, ← hn]

/-! ## The arrays -/

theorem final8 : (dats m 0 c).arrAt 8 (cfgs 0).N = aDz (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 8 _ (by decide +kernel) fun t hf y => ?_
  blk_simp
  rw [after0_8]
  have h4 : t.val < 4 := t.isLt
  have E := emb8 t y
  have hw := win_gq t
  rcases (by omega : t.val = 0 ∨ t.val = 1 ∨ t.val = 2 ∨ t.val = 3) with h | h | h | h
  · rw [outsAt0_A m c t (by omega) (by omega) (by omega) (by omega)]; frame_out
    rw [h] at hw
    canon_tiles y hy
    case piece0 =>
      rw [E 3 (y 2) (y 3) (by omega) (by omega) (by omega)]
      exact piece3 m c t _ 2 hw _ (fun s l => by pointwise; exact in4b m c t s l) (dzA _ _ _) y _ _ (pieceIdx y)
    case piece1 =>
      rw [E 2 (y 2) (y 3) (by omega) (by omega) (by omega)]
      exact piece2 m c t _ (fun s l => by pointwise; exact in4a m c t s l) y _ _ (pieceIdx y)
    case piece2 =>
      rw [E 1 (y 2) (y 3) (by omega) (by omega) (by omega)]
      exact piece1 m c t _ (fun s l => by pointwise; exact in4a m c t s l) y _ _ (pieceIdx y)
    case piece3 =>
      rw [E 0 (y 2) (y 3) (by omega) (by omega) (by omega)]
      exact piece0 m c t _ (fun s l => by pointwise; exact in4a m c t s l) y _ _ (pieceIdx y)
  · rw [outsAt0_B m c t (by omega) (by omega) (by omega) (by omega)]; frame_out
    rw [h] at hw
    canon_tiles y hy
    case piece0 =>
      rw [E 3 (y 2) (y 3) (by omega) (by omega) (by omega)]
      exact piece3 m c t _ 4 hw _ (fun s l => by pointwise; exact in4b m c t s l) (dzB _ _ _) y _ _ (pieceIdx y)
    case piece1 =>
      rw [E 2 (y 2) (y 3) (by omega) (by omega) (by omega)]
      exact piece2 m c t _ (fun s l => by pointwise; exact in4a m c t s l) y _ _ (pieceIdx y)
    case piece2 =>
      rw [E 1 (y 2) (y 3) (by omega) (by omega) (by omega)]
      exact piece1 m c t _ (fun s l => by pointwise; exact in4a m c t s l) y _ _ (pieceIdx y)
    case piece3 =>
      rw [E 0 (y 2) (y 3) (by omega) (by omega) (by omega)]
      exact piece0 m c t _ (fun s l => by pointwise; exact in4a m c t s l) y _ _ (pieceIdx y)
  · rw [outsAt0_C m c t (by omega) (by omega) (by omega) (by omega)]; frame_out
    rw [h] at hw
    canon_tiles y hy
    case piece0 =>
      rw [E 3 (y 2) (y 3) (by omega) (by omega) (by omega)]
      exact piece3 m c t _ 8 hw _ (fun s l => by pointwise; exact in4b m c t s l) (dzC _ _ _) y _ _ (pieceIdx y)
    case piece1 =>
      rw [E 2 (y 2) (y 3) (by omega) (by omega) (by omega)]
      exact piece2 m c t _ (fun s l => by pointwise; exact in4a m c t s l) y _ _ (pieceIdx y)
    case piece2 =>
      rw [E 1 (y 2) (y 3) (by omega) (by omega) (by omega)]
      exact piece1 m c t _ (fun s l => by pointwise; exact in4a m c t s l) y _ _ (pieceIdx y)
    case piece3 =>
      rw [E 0 (y 2) (y 3) (by omega) (by omega) (by omega)]
      exact piece0 m c t _ (fun s l => by pointwise; exact in4a m c t s l) y _ _ (pieceIdx y)
  · rw [outsAt0_D m c t (by omega) (by omega) (by omega) (by omega)]; frame_out
    rw [h] at hw
    canon_tiles y hy
    case piece0 =>
      rw [E 3 (y 2) (y 3) (by omega) (by omega) (by omega)]
      exact piece3 m c t _ 16 hw _ (fun s l => by pointwise; exact in4b m c t s l) (dzD _ _ _) y _ _ (pieceIdx y)
    case piece1 =>
      rw [E 2 (y 2) (y 3) (by omega) (by omega) (by omega)]
      exact piece2 m c t _ (fun s l => by pointwise; exact in4a m c t s l) y _ _ (pieceIdx y)
    case piece2 =>
      rw [E 1 (y 2) (y 3) (by omega) (by omega) (by omega)]
      exact piece1 m c t _ (fun s l => by pointwise; exact in4a m c t s l) y _ _ (pieceIdx y)
    case piece3 =>
      rw [E 0 (y 2) (y 3) (by omega) (by omega) (by omega)]
      exact piece0 m c t _ (fun s l => by pointwise; exact in4a m c t s l) y _ _ (pieceIdx y)
theorem final10 : (dats m 0 c).arrAt 10 (cfgs 0).N = aDmix (m ((c.tc : Thread nD τ).loc main_arg0)) (m ((c.tc : Thread nD τ).loc main_arg1)) (m ((c.tc : Thread nD τ).loc main_arg4)) := by
  refine (dats m 0 c).arrAt_eq_of_covers 10 _ (by decide +kernel) fun t hf y => ?_
  blk_simp
  rw [after0_10]
  have h4 : t.val < 4 := t.isLt
  have hw := win_gq t
  rw [emb10 t y (y 1) (y 2) rfl rfl]
  rcases (by omega : t.val = 0 ∨ t.val = 1 ∨ t.val = 2 ∨ t.val = 3) with h | h | h | h
  · rw [outsAt0_A m c t (by omega) (by omega) (by omega) (by omega)]; frame_out
    rw [h] at hw
    exact mixPiece m c t _ 2 hw _ (fun s l => by pointwise; exact in4b m c t s l) (dmixA _ _ _) y _ _ (matIdx y)
  · rw [outsAt0_B m c t (by omega) (by omega) (by omega) (by omega)]; frame_out
    rw [h] at hw
    exact mixPiece m c t _ 4 hw _ (fun s l => by pointwise; exact in4b m c t s l) (dmixB _ _ _) y _ _ (matIdx y)
  · rw [outsAt0_C m c t (by omega) (by omega) (by omega) (by omega)]; frame_out
    rw [h] at hw
    exact mixPiece m c t _ 8 hw _ (fun s l => by pointwise; exact in4b m c t s l) (dmixC _ _ _) y _ _ (matIdx y)
  · rw [outsAt0_D m c t (by omega) (by omega) (by omega) (by omega)]; frame_out
    rw [h] at hw
    exact mixPiece m c t _ 16 hw _ (fun s l => by pointwise; exact in4b m c t s l) (dmixD _ _ _) y _ _ (matIdx y)
theorem final11 : (dats m 0 c).arrAt 11 (cfgs 0).N = aDsc (m ((c.tc : Thread nD τ).loc main_arg0)) (m ((c.tc : Thread nD τ).loc main_arg1)) (m ((c.tc : Thread nD τ).loc main_arg3)) := by
  refine (dats m 0 c).arrAt_eq_of_covers 11 _ (by decide +kernel) fun t hf y => ?_
  blk_simp
  rw [after0_11]
  have h4 : t.val < 4 := t.isLt
  have hw := win_gq t
  rw [emb11 t y (y 1) rfl]
  rcases (by omega : t.val = 0 ∨ t.val = 1 ∨ t.val = 2 ∨ t.val = 3) with h | h | h | h
  · rw [outsAt0_A m c t (by omega) (by omega) (by omega) (by omega)]; frame_out
    rw [h] at hw
    exact scPiece m c t _ 2 hw _ (fun s l => by pointwise; exact in4b m c t s l) (dscA _ _ _) y _ (rowIdx y)
  · rw [outsAt0_B m c t (by omega) (by omega) (by omega) (by omega)]; frame_out
    rw [h] at hw
    exact scPiece m c t _ 4 hw _ (fun s l => by pointwise; exact in4b m c t s l) (dscB _ _ _) y _ (rowIdx y)
  · rw [outsAt0_C m c t (by omega) (by omega) (by omega) (by omega)]; frame_out
    rw [h] at hw
    exact scPiece m c t _ 8 hw _ (fun s l => by pointwise; exact in4b m c t s l) (dscC _ _ _) y _ (rowIdx y)
  · rw [outsAt0_D m c t (by omega) (by omega) (by omega) (by omega)]; frame_out
    rw [h] at hw
    exact scPiece m c t _ 16 hw _ (fun s l => by pointwise; exact in4b m c t s l) (dscD _ _ _) y _ (rowIdx y)
theorem final9 : (dats m 0 c).arrAt 9 (cfgs 0).N = aDw (m ((c.tc : Thread nD τ).loc main_arg0)) (m ((c.tc : Thread nD τ).loc main_arg1)) := by
  refine (dats m 0 c).arrAt_eq_of_covers 9 _ (by decide +kernel) fun t hf y => ?_
  blk_simp
  rw [after0_9]
  have h4 : t.val < 4 := t.isLt
  have E := emb9 t y
  rcases (by omega : t.val = 0 ∨ t.val = 1 ∨ t.val = 2 ∨ t.val = 3) with h | h | h | h
  · rw [outsAt0_A m c t (by omega) (by omega) (by omega) (by omega)]; frame_out
    canon_tiles y hy
    case piece0 =>
      rw [E 2 (y 1) (by omega) (by omega)]
      exact tapRow2 m c t _ (fun s l => by pointwise; exact in4a m c t s l) y _ (rowIdx y)
    case piece1 =>
      rw [E 1 (y 1) (by omega) (by omega)]
      exact tapRow1 m c t _ (fun s l => by pointwise; exact in4a m c t s l) y _ (rowIdx y)
    case piece2 =>
      rw [E 0 (y 1) (by omega) (by omega)]
      exact tapRow0 m c t _ (fun s l => by pointwise; exact in4a m c t s l) y _ (rowIdx y)
  · rw [outsAt0_B m c t (by omega) (by omega) (by omega) (by omega)]; frame_out
    canon_tiles y hy
    case piece0 =>
      rw [E 2 (y 1) (by omega) (by omega)]
      exact tapRow2 m c t _ (fun s l => by pointwise; exact in4a m c t s l) y _ (rowIdx y)
    case piece1 =>
      rw [E 1 (y 1) (by omega) (by omega)]
      exact tapRow1 m c t _ (fun s l => by pointwise; exact in4a m c t s l) y _ (rowIdx y)
    case piece2 =>
      rw [E 0 (y 1) (by omega) (by omega)]
      exact tapRow0 m c t _ (fun s l => by pointwise; exact in4a m c t s l) y _ (rowIdx y)
  · rw [outsAt0_C m c t (by omega) (by omega) (by omega) (by omega)]; frame_out
    canon_tiles y hy
    case piece0 =>
      rw [E 2 (y 1) (by omega) (by omega)]
      exact tapRow2 m c t _ (fun s l => by pointwise; exact in4a m c t s l) y _ (rowIdx y)
    case piece1 =>
      rw [E 1 (y 1) (by omega) (by omega)]
      exact tapRow1 m c t _ (fun s l => by pointwise; exact in4a m c t s l) y _ (rowIdx y)
    case piece2 =>
      rw [E 0 (y 1) (by omega) (by omega)]
      exact tapRow0 m c t _ (fun s l => by pointwise; exact in4a m c t s l) y _ (rowIdx y)
  · rw [outsAt0_D m c t (by omega) (by omega) (by omega) (by omega)]; frame_out
    canon_tiles y hy
    case piece0 =>
      rw [E 2 (y 1) (by omega) (by omega)]
      exact tapRow2 m c t _ (fun s l => by pointwise; exact in4a m c t s l) y _ (rowIdx y)
    case piece1 =>
      rw [E 1 (y 1) (by omega) (by omega)]
      exact tapRow1 m c t _ (fun s l => by pointwise; exact in4a m c t s l) y _ (rowIdx y)
    case piece2 =>
      rw [E 0 (y 1) (by omega) (by omega)]
      exact tapRow0 m c t _ (fun s l => by pointwise; exact in4a m c t s l) y _ (rowIdx y)

end Cert.KernelIdeal.Mix

end
-- ==== Proof.Up.lean ====
/- Hand-written, untrusted: the up projection of the conv FFN: one entry of the product, the block of a grid point against it, and the array whole. -/
module

public import proofs.«01_k».proof.Proof.Gen.Kernel2Ideal.Value
public import proofs.«01_k».proof.Proof.Gen.Reference2Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Reference2Ideal.Up

open Cert.Reference2Ideal Cert.Reference2Ideal.Gen

/-- The reference's result as a function of its two arguments. -/
def res (a0 : FVec Ideal S2048x1024 .bf16) (a1 : FVec Ideal S8x1024x704 .bf16) : FVec Ideal S8x2048x704 .bf16 :=
  truncf .bf16 (transpose S8x2048x704 [1, 0, 2] (shapeCast _ (Host.dotGeneral dot_S2048x1024_S1024x5632_S2048x5632_1_0_0_1_n_n none (extf .f32 a0 bitsLt_bf16_f32) (shapeCast _ (transpose S1024x8x704 [1, 0, 2] (extf .f32 a1 bitsLt_bf16_f32) transposes_S8x1024x704_S1024x8x704_1_0_2) shapeCasts_S1024x8x704_S1024x5632)) shapeCasts_S2048x5632_S2048x8x704) transposes_S2048x8x704_S8x2048x704_1_0_2) bitsLt_bf16_f32

/-- One entry of it: a row of `h` against a column of `w_up`. -/
theorem res_at (a0 : FVec Ideal S2048x1024 .bf16) (a1 : FVec Ideal S8x1024x704 .bf16) (j : Fin 8) (s : Fin 2048) (l : Fin 704) :
    res a0 a1 (ix3 j s l) = ∑ k : Fin 1024, a0 (ix2 s k) * a1 (ix3 j k l) := by
  pointwise [res]

end Cert.Reference2Ideal.Up

namespace Cert.Kernel2Ideal.Up

open Cert.Kernel2Ideal Cert.Kernel2Ideal.Gen

variable (m : (ℓ : Loc nD τ sig) → Buf (Elt Ideal) ℓ) (c : Dev nD)

/-- The block of a grid point: all rows of `h` against one block of columns of `w_up`. -/
theorem block_at (x0 : Vec Ideal S2048x1024 .bf16) (x1 : Vec Ideal S1x1024x704 .bf16) (s : Fin 2048) (l : Fin 704) :
    k0_pay1 (F := Ideal) x0 x1 (ix3 0 s l) = ∑ k : Fin 1024, x0 (ix2 s k) * x1 (ix3 0 k l) := by
  pointwise [k0_pay1]

theorem idx : ∀ t : Fin cfg0.N, win0_0.index t = ![0, 0] ∧ win0_1.index t = ![t.val, 0, 0] ∧ win0_2.index t = ![t.val, 0, 0] :=
  (by decide +kernel : ∀ t : Fin grid0.N, _)

/-- A grid point's block against the reference at its place. -/
theorem piece (t : Fin cfg0.N) (q : Fin 8) (hq : q.val = t.val) (x : S1x2048x704.Idx) (s : Fin 2048) (l : Fin 704) (hx : x = ix3 0 s l) :
    k0_pay1 (F := Ideal) (iblk m c 0 t) (iblk m c 1 t) x
      = Cert.Reference2Ideal.Up.res (m ((c.tc : Thread nD τ).loc main_arg0)) (m ((c.tc : Thread nD τ).loc main_arg1)) (ix3 q s l) := by
  subst hx
  rw [block_at, Cert.Reference2Ideal.Up.res_at]
  refine Finset.sum_congr rfl fun k _ => ?_
  blk_point [iblk, V, idx t, hq]

theorem place (t : Fin cfg0.N) (q : Fin 8) (hq : q.val = t.val) (y : ((cfg0.win 2).xblock (cfg0.grid.coords t)).Idx) (s : Fin 2048) (l : Fin 704)
    (e1 : (y 1).val = s.val) (e2 : (y 2).val = l.val) :
    ((View.whole main_v0).slice (win0_2.rect t)).emb y = ix3 q s l := by
  blk_ext [idx t, hq]

theorem blockIdx (x : S1x2048x704.Idx) : x = ix3 0 (x 1) (x 2) := by
  idx_vars x; blk_ext

/-- The whole array the call leaves is the reference's. -/
theorem final : (dats m 0 c).arrAt 2 (cfgs 0).N
    = Cert.Reference2Ideal.Up.res (m ((c.tc : Thread nD τ).loc main_arg0)) (m ((c.tc : Thread nD τ).loc main_arg1)) := by
  refine (dats m 0 c).arrAt_eq_of_covers 2 _ (by decide +kernel) fun t hf y => ?_
  blk_simp
  rw [after0_2]
  have ht : t.val < 8 := t.isLt
  have E := place t ⟨t.val, ht⟩ rfl y
  frame_out
  rw [E (y 1) (y 2) rfl rfl]
  exact piece m c t ⟨t.val, ht⟩ rfl _ _ _ (blockIdx _)

end Cert.Kernel2Ideal.Up

end
-- ==== Proof.Down.lean ====
/- Hand-written, untrusted: the down projection of the conv FFN and the gated residual behind it: one entry of the product, the
   blocks of a grid point against it, and the two arrays whole. -/
module

public import proofs.«01_k».proof.Proof.Gen.Kernel3Ideal.Value
public import proofs.«01_k».proof.Proof.Gen.Reference3Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Reference3Ideal.Down

open Cert.Reference3Ideal Cert.Reference3Ideal.Gen

/-- The reference's product, before its rounding. -/
def prod (a : FVec Ideal S4x2048x704 .bf16) (w : FVec Ideal S4x704x1024 .bf16) : FVec Ideal S2048x1024 .f32 :=
  Host.dotGeneral dot_S2048x2816_S2816x1024_S2048x1024_1_0_0_1_n_n none (shapeCast _ (transpose S2048x4x704 [1, 0, 2] (extf .f32 a bitsLt_bf16_f32) transposes_S4x2048x704_S2048x4x704_1_0_2) shapeCasts_S2048x4x704_S2048x2816) (shapeCast _ (extf .f32 w bitsLt_bf16_f32) shapeCasts_S4x704x1024_S2816x1024)

/-- The reference's first result. -/
def res (a : FVec Ideal S4x2048x704 .bf16) (w : FVec Ideal S4x704x1024 .bf16) : FVec Ideal S2048x1024 .bf16 :=
  truncf .bf16 (prod a w) bitsLt_bf16_f32

/-- The reference's second result: the residual stream behind the layer. -/
def resid (a : FVec Ideal S4x2048x704 .bf16) (w : FVec Ideal S4x704x1024 .bf16) (x : FVec Ideal S2048x1024 .f32) (g : FVec Ideal S1x1024 .f32) :
    FVec Ideal S2048x1024 .f32 :=
  addf x (mulf (broadcastInDim S2048x1024 ![0, 1] bcast_S1x1024_S2048x1024_0_1 g) (prod a w))

/-- One entry of the product: the four blocks of the contraction one after the other. -/
theorem prod_at (a : FVec Ideal S4x2048x704 .bf16) (w : FVec Ideal S4x704x1024 .bf16) (s : Fin 2048) (d : Fin 1024) :
    prod a w (ix2 s d) = ∑ q : Fin 4, ∑ k : Fin 704, a (ix3 q s k) * w (ix3 q k d) := by
  pointwise [prod]
  symm
  refine Fin.sum_mul_add_congr fun q k h => ?_
  congr 1 <;> blk_ext

theorem res_at (a : FVec Ideal S4x2048x704 .bf16) (w : FVec Ideal S4x704x1024 .bf16) (s : Fin 2048) (d : Fin 1024) :
    res a w (ix2 s d) = ∑ q : Fin 4, ∑ k : Fin 704, a (ix3 q s k) * w (ix3 q k d) := prod_at a w s d

theorem resid_at (a : FVec Ideal S4x2048x704 .bf16) (w : FVec Ideal S4x704x1024 .bf16) (x : FVec Ideal S2048x1024 .f32)
    (g : FVec Ideal S1x1024 .f32) (s : Fin 2048) (d : Fin 1024) :
    resid a w x g (ix2 s d) = x (ix2 s d) + g (ix2 0 d) * ∑ q : Fin 4, ∑ k : Fin 704, a (ix3 q s k) * w (ix3 q k d) := by
  rw [← prod_at]
  pointwise [resid]

end Cert.Reference3Ideal.Down

namespace Cert.Kernel3Ideal.Down

open Cert.Kernel3Ideal Cert.Kernel3Ideal.Gen
open Cert.Reference3Ideal.Down (res resid res_at resid_at)

variable (m : (ℓ : Loc nD τ sig) → Buf (Elt Ideal) ℓ) (c : Dev nD)

theorem idx : ∀ t : Fin cfg0.N, win0_0.index t = ![0, t.val, 0] ∧ win0_1.index t = ![0, 0, 0] ∧ win0_2.index t = ![t.val, 0]
    ∧ win0_3.index t = ![0, 0] ∧ win0_4.index t = ![t.val, 0] ∧ win0_5.index t = ![t.val, 0] :=
  (by decide +kernel : ∀ t : Fin grid0.N, _)

/-- The sum of the four products of a grid point's blocks. -/
theorem block_at (x0 x1 x2 x3 : Vec Ideal S1x512x704 .bf16) (w0 w1 w2 w3 : Vec Ideal S1x704x1024 .bf16) (s : Fin 512) (d : Fin 1024) :
    k0_pay2 (F := Ideal) x0 w0 x1 w1 x2 w2 x3 w3 (ix2 s d)
      = (((∑ k : Fin 704, x0 (ix3 0 s k) * w0 (ix3 0 k d)) + ∑ k : Fin 704, x1 (ix3 0 s k) * w1 (ix3 0 k d))
          + ∑ k : Fin 704, x2 (ix3 0 s k) * w2 (ix3 0 k d)) + ∑ k : Fin 704, x3 (ix3 0 s k) * w3 (ix3 0 k d) := by
  pointwise [k0_pay2]

/-- The arrays of the two factors. -/
abbrev arrA : FVec Ideal S4x2048x704 .bf16 := m ((c.tc : Thread nD τ).loc main_arg0)
abbrev arrW : FVec Ideal S4x704x1024 .bf16 := m ((c.tc : Thread nD τ).loc main_arg1)

/-- The kernel's product at a grid point, over the arrays. -/
abbrev acc (t : Fin cfg0.N) : FVec Ideal S512x1024 .f32 :=
  k0_pay2 (F := Ideal) (View.ld (iblk m c 0 t) r0_0) (View.ld (iblk m c 1 t) r0_1) (View.ld (iblk m c 0 t) r0_2) (View.ld (iblk m c 1 t) r0_3)
    (View.ld (iblk m c 0 t) r0_4) (View.ld (iblk m c 1 t) r0_5) (View.ld (iblk m c 0 t) r0_6) (View.ld (iblk m c 1 t) r0_7)

theorem acc_at (t : Fin cfg0.N) (s : Fin 512) (d : Fin 1024) (r : Fin 2048) (hr : r.val = 512 * t.val + s.val) :
    acc m c t (ix2 s d) = ∑ q : Fin 4, ∑ k : Fin 704, arrA m c (ix3 q r k) * arrW m c (ix3 q k d) := by
  rw [acc, block_at, Fin.sum_univ_four]
  congr 1
  · congr 1
    · congr 1
      · exact Finset.sum_congr rfl fun k _ => by pointwise; blk_point [iblk, V, idx t, hr]
      · exact Finset.sum_congr rfl fun k _ => by pointwise; blk_point [iblk, V, idx t, hr]
    · exact Finset.sum_congr rfl fun k _ => by pointwise; blk_point [iblk, V, idx t, hr]
  · exact Finset.sum_congr rfl fun k _ => by pointwise; blk_point [iblk, V, idx t, hr]

theorem piece4 (t : Fin cfg0.N) (x : S512x1024.Idx) (s : Fin 512) (d : Fin 1024) (hx : x = ix2 s d) (r : Fin 2048) (hr : r.val = 512 * t.val + s.val) :
    k0_pay3 (F := Ideal) (View.ld (iblk m c 0 t) r0_0) (View.ld (iblk m c 1 t) r0_1) (View.ld (iblk m c 0 t) r0_2) (View.ld (iblk m c 1 t) r0_3)
      (View.ld (iblk m c 0 t) r0_4) (View.ld (iblk m c 1 t) r0_5) (View.ld (iblk m c 0 t) r0_6) (View.ld (iblk m c 1 t) r0_7) x
      = res (m ((c.tc : Thread nD τ).loc main_arg0)) (m ((c.tc : Thread nD τ).loc main_arg1)) (ix2 r d) := by
  subst hx
  rw [res_at, ← acc_at m c t s d r hr]; rfl

theorem piece5 (t : Fin cfg0.N) (x : S512x1024.Idx) (s : Fin 512) (d : Fin 1024) (hx : x = ix2 s d) (r : Fin 2048) (hr : r.val = 512 * t.val + s.val) :
    k0_pay1 (F := Ideal) (acc m c t) (iblk m c 2 t) (iblk m c 3 t) x
      = resid (m ((c.tc : Thread nD τ).loc main_arg0)) (m ((c.tc : Thread nD τ).loc main_arg1)) (m ((c.tc : Thread nD τ).loc main_arg2)) (m ((c.tc : Thread nD τ).loc main_arg3)) (ix2 r d) := by
  subst hx
  rw [resid_at, ← acc_at m c t s d r hr]
  generalize acc m c t = A
  pointwise [k0_pay1]
  blk_point [iblk, V, idx t, hr]

theorem place4 (t : Fin cfg0.N) (y : ((cfg0.win 4).xblock (cfg0.grid.coords t)).Idx) (s : Fin 512) (d : Fin 1024) (r : Fin 2048)
    (hr : r.val = 512 * t.val + s.val) (e0 : (y 0).val = s.val) (e1 : (y 1).val = d.val) :
    ((View.whole main_v0_0).slice (win0_4.rect t)).emb y = ix2 r d := by
  blk_ext [idx t, hr]
theorem place5 (t : Fin cfg0.N) (y : ((cfg0.win 5).xblock (cfg0.grid.coords t)).Idx) (s : Fin 512) (d : Fin 1024) (r : Fin 2048)
    (hr : r.val = 512 * t.val + s.val) (e0 : (y 0).val = s.val) (e1 : (y 1).val = d.val) :
    ((View.whole main_v0_1).slice (win0_5.rect t)).emb y = ix2 r d := by
  blk_ext [idx t, hr]

theorem blockIdx (x : S512x1024.Idx) : x = ix2 (x 0) (x 1) := by
  idx_vars x; blk_ext

/-- The product's array is the reference's. -/
theorem final4 : (dats m 0 c).arrAt 4 (cfgs 0).N
    = res (m ((c.tc : Thread nD τ).loc main_arg0)) (m ((c.tc : Thread nD τ).loc main_arg1)) := by
  refine (dats m 0 c).arrAt_eq_of_covers 4 _ (by decide +kernel) fun t hf y => ?_
  blk_simp
  rw [after0_4]
  have ht : t.val < 4 := t.isLt
  have hy : (y 0).val < 512 := (y 0).isLt
  have E := place4 t y
  frame_out
  rw [E (y 0) (y 1) ⟨512 * t.val + (y 0).val, by omega⟩ rfl rfl rfl]
  exact piece4 m c t _ _ _ (blockIdx _) _ rfl

/-- The residual stream's array is the reference's. -/
theorem final5 : (dats m 0 c).arrAt 5 (cfgs 0).N
    = resid (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hf y => ?_
  blk_simp
  rw [after0_5]
  have ht : t.val < 4 := t.isLt
  have hy : (y 0).val < 512 := (y 0).isLt
  have E := place5 t y
  frame_out
  rw [E (y 0) (y 1) ⟨512 * t.val + (y 0).val, by omega⟩ rfl rfl rfl]
  exact piece5 m c t _ _ _ (blockIdx _) _ rfl

end Cert.Kernel3Ideal.Down

end
-- ==== Proof.DownDx.lean ====
/- Hand-written, untrusted: the gradient of the down projection to its input: one entry of the product, the block of a grid point against it, and the array whole. -/
module

public import proofs.«01_k».proof.Proof.Gen.Kernel4Ideal.Value
public import proofs.«01_k».proof.Proof.Gen.Reference4Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Reference4Ideal.DownDx

open Cert.Reference4Ideal Cert.Reference4Ideal.Gen

/-- The reference's result as a function of its two arguments. -/
def res (a0 : FVec Ideal S2048x1024 .bf16) (a1 : FVec Ideal S4x704x1024 .bf16) : FVec Ideal S4x2048x704 .bf16 :=
  truncf .bf16 (transpose S4x2048x704 [1, 0, 2] (shapeCast _ (Host.dotGeneral dot_S2048x1024_S2816x1024_S2048x2816_1_1_0_0_n_n none (extf .f32 a0 bitsLt_bf16_f32) (shapeCast _ (extf .f32 a1 bitsLt_bf16_f32) shapeCasts_S4x704x1024_S2816x1024)) shapeCasts_S2048x2816_S2048x4x704) transposes_S2048x4x704_S4x2048x704_1_0_2) bitsLt_bf16_f32

/-- One entry of it: a row of the gradient against a row of `w_down`. -/
theorem res_at (a0 : FVec Ideal S2048x1024 .bf16) (a1 : FVec Ideal S4x704x1024 .bf16) (j : Fin 4) (s : Fin 2048) (l : Fin 704) :
    res a0 a1 (ix3 j s l) = ∑ k : Fin 1024, a0 (ix2 s k) * a1 (ix3 j l k) := by
  pointwise [res]

end Cert.Reference4Ideal.DownDx

namespace Cert.Kernel4Ideal.DownDx

open Cert.Kernel4Ideal Cert.Kernel4Ideal.Gen

variable (m : (ℓ : Loc nD τ sig) → Buf (Elt Ideal) ℓ) (c : Dev nD)

/-- The block of a grid point: all rows of the gradient against one block of rows of `w_down`. -/
theorem block_at (x0 : Vec Ideal S2048x1024 .bf16) (x1 : Vec Ideal S1x704x1024 .bf16) (s : Fin 2048) (l : Fin 704) :
    k0_pay1 (F := Ideal) x0 x1 (ix3 0 s l) = ∑ k : Fin 1024, x0 (ix2 s k) * x1 (ix3 0 l k) := by
  pointwise [k0_pay1]

theorem idx : ∀ t : Fin cfg0.N, win0_0.index t = ![0, 0] ∧ win0_1.index t = ![t.val, 0, 0] ∧ win0_2.index t = ![t.val, 0, 0] :=
  (by decide +kernel : ∀ t : Fin grid0.N, _)

/-- A grid point's block against the reference at its place. -/
theorem piece (t : Fin cfg0.N) (q : Fin 4) (hq : q.val = t.val) (x : S1x2048x704.Idx) (s : Fin 2048) (l : Fin 704) (hx : x = ix3 0 s l) :
    k0_pay1 (F := Ideal) (iblk m c 0 t) (iblk m c 1 t) x
      = Cert.Reference4Ideal.DownDx.res (m ((c.tc : Thread nD τ).loc main_arg0)) (m ((c.tc : Thread nD τ).loc main_arg1)) (ix3 q s l) := by
  subst hx
  rw [block_at, Cert.Reference4Ideal.DownDx.res_at]
  refine Finset.sum_congr rfl fun k _ => ?_
  blk_point [iblk, V, idx t, hq]

theorem place (t : Fin cfg0.N) (q : Fin 4) (hq : q.val = t.val) (y : ((cfg0.win 2).xblock (cfg0.grid.coords t)).Idx) (s : Fin 2048) (l : Fin 704)
    (e1 : (y 1).val = s.val) (e2 : (y 2).val = l.val) :
    ((View.whole main_v0).slice (win0_2.rect t)).emb y = ix3 q s l := by
  blk_ext [idx t, hq]

theorem blockIdx (x : S1x2048x704.Idx) : x = ix3 0 (x 1) (x 2) := by
  idx_vars x; blk_ext

/-- The whole array the call leaves is the reference's. -/
theorem final : (dats m 0 c).arrAt 2 (cfgs 0).N
    = Cert.Reference4Ideal.DownDx.res (m ((c.tc : Thread nD τ).loc main_arg0)) (m ((c.tc : Thread nD τ).loc main_arg1)) := by
  refine (dats m 0 c).arrAt_eq_of_covers 2 _ (by decide +kernel) fun t hf y => ?_
  blk_simp
  rw [after0_2]
  have ht : t.val < 4 := t.isLt
  have E := place t ⟨t.val, ht⟩ rfl y
  frame_out
  rw [E (y 1) (y 2) rfl rfl]
  exact piece m c t ⟨t.val, ht⟩ rfl _ _ _ (blockIdx _)

end Cert.Kernel4Ideal.DownDx

end
-- ==== Proof.DownDw.lean ====
/- Hand-written, untrusted: the gradient of the down projection's matrix: one entry of the product, the block of a grid point against it, and the array whole. -/
module

public import proofs.«01_k».proof.Proof.Gen.Kernel5Ideal.Value
public import proofs.«01_k».proof.Proof.Gen.Reference5Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Reference5Ideal.DownDw

open Cert.Reference5Ideal Cert.Reference5Ideal.Gen

/-- The reference's result as a function of its two arguments. -/
def res (a0 : FVec Ideal S4x2048x704 .bf16) (a1 : FVec Ideal S2048x1024 .bf16) : FVec Ideal S4x704x1024 .bf16 :=
  truncf .bf16 (shapeCast _ (transpose S2816x1024 [1, 0] (Host.dotGeneral dot_S2048x1024_S2048x2816_S1024x2816_0_0_1_1_n_n none (extf .f32 a1 bitsLt_bf16_f32) (shapeCast _ (transpose S2048x4x704 [1, 0, 2] (extf .f32 a0 bitsLt_bf16_f32) transposes_S4x2048x704_S2048x4x704_1_0_2) shapeCasts_S2048x4x704_S2048x2816)) transposes_S1024x2816_S2816x1024_1_0) shapeCasts_S2816x1024_S4x704x1024) bitsLt_bf16_f32

/-- One entry of it: a column of `a` against a column of the gradient. -/
theorem res_at (a0 : FVec Ideal S4x2048x704 .bf16) (a1 : FVec Ideal S2048x1024 .bf16) (j : Fin 4) (l : Fin 704) (d : Fin 1024) :
    res a0 a1 (ix3 j l d) = ∑ k : Fin 2048, a0 (ix3 j k l) * a1 (ix2 k d) := by
  pointwise [res]
  exact Finset.sum_congr rfl fun k _ => mul_comm _ _

end Cert.Reference5Ideal.DownDw

namespace Cert.Kernel5Ideal.DownDw

open Cert.Kernel5Ideal Cert.Kernel5Ideal.Gen

variable (m : (ℓ : Loc nD τ sig) → Buf (Elt Ideal) ℓ) (c : Dev nD)

/-- The block of a grid point: one block of columns of `a` against the columns of the gradient. -/
theorem block_at (x0 : Vec Ideal S1x2048x704 .bf16) (x1 : Vec Ideal S2048x1024 .bf16) (l : Fin 704) (d : Fin 1024) :
    k0_pay1 (F := Ideal) x0 x1 (ix3 0 l d) = ∑ k : Fin 2048, x0 (ix3 0 k l) * x1 (ix2 k d) := by
  pointwise [k0_pay1]

theorem idx : ∀ t : Fin cfg0.N, win0_0.index t = ![t.val, 0, 0] ∧ win0_1.index t = ![0, 0] ∧ win0_2.index t = ![t.val, 0, 0] :=
  (by decide +kernel : ∀ t : Fin grid0.N, _)

/-- A grid point's block against the reference at its place. -/
theorem piece (t : Fin cfg0.N) (q : Fin 4) (hq : q.val = t.val) (x : S1x704x1024.Idx) (l : Fin 704) (d : Fin 1024) (hx : x = ix3 0 l d) :
    k0_pay1 (F := Ideal) (iblk m c 0 t) (iblk m c 1 t) x
      = Cert.Reference5Ideal.DownDw.res (m ((c.tc : Thread nD τ).loc main_arg0)) (m ((c.tc : Thread nD τ).loc main_arg1)) (ix3 q l d) := by
  subst hx
  rw [block_at, Cert.Reference5Ideal.DownDw.res_at]
  refine Finset.sum_congr rfl fun k _ => ?_
  blk_point [iblk, V, idx t, hq]

theorem place (t : Fin cfg0.N) (q : Fin 4) (hq : q.val = t.val) (y : ((cfg0.win 2).xblock (cfg0.grid.coords t)).Idx) (l : Fin 704) (d : Fin 1024)
    (e1 : (y 1).val = l.val) (e2 : (y 2).val = d.val) :
    ((View.whole main_v0).slice (win0_2.rect t)).emb y = ix3 q l d := by
  blk_ext [idx t, hq]

theorem blockIdx (x : S1x704x1024.Idx) : x = ix3 0 (x 1) (x 2) := by
  idx_vars x; blk_ext

/-- The whole array the call leaves is the reference's. -/
theorem final : (dats m 0 c).arrAt 2 (cfgs 0).N
    = Cert.Reference5Ideal.DownDw.res (m ((c.tc : Thread nD τ).loc main_arg0)) (m ((c.tc : Thread nD τ).loc main_arg1)) := by
  refine (dats m 0 c).arrAt_eq_of_covers 2 _ (by decide +kernel) fun t hf y => ?_
  blk_simp
  rw [after0_2]
  have ht : t.val < 4 := t.isLt
  have E := place t ⟨t.val, ht⟩ rfl y
  frame_out
  rw [E (y 1) (y 2) rfl rfl]
  exact piece m c t ⟨t.val, ht⟩ rfl _ _ _ (blockIdx _)

end Cert.Kernel5Ideal.DownDw

end
-- ==== Proof.UpDw.lean ====
/- Hand-written, untrusted: the gradient of the up projection's matrix: one entry of the product, the block of a grid point against it, and the array whole. -/
module

public import proofs.«01_k».proof.Proof.Gen.Kernel6Ideal.Value
public import proofs.«01_k».proof.Proof.Gen.Reference6Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Reference6Ideal.UpDw

open Cert.Reference6Ideal Cert.Reference6Ideal.Gen

/-- The reference's result as a function of its two arguments. -/
def res (a0 : FVec Ideal S2048x1024 .bf16) (a1 : FVec Ideal S8x2048x704 .bf16) : FVec Ideal S8x704x1024 .bf16 :=
  truncf .bf16 (transpose S8x704x1024 [0, 2, 1] (transpose S8x1024x704 [1, 0, 2] (shapeCast _ (transpose S1024x5632 [1, 0] (Host.dotGeneral dot_S2048x5632_S2048x1024_S5632x1024_0_0_1_1_n_n none (shapeCast _ (transpose S2048x8x704 [1, 0, 2] (extf .f32 a1 bitsLt_bf16_f32) transposes_S8x2048x704_S2048x8x704_1_0_2) shapeCasts_S2048x8x704_S2048x5632) (extf .f32 a0 bitsLt_bf16_f32)) transposes_S5632x1024_S1024x5632_1_0) shapeCasts_S1024x5632_S1024x8x704) transposes_S1024x8x704_S8x1024x704_1_0_2) transposes_S8x1024x704_S8x704x1024_0_2_1) bitsLt_bf16_f32

/-- One entry of it: a column of the gradient against a column of `h`. -/
theorem res_at (a0 : FVec Ideal S2048x1024 .bf16) (a1 : FVec Ideal S8x2048x704 .bf16) (j : Fin 8) (l : Fin 704) (d : Fin 1024) :
    res a0 a1 (ix3 j l d) = ∑ k : Fin 2048, a1 (ix3 j k l) * a0 (ix2 k d) := by
  pointwise [res]

end Cert.Reference6Ideal.UpDw

namespace Cert.Kernel6Ideal.UpDw

open Cert.Kernel6Ideal Cert.Kernel6Ideal.Gen

variable (m : (ℓ : Loc nD τ sig) → Buf (Elt Ideal) ℓ) (c : Dev nD)

/-- The block of a grid point: one block of columns of the gradient against the columns of `h`. -/
theorem block_at (x0 : Vec Ideal S1x2048x704 .bf16) (x1 : Vec Ideal S2048x1024 .bf16) (l : Fin 704) (d : Fin 1024) :
    k0_pay1 (F := Ideal) x0 x1 (ix3 0 l d) = ∑ k : Fin 2048, x0 (ix3 0 k l) * x1 (ix2 k d) := by
  pointwise [k0_pay1]

theorem idx : ∀ t : Fin cfg0.N, win0_0.index t = ![t.val, 0, 0] ∧ win0_1.index t = ![0, 0] ∧ win0_2.index t = ![t.val, 0, 0] :=
  (by decide +kernel : ∀ t : Fin grid0.N, _)

/-- A grid point's block against the reference at its place. -/
theorem piece (t : Fin cfg0.N) (q : Fin 8) (hq : q.val = t.val) (x : S1x704x1024.Idx) (l : Fin 704) (d : Fin 1024) (hx : x = ix3 0 l d) :
    k0_pay1 (F := Ideal) (iblk m c 0 t) (iblk m c 1 t) x
      = Cert.Reference6Ideal.UpDw.res (m ((c.tc : Thread nD τ).loc main_arg0)) (m ((c.tc : Thread nD τ).loc main_arg1)) (ix3 q l d) := by
  subst hx
  rw [block_at, Cert.Reference6Ideal.UpDw.res_at]
  refine Finset.sum_congr rfl fun k _ => ?_
  blk_point [iblk, V, idx t, hq]

theorem place (t : Fin cfg0.N) (q : Fin 8) (hq : q.val = t.val) (y : ((cfg0.win 2).xblock (cfg0.grid.coords t)).Idx) (l : Fin 704) (d : Fin 1024)
    (e1 : (y 1).val = l.val) (e2 : (y 2).val = d.val) :
    ((View.whole main_v0).slice (win0_2.rect t)).emb y = ix3 q l d := by
  blk_ext [idx t, hq]

theorem blockIdx (x : S1x704x1024.Idx) : x = ix3 0 (x 1) (x 2) := by
  idx_vars x; blk_ext

/-- The whole array the call leaves is the reference's. -/
theorem final : (dats m 0 c).arrAt 2 (cfgs 0).N
    = Cert.Reference6Ideal.UpDw.res (m ((c.tc : Thread nD τ).loc main_arg0)) (m ((c.tc : Thread nD τ).loc main_arg1)) := by
  refine (dats m 0 c).arrAt_eq_of_covers 2 _ (by decide +kernel) fun t hf y => ?_
  blk_simp
  rw [after0_2]
  have ht : t.val < 8 := t.isLt
  have E := place t ⟨t.val, ht⟩ rfl y
  frame_out
  rw [E (y 1) (y 2) rfl rfl]
  exact piece m c t ⟨t.val, ht⟩ rfl _ _ _ (blockIdx _)

end Cert.Kernel6Ideal.UpDw

end
-- ==== Proof.GateConds.lean ====
/- Hand-written, untrusted: the branches of the gate's gradient at each point of its grid. -/
module

public import proofs.«01_k».proof.Proof.Gen.Kernel7Ideal.Frame
public import proofs.«01_k».proof.Proof.Gen.Kernel7Ideal.Skeleton

@[expose] public section

set_option maxRecDepth 16384

noncomputable section

namespace Cert.Kernel7Ideal.Gate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal.Gen

variable {F : FTy → Type} [FloatOps F]

local notation "𝕄" => MT nD τ sig Unit (Elt F) ℕ (UR sig nD τ) ℕ

/-! The branches of the body on the grid's coordinates: the filter gradient is started at the first row tile and added
to afterwards; the carried rows are started at the first column block, added to afterwards, and written out at the last. -/

theorem firstYes : ∀ i : grid0.Coords, (i 0).val = 0 →
    k0_cond1 i = 1#1 ∧ ¬k0_cond2 i = 1#1 ∧ k0_cond3 i = 1#1 ∧ ¬k0_cond4 i = 1#1 ∧ k0_cond5 i = 1#1 ∧ ¬k0_cond6 i = 1#1 ∧ k0_cond7 i = 1#1 ∧ ¬k0_cond8 i = 1#1 ∧ k0_cond9 i = 1#1 ∧ ¬k0_cond10 i = 1#1 ∧ k0_cond11 i = 1#1 ∧ ¬k0_cond12 i = 1#1 := by decide +kernel

theorem firstNo : ∀ i : grid0.Coords, (i 0).val ≠ 0 →
    ¬k0_cond1 i = 1#1 ∧ k0_cond2 i = 1#1 ∧ ¬k0_cond3 i = 1#1 ∧ k0_cond4 i = 1#1 ∧ ¬k0_cond5 i = 1#1 ∧ k0_cond6 i = 1#1 ∧ ¬k0_cond7 i = 1#1 ∧ k0_cond8 i = 1#1 ∧ ¬k0_cond9 i = 1#1 ∧ k0_cond10 i = 1#1 ∧ ¬k0_cond11 i = 1#1 ∧ k0_cond12 i = 1#1 := by decide +kernel

/-- The branch that starts the carried rows is taken. -/
abbrev starts (i : grid0.Coords) : Prop :=
  Scalar.cmpi .ne (Scalar.extui (Scalar.cmpi .eq (BitVec.ofNat 32 (i 1).val) 0#32) : BitVec 32) 0#32 = 1#1
/-- The branch that adds to the carried rows is taken. -/
abbrev carries (i : grid0.Coords) : Prop :=
  Scalar.cmpi .ne (Scalar.extui (Scalar.cmpi .sgt (BitVec.ofNat 32 (i 1).val) 0#32) : BitVec 32) 0#32 = 1#1

theorem blockZero : ∀ i : grid0.Coords, (i 1).val = 0 → starts i ∧ ¬carries i ∧ ¬k0_cond15 i = 1#1 := by decide +kernel
theorem blockMid : ∀ i : grid0.Coords, (i 1).val ≠ 0 ∧ (i 1).val ≠ 3 → ¬starts i ∧ carries i ∧ ¬k0_cond15 i = 1#1 := by decide +kernel
theorem blockLast : ∀ i : grid0.Coords, (i 1).val = 3 → ¬starts i ∧ carries i ∧ k0_cond15 i = 1#1 := by decide +kernel

end Cert.Kernel7Ideal.Gate

end
-- ==== Proof.GateRunFirstZero.lean ====
/- Hand-written, untrusted: the body at the first row tile and the first column block. -/
module

public import proofs.«01_k».proof.Proof.GateConds

@[expose] public section

set_option maxRecDepth 16384

noncomputable section

namespace Cert.Kernel7Ideal.Gate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal.Gen

variable {F : FTy → Type} [FloatOps F]

local notation "𝕄" => MT nD τ sig Unit (Elt F) ℕ (UR sig nD τ) ℕ

set_option maxHeartbeats 2000000 in
/-- The body at a point of the first row tile and the first column block: from the staged blocks, the
    accumulated filter gradient `x11` and the carried rows `x13`, it runs to the same blocks and to the pieces it stores. -/
noncomputable def runFirstZero (c : Dev nD) (i : grid0.Coords) (arg2 : Memref sig .tc .vmem S2x1x256x704 .bf16) (harg2 : arg2.IsWhole) (arg3 : Memref sig .tc .vmem S2x1x256x704 .bf16) (harg3 : arg3.IsWhole) (arg4 : Memref sig .tc .vmem S2x1x16x704 .bf16) (harg4 : arg4.IsWhole) (arg5 : Memref sig .tc .vmem S2x4x3x704 .f32) (harg5 : arg5.IsWhole) (arg6 : Memref sig .tc .vmem S1x256x704 .bf16) (harg6 : arg6.IsWhole) (arg7 : Memref sig .tc .vmem S1x16x704 .bf16) (harg7 : arg7.IsWhole) (arg8 : Memref sig .tc .vmem S2x4x1024x704 .bf16) (harg8 : arg8.IsWhole) (arg10 : Memref sig .tc .vmem S2x1x256x704 .bf16) (harg10 : arg10.IsWhole) (arg11 : Memref sig .tc .vmem S2x4x3x704 .f32) (harg11 : arg11.IsWhole) (arg12 : Memref sig .tc .vmem S256x1024 .bf16) (harg12 : arg12.IsWhole) (arg13 : Memref sig .tc .vmem S256x1024 .f32) (harg13 : arg13.IsWhole) (h1 : k0_cond1 i = 1#1) (h2 : ¬k0_cond2 i = 1#1) (h3 : k0_cond3 i = 1#1) (h4 : ¬k0_cond4 i = 1#1) (h5 : k0_cond5 i = 1#1) (h6 : ¬k0_cond6 i = 1#1) (h7 : k0_cond7 i = 1#1) (h8 : ¬k0_cond8 i = 1#1) (h9 : k0_cond9 i = 1#1) (h10 : ¬k0_cond10 i = 1#1) (h11 : k0_cond11 i = 1#1) (h12 : ¬k0_cond12 i = 1#1) (h13 : starts i) (h14 : ¬carries i) (h15 : ¬k0_cond15 i = 1#1)
    (x2 : Vec F S2x1x256x704 .bf16) (x3 : Vec F S2x1x256x704 .bf16) (x4 : Vec F S2x1x16x704 .bf16) (x5 : Vec F S2x4x3x704 .f32) (x6 : Vec F S1x256x704 .bf16) (x7 : Vec F S1x16x704 .bf16) (x8 : Vec F S2x4x1024x704 .bf16) (x11 : Vec F S2x4x3x704 .f32) (x13 : Vec F S256x1024 .f32) :
    Σ' (L10 : List (View.Piece (Elt F) S2x1x256x704 .bf16)), Σ' (L11 : List (View.Piece (Elt F) S2x4x3x704 .f32)), { L13 : List (View.Piece (Elt F) S256x1024 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg10 fullShare d) ∗ owns (c : Thread nD τ) arg11 fullShare x11 ∗ (∃ d, owns (c : Thread nD τ) arg12 fullShare d) ∗ owns (c : Thread nD τ) arg13 fullShare x13
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg10.view.loc (c : Thread nD τ) ↦[arg10.view.set]{fullShare} arg10.view.writes (Elt F) f L10) ∗ (arg11.view.loc (c : Thread nD τ) ↦[arg11.view.set]{fullShare} arg11.view.writes (Elt F) (harg11.unread x11) L11) ∗ (∃ d, owns (c : Thread nD τ) arg12 fullShare d) ∗ (arg13.view.loc (c : Thread nD τ) ↦[arg13.view.set]{fullShare} arg13.view.writes (Elt F) (harg13.unread x13) L13)) -∗ K ⟨⟩))
          ⊢ wp frame (wpE (defs₀ (F := F)) Variants.none c none) E (cc0_ffn0_act_bwd i arg2 harg2 arg3 harg3 arg4 harg4 arg5 harg5 arg6 harg6 arg7 harg7 arg8 harg8 (Memref.whole main_arg4) (Memref.isWhole_whole _) arg10 harg10 arg11 harg11 arg12 harg12 arg13 harg13) K } := by
  refine ⟨?_, ?_, ?_, fun E K => ?run⟩
  case run =>
    simp only [cc0_ffn0_act_bwd_eq_skeleton]; unfold cc0_ffn0_act_bwd_skel
    simp only [k0_part1_eq_skeleton, k0_part2_eq_skeleton, k0_part3_eq_skeleton, k0_part4_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d10, %f10, -, H10⟩, ⟨%f11, %hf11, H11⟩, ⟨%d12, %f12, %hf12, H12⟩, ⟨%f13, %hf13, H13⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg11.eq_unread hf11; obtain rfl := harg13.eq_unread hf13
    sl_exec (disch := first | sl_exact h1 | sl_exact h2 | sl_exact h3 | sl_exact h4 | sl_exact h5 | sl_exact h6 | sl_exact h7 | sl_exact h8 | sl_exact h9 | sl_exact h10 | sl_exact h11 | sl_exact h12 | sl_exact h13 | sl_exact h14 | sl_exact h15)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H10]; · iexists _; iexact H10
    isplitl [H11]; · iexact H11
    isplitl [H12]
    · iexists d12; iexists f12; isplitr; · ipureintro; exact hf12
      iexact H12
    iexact H13

end Cert.Kernel7Ideal.Gate

end
-- ==== Proof.GateRunFirstMid.lean ====
/- Hand-written, untrusted: the body at the first row tile and a middle column block. -/
module

public import proofs.«01_k».proof.Proof.GateRunFirstZero

@[expose] public section

set_option maxRecDepth 16384

noncomputable section

namespace Cert.Kernel7Ideal.Gate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal.Gen

variable {F : FTy → Type} [FloatOps F]

local notation "𝕄" => MT nD τ sig Unit (Elt F) ℕ (UR sig nD τ) ℕ

set_option maxHeartbeats 2000000 in
/-- The body at a point of the first row tile and a middle column block: from the staged blocks, the
    accumulated filter gradient `x11` and the carried rows `x13`, it runs to the same blocks and to the pieces it stores. -/
noncomputable def runFirstMid (c : Dev nD) (i : grid0.Coords) (arg2 : Memref sig .tc .vmem S2x1x256x704 .bf16) (harg2 : arg2.IsWhole) (arg3 : Memref sig .tc .vmem S2x1x256x704 .bf16) (harg3 : arg3.IsWhole) (arg4 : Memref sig .tc .vmem S2x1x16x704 .bf16) (harg4 : arg4.IsWhole) (arg5 : Memref sig .tc .vmem S2x4x3x704 .f32) (harg5 : arg5.IsWhole) (arg6 : Memref sig .tc .vmem S1x256x704 .bf16) (harg6 : arg6.IsWhole) (arg7 : Memref sig .tc .vmem S1x16x704 .bf16) (harg7 : arg7.IsWhole) (arg8 : Memref sig .tc .vmem S2x4x1024x704 .bf16) (harg8 : arg8.IsWhole) (arg10 : Memref sig .tc .vmem S2x1x256x704 .bf16) (harg10 : arg10.IsWhole) (arg11 : Memref sig .tc .vmem S2x4x3x704 .f32) (harg11 : arg11.IsWhole) (arg12 : Memref sig .tc .vmem S256x1024 .bf16) (harg12 : arg12.IsWhole) (arg13 : Memref sig .tc .vmem S256x1024 .f32) (harg13 : arg13.IsWhole) (h1 : k0_cond1 i = 1#1) (h2 : ¬k0_cond2 i = 1#1) (h3 : k0_cond3 i = 1#1) (h4 : ¬k0_cond4 i = 1#1) (h5 : k0_cond5 i = 1#1) (h6 : ¬k0_cond6 i = 1#1) (h7 : k0_cond7 i = 1#1) (h8 : ¬k0_cond8 i = 1#1) (h9 : k0_cond9 i = 1#1) (h10 : ¬k0_cond10 i = 1#1) (h11 : k0_cond11 i = 1#1) (h12 : ¬k0_cond12 i = 1#1) (h13 : ¬starts i) (h14 : carries i) (h15 : ¬k0_cond15 i = 1#1)
    (x2 : Vec F S2x1x256x704 .bf16) (x3 : Vec F S2x1x256x704 .bf16) (x4 : Vec F S2x1x16x704 .bf16) (x5 : Vec F S2x4x3x704 .f32) (x6 : Vec F S1x256x704 .bf16) (x7 : Vec F S1x16x704 .bf16) (x8 : Vec F S2x4x1024x704 .bf16) (x11 : Vec F S2x4x3x704 .f32) (x13 : Vec F S256x1024 .f32) :
    Σ' (L10 : List (View.Piece (Elt F) S2x1x256x704 .bf16)), Σ' (L11 : List (View.Piece (Elt F) S2x4x3x704 .f32)), { L13 : List (View.Piece (Elt F) S256x1024 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg10 fullShare d) ∗ owns (c : Thread nD τ) arg11 fullShare x11 ∗ (∃ d, owns (c : Thread nD τ) arg12 fullShare d) ∗ owns (c : Thread nD τ) arg13 fullShare x13
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg10.view.loc (c : Thread nD τ) ↦[arg10.view.set]{fullShare} arg10.view.writes (Elt F) f L10) ∗ (arg11.view.loc (c : Thread nD τ) ↦[arg11.view.set]{fullShare} arg11.view.writes (Elt F) (harg11.unread x11) L11) ∗ (∃ d, owns (c : Thread nD τ) arg12 fullShare d) ∗ (arg13.view.loc (c : Thread nD τ) ↦[arg13.view.set]{fullShare} arg13.view.writes (Elt F) (harg13.unread x13) L13)) -∗ K ⟨⟩))
          ⊢ wp frame (wpE (defs₀ (F := F)) Variants.none c none) E (cc0_ffn0_act_bwd i arg2 harg2 arg3 harg3 arg4 harg4 arg5 harg5 arg6 harg6 arg7 harg7 arg8 harg8 (Memref.whole main_arg4) (Memref.isWhole_whole _) arg10 harg10 arg11 harg11 arg12 harg12 arg13 harg13) K } := by
  refine ⟨?_, ?_, ?_, fun E K => ?run⟩
  case run =>
    simp only [cc0_ffn0_act_bwd_eq_skeleton]; unfold cc0_ffn0_act_bwd_skel
    simp only [k0_part1_eq_skeleton, k0_part2_eq_skeleton, k0_part3_eq_skeleton, k0_part4_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d10, %f10, -, H10⟩, ⟨%f11, %hf11, H11⟩, ⟨%d12, %f12, %hf12, H12⟩, ⟨%f13, %hf13, H13⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg11.eq_unread hf11; obtain rfl := harg13.eq_unread hf13
    sl_exec (disch := first | sl_exact h1 | sl_exact h2 | sl_exact h3 | sl_exact h4 | sl_exact h5 | sl_exact h6 | sl_exact h7 | sl_exact h8 | sl_exact h9 | sl_exact h10 | sl_exact h11 | sl_exact h12 | sl_exact h13 | sl_exact h14 | sl_exact h15)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H10]; · iexists _; iexact H10
    isplitl [H11]; · iexact H11
    isplitl [H12]
    · iexists d12; iexists f12; isplitr; · ipureintro; exact hf12
      iexact H12
    iexact H13

end Cert.Kernel7Ideal.Gate

end
-- ==== Proof.GateRunFirstLast.lean ====
/- Hand-written, untrusted: the body at the first row tile and the last column block. -/
module

public import proofs.«01_k».proof.Proof.GateRunFirstMid

@[expose] public section

set_option maxRecDepth 16384

noncomputable section

namespace Cert.Kernel7Ideal.Gate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal.Gen

variable {F : FTy → Type} [FloatOps F]

local notation "𝕄" => MT nD τ sig Unit (Elt F) ℕ (UR sig nD τ) ℕ

set_option maxHeartbeats 2000000 in
/-- The body at a point of the first row tile and the last column block: from the staged blocks, the
    accumulated filter gradient `x11` and the carried rows `x13`, it runs to the same blocks and to the pieces it stores. -/
noncomputable def runFirstLast (c : Dev nD) (i : grid0.Coords) (arg2 : Memref sig .tc .vmem S2x1x256x704 .bf16) (harg2 : arg2.IsWhole) (arg3 : Memref sig .tc .vmem S2x1x256x704 .bf16) (harg3 : arg3.IsWhole) (arg4 : Memref sig .tc .vmem S2x1x16x704 .bf16) (harg4 : arg4.IsWhole) (arg5 : Memref sig .tc .vmem S2x4x3x704 .f32) (harg5 : arg5.IsWhole) (arg6 : Memref sig .tc .vmem S1x256x704 .bf16) (harg6 : arg6.IsWhole) (arg7 : Memref sig .tc .vmem S1x16x704 .bf16) (harg7 : arg7.IsWhole) (arg8 : Memref sig .tc .vmem S2x4x1024x704 .bf16) (harg8 : arg8.IsWhole) (arg10 : Memref sig .tc .vmem S2x1x256x704 .bf16) (harg10 : arg10.IsWhole) (arg11 : Memref sig .tc .vmem S2x4x3x704 .f32) (harg11 : arg11.IsWhole) (arg12 : Memref sig .tc .vmem S256x1024 .bf16) (harg12 : arg12.IsWhole) (arg13 : Memref sig .tc .vmem S256x1024 .f32) (harg13 : arg13.IsWhole) (h1 : k0_cond1 i = 1#1) (h2 : ¬k0_cond2 i = 1#1) (h3 : k0_cond3 i = 1#1) (h4 : ¬k0_cond4 i = 1#1) (h5 : k0_cond5 i = 1#1) (h6 : ¬k0_cond6 i = 1#1) (h7 : k0_cond7 i = 1#1) (h8 : ¬k0_cond8 i = 1#1) (h9 : k0_cond9 i = 1#1) (h10 : ¬k0_cond10 i = 1#1) (h11 : k0_cond11 i = 1#1) (h12 : ¬k0_cond12 i = 1#1) (h13 : ¬starts i) (h14 : carries i) (h15 : k0_cond15 i = 1#1)
    (x2 : Vec F S2x1x256x704 .bf16) (x3 : Vec F S2x1x256x704 .bf16) (x4 : Vec F S2x1x16x704 .bf16) (x5 : Vec F S2x4x3x704 .f32) (x6 : Vec F S1x256x704 .bf16) (x7 : Vec F S1x16x704 .bf16) (x8 : Vec F S2x4x1024x704 .bf16) (x11 : Vec F S2x4x3x704 .f32) (x13 : Vec F S256x1024 .f32) :
    Σ' (L10 : List (View.Piece (Elt F) S2x1x256x704 .bf16)), Σ' (L11 : List (View.Piece (Elt F) S2x4x3x704 .f32)), Σ' (L13 : List (View.Piece (Elt F) S256x1024 .f32)), { L12 : List (View.Piece (Elt F) S256x1024 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg10 fullShare d) ∗ owns (c : Thread nD τ) arg11 fullShare x11 ∗ (∃ d, owns (c : Thread nD τ) arg12 fullShare d) ∗ owns (c : Thread nD τ) arg13 fullShare x13
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg10.view.loc (c : Thread nD τ) ↦[arg10.view.set]{fullShare} arg10.view.writes (Elt F) f L10) ∗ (arg11.view.loc (c : Thread nD τ) ↦[arg11.view.set]{fullShare} arg11.view.writes (Elt F) (harg11.unread x11) L11) ∗ (∃ f, arg12.view.loc (c : Thread nD τ) ↦[arg12.view.set]{fullShare} arg12.view.writes (Elt F) f L12) ∗ (arg13.view.loc (c : Thread nD τ) ↦[arg13.view.set]{fullShare} arg13.view.writes (Elt F) (harg13.unread x13) L13)) -∗ K ⟨⟩))
          ⊢ wp frame (wpE (defs₀ (F := F)) Variants.none c none) E (cc0_ffn0_act_bwd i arg2 harg2 arg3 harg3 arg4 harg4 arg5 harg5 arg6 harg6 arg7 harg7 arg8 harg8 (Memref.whole main_arg4) (Memref.isWhole_whole _) arg10 harg10 arg11 harg11 arg12 harg12 arg13 harg13) K } := by
  refine ⟨?_, ?_, ?_, ?_, fun E K => ?run⟩
  case run =>
    simp only [cc0_ffn0_act_bwd_eq_skeleton]; unfold cc0_ffn0_act_bwd_skel
    simp only [k0_part1_eq_skeleton, k0_part2_eq_skeleton, k0_part3_eq_skeleton, k0_part4_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d10, %f10, -, H10⟩, ⟨%f11, %hf11, H11⟩, ⟨%d12, %f12, %hf12, H12⟩, ⟨%f13, %hf13, H13⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg11.eq_unread hf11; obtain rfl := harg13.eq_unread hf13
    sl_exec (disch := first | sl_exact h1 | sl_exact h2 | sl_exact h3 | sl_exact h4 | sl_exact h5 | sl_exact h6 | sl_exact h7 | sl_exact h8 | sl_exact h9 | sl_exact h10 | sl_exact h11 | sl_exact h12 | sl_exact h13 | sl_exact h14 | sl_exact h15)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H10]; · iexists _; iexact H10
    isplitl [H11]; · iexact H11
    isplitl [H12]; · iexists _; iexact H12
    iexact H13

end Cert.Kernel7Ideal.Gate

end
-- ==== Proof.GateRunLaterZero.lean ====
/- Hand-written, untrusted: the body at a later row tile and the first column block. -/
module

public import proofs.«01_k».proof.Proof.GateRunFirstLast

@[expose] public section

set_option maxRecDepth 16384

noncomputable section

namespace Cert.Kernel7Ideal.Gate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal.Gen

variable {F : FTy → Type} [FloatOps F]

local notation "𝕄" => MT nD τ sig Unit (Elt F) ℕ (UR sig nD τ) ℕ

set_option maxHeartbeats 2000000 in
/-- The body at a point of the a later row tile and the first column block: from the staged blocks, the
    accumulated filter gradient `x11` and the carried rows `x13`, it runs to the same blocks and to the pieces it stores. -/
noncomputable def runLaterZero (c : Dev nD) (i : grid0.Coords) (arg2 : Memref sig .tc .vmem S2x1x256x704 .bf16) (harg2 : arg2.IsWhole) (arg3 : Memref sig .tc .vmem S2x1x256x704 .bf16) (harg3 : arg3.IsWhole) (arg4 : Memref sig .tc .vmem S2x1x16x704 .bf16) (harg4 : arg4.IsWhole) (arg5 : Memref sig .tc .vmem S2x4x3x704 .f32) (harg5 : arg5.IsWhole) (arg6 : Memref sig .tc .vmem S1x256x704 .bf16) (harg6 : arg6.IsWhole) (arg7 : Memref sig .tc .vmem S1x16x704 .bf16) (harg7 : arg7.IsWhole) (arg8 : Memref sig .tc .vmem S2x4x1024x704 .bf16) (harg8 : arg8.IsWhole) (arg10 : Memref sig .tc .vmem S2x1x256x704 .bf16) (harg10 : arg10.IsWhole) (arg11 : Memref sig .tc .vmem S2x4x3x704 .f32) (harg11 : arg11.IsWhole) (arg12 : Memref sig .tc .vmem S256x1024 .bf16) (harg12 : arg12.IsWhole) (arg13 : Memref sig .tc .vmem S256x1024 .f32) (harg13 : arg13.IsWhole) (h1 : ¬k0_cond1 i = 1#1) (h2 : k0_cond2 i = 1#1) (h3 : ¬k0_cond3 i = 1#1) (h4 : k0_cond4 i = 1#1) (h5 : ¬k0_cond5 i = 1#1) (h6 : k0_cond6 i = 1#1) (h7 : ¬k0_cond7 i = 1#1) (h8 : k0_cond8 i = 1#1) (h9 : ¬k0_cond9 i = 1#1) (h10 : k0_cond10 i = 1#1) (h11 : ¬k0_cond11 i = 1#1) (h12 : k0_cond12 i = 1#1) (h13 : starts i) (h14 : ¬carries i) (h15 : ¬k0_cond15 i = 1#1)
    (x2 : Vec F S2x1x256x704 .bf16) (x3 : Vec F S2x1x256x704 .bf16) (x4 : Vec F S2x1x16x704 .bf16) (x5 : Vec F S2x4x3x704 .f32) (x6 : Vec F S1x256x704 .bf16) (x7 : Vec F S1x16x704 .bf16) (x8 : Vec F S2x4x1024x704 .bf16) (x11 : Vec F S2x4x3x704 .f32) (x13 : Vec F S256x1024 .f32) :
    Σ' (L10 : List (View.Piece (Elt F) S2x1x256x704 .bf16)), Σ' (L11 : List (View.Piece (Elt F) S2x4x3x704 .f32)), { L13 : List (View.Piece (Elt F) S256x1024 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg10 fullShare d) ∗ owns (c : Thread nD τ) arg11 fullShare x11 ∗ (∃ d, owns (c : Thread nD τ) arg12 fullShare d) ∗ owns (c : Thread nD τ) arg13 fullShare x13
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg10.view.loc (c : Thread nD τ) ↦[arg10.view.set]{fullShare} arg10.view.writes (Elt F) f L10) ∗ (arg11.view.loc (c : Thread nD τ) ↦[arg11.view.set]{fullShare} arg11.view.writes (Elt F) (harg11.unread x11) L11) ∗ (∃ d, owns (c : Thread nD τ) arg12 fullShare d) ∗ (arg13.view.loc (c : Thread nD τ) ↦[arg13.view.set]{fullShare} arg13.view.writes (Elt F) (harg13.unread x13) L13)) -∗ K ⟨⟩))
          ⊢ wp frame (wpE (defs₀ (F := F)) Variants.none c none) E (cc0_ffn0_act_bwd i arg2 harg2 arg3 harg3 arg4 harg4 arg5 harg5 arg6 harg6 arg7 harg7 arg8 harg8 (Memref.whole main_arg4) (Memref.isWhole_whole _) arg10 harg10 arg11 harg11 arg12 harg12 arg13 harg13) K } := by
  refine ⟨?_, ?_, ?_, fun E K => ?run⟩
  case run =>
    simp only [cc0_ffn0_act_bwd_eq_skeleton]; unfold cc0_ffn0_act_bwd_skel
    simp only [k0_part1_eq_skeleton, k0_part2_eq_skeleton, k0_part3_eq_skeleton, k0_part4_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d10, %f10, -, H10⟩, ⟨%f11, %hf11, H11⟩, ⟨%d12, %f12, %hf12, H12⟩, ⟨%f13, %hf13, H13⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg11.eq_unread hf11; obtain rfl := harg13.eq_unread hf13
    sl_exec (disch := first | sl_exact h1 | sl_exact h2 | sl_exact h3 | sl_exact h4 | sl_exact h5 | sl_exact h6 | sl_exact h7 | sl_exact h8 | sl_exact h9 | sl_exact h10 | sl_exact h11 | sl_exact h12 | sl_exact h13 | sl_exact h14 | sl_exact h15)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H10]; · iexists _; iexact H10
    isplitl [H11]; · iexact H11
    isplitl [H12]
    · iexists d12; iexists f12; isplitr; · ipureintro; exact hf12
      iexact H12
    iexact H13

end Cert.Kernel7Ideal.Gate

end
-- ==== Proof.GateRunLaterMid.lean ====
/- Hand-written, untrusted: the body at a later row tile and a middle column block. -/
module

public import proofs.«01_k».proof.Proof.GateRunLaterZero

@[expose] public section

set_option maxRecDepth 16384

noncomputable section

namespace Cert.Kernel7Ideal.Gate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal.Gen

variable {F : FTy → Type} [FloatOps F]

local notation "𝕄" => MT nD τ sig Unit (Elt F) ℕ (UR sig nD τ) ℕ

set_option maxHeartbeats 2000000 in
/-- The body at a point of the a later row tile and a middle column block: from the staged blocks, the
    accumulated filter gradient `x11` and the carried rows `x13`, it runs to the same blocks and to the pieces it stores. -/
noncomputable def runLaterMid (c : Dev nD) (i : grid0.Coords) (arg2 : Memref sig .tc .vmem S2x1x256x704 .bf16) (harg2 : arg2.IsWhole) (arg3 : Memref sig .tc .vmem S2x1x256x704 .bf16) (harg3 : arg3.IsWhole) (arg4 : Memref sig .tc .vmem S2x1x16x704 .bf16) (harg4 : arg4.IsWhole) (arg5 : Memref sig .tc .vmem S2x4x3x704 .f32) (harg5 : arg5.IsWhole) (arg6 : Memref sig .tc .vmem S1x256x704 .bf16) (harg6 : arg6.IsWhole) (arg7 : Memref sig .tc .vmem S1x16x704 .bf16) (harg7 : arg7.IsWhole) (arg8 : Memref sig .tc .vmem S2x4x1024x704 .bf16) (harg8 : arg8.IsWhole) (arg10 : Memref sig .tc .vmem S2x1x256x704 .bf16) (harg10 : arg10.IsWhole) (arg11 : Memref sig .tc .vmem S2x4x3x704 .f32) (harg11 : arg11.IsWhole) (arg12 : Memref sig .tc .vmem S256x1024 .bf16) (harg12 : arg12.IsWhole) (arg13 : Memref sig .tc .vmem S256x1024 .f32) (harg13 : arg13.IsWhole) (h1 : ¬k0_cond1 i = 1#1) (h2 : k0_cond2 i = 1#1) (h3 : ¬k0_cond3 i = 1#1) (h4 : k0_cond4 i = 1#1) (h5 : ¬k0_cond5 i = 1#1) (h6 : k0_cond6 i = 1#1) (h7 : ¬k0_cond7 i = 1#1) (h8 : k0_cond8 i = 1#1) (h9 : ¬k0_cond9 i = 1#1) (h10 : k0_cond10 i = 1#1) (h11 : ¬k0_cond11 i = 1#1) (h12 : k0_cond12 i = 1#1) (h13 : ¬starts i) (h14 : carries i) (h15 : ¬k0_cond15 i = 1#1)
    (x2 : Vec F S2x1x256x704 .bf16) (x3 : Vec F S2x1x256x704 .bf16) (x4 : Vec F S2x1x16x704 .bf16) (x5 : Vec F S2x4x3x704 .f32) (x6 : Vec F S1x256x704 .bf16) (x7 : Vec F S1x16x704 .bf16) (x8 : Vec F S2x4x1024x704 .bf16) (x11 : Vec F S2x4x3x704 .f32) (x13 : Vec F S256x1024 .f32) :
    Σ' (L10 : List (View.Piece (Elt F) S2x1x256x704 .bf16)), Σ' (L11 : List (View.Piece (Elt F) S2x4x3x704 .f32)), { L13 : List (View.Piece (Elt F) S256x1024 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg10 fullShare d) ∗ owns (c : Thread nD τ) arg11 fullShare x11 ∗ (∃ d, owns (c : Thread nD τ) arg12 fullShare d) ∗ owns (c : Thread nD τ) arg13 fullShare x13
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg10.view.loc (c : Thread nD τ) ↦[arg10.view.set]{fullShare} arg10.view.writes (Elt F) f L10) ∗ (arg11.view.loc (c : Thread nD τ) ↦[arg11.view.set]{fullShare} arg11.view.writes (Elt F) (harg11.unread x11) L11) ∗ (∃ d, owns (c : Thread nD τ) arg12 fullShare d) ∗ (arg13.view.loc (c : Thread nD τ) ↦[arg13.view.set]{fullShare} arg13.view.writes (Elt F) (harg13.unread x13) L13)) -∗ K ⟨⟩))
          ⊢ wp frame (wpE (defs₀ (F := F)) Variants.none c none) E (cc0_ffn0_act_bwd i arg2 harg2 arg3 harg3 arg4 harg4 arg5 harg5 arg6 harg6 arg7 harg7 arg8 harg8 (Memref.whole main_arg4) (Memref.isWhole_whole _) arg10 harg10 arg11 harg11 arg12 harg12 arg13 harg13) K } := by
  refine ⟨?_, ?_, ?_, fun E K => ?run⟩
  case run =>
    simp only [cc0_ffn0_act_bwd_eq_skeleton]; unfold cc0_ffn0_act_bwd_skel
    simp only [k0_part1_eq_skeleton, k0_part2_eq_skeleton, k0_part3_eq_skeleton, k0_part4_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d10, %f10, -, H10⟩, ⟨%f11, %hf11, H11⟩, ⟨%d12, %f12, %hf12, H12⟩, ⟨%f13, %hf13, H13⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg11.eq_unread hf11; obtain rfl := harg13.eq_unread hf13
    sl_exec (disch := first | sl_exact h1 | sl_exact h2 | sl_exact h3 | sl_exact h4 | sl_exact h5 | sl_exact h6 | sl_exact h7 | sl_exact h8 | sl_exact h9 | sl_exact h10 | sl_exact h11 | sl_exact h12 | sl_exact h13 | sl_exact h14 | sl_exact h15)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H10]; · iexists _; iexact H10
    isplitl [H11]; · iexact H11
    isplitl [H12]
    · iexists d12; iexists f12; isplitr; · ipureintro; exact hf12
      iexact H12
    iexact H13

end Cert.Kernel7Ideal.Gate

end
-- ==== Proof.GateRunLaterLast.lean ====
/- Hand-written, untrusted: the body at a later row tile and the last column block. -/
module

public import proofs.«01_k».proof.Proof.GateRunLaterMid

@[expose] public section

set_option maxRecDepth 16384

noncomputable section

namespace Cert.Kernel7Ideal.Gate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal.Gen

variable {F : FTy → Type} [FloatOps F]

local notation "𝕄" => MT nD τ sig Unit (Elt F) ℕ (UR sig nD τ) ℕ

set_option maxHeartbeats 2000000 in
/-- The body at a point of the a later row tile and the last column block: from the staged blocks, the
    accumulated filter gradient `x11` and the carried rows `x13`, it runs to the same blocks and to the pieces it stores. -/
noncomputable def runLaterLast (c : Dev nD) (i : grid0.Coords) (arg2 : Memref sig .tc .vmem S2x1x256x704 .bf16) (harg2 : arg2.IsWhole) (arg3 : Memref sig .tc .vmem S2x1x256x704 .bf16) (harg3 : arg3.IsWhole) (arg4 : Memref sig .tc .vmem S2x1x16x704 .bf16) (harg4 : arg4.IsWhole) (arg5 : Memref sig .tc .vmem S2x4x3x704 .f32) (harg5 : arg5.IsWhole) (arg6 : Memref sig .tc .vmem S1x256x704 .bf16) (harg6 : arg6.IsWhole) (arg7 : Memref sig .tc .vmem S1x16x704 .bf16) (harg7 : arg7.IsWhole) (arg8 : Memref sig .tc .vmem S2x4x1024x704 .bf16) (harg8 : arg8.IsWhole) (arg10 : Memref sig .tc .vmem S2x1x256x704 .bf16) (harg10 : arg10.IsWhole) (arg11 : Memref sig .tc .vmem S2x4x3x704 .f32) (harg11 : arg11.IsWhole) (arg12 : Memref sig .tc .vmem S256x1024 .bf16) (harg12 : arg12.IsWhole) (arg13 : Memref sig .tc .vmem S256x1024 .f32) (harg13 : arg13.IsWhole) (h1 : ¬k0_cond1 i = 1#1) (h2 : k0_cond2 i = 1#1) (h3 : ¬k0_cond3 i = 1#1) (h4 : k0_cond4 i = 1#1) (h5 : ¬k0_cond5 i = 1#1) (h6 : k0_cond6 i = 1#1) (h7 : ¬k0_cond7 i = 1#1) (h8 : k0_cond8 i = 1#1) (h9 : ¬k0_cond9 i = 1#1) (h10 : k0_cond10 i = 1#1) (h11 : ¬k0_cond11 i = 1#1) (h12 : k0_cond12 i = 1#1) (h13 : ¬starts i) (h14 : carries i) (h15 : k0_cond15 i = 1#1)
    (x2 : Vec F S2x1x256x704 .bf16) (x3 : Vec F S2x1x256x704 .bf16) (x4 : Vec F S2x1x16x704 .bf16) (x5 : Vec F S2x4x3x704 .f32) (x6 : Vec F S1x256x704 .bf16) (x7 : Vec F S1x16x704 .bf16) (x8 : Vec F S2x4x1024x704 .bf16) (x11 : Vec F S2x4x3x704 .f32) (x13 : Vec F S256x1024 .f32) :
    Σ' (L10 : List (View.Piece (Elt F) S2x1x256x704 .bf16)), Σ' (L11 : List (View.Piece (Elt F) S2x4x3x704 .f32)), Σ' (L13 : List (View.Piece (Elt F) S256x1024 .f32)), { L12 : List (View.Piece (Elt F) S256x1024 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg10 fullShare d) ∗ owns (c : Thread nD τ) arg11 fullShare x11 ∗ (∃ d, owns (c : Thread nD τ) arg12 fullShare d) ∗ owns (c : Thread nD τ) arg13 fullShare x13
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg10.view.loc (c : Thread nD τ) ↦[arg10.view.set]{fullShare} arg10.view.writes (Elt F) f L10) ∗ (arg11.view.loc (c : Thread nD τ) ↦[arg11.view.set]{fullShare} arg11.view.writes (Elt F) (harg11.unread x11) L11) ∗ (∃ f, arg12.view.loc (c : Thread nD τ) ↦[arg12.view.set]{fullShare} arg12.view.writes (Elt F) f L12) ∗ (arg13.view.loc (c : Thread nD τ) ↦[arg13.view.set]{fullShare} arg13.view.writes (Elt F) (harg13.unread x13) L13)) -∗ K ⟨⟩))
          ⊢ wp frame (wpE (defs₀ (F := F)) Variants.none c none) E (cc0_ffn0_act_bwd i arg2 harg2 arg3 harg3 arg4 harg4 arg5 harg5 arg6 harg6 arg7 harg7 arg8 harg8 (Memref.whole main_arg4) (Memref.isWhole_whole _) arg10 harg10 arg11 harg11 arg12 harg12 arg13 harg13) K } := by
  refine ⟨?_, ?_, ?_, ?_, fun E K => ?run⟩
  case run =>
    simp only [cc0_ffn0_act_bwd_eq_skeleton]; unfold cc0_ffn0_act_bwd_skel
    simp only [k0_part1_eq_skeleton, k0_part2_eq_skeleton, k0_part3_eq_skeleton, k0_part4_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d10, %f10, -, H10⟩, ⟨%f11, %hf11, H11⟩, ⟨%d12, %f12, %hf12, H12⟩, ⟨%f13, %hf13, H13⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg11.eq_unread hf11; obtain rfl := harg13.eq_unread hf13
    sl_exec (disch := first | sl_exact h1 | sl_exact h2 | sl_exact h3 | sl_exact h4 | sl_exact h5 | sl_exact h6 | sl_exact h7 | sl_exact h8 | sl_exact h9 | sl_exact h10 | sl_exact h11 | sl_exact h12 | sl_exact h13 | sl_exact h14 | sl_exact h15)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H10]; · iexists _; iexact H10
    isplitl [H11]; · iexact H11
    isplitl [H12]; · iexists _; iexact H12
    iexact H13

end Cert.Kernel7Ideal.Gate

end
-- ==== Proof.GateVals.lean ====
/- Hand-written, untrusted: what one grid point of the gate's gradient computes from its blocks. -/
module

public import proofs.«01_k».proof.Proof.GateConds
public import Idealize.ShloMosaic.Lib.Pointwise
public import Idealize.ShloMosaic.Lib.WritesUnit
public import Idealize.ShloMosaic.Lib.VecWindow

@[expose] public section

set_option maxRecDepth 16384

noncomputable section

namespace Cert.Kernel7Ideal.Gate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal.Gen

variable {F : FTy → Type} [FloatOps F]

/-! Blocks of a grid point: `x2` the rows of the gate's and the up projection's columns, `x3` the saved factors with the
sixteen rows below in `x4`, `x5` the filters, `x6` the cotangent with the rows below in `x7`, `x8` the matrix. -/

/-- The filter rows of the two halves at the grid point's column block. -/
def tapLo (i : grid0.Coords) (x5 : Vec F S2x4x3x704 .f32) : FVec F S3x704 .f32 :=
  k0_pay3 (View.ld x5 (Rect.unit (k0_off1 i) S1x1x3x704.size (k0_off1_inb i)))
def tapHi (i : grid0.Coords) (x5 : Vec F S2x4x3x704 .f32) : FVec F S3x704 .f32 :=
  k0_pay4 (View.ld x5 (Rect.unit (k0_off2 i) S1x1x3x704.size (k0_off2_inb i)))

/-- The rectangles of whole blocks. -/
abbrev wholeDa : Rect S1x256x704 := Rect.unit ![0, 0, 0] S1x256x704.size inb_S1x256x704_S1x256x704_0_0_0
abbrev wholeDan : Rect S1x16x704 := Rect.unit ![0, 0, 0] S1x16x704.size inb_S1x16x704_S1x16x704_0_0_0
abbrev wholeAcc : Rect S256x1024 := Rect.unit ![0, 0] S256x1024.size inb_S256x1024_S256x1024_0_0

/-- The cotangent of the two halves of the convolution, with the rows below. -/
def dzLo (i : grid0.Coords) (x3 : Vec F S2x1x256x704 .bf16) (x4 : Vec F S2x1x16x704 .bf16) (x6 : Vec F S1x256x704 .bf16) (x7 : Vec F S1x16x704 .bf16) : FVec F S272x704 .f32 :=
  k0_pay6 i (View.ld x6 wholeDa) (View.ld x7 wholeDan) (View.ld x3 (Rect.unit ![0, 0, 0, 0] S1x1x256x704.size inb_S2x1x256x704_S1x1x256x704_0_0_0_0)) (View.ld x4 (Rect.unit ![0, 0, 0, 0] S1x1x16x704.size inb_S2x1x16x704_S1x1x16x704_0_0_0_0))
def dzHi (i : grid0.Coords) (x3 : Vec F S2x1x256x704 .bf16) (x4 : Vec F S2x1x16x704 .bf16) (x6 : Vec F S1x256x704 .bf16) (x7 : Vec F S1x16x704 .bf16) : FVec F S272x704 .f32 :=
  k0_pay8 (k0_pay5 i (View.ld x6 wholeDa) (View.ld x7 wholeDan)) (k0_pay7 (View.ld x3 (Rect.unit ![1, 0, 0, 0] S1x1x256x704.size inb_S2x1x256x704_S1x1x256x704_1_0_0_0))) (View.ld x4 (Rect.unit ![1, 0, 0, 0] S1x1x16x704.size inb_S2x1x16x704_S1x1x16x704_1_0_0_0))

/-- The two halves of the gradient to the convolution's input. -/
def duLo (i : grid0.Coords) (x3 : Vec F S2x1x256x704 .bf16) (x4 : Vec F S2x1x16x704 .bf16) (x5 : Vec F S2x4x3x704 .f32) (x6 : Vec F S1x256x704 .bf16) (x7 : Vec F S1x16x704 .bf16) : FVec F S1x1x256x704 .bf16 :=
  k0_pay13 (tapLo i x5) (dzLo i x3 x4 x6 x7)
def duHi (i : grid0.Coords) (x3 : Vec F S2x1x256x704 .bf16) (x4 : Vec F S2x1x16x704 .bf16) (x5 : Vec F S2x4x3x704 .f32) (x6 : Vec F S1x256x704 .bf16) (x7 : Vec F S1x16x704 .bf16) : FVec F S1x1x256x704 .bf16 :=
  k0_pay29 (tapHi i x5) (dzHi i x3 x4 x6 x7)

/-- A block of the gradient to the convolution's input holds its two halves. -/
def Halves (i : grid0.Coords) (x3 : Vec F S2x1x256x704 .bf16) (x4 : Vec F S2x1x16x704 .bf16) (x5 : Vec F S2x4x3x704 .f32) (x6 : Vec F S1x256x704 .bf16) (x7 : Vec F S1x16x704 .bf16)
    (X : Vec F S2x1x256x704 .bf16) : Prop :=
  ∀ (s : Fin 256) (l : Fin 704), X (ix4 0 0 s l) = duLo i x3 x4 x5 x6 x7 (ix4 0 0 s l) ∧ X (ix4 1 0 s l) = duHi i x3 x4 x5 x6 x7 (ix4 0 0 s l)

/-- The first half's product with the matrix, -/
def dhLo (i : grid0.Coords) (x3 : Vec F S2x1x256x704 .bf16) (x4 : Vec F S2x1x16x704 .bf16) (x5 : Vec F S2x4x3x704 .f32) (x6 : Vec F S1x256x704 .bf16) (x7 : Vec F S1x16x704 .bf16) (x8 : Vec F S2x4x1024x704 .bf16) : FVec F S256x1024 .f32 :=
  k0_pay14 (tapLo i x5) (dzLo i x3 x4 x6 x7) (View.ld x8 (Rect.unit (k0_off3 i) S1x1x1024x704.size (k0_off3_inb i)))
/-- both halves' products where the sum over the column blocks starts, -/
def dhStart (i : grid0.Coords) (x3 : Vec F S2x1x256x704 .bf16) (x4 : Vec F S2x1x16x704 .bf16) (x5 : Vec F S2x4x3x704 .f32) (x6 : Vec F S1x256x704 .bf16) (x7 : Vec F S1x16x704 .bf16) (x8 : Vec F S2x4x1024x704 .bf16) : FVec F S256x1024 .f32 :=
  k0_pay41 (dhLo i x3 x4 x5 x6 x7 x8) (k0_pay28 (tapHi i x5) (dzHi i x3 x4 x6 x7)) (View.ld x8 (Rect.unit (k0_off10 i) S1x1x1024x704.size (k0_off10_inb i)))
/-- and where it goes on from the rows `a` carried so far. -/
def dhNext (i : grid0.Coords) (x3 : Vec F S2x1x256x704 .bf16) (x4 : Vec F S2x1x16x704 .bf16) (x5 : Vec F S2x4x3x704 .f32) (x6 : Vec F S1x256x704 .bf16) (x7 : Vec F S1x16x704 .bf16) (x8 : Vec F S2x4x1024x704 .bf16) (a : Vec F S256x1024 .f32) : FVec F S256x1024 .f32 :=
  k0_pay1 (k0_pay30 (dhLo i x3 x4 x5 x6 x7 x8) (k0_pay28 (tapHi i x5) (dzHi i x3 x4 x6 x7)) (View.ld x8 (Rect.unit (k0_off10 i) S1x1x1024x704.size (k0_off10_inb i)))) (View.ld a wholeAcc)

/-- The carried rows after a grid point. -/
def carry (i : grid0.Coords) (x3 : Vec F S2x1x256x704 .bf16) (x4 : Vec F S2x1x16x704 .bf16) (x5 : Vec F S2x4x3x704 .f32) (x6 : Vec F S1x256x704 .bf16) (x7 : Vec F S1x16x704 .bf16) (x8 : Vec F S2x4x1024x704 .bf16) (a : Vec F S256x1024 .f32) : FVec F S256x1024 .f32 :=
  if (i 1).val = 0 then dhStart i x3 x4 x5 x6 x7 x8 else dhNext i x3 x4 x5 x6 x7 x8 a

/-- Half `h`, tap `k` of a filter gradient: one row of the accumulated array at the grid point's column block. -/
def oldRow (i : grid0.Coords) (x : Vec F S2x4x3x704 .f32) (h : Fin 2) (k : Fin 3) : Vec F S1x1x1x704 .f32 :=
  fun z => x (ix4 h ⟨(i 1).val, (i 1).isLt⟩ k (z 3))

/-- The rows that a grid point of the first row tile stores, -/
def firstRow (i : grid0.Coords) (x2 : Vec F S2x1x256x704 .bf16) (x3 : Vec F S2x1x256x704 .bf16) (x4 : Vec F S2x1x16x704 .bf16) (x6 : Vec F S1x256x704 .bf16) (x7 : Vec F S1x16x704 .bf16) :
    Fin 2 → Fin 3 → Vec F S1x1x1x704 .f32
  | 0, 0 => k0_pay19 (k0_pay16 (dzLo i x3 x4 x6 x7) (View.ld x2 (Rect.unit ![0, 0, 0, 0] S1x1x256x704.size inb_S2x1x256x704_S1x1x256x704_0_0_0_0)))
  | 0, 1 => k0_pay21 (k0_pay17 (dzLo i x3 x4 x6 x7) (View.ld x2 (Rect.unit ![0, 0, 0, 0] S1x1x256x704.size inb_S2x1x256x704_S1x1x256x704_0_0_0_0)))
  | 0, 2 => k0_pay23 (k0_pay18 (dzLo i x3 x4 x6 x7) (View.ld x2 (Rect.unit ![0, 0, 0, 0] S1x1x256x704.size inb_S2x1x256x704_S1x1x256x704_0_0_0_0)))
  | 1, 0 => k0_pay35 (k0_pay27 (dzHi i x3 x4 x6 x7)) (View.ld x2 (Rect.unit ![1, 0, 0, 0] S1x1x256x704.size inb_S2x1x256x704_S1x1x256x704_1_0_0_0))
  | 1, 1 => k0_pay37 (k0_pay26 (dzHi i x3 x4 x6 x7)) (View.ld x2 (Rect.unit ![1, 0, 0, 0] S1x1x256x704.size inb_S2x1x256x704_S1x1x256x704_1_0_0_0))
  | 1, 2 => k0_pay39 (k0_pay25 (dzHi i x3 x4 x6 x7)) (View.ld x2 (Rect.unit ![1, 0, 0, 0] S1x1x256x704.size inb_S2x1x256x704_S1x1x256x704_1_0_0_0))

/-- and those that a later one stores, over what it finds. -/
def laterRow (i : grid0.Coords) (x2 : Vec F S2x1x256x704 .bf16) (x3 : Vec F S2x1x256x704 .bf16) (x4 : Vec F S2x1x16x704 .bf16) (x6 : Vec F S1x256x704 .bf16) (x7 : Vec F S1x16x704 .bf16) (x : Vec F S2x4x3x704 .f32) :
    Fin 2 → Fin 3 → Vec F S1x1x1x704 .f32
  | 0, 0 => k0_pay20 (k0_pay16 (dzLo i x3 x4 x6 x7) (View.ld x2 (Rect.unit ![0, 0, 0, 0] S1x1x256x704.size inb_S2x1x256x704_S1x1x256x704_0_0_0_0))) (oldRow i x 0 0)
  | 0, 1 => k0_pay22 (k0_pay17 (dzLo i x3 x4 x6 x7) (View.ld x2 (Rect.unit ![0, 0, 0, 0] S1x1x256x704.size inb_S2x1x256x704_S1x1x256x704_0_0_0_0))) (oldRow i x 0 1)
  | 0, 2 => k0_pay24 (k0_pay18 (dzLo i x3 x4 x6 x7) (View.ld x2 (Rect.unit ![0, 0, 0, 0] S1x1x256x704.size inb_S2x1x256x704_S1x1x256x704_0_0_0_0))) (oldRow i x 0 2)
  | 1, 0 => k0_pay36 (k0_pay27 (dzHi i x3 x4 x6 x7)) (View.ld x2 (Rect.unit ![1, 0, 0, 0] S1x1x256x704.size inb_S2x1x256x704_S1x1x256x704_1_0_0_0)) (oldRow i x 1 0)
  | 1, 1 => k0_pay38 (k0_pay26 (dzHi i x3 x4 x6 x7)) (View.ld x2 (Rect.unit ![1, 0, 0, 0] S1x1x256x704.size inb_S2x1x256x704_S1x1x256x704_1_0_0_0)) (oldRow i x 1 1)
  | 1, 2 => k0_pay40 (k0_pay25 (dzHi i x3 x4 x6 x7)) (View.ld x2 (Rect.unit ![1, 0, 0, 0] S1x1x256x704.size inb_S2x1x256x704_S1x1x256x704_1_0_0_0)) (oldRow i x 1 2)

/-- Rows `r` put at column block `j` of a filter gradient. -/
def putRows (j : ℕ) (r : Fin 2 → Fin 3 → Vec F S1x1x1x704 .f32) (x : Vec F S2x4x3x704 .f32) : Vec F S2x4x3x704 .f32 :=
  fun y => if (y 1).val = j then r (y 0) (y 2) (ix4 0 0 0 (y 3)) else x y

/-- The accumulated filter gradient after a grid point. -/
def filt (i : grid0.Coords) (x2 : Vec F S2x1x256x704 .bf16) (x3 : Vec F S2x1x256x704 .bf16) (x4 : Vec F S2x1x16x704 .bf16) (x6 : Vec F S1x256x704 .bf16) (x7 : Vec F S1x16x704 .bf16) (x : Vec F S2x4x3x704 .f32) : Vec F S2x4x3x704 .f32 :=
  putRows (i 1).val (if (i 0).val = 0 then firstRow i x2 x3 x4 x6 x7 else laterRow i x2 x3 x4 x6 x7 x) x

/-! The stored rows lie at the grid point's column block. -/
theorem off4 : ∀ i : grid0.Coords, k0_off4 i = ![0, (i 1).val, 0, 0] := by decide +kernel
theorem off5 : ∀ i : grid0.Coords, k0_off5 i = ![0, (i 1).val, 0, 0] := by decide +kernel
theorem off6 : ∀ i : grid0.Coords, k0_off6 i = ![0, (i 1).val, 1, 0] := by decide +kernel
theorem off7 : ∀ i : grid0.Coords, k0_off7 i = ![0, (i 1).val, 1, 0] := by decide +kernel
theorem off8 : ∀ i : grid0.Coords, k0_off8 i = ![0, (i 1).val, 2, 0] := by decide +kernel
theorem off9 : ∀ i : grid0.Coords, k0_off9 i = ![0, (i 1).val, 2, 0] := by decide +kernel
theorem off11 : ∀ i : grid0.Coords, k0_off11 i = ![1, (i 1).val, 0, 0] := by decide +kernel
theorem off12 : ∀ i : grid0.Coords, k0_off12 i = ![1, (i 1).val, 0, 0] := by decide +kernel
theorem off13 : ∀ i : grid0.Coords, k0_off13 i = ![1, (i 1).val, 1, 0] := by decide +kernel
theorem off14 : ∀ i : grid0.Coords, k0_off14 i = ![1, (i 1).val, 1, 0] := by decide +kernel
theorem off15 : ∀ i : grid0.Coords, k0_off15 i = ![1, (i 1).val, 2, 0] := by decide +kernel
theorem off16 : ∀ i : grid0.Coords, k0_off16 i = ![1, (i 1).val, 2, 0] := by decide +kernel

/-- Reading a row back through its own rectangle. -/
theorem ld_row (i : grid0.Coords) (x : Vec F S2x4x3x704 .f32) (h : Fin 2) (k : Fin 3) (off : Fin 4 → ℕ) (inb : ∀ a, off a + S1x1x1x704.size a ≤ S2x4x3x704.size a)
    (e : off = ![h.val, (i 1).val, k.val, 0]) : View.ld x (Rect.unit off S1x1x1x704.size inb) = oldRow i x h k := by
  subst e
  funext z
  refine congrArg x (funext fun a => Fin.ext ?_)
  have z0 : (z 0).val < 1 := (z 0).isLt
  have z1 : (z 1).val < 1 := (z 1).isLt
  have z2 : (z 2).val < 1 := (z 2).isLt
  fin_cases a
  · show h.val + 1 * (z 0).val = h.val; omega
  · show (i 1).val + 1 * (z 1).val = (i 1).val; omega
  · show k.val + 1 * (z 2).val = k.val; omega
  · show 0 + 1 * (z 3).val = (z 3).val; omega

/-- Six rows stored one after the other, read back. -/
theorem read_rows (v : View sig .tc .vmem S2x4x3x704 .f32) (f : v.ty.Contents (Elt F)) (j : ℕ) (r : Fin 2 → Fin 3 → Vec F S1x1x1x704 .f32)
    (o0 o1 o2 o3 o4 o5 : Fin 4 → ℕ)
    (b0 : ∀ a, o0 a + S1x1x1x704.size a ≤ S2x4x3x704.size a) (b1 : ∀ a, o1 a + S1x1x1x704.size a ≤ S2x4x3x704.size a) (b2 : ∀ a, o2 a + S1x1x1x704.size a ≤ S2x4x3x704.size a)
    (b3 : ∀ a, o3 a + S1x1x1x704.size a ≤ S2x4x3x704.size a) (b4 : ∀ a, o4 a + S1x1x1x704.size a ≤ S2x4x3x704.size a) (b5 : ∀ a, o5 a + S1x1x1x704.size a ≤ S2x4x3x704.size a)
    (e0 : o0 = ![1, j, 2, 0]) (e1 : o1 = ![1, j, 1, 0]) (e2 : o2 = ![1, j, 0, 0]) (e3 : o3 = ![0, j, 2, 0]) (e4 : o4 = ![0, j, 1, 0]) (e5 : o5 = ![0, j, 0, 0]) :
    v.read (Elt F) (v.writes (Elt F) f [⟨Rect.unit o0 S1x1x1x704.size b0, r 1 2⟩, ⟨Rect.unit o1 S1x1x1x704.size b1, r 1 1⟩, ⟨Rect.unit o2 S1x1x1x704.size b2, r 1 0⟩,
        ⟨Rect.unit o3 S1x1x1x704.size b3, r 0 2⟩, ⟨Rect.unit o4 S1x1x1x704.size b4, r 0 1⟩, ⟨Rect.unit o5 S1x1x1x704.size b5, r 0 0⟩])
      = putRows j r (v.read (Elt F) f) := by
  subst e0 e1 e2 e3 e4 e5
  funext y
  obtain ⟨h, q, k, l, rfl⟩ : ∃ (h : Fin 2) (q : Fin 4) (k : Fin 3) (l : Fin 704), y = ix4 h q k l :=
    ⟨y 0, y 1, y 2, y 3, by funext a; fin_cases a <;> rfl⟩
  unfold putRows
  by_cases hj : q.val = j
  · rw [if_pos (show ((ix4 h q k l : S2x4x3x704.Idx) 1).val = j from hj)]
    show _ = r h k (ix4 0 0 0 l)
    fin_cases h <;> fin_cases k
    all_goals
      repeat' first
        | (refine View.read_writes_cons_unit_of_mem v f _ _ _ _ (ix4 0 0 0 l) rfl ?_; intro a; fin_cases a <;> first | rfl | (show _ + 0 = _; exact hj) | (show q.val = j + 0; exact hj) | (show l.val = 0 + l.val; omega))
        | (refine (View.read_writes_cons_unit_of_not_mem v f _ _ _ _ rfl 0 (by first | exact Or.inl (Nat.le_of_ble_eq_true rfl) | exact Or.inr (Nat.le_of_ble_eq_true rfl))).trans ?_)
        | (refine (View.read_writes_cons_unit_of_not_mem v f _ _ _ _ rfl 2 (by first | exact Or.inl (Nat.le_of_ble_eq_true rfl) | exact Or.inr (Nat.le_of_ble_eq_true rfl))).trans ?_)
  · rw [if_neg (show ¬((ix4 h q k l : S2x4x3x704.Idx) 1).val = j from hj)]
    have hn : q.val < j ∨ j + 1 ≤ q.val := by omega
    iterate 6 refine (View.read_writes_cons_unit_of_not_mem v f _ _ _ _ rfl 1 hn).trans ?_
    rfl

/-- The two halves of a block stored one after the other, read back. -/
theorem read_halves (v : View sig .tc .vmem S2x1x256x704 .bf16) (f : v.ty.Contents (Elt F)) (hi lo : Vec F S1x1x256x704 .bf16)
    (b1 : ∀ a, (![1, 0, 0, 0] : Fin 4 → ℕ) a + S1x1x256x704.size a ≤ S2x1x256x704.size a) (b0 : ∀ a, (![0, 0, 0, 0] : Fin 4 → ℕ) a + S1x1x256x704.size a ≤ S2x1x256x704.size a)
    (s : Fin 256) (l : Fin 704) :
    v.read (Elt F) (v.writes (Elt F) f [⟨Rect.unit ![1, 0, 0, 0] S1x1x256x704.size b1, hi⟩, ⟨Rect.unit ![0, 0, 0, 0] S1x1x256x704.size b0, lo⟩]) (ix4 0 0 s l) = lo (ix4 0 0 s l)
    ∧ v.read (Elt F) (v.writes (Elt F) f [⟨Rect.unit ![1, 0, 0, 0] S1x1x256x704.size b1, hi⟩, ⟨Rect.unit ![0, 0, 0, 0] S1x1x256x704.size b0, lo⟩]) (ix4 1 0 s l) = hi (ix4 0 0 s l) := by
  constructor
  · refine (View.read_writes_cons_unit_of_not_mem v f _ _ _ _ rfl 0 (by first | exact Or.inl (Nat.le_of_ble_eq_true rfl) | exact Or.inr (Nat.le_of_ble_eq_true rfl))).trans ?_
    refine View.read_writes_cons_unit_of_mem v f _ _ _ _ (ix4 0 0 s l) rfl ?_
    intro a; fin_cases a <;> first | rfl | (show s.val = 0 + s.val; omega) | (show l.val = 0 + l.val; omega)
  · refine View.read_writes_cons_unit_of_mem v f _ _ _ _ (ix4 0 0 s l) rfl ?_
    intro a; fin_cases a <;> first | rfl | (show s.val = 0 + s.val; omega) | (show l.val = 0 + l.val; omega)

end Cert.Kernel7Ideal.Gate

end
-- ==== Proof.GateReads.lean ====
/- Hand-written, untrusted: what each run of the body leaves in the blocks it stores, read back. -/
module

public import proofs.«01_k».proof.Proof.GateRunLaterLast
public import proofs.«01_k».proof.Proof.GateVals

@[expose] public section

set_option maxRecDepth 16384

noncomputable section

namespace Cert.Kernel7Ideal.Gate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal.Gen

variable {F : FTy → Type} [FloatOps F]

section FirstZero

variable (c : Dev nD) (i : grid0.Coords) (arg2 : Memref sig .tc .vmem S2x1x256x704 .bf16) (harg2 : arg2.IsWhole) (arg3 : Memref sig .tc .vmem S2x1x256x704 .bf16) (harg3 : arg3.IsWhole) (arg4 : Memref sig .tc .vmem S2x1x16x704 .bf16) (harg4 : arg4.IsWhole) (arg5 : Memref sig .tc .vmem S2x4x3x704 .f32) (harg5 : arg5.IsWhole) (arg6 : Memref sig .tc .vmem S1x256x704 .bf16) (harg6 : arg6.IsWhole) (arg7 : Memref sig .tc .vmem S1x16x704 .bf16) (harg7 : arg7.IsWhole) (arg8 : Memref sig .tc .vmem S2x4x1024x704 .bf16) (harg8 : arg8.IsWhole) (arg10 : Memref sig .tc .vmem S2x1x256x704 .bf16) (harg10 : arg10.IsWhole) (arg11 : Memref sig .tc .vmem S2x4x3x704 .f32) (harg11 : arg11.IsWhole) (arg12 : Memref sig .tc .vmem S256x1024 .bf16) (harg12 : arg12.IsWhole) (arg13 : Memref sig .tc .vmem S256x1024 .f32) (harg13 : arg13.IsWhole) (h1 : k0_cond1 i = 1#1) (h2 : ¬k0_cond2 i = 1#1) (h3 : k0_cond3 i = 1#1) (h4 : ¬k0_cond4 i = 1#1) (h5 : k0_cond5 i = 1#1) (h6 : ¬k0_cond6 i = 1#1) (h7 : k0_cond7 i = 1#1) (h8 : ¬k0_cond8 i = 1#1) (h9 : k0_cond9 i = 1#1) (h10 : ¬k0_cond10 i = 1#1) (h11 : k0_cond11 i = 1#1) (h12 : ¬k0_cond12 i = 1#1) (h13 : starts i) (h14 : ¬carries i) (h15 : ¬k0_cond15 i = 1#1)
    (x2 : Vec F S2x1x256x704 .bf16) (x3 : Vec F S2x1x256x704 .bf16) (x4 : Vec F S2x1x16x704 .bf16) (x5 : Vec F S2x4x3x704 .f32) (x6 : Vec F S1x256x704 .bf16) (x7 : Vec F S1x16x704 .bf16) (x8 : Vec F S2x4x1024x704 .bf16) (x11 : Vec F S2x4x3x704 .f32) (x13 : Vec F S256x1024 .f32)

theorem halvesFirstZero (f : arg10.view.ty.Contents (Elt F)) :
    Halves i x3 x4 x5 x6 x7 (arg10.view.read (Elt F) (arg10.view.writes (Elt F) f (runFirstZero c i arg2 harg2 arg3 harg3 arg4 harg4 arg5 harg5 arg6 harg6 arg7 harg7 arg8 harg8 arg10 harg10 arg11 harg11 arg12 harg12 arg13 harg13 h1 h2 h3 h4 h5 h6 h7 h8 h9 h10 h11 h12 h13 h14 h15 x2 x3 x4 x5 x6 x7 x8 x11 x13).1)) := by
  intro s l
  rw [show (runFirstZero c i arg2 harg2 arg3 harg3 arg4 harg4 arg5 harg5 arg6 harg6 arg7 harg7 arg8 harg8 arg10 harg10 arg11 harg11 arg12 harg12 arg13 harg13 h1 h2 h3 h4 h5 h6 h7 h8 h9 h10 h11 h12 h13 h14 h15 x2 x3 x4 x5 x6 x7 x8 x11 x13).1 = [⟨Rect.unit ![1, 0, 0, 0] S1x1x256x704.size inb_S2x1x256x704_S1x1x256x704_1_0_0_0, duHi i x3 x4 x5 x6 x7⟩, ⟨Rect.unit ![0, 0, 0, 0] S1x1x256x704.size inb_S2x1x256x704_S1x1x256x704_0_0_0_0, duLo i x3 x4 x5 x6 x7⟩] from by
    unfold runFirstZero; simp only [runFirstZero.sl.r, runFirstZero.sl.r_1, runFirstZero.sl.r_2, runFirstZero.sl.r_3, runFirstZero.sl.r_4, runFirstZero.sl.r_5, runFirstZero.sl.r_6, runFirstZero.sl.r_7, runFirstZero.sl.r_8, runFirstZero.sl.r_9, runFirstZero.sl.r_10, runFirstZero.sl.r_11, runFirstZero.sl.r_12, runFirstZero.sl.r_13, duLo, duHi, tapLo, tapHi, dzLo, dzHi, View.readAt_eq_ld, harg2.read_unread, harg3.read_unread, harg4.read_unread, harg5.read_unread, harg6.read_unread, harg7.read_unread, harg8.read_unread, harg11.read_unread]]
  exact read_halves _ f _ _ _ _ s l

theorem rowsFirstZero (hi : (i 0).val = 0) :
    arg11.view.read (Elt F) (arg11.view.writes (Elt F) (harg11.unread x11) (runFirstZero c i arg2 harg2 arg3 harg3 arg4 harg4 arg5 harg5 arg6 harg6 arg7 harg7 arg8 harg8 arg10 harg10 arg11 harg11 arg12 harg12 arg13 harg13 h1 h2 h3 h4 h5 h6 h7 h8 h9 h10 h11 h12 h13 h14 h15 x2 x3 x4 x5 x6 x7 x8 x11 x13).2.1) = filt i x2 x3 x4 x6 x7 x11 := by
  rw [show (runFirstZero c i arg2 harg2 arg3 harg3 arg4 harg4 arg5 harg5 arg6 harg6 arg7 harg7 arg8 harg8 arg10 harg10 arg11 harg11 arg12 harg12 arg13 harg13 h1 h2 h3 h4 h5 h6 h7 h8 h9 h10 h11 h12 h13 h14 h15 x2 x3 x4 x5 x6 x7 x8 x11 x13).2.1 = [⟨Rect.unit (k0_off15 i) S1x1x1x704.size (k0_off15_inb i h11), firstRow i x2 x3 x4 x6 x7 1 2⟩, ⟨Rect.unit (k0_off13 i) S1x1x1x704.size (k0_off13_inb i h9), firstRow i x2 x3 x4 x6 x7 1 1⟩, ⟨Rect.unit (k0_off11 i) S1x1x1x704.size (k0_off11_inb i h7), firstRow i x2 x3 x4 x6 x7 1 0⟩, ⟨Rect.unit (k0_off8 i) S1x1x1x704.size (k0_off8_inb i h5), firstRow i x2 x3 x4 x6 x7 0 2⟩, ⟨Rect.unit (k0_off6 i) S1x1x1x704.size (k0_off6_inb i h3), firstRow i x2 x3 x4 x6 x7 0 1⟩, ⟨Rect.unit (k0_off4 i) S1x1x1x704.size (k0_off4_inb i h1), firstRow i x2 x3 x4 x6 x7 0 0⟩] from by
    unfold runFirstZero; simp only [runFirstZero.sl.r, runFirstZero.sl.r_1, runFirstZero.sl.r_2, runFirstZero.sl.r_3, runFirstZero.sl.r_4, runFirstZero.sl.r_5, runFirstZero.sl.r_6, runFirstZero.sl.r_7, runFirstZero.sl.r_8, runFirstZero.sl.r_9, runFirstZero.sl.r_10, runFirstZero.sl.r_11, runFirstZero.sl.r_12, runFirstZero.sl.r_13, firstRow, dzLo, dzHi, View.readAt_eq_ld, harg2.read_unread, harg3.read_unread, harg4.read_unread, harg5.read_unread, harg6.read_unread, harg7.read_unread, harg8.read_unread, harg11.read_unread]]
  rw [read_rows arg11.view _ (i 1).val (firstRow i x2 x3 x4 x6 x7) _ _ _ _ _ _ _ _ _ _ _ _ (off15 i) (off13 i) (off11 i) (off8 i) (off6 i) (off4 i), harg11.read_unread]
  unfold filt; rw [if_pos hi]

theorem carryFirstZero (f : arg13.view.ty.Contents (Elt F)) : arg13.view.read (Elt F) (arg13.view.writes (Elt F) f (runFirstZero c i arg2 harg2 arg3 harg3 arg4 harg4 arg5 harg5 arg6 harg6 arg7 harg7 arg8 harg8 arg10 harg10 arg11 harg11 arg12 harg12 arg13 harg13 h1 h2 h3 h4 h5 h6 h7 h8 h9 h10 h11 h12 h13 h14 h15 x2 x3 x4 x5 x6 x7 x8 x11 x13).2.2.1) = dhStart i x3 x4 x5 x6 x7 x8 := by
  rw [show (runFirstZero c i arg2 harg2 arg3 harg3 arg4 harg4 arg5 harg5 arg6 harg6 arg7 harg7 arg8 harg8 arg10 harg10 arg11 harg11 arg12 harg12 arg13 harg13 h1 h2 h3 h4 h5 h6 h7 h8 h9 h10 h11 h12 h13 h14 h15 x2 x3 x4 x5 x6 x7 x8 x11 x13).2.2.1 = [⟨Rect.unit ![0, 0] S256x1024.size inb_S256x1024_S256x1024_0_0, dhStart i x3 x4 x5 x6 x7 x8⟩] from by
    unfold runFirstZero; simp only [runFirstZero.sl.r, runFirstZero.sl.r_1, runFirstZero.sl.r_2, runFirstZero.sl.r_3, runFirstZero.sl.r_4, runFirstZero.sl.r_5, runFirstZero.sl.r_6, runFirstZero.sl.r_7, runFirstZero.sl.r_8, runFirstZero.sl.r_9, runFirstZero.sl.r_10, runFirstZero.sl.r_11, runFirstZero.sl.r_12, runFirstZero.sl.r_13, dhStart, dhLo, tapLo, tapHi, dzLo, dzHi, View.readAt_eq_ld, harg2.read_unread, harg3.read_unread, harg4.read_unread, harg5.read_unread, harg6.read_unread, harg7.read_unread, harg8.read_unread, harg11.read_unread]]
  exact View.read_writes_full _ _ _ _ _

end FirstZero

section FirstMid

variable (c : Dev nD) (i : grid0.Coords) (arg2 : Memref sig .tc .vmem S2x1x256x704 .bf16) (harg2 : arg2.IsWhole) (arg3 : Memref sig .tc .vmem S2x1x256x704 .bf16) (harg3 : arg3.IsWhole) (arg4 : Memref sig .tc .vmem S2x1x16x704 .bf16) (harg4 : arg4.IsWhole) (arg5 : Memref sig .tc .vmem S2x4x3x704 .f32) (harg5 : arg5.IsWhole) (arg6 : Memref sig .tc .vmem S1x256x704 .bf16) (harg6 : arg6.IsWhole) (arg7 : Memref sig .tc .vmem S1x16x704 .bf16) (harg7 : arg7.IsWhole) (arg8 : Memref sig .tc .vmem S2x4x1024x704 .bf16) (harg8 : arg8.IsWhole) (arg10 : Memref sig .tc .vmem S2x1x256x704 .bf16) (harg10 : arg10.IsWhole) (arg11 : Memref sig .tc .vmem S2x4x3x704 .f32) (harg11 : arg11.IsWhole) (arg12 : Memref sig .tc .vmem S256x1024 .bf16) (harg12 : arg12.IsWhole) (arg13 : Memref sig .tc .vmem S256x1024 .f32) (harg13 : arg13.IsWhole) (h1 : k0_cond1 i = 1#1) (h2 : ¬k0_cond2 i = 1#1) (h3 : k0_cond3 i = 1#1) (h4 : ¬k0_cond4 i = 1#1) (h5 : k0_cond5 i = 1#1) (h6 : ¬k0_cond6 i = 1#1) (h7 : k0_cond7 i = 1#1) (h8 : ¬k0_cond8 i = 1#1) (h9 : k0_cond9 i = 1#1) (h10 : ¬k0_cond10 i = 1#1) (h11 : k0_cond11 i = 1#1) (h12 : ¬k0_cond12 i = 1#1) (h13 : ¬starts i) (h14 : carries i) (h15 : ¬k0_cond15 i = 1#1)
    (x2 : Vec F S2x1x256x704 .bf16) (x3 : Vec F S2x1x256x704 .bf16) (x4 : Vec F S2x1x16x704 .bf16) (x5 : Vec F S2x4x3x704 .f32) (x6 : Vec F S1x256x704 .bf16) (x7 : Vec F S1x16x704 .bf16) (x8 : Vec F S2x4x1024x704 .bf16) (x11 : Vec F S2x4x3x704 .f32) (x13 : Vec F S256x1024 .f32)

theorem halvesFirstMid (f : arg10.view.ty.Contents (Elt F)) :
    Halves i x3 x4 x5 x6 x7 (arg10.view.read (Elt F) (arg10.view.writes (Elt F) f (runFirstMid c i arg2 harg2 arg3 harg3 arg4 harg4 arg5 harg5 arg6 harg6 arg7 harg7 arg8 harg8 arg10 harg10 arg11 harg11 arg12 harg12 arg13 harg13 h1 h2 h3 h4 h5 h6 h7 h8 h9 h10 h11 h12 h13 h14 h15 x2 x3 x4 x5 x6 x7 x8 x11 x13).1)) := by
  intro s l
  rw [show (runFirstMid c i arg2 harg2 arg3 harg3 arg4 harg4 arg5 harg5 arg6 harg6 arg7 harg7 arg8 harg8 arg10 harg10 arg11 harg11 arg12 harg12 arg13 harg13 h1 h2 h3 h4 h5 h6 h7 h8 h9 h10 h11 h12 h13 h14 h15 x2 x3 x4 x5 x6 x7 x8 x11 x13).1 = [⟨Rect.unit ![1, 0, 0, 0] S1x1x256x704.size inb_S2x1x256x704_S1x1x256x704_1_0_0_0, duHi i x3 x4 x5 x6 x7⟩, ⟨Rect.unit ![0, 0, 0, 0] S1x1x256x704.size inb_S2x1x256x704_S1x1x256x704_0_0_0_0, duLo i x3 x4 x5 x6 x7⟩] from by
    unfold runFirstMid; simp only [runFirstMid.sl.r, runFirstMid.sl.r_1, runFirstMid.sl.r_2, runFirstMid.sl.r_3, runFirstMid.sl.r_4, runFirstMid.sl.r_5, runFirstMid.sl.r_6, runFirstMid.sl.r_7, runFirstMid.sl.r_8, runFirstMid.sl.r_9, runFirstMid.sl.r_10, runFirstMid.sl.r_11, runFirstMid.sl.r_12, runFirstMid.sl.r_13, runFirstMid.sl.r_14, duLo, duHi, tapLo, tapHi, dzLo, dzHi, View.readAt_eq_ld, harg2.read_unread, harg3.read_unread, harg4.read_unread, harg5.read_unread, harg6.read_unread, harg7.read_unread, harg8.read_unread, harg11.read_unread, harg13.read_unread]]
  exact read_halves _ f _ _ _ _ s l

theorem rowsFirstMid (hi : (i 0).val = 0) :
    arg11.view.read (Elt F) (arg11.view.writes (Elt F) (harg11.unread x11) (runFirstMid c i arg2 harg2 arg3 harg3 arg4 harg4 arg5 harg5 arg6 harg6 arg7 harg7 arg8 harg8 arg10 harg10 arg11 harg11 arg12 harg12 arg13 harg13 h1 h2 h3 h4 h5 h6 h7 h8 h9 h10 h11 h12 h13 h14 h15 x2 x3 x4 x5 x6 x7 x8 x11 x13).2.1) = filt i x2 x3 x4 x6 x7 x11 := by
  rw [show (runFirstMid c i arg2 harg2 arg3 harg3 arg4 harg4 arg5 harg5 arg6 harg6 arg7 harg7 arg8 harg8 arg10 harg10 arg11 harg11 arg12 harg12 arg13 harg13 h1 h2 h3 h4 h5 h6 h7 h8 h9 h10 h11 h12 h13 h14 h15 x2 x3 x4 x5 x6 x7 x8 x11 x13).2.1 = [⟨Rect.unit (k0_off15 i) S1x1x1x704.size (k0_off15_inb i h11), firstRow i x2 x3 x4 x6 x7 1 2⟩, ⟨Rect.unit (k0_off13 i) S1x1x1x704.size (k0_off13_inb i h9), firstRow i x2 x3 x4 x6 x7 1 1⟩, ⟨Rect.unit (k0_off11 i) S1x1x1x704.size (k0_off11_inb i h7), firstRow i x2 x3 x4 x6 x7 1 0⟩, ⟨Rect.unit (k0_off8 i) S1x1x1x704.size (k0_off8_inb i h5), firstRow i x2 x3 x4 x6 x7 0 2⟩, ⟨Rect.unit (k0_off6 i) S1x1x1x704.size (k0_off6_inb i h3), firstRow i x2 x3 x4 x6 x7 0 1⟩, ⟨Rect.unit (k0_off4 i) S1x1x1x704.size (k0_off4_inb i h1), firstRow i x2 x3 x4 x6 x7 0 0⟩] from by
    unfold runFirstMid; simp only [runFirstMid.sl.r, runFirstMid.sl.r_1, runFirstMid.sl.r_2, runFirstMid.sl.r_3, runFirstMid.sl.r_4, runFirstMid.sl.r_5, runFirstMid.sl.r_6, runFirstMid.sl.r_7, runFirstMid.sl.r_8, runFirstMid.sl.r_9, runFirstMid.sl.r_10, runFirstMid.sl.r_11, runFirstMid.sl.r_12, runFirstMid.sl.r_13, runFirstMid.sl.r_14, firstRow, dzLo, dzHi, View.readAt_eq_ld, harg2.read_unread, harg3.read_unread, harg4.read_unread, harg5.read_unread, harg6.read_unread, harg7.read_unread, harg8.read_unread, harg11.read_unread, harg13.read_unread]]
  rw [read_rows arg11.view _ (i 1).val (firstRow i x2 x3 x4 x6 x7) _ _ _ _ _ _ _ _ _ _ _ _ (off15 i) (off13 i) (off11 i) (off8 i) (off6 i) (off4 i), harg11.read_unread]
  unfold filt; rw [if_pos hi]

theorem carryFirstMid : arg13.view.read (Elt F) (arg13.view.writes (Elt F) (harg13.unread x13) (runFirstMid c i arg2 harg2 arg3 harg3 arg4 harg4 arg5 harg5 arg6 harg6 arg7 harg7 arg8 harg8 arg10 harg10 arg11 harg11 arg12 harg12 arg13 harg13 h1 h2 h3 h4 h5 h6 h7 h8 h9 h10 h11 h12 h13 h14 h15 x2 x3 x4 x5 x6 x7 x8 x11 x13).2.2.1) = dhNext i x3 x4 x5 x6 x7 x8 x13 := by
  rw [show (runFirstMid c i arg2 harg2 arg3 harg3 arg4 harg4 arg5 harg5 arg6 harg6 arg7 harg7 arg8 harg8 arg10 harg10 arg11 harg11 arg12 harg12 arg13 harg13 h1 h2 h3 h4 h5 h6 h7 h8 h9 h10 h11 h12 h13 h14 h15 x2 x3 x4 x5 x6 x7 x8 x11 x13).2.2.1 = [⟨Rect.unit ![0, 0] S256x1024.size inb_S256x1024_S256x1024_0_0, dhNext i x3 x4 x5 x6 x7 x8 x13⟩] from by
    unfold runFirstMid; simp only [runFirstMid.sl.r, runFirstMid.sl.r_1, runFirstMid.sl.r_2, runFirstMid.sl.r_3, runFirstMid.sl.r_4, runFirstMid.sl.r_5, runFirstMid.sl.r_6, runFirstMid.sl.r_7, runFirstMid.sl.r_8, runFirstMid.sl.r_9, runFirstMid.sl.r_10, runFirstMid.sl.r_11, runFirstMid.sl.r_12, runFirstMid.sl.r_13, runFirstMid.sl.r_14, dhNext, dhLo, tapLo, tapHi, dzLo, dzHi, View.readAt_eq_ld, harg2.read_unread, harg3.read_unread, harg4.read_unread, harg5.read_unread, harg6.read_unread, harg7.read_unread, harg8.read_unread, harg11.read_unread, harg13.read_unread]]
  exact View.read_writes_full _ _ _ _ _

end FirstMid

section FirstLast

variable (c : Dev nD) (i : grid0.Coords) (arg2 : Memref sig .tc .vmem S2x1x256x704 .bf16) (harg2 : arg2.IsWhole) (arg3 : Memref sig .tc .vmem S2x1x256x704 .bf16) (harg3 : arg3.IsWhole) (arg4 : Memref sig .tc .vmem S2x1x16x704 .bf16) (harg4 : arg4.IsWhole) (arg5 : Memref sig .tc .vmem S2x4x3x704 .f32) (harg5 : arg5.IsWhole) (arg6 : Memref sig .tc .vmem S1x256x704 .bf16) (harg6 : arg6.IsWhole) (arg7 : Memref sig .tc .vmem S1x16x704 .bf16) (harg7 : arg7.IsWhole) (arg8 : Memref sig .tc .vmem S2x4x1024x704 .bf16) (harg8 : arg8.IsWhole) (arg10 : Memref sig .tc .vmem S2x1x256x704 .bf16) (harg10 : arg10.IsWhole) (arg11 : Memref sig .tc .vmem S2x4x3x704 .f32) (harg11 : arg11.IsWhole) (arg12 : Memref sig .tc .vmem S256x1024 .bf16) (harg12 : arg12.IsWhole) (arg13 : Memref sig .tc .vmem S256x1024 .f32) (harg13 : arg13.IsWhole) (h1 : k0_cond1 i = 1#1) (h2 : ¬k0_cond2 i = 1#1) (h3 : k0_cond3 i = 1#1) (h4 : ¬k0_cond4 i = 1#1) (h5 : k0_cond5 i = 1#1) (h6 : ¬k0_cond6 i = 1#1) (h7 : k0_cond7 i = 1#1) (h8 : ¬k0_cond8 i = 1#1) (h9 : k0_cond9 i = 1#1) (h10 : ¬k0_cond10 i = 1#1) (h11 : k0_cond11 i = 1#1) (h12 : ¬k0_cond12 i = 1#1) (h13 : ¬starts i) (h14 : carries i) (h15 : k0_cond15 i = 1#1)
    (x2 : Vec F S2x1x256x704 .bf16) (x3 : Vec F S2x1x256x704 .bf16) (x4 : Vec F S2x1x16x704 .bf16) (x5 : Vec F S2x4x3x704 .f32) (x6 : Vec F S1x256x704 .bf16) (x7 : Vec F S1x16x704 .bf16) (x8 : Vec F S2x4x1024x704 .bf16) (x11 : Vec F S2x4x3x704 .f32) (x13 : Vec F S256x1024 .f32)

theorem halvesFirstLast (f : arg10.view.ty.Contents (Elt F)) :
    Halves i x3 x4 x5 x6 x7 (arg10.view.read (Elt F) (arg10.view.writes (Elt F) f (runFirstLast c i arg2 harg2 arg3 harg3 arg4 harg4 arg5 harg5 arg6 harg6 arg7 harg7 arg8 harg8 arg10 harg10 arg11 harg11 arg12 harg12 arg13 harg13 h1 h2 h3 h4 h5 h6 h7 h8 h9 h10 h11 h12 h13 h14 h15 x2 x3 x4 x5 x6 x7 x8 x11 x13).1)) := by
  intro s l
  rw [show (runFirstLast c i arg2 harg2 arg3 harg3 arg4 harg4 arg5 harg5 arg6 harg6 arg7 harg7 arg8 harg8 arg10 harg10 arg11 harg11 arg12 harg12 arg13 harg13 h1 h2 h3 h4 h5 h6 h7 h8 h9 h10 h11 h12 h13 h14 h15 x2 x3 x4 x5 x6 x7 x8 x11 x13).1 = [⟨Rect.unit ![1, 0, 0, 0] S1x1x256x704.size inb_S2x1x256x704_S1x1x256x704_1_0_0_0, duHi i x3 x4 x5 x6 x7⟩, ⟨Rect.unit ![0, 0, 0, 0] S1x1x256x704.size inb_S2x1x256x704_S1x1x256x704_0_0_0_0, duLo i x3 x4 x5 x6 x7⟩] from by
    unfold runFirstLast; simp only [runFirstLast.sl.r, runFirstLast.sl.r_1, runFirstLast.sl.r_2, runFirstLast.sl.r_3, runFirstLast.sl.r_4, runFirstLast.sl.r_5, runFirstLast.sl.r_6, runFirstLast.sl.r_7, runFirstLast.sl.r_8, runFirstLast.sl.r_9, runFirstLast.sl.r_10, runFirstLast.sl.r_11, runFirstLast.sl.r_12, runFirstLast.sl.r_13, runFirstLast.sl.r_14, runFirstLast.sl.H13_1, runFirstLast.sl.v145, View.readCov_cons_toLoadRect, duLo, duHi, tapLo, tapHi, dzLo, dzHi, View.readAt_eq_ld, harg2.read_unread, harg3.read_unread, harg4.read_unread, harg5.read_unread, harg6.read_unread, harg7.read_unread, harg8.read_unread, harg11.read_unread, harg13.read_unread]]
  exact read_halves _ f _ _ _ _ s l

theorem rowsFirstLast (hi : (i 0).val = 0) :
    arg11.view.read (Elt F) (arg11.view.writes (Elt F) (harg11.unread x11) (runFirstLast c i arg2 harg2 arg3 harg3 arg4 harg4 arg5 harg5 arg6 harg6 arg7 harg7 arg8 harg8 arg10 harg10 arg11 harg11 arg12 harg12 arg13 harg13 h1 h2 h3 h4 h5 h6 h7 h8 h9 h10 h11 h12 h13 h14 h15 x2 x3 x4 x5 x6 x7 x8 x11 x13).2.1) = filt i x2 x3 x4 x6 x7 x11 := by
  rw [show (runFirstLast c i arg2 harg2 arg3 harg3 arg4 harg4 arg5 harg5 arg6 harg6 arg7 harg7 arg8 harg8 arg10 harg10 arg11 harg11 arg12 harg12 arg13 harg13 h1 h2 h3 h4 h5 h6 h7 h8 h9 h10 h11 h12 h13 h14 h15 x2 x3 x4 x5 x6 x7 x8 x11 x13).2.1 = [⟨Rect.unit (k0_off15 i) S1x1x1x704.size (k0_off15_inb i h11), firstRow i x2 x3 x4 x6 x7 1 2⟩, ⟨Rect.unit (k0_off13 i) S1x1x1x704.size (k0_off13_inb i h9), firstRow i x2 x3 x4 x6 x7 1 1⟩, ⟨Rect.unit (k0_off11 i) S1x1x1x704.size (k0_off11_inb i h7), firstRow i x2 x3 x4 x6 x7 1 0⟩, ⟨Rect.unit (k0_off8 i) S1x1x1x704.size (k0_off8_inb i h5), firstRow i x2 x3 x4 x6 x7 0 2⟩, ⟨Rect.unit (k0_off6 i) S1x1x1x704.size (k0_off6_inb i h3), firstRow i x2 x3 x4 x6 x7 0 1⟩, ⟨Rect.unit (k0_off4 i) S1x1x1x704.size (k0_off4_inb i h1), firstRow i x2 x3 x4 x6 x7 0 0⟩] from by
    unfold runFirstLast; simp only [runFirstLast.sl.r, runFirstLast.sl.r_1, runFirstLast.sl.r_2, runFirstLast.sl.r_3, runFirstLast.sl.r_4, runFirstLast.sl.r_5, runFirstLast.sl.r_6, runFirstLast.sl.r_7, runFirstLast.sl.r_8, runFirstLast.sl.r_9, runFirstLast.sl.r_10, runFirstLast.sl.r_11, runFirstLast.sl.r_12, runFirstLast.sl.r_13, runFirstLast.sl.r_14, runFirstLast.sl.H13_1, runFirstLast.sl.v145, View.readCov_cons_toLoadRect, firstRow, dzLo, dzHi, View.readAt_eq_ld, harg2.read_unread, harg3.read_unread, harg4.read_unread, harg5.read_unread, harg6.read_unread, harg7.read_unread, harg8.read_unread, harg11.read_unread, harg13.read_unread]]
  rw [read_rows arg11.view _ (i 1).val (firstRow i x2 x3 x4 x6 x7) _ _ _ _ _ _ _ _ _ _ _ _ (off15 i) (off13 i) (off11 i) (off8 i) (off6 i) (off4 i), harg11.read_unread]
  unfold filt; rw [if_pos hi]

theorem carryFirstLast : arg13.view.read (Elt F) (arg13.view.writes (Elt F) (harg13.unread x13) (runFirstLast c i arg2 harg2 arg3 harg3 arg4 harg4 arg5 harg5 arg6 harg6 arg7 harg7 arg8 harg8 arg10 harg10 arg11 harg11 arg12 harg12 arg13 harg13 h1 h2 h3 h4 h5 h6 h7 h8 h9 h10 h11 h12 h13 h14 h15 x2 x3 x4 x5 x6 x7 x8 x11 x13).2.2.1) = dhNext i x3 x4 x5 x6 x7 x8 x13 := by
  rw [show (runFirstLast c i arg2 harg2 arg3 harg3 arg4 harg4 arg5 harg5 arg6 harg6 arg7 harg7 arg8 harg8 arg10 harg10 arg11 harg11 arg12 harg12 arg13 harg13 h1 h2 h3 h4 h5 h6 h7 h8 h9 h10 h11 h12 h13 h14 h15 x2 x3 x4 x5 x6 x7 x8 x11 x13).2.2.1 = [⟨Rect.unit ![0, 0] S256x1024.size inb_S256x1024_S256x1024_0_0, dhNext i x3 x4 x5 x6 x7 x8 x13⟩] from by
    unfold runFirstLast; simp only [runFirstLast.sl.r, runFirstLast.sl.r_1, runFirstLast.sl.r_2, runFirstLast.sl.r_3, runFirstLast.sl.r_4, runFirstLast.sl.r_5, runFirstLast.sl.r_6, runFirstLast.sl.r_7, runFirstLast.sl.r_8, runFirstLast.sl.r_9, runFirstLast.sl.r_10, runFirstLast.sl.r_11, runFirstLast.sl.r_12, runFirstLast.sl.r_13, runFirstLast.sl.r_14, runFirstLast.sl.H13_1, runFirstLast.sl.v145, View.readCov_cons_toLoadRect, dhNext, dhLo, tapLo, tapHi, dzLo, dzHi, View.readAt_eq_ld, harg2.read_unread, harg3.read_unread, harg4.read_unread, harg5.read_unread, harg6.read_unread, harg7.read_unread, harg8.read_unread, harg11.read_unread, harg13.read_unread]]
  exact View.read_writes_full _ _ _ _ _

theorem outFirstLast (f : arg12.view.ty.Contents (Elt F)) : arg12.view.read (Elt F) (arg12.view.writes (Elt F) f (runFirstLast c i arg2 harg2 arg3 harg3 arg4 harg4 arg5 harg5 arg6 harg6 arg7 harg7 arg8 harg8 arg10 harg10 arg11 harg11 arg12 harg12 arg13 harg13 h1 h2 h3 h4 h5 h6 h7 h8 h9 h10 h11 h12 h13 h14 h15 x2 x3 x4 x5 x6 x7 x8 x11 x13).2.2.2.1) = k0_pay2 (dhNext i x3 x4 x5 x6 x7 x8 x13) := by
  rw [show (runFirstLast c i arg2 harg2 arg3 harg3 arg4 harg4 arg5 harg5 arg6 harg6 arg7 harg7 arg8 harg8 arg10 harg10 arg11 harg11 arg12 harg12 arg13 harg13 h1 h2 h3 h4 h5 h6 h7 h8 h9 h10 h11 h12 h13 h14 h15 x2 x3 x4 x5 x6 x7 x8 x11 x13).2.2.2.1 = [⟨Rect.unit ![0, 0] S256x1024.size inb_S256x1024_S256x1024_0_0, k0_pay2 (dhNext i x3 x4 x5 x6 x7 x8 x13)⟩] from by
    unfold runFirstLast; simp only [runFirstLast.sl.r, runFirstLast.sl.r_1, runFirstLast.sl.r_2, runFirstLast.sl.r_3, runFirstLast.sl.r_4, runFirstLast.sl.r_5, runFirstLast.sl.r_6, runFirstLast.sl.r_7, runFirstLast.sl.r_8, runFirstLast.sl.r_9, runFirstLast.sl.r_10, runFirstLast.sl.r_11, runFirstLast.sl.r_12, runFirstLast.sl.r_13, runFirstLast.sl.r_14, runFirstLast.sl.H13_1, runFirstLast.sl.v145, View.readCov_cons_toLoadRect, dhNext, dhLo, tapLo, tapHi, dzLo, dzHi, View.readAt_eq_ld, harg2.read_unread, harg3.read_unread, harg4.read_unread, harg5.read_unread, harg6.read_unread, harg7.read_unread, harg8.read_unread, harg11.read_unread, harg13.read_unread]]
  exact View.read_writes_full _ _ _ _ _

end FirstLast

section LaterZero

variable (c : Dev nD) (i : grid0.Coords) (arg2 : Memref sig .tc .vmem S2x1x256x704 .bf16) (harg2 : arg2.IsWhole) (arg3 : Memref sig .tc .vmem S2x1x256x704 .bf16) (harg3 : arg3.IsWhole) (arg4 : Memref sig .tc .vmem S2x1x16x704 .bf16) (harg4 : arg4.IsWhole) (arg5 : Memref sig .tc .vmem S2x4x3x704 .f32) (harg5 : arg5.IsWhole) (arg6 : Memref sig .tc .vmem S1x256x704 .bf16) (harg6 : arg6.IsWhole) (arg7 : Memref sig .tc .vmem S1x16x704 .bf16) (harg7 : arg7.IsWhole) (arg8 : Memref sig .tc .vmem S2x4x1024x704 .bf16) (harg8 : arg8.IsWhole) (arg10 : Memref sig .tc .vmem S2x1x256x704 .bf16) (harg10 : arg10.IsWhole) (arg11 : Memref sig .tc .vmem S2x4x3x704 .f32) (harg11 : arg11.IsWhole) (arg12 : Memref sig .tc .vmem S256x1024 .bf16) (harg12 : arg12.IsWhole) (arg13 : Memref sig .tc .vmem S256x1024 .f32) (harg13 : arg13.IsWhole) (h1 : ¬k0_cond1 i = 1#1) (h2 : k0_cond2 i = 1#1) (h3 : ¬k0_cond3 i = 1#1) (h4 : k0_cond4 i = 1#1) (h5 : ¬k0_cond5 i = 1#1) (h6 : k0_cond6 i = 1#1) (h7 : ¬k0_cond7 i = 1#1) (h8 : k0_cond8 i = 1#1) (h9 : ¬k0_cond9 i = 1#1) (h10 : k0_cond10 i = 1#1) (h11 : ¬k0_cond11 i = 1#1) (h12 : k0_cond12 i = 1#1) (h13 : starts i) (h14 : ¬carries i) (h15 : ¬k0_cond15 i = 1#1)
    (x2 : Vec F S2x1x256x704 .bf16) (x3 : Vec F S2x1x256x704 .bf16) (x4 : Vec F S2x1x16x704 .bf16) (x5 : Vec F S2x4x3x704 .f32) (x6 : Vec F S1x256x704 .bf16) (x7 : Vec F S1x16x704 .bf16) (x8 : Vec F S2x4x1024x704 .bf16) (x11 : Vec F S2x4x3x704 .f32) (x13 : Vec F S256x1024 .f32)

theorem halvesLaterZero (f : arg10.view.ty.Contents (Elt F)) :
    Halves i x3 x4 x5 x6 x7 (arg10.view.read (Elt F) (arg10.view.writes (Elt F) f (runLaterZero c i arg2 harg2 arg3 harg3 arg4 harg4 arg5 harg5 arg6 harg6 arg7 harg7 arg8 harg8 arg10 harg10 arg11 harg11 arg12 harg12 arg13 harg13 h1 h2 h3 h4 h5 h6 h7 h8 h9 h10 h11 h12 h13 h14 h15 x2 x3 x4 x5 x6 x7 x8 x11 x13).1)) := by
  intro s l
  rw [show (runLaterZero c i arg2 harg2 arg3 harg3 arg4 harg4 arg5 harg5 arg6 harg6 arg7 harg7 arg8 harg8 arg10 harg10 arg11 harg11 arg12 harg12 arg13 harg13 h1 h2 h3 h4 h5 h6 h7 h8 h9 h10 h11 h12 h13 h14 h15 x2 x3 x4 x5 x6 x7 x8 x11 x13).1 = [⟨Rect.unit ![1, 0, 0, 0] S1x1x256x704.size inb_S2x1x256x704_S1x1x256x704_1_0_0_0, duHi i x3 x4 x5 x6 x7⟩, ⟨Rect.unit ![0, 0, 0, 0] S1x1x256x704.size inb_S2x1x256x704_S1x1x256x704_0_0_0_0, duLo i x3 x4 x5 x6 x7⟩] from by
    unfold runLaterZero; simp only [runLaterZero.sl.r, runLaterZero.sl.r_1, runLaterZero.sl.r_2, runLaterZero.sl.r_3, runLaterZero.sl.r_4, runLaterZero.sl.r_5, runLaterZero.sl.r_6, runLaterZero.sl.r_7, runLaterZero.sl.r_8, runLaterZero.sl.r_9, runLaterZero.sl.r_10, runLaterZero.sl.r_11, runLaterZero.sl.r_12, runLaterZero.sl.r_13, duLo, duHi, tapLo, tapHi, dzLo, dzHi, View.readAt_eq_ld, harg2.read_unread, harg3.read_unread, harg4.read_unread, harg5.read_unread, harg6.read_unread, harg7.read_unread, harg8.read_unread, harg11.read_unread]]
  exact read_halves _ f _ _ _ _ s l

theorem rowsLaterZero (hi : (i 0).val ≠ 0) :
    arg11.view.read (Elt F) (arg11.view.writes (Elt F) (harg11.unread x11) (runLaterZero c i arg2 harg2 arg3 harg3 arg4 harg4 arg5 harg5 arg6 harg6 arg7 harg7 arg8 harg8 arg10 harg10 arg11 harg11 arg12 harg12 arg13 harg13 h1 h2 h3 h4 h5 h6 h7 h8 h9 h10 h11 h12 h13 h14 h15 x2 x3 x4 x5 x6 x7 x8 x11 x13).2.1) = filt i x2 x3 x4 x6 x7 x11 := by
  rw [show (runLaterZero c i arg2 harg2 arg3 harg3 arg4 harg4 arg5 harg5 arg6 harg6 arg7 harg7 arg8 harg8 arg10 harg10 arg11 harg11 arg12 harg12 arg13 harg13 h1 h2 h3 h4 h5 h6 h7 h8 h9 h10 h11 h12 h13 h14 h15 x2 x3 x4 x5 x6 x7 x8 x11 x13).2.1 = [⟨Rect.unit (k0_off16 i) S1x1x1x704.size (k0_off16_inb i h12), laterRow i x2 x3 x4 x6 x7 x11 1 2⟩, ⟨Rect.unit (k0_off14 i) S1x1x1x704.size (k0_off14_inb i h10), laterRow i x2 x3 x4 x6 x7 x11 1 1⟩, ⟨Rect.unit (k0_off12 i) S1x1x1x704.size (k0_off12_inb i h8), laterRow i x2 x3 x4 x6 x7 x11 1 0⟩, ⟨Rect.unit (k0_off9 i) S1x1x1x704.size (k0_off9_inb i h6), laterRow i x2 x3 x4 x6 x7 x11 0 2⟩, ⟨Rect.unit (k0_off7 i) S1x1x1x704.size (k0_off7_inb i h4), laterRow i x2 x3 x4 x6 x7 x11 0 1⟩, ⟨Rect.unit (k0_off5 i) S1x1x1x704.size (k0_off5_inb i h2), laterRow i x2 x3 x4 x6 x7 x11 0 0⟩] from by
    unfold runLaterZero; simp only [runLaterZero.sl.r, runLaterZero.sl.r_1, runLaterZero.sl.r_2, runLaterZero.sl.r_3, runLaterZero.sl.r_4, runLaterZero.sl.r_5, runLaterZero.sl.r_6, runLaterZero.sl.r_7, runLaterZero.sl.r_8, runLaterZero.sl.r_9, runLaterZero.sl.r_10, runLaterZero.sl.r_11, runLaterZero.sl.r_12, runLaterZero.sl.r_13, runLaterZero.sl.v146, runLaterZero.sl.v146_1, runLaterZero.sl.v146_2, runLaterZero.sl.v146_3, runLaterZero.sl.v146_4, laterRow, dzLo, dzHi, View.readAt_eq_ld, harg2.read_unread, harg3.read_unread, harg4.read_unread, harg5.read_unread, harg6.read_unread, harg7.read_unread, harg8.read_unread, harg11.read_unread, ld_row i x11 1 2 _ (k0_off16_inb i h12) (off16 i), ld_row i x11 1 1 _ (k0_off14_inb i h10) (off14 i), ld_row i x11 1 0 _ (k0_off12_inb i h8) (off12 i), ld_row i x11 0 2 _ (k0_off9_inb i h6) (off9 i), ld_row i x11 0 1 _ (k0_off7_inb i h4) (off7 i), ld_row i x11 0 0 _ (k0_off5_inb i h2) (off5 i)]]
  rw [read_rows arg11.view _ (i 1).val (laterRow i x2 x3 x4 x6 x7 x11) _ _ _ _ _ _ _ _ _ _ _ _ (off16 i) (off14 i) (off12 i) (off9 i) (off7 i) (off5 i), harg11.read_unread]
  unfold filt; rw [if_neg hi]

theorem carryLaterZero (f : arg13.view.ty.Contents (Elt F)) : arg13.view.read (Elt F) (arg13.view.writes (Elt F) f (runLaterZero c i arg2 harg2 arg3 harg3 arg4 harg4 arg5 harg5 arg6 harg6 arg7 harg7 arg8 harg8 arg10 harg10 arg11 harg11 arg12 harg12 arg13 harg13 h1 h2 h3 h4 h5 h6 h7 h8 h9 h10 h11 h12 h13 h14 h15 x2 x3 x4 x5 x6 x7 x8 x11 x13).2.2.1) = dhStart i x3 x4 x5 x6 x7 x8 := by
  rw [show (runLaterZero c i arg2 harg2 arg3 harg3 arg4 harg4 arg5 harg5 arg6 harg6 arg7 harg7 arg8 harg8 arg10 harg10 arg11 harg11 arg12 harg12 arg13 harg13 h1 h2 h3 h4 h5 h6 h7 h8 h9 h10 h11 h12 h13 h14 h15 x2 x3 x4 x5 x6 x7 x8 x11 x13).2.2.1 = [⟨Rect.unit ![0, 0] S256x1024.size inb_S256x1024_S256x1024_0_0, dhStart i x3 x4 x5 x6 x7 x8⟩] from by
    unfold runLaterZero; simp only [runLaterZero.sl.r, runLaterZero.sl.r_1, runLaterZero.sl.r_2, runLaterZero.sl.r_3, runLaterZero.sl.r_4, runLaterZero.sl.r_5, runLaterZero.sl.r_6, runLaterZero.sl.r_7, runLaterZero.sl.r_8, runLaterZero.sl.r_9, runLaterZero.sl.r_10, runLaterZero.sl.r_11, runLaterZero.sl.r_12, runLaterZero.sl.r_13, dhStart, dhLo, tapLo, tapHi, dzLo, dzHi, View.readAt_eq_ld, harg2.read_unread, harg3.read_unread, harg4.read_unread, harg5.read_unread, harg6.read_unread, harg7.read_unread, harg8.read_unread, harg11.read_unread]]
  exact View.read_writes_full _ _ _ _ _

end LaterZero

section LaterMid

variable (c : Dev nD) (i : grid0.Coords) (arg2 : Memref sig .tc .vmem S2x1x256x704 .bf16) (harg2 : arg2.IsWhole) (arg3 : Memref sig .tc .vmem S2x1x256x704 .bf16) (harg3 : arg3.IsWhole) (arg4 : Memref sig .tc .vmem S2x1x16x704 .bf16) (harg4 : arg4.IsWhole) (arg5 : Memref sig .tc .vmem S2x4x3x704 .f32) (harg5 : arg5.IsWhole) (arg6 : Memref sig .tc .vmem S1x256x704 .bf16) (harg6 : arg6.IsWhole) (arg7 : Memref sig .tc .vmem S1x16x704 .bf16) (harg7 : arg7.IsWhole) (arg8 : Memref sig .tc .vmem S2x4x1024x704 .bf16) (harg8 : arg8.IsWhole) (arg10 : Memref sig .tc .vmem S2x1x256x704 .bf16) (harg10 : arg10.IsWhole) (arg11 : Memref sig .tc .vmem S2x4x3x704 .f32) (harg11 : arg11.IsWhole) (arg12 : Memref sig .tc .vmem S256x1024 .bf16) (harg12 : arg12.IsWhole) (arg13 : Memref sig .tc .vmem S256x1024 .f32) (harg13 : arg13.IsWhole) (h1 : ¬k0_cond1 i = 1#1) (h2 : k0_cond2 i = 1#1) (h3 : ¬k0_cond3 i = 1#1) (h4 : k0_cond4 i = 1#1) (h5 : ¬k0_cond5 i = 1#1) (h6 : k0_cond6 i = 1#1) (h7 : ¬k0_cond7 i = 1#1) (h8 : k0_cond8 i = 1#1) (h9 : ¬k0_cond9 i = 1#1) (h10 : k0_cond10 i = 1#1) (h11 : ¬k0_cond11 i = 1#1) (h12 : k0_cond12 i = 1#1) (h13 : ¬starts i) (h14 : carries i) (h15 : ¬k0_cond15 i = 1#1)
    (x2 : Vec F S2x1x256x704 .bf16) (x3 : Vec F S2x1x256x704 .bf16) (x4 : Vec F S2x1x16x704 .bf16) (x5 : Vec F S2x4x3x704 .f32) (x6 : Vec F S1x256x704 .bf16) (x7 : Vec F S1x16x704 .bf16) (x8 : Vec F S2x4x1024x704 .bf16) (x11 : Vec F S2x4x3x704 .f32) (x13 : Vec F S256x1024 .f32)

theorem halvesLaterMid (f : arg10.view.ty.Contents (Elt F)) :
    Halves i x3 x4 x5 x6 x7 (arg10.view.read (Elt F) (arg10.view.writes (Elt F) f (runLaterMid c i arg2 harg2 arg3 harg3 arg4 harg4 arg5 harg5 arg6 harg6 arg7 harg7 arg8 harg8 arg10 harg10 arg11 harg11 arg12 harg12 arg13 harg13 h1 h2 h3 h4 h5 h6 h7 h8 h9 h10 h11 h12 h13 h14 h15 x2 x3 x4 x5 x6 x7 x8 x11 x13).1)) := by
  intro s l
  rw [show (runLaterMid c i arg2 harg2 arg3 harg3 arg4 harg4 arg5 harg5 arg6 harg6 arg7 harg7 arg8 harg8 arg10 harg10 arg11 harg11 arg12 harg12 arg13 harg13 h1 h2 h3 h4 h5 h6 h7 h8 h9 h10 h11 h12 h13 h14 h15 x2 x3 x4 x5 x6 x7 x8 x11 x13).1 = [⟨Rect.unit ![1, 0, 0, 0] S1x1x256x704.size inb_S2x1x256x704_S1x1x256x704_1_0_0_0, duHi i x3 x4 x5 x6 x7⟩, ⟨Rect.unit ![0, 0, 0, 0] S1x1x256x704.size inb_S2x1x256x704_S1x1x256x704_0_0_0_0, duLo i x3 x4 x5 x6 x7⟩] from by
    unfold runLaterMid; simp only [runLaterMid.sl.r, runLaterMid.sl.r_1, runLaterMid.sl.r_2, runLaterMid.sl.r_3, runLaterMid.sl.r_4, runLaterMid.sl.r_5, runLaterMid.sl.r_6, runLaterMid.sl.r_7, runLaterMid.sl.r_8, runLaterMid.sl.r_9, runLaterMid.sl.r_10, runLaterMid.sl.r_11, runLaterMid.sl.r_12, runLaterMid.sl.r_13, runLaterMid.sl.r_14, duLo, duHi, tapLo, tapHi, dzLo, dzHi, View.readAt_eq_ld, harg2.read_unread, harg3.read_unread, harg4.read_unread, harg5.read_unread, harg6.read_unread, harg7.read_unread, harg8.read_unread, harg11.read_unread, harg13.read_unread]]
  exact read_halves _ f _ _ _ _ s l

theorem rowsLaterMid (hi : (i 0).val ≠ 0) :
    arg11.view.read (Elt F) (arg11.view.writes (Elt F) (harg11.unread x11) (runLaterMid c i arg2 harg2 arg3 harg3 arg4 harg4 arg5 harg5 arg6 harg6 arg7 harg7 arg8 harg8 arg10 harg10 arg11 harg11 arg12 harg12 arg13 harg13 h1 h2 h3 h4 h5 h6 h7 h8 h9 h10 h11 h12 h13 h14 h15 x2 x3 x4 x5 x6 x7 x8 x11 x13).2.1) = filt i x2 x3 x4 x6 x7 x11 := by
  rw [show (runLaterMid c i arg2 harg2 arg3 harg3 arg4 harg4 arg5 harg5 arg6 harg6 arg7 harg7 arg8 harg8 arg10 harg10 arg11 harg11 arg12 harg12 arg13 harg13 h1 h2 h3 h4 h5 h6 h7 h8 h9 h10 h11 h12 h13 h14 h15 x2 x3 x4 x5 x6 x7 x8 x11 x13).2.1 = [⟨Rect.unit (k0_off16 i) S1x1x1x704.size (k0_off16_inb i h12), laterRow i x2 x3 x4 x6 x7 x11 1 2⟩, ⟨Rect.unit (k0_off14 i) S1x1x1x704.size (k0_off14_inb i h10), laterRow i x2 x3 x4 x6 x7 x11 1 1⟩, ⟨Rect.unit (k0_off12 i) S1x1x1x704.size (k0_off12_inb i h8), laterRow i x2 x3 x4 x6 x7 x11 1 0⟩, ⟨Rect.unit (k0_off9 i) S1x1x1x704.size (k0_off9_inb i h6), laterRow i x2 x3 x4 x6 x7 x11 0 2⟩, ⟨Rect.unit (k0_off7 i) S1x1x1x704.size (k0_off7_inb i h4), laterRow i x2 x3 x4 x6 x7 x11 0 1⟩, ⟨Rect.unit (k0_off5 i) S1x1x1x704.size (k0_off5_inb i h2), laterRow i x2 x3 x4 x6 x7 x11 0 0⟩] from by
    unfold runLaterMid; simp only [runLaterMid.sl.r, runLaterMid.sl.r_1, runLaterMid.sl.r_2, runLaterMid.sl.r_3, runLaterMid.sl.r_4, runLaterMid.sl.r_5, runLaterMid.sl.r_6, runLaterMid.sl.r_7, runLaterMid.sl.r_8, runLaterMid.sl.r_9, runLaterMid.sl.r_10, runLaterMid.sl.r_11, runLaterMid.sl.r_12, runLaterMid.sl.r_13, runLaterMid.sl.r_14, runLaterMid.sl.v146, runLaterMid.sl.v146_1, runLaterMid.sl.v146_2, runLaterMid.sl.v146_3, runLaterMid.sl.v146_4, laterRow, dzLo, dzHi, View.readAt_eq_ld, harg2.read_unread, harg3.read_unread, harg4.read_unread, harg5.read_unread, harg6.read_unread, harg7.read_unread, harg8.read_unread, harg11.read_unread, harg13.read_unread, ld_row i x11 1 2 _ (k0_off16_inb i h12) (off16 i), ld_row i x11 1 1 _ (k0_off14_inb i h10) (off14 i), ld_row i x11 1 0 _ (k0_off12_inb i h8) (off12 i), ld_row i x11 0 2 _ (k0_off9_inb i h6) (off9 i), ld_row i x11 0 1 _ (k0_off7_inb i h4) (off7 i), ld_row i x11 0 0 _ (k0_off5_inb i h2) (off5 i)]]
  rw [read_rows arg11.view _ (i 1).val (laterRow i x2 x3 x4 x6 x7 x11) _ _ _ _ _ _ _ _ _ _ _ _ (off16 i) (off14 i) (off12 i) (off9 i) (off7 i) (off5 i), harg11.read_unread]
  unfold filt; rw [if_neg hi]

theorem carryLaterMid : arg13.view.read (Elt F) (arg13.view.writes (Elt F) (harg13.unread x13) (runLaterMid c i arg2 harg2 arg3 harg3 arg4 harg4 arg5 harg5 arg6 harg6 arg7 harg7 arg8 harg8 arg10 harg10 arg11 harg11 arg12 harg12 arg13 harg13 h1 h2 h3 h4 h5 h6 h7 h8 h9 h10 h11 h12 h13 h14 h15 x2 x3 x4 x5 x6 x7 x8 x11 x13).2.2.1) = dhNext i x3 x4 x5 x6 x7 x8 x13 := by
  rw [show (runLaterMid c i arg2 harg2 arg3 harg3 arg4 harg4 arg5 harg5 arg6 harg6 arg7 harg7 arg8 harg8 arg10 harg10 arg11 harg11 arg12 harg12 arg13 harg13 h1 h2 h3 h4 h5 h6 h7 h8 h9 h10 h11 h12 h13 h14 h15 x2 x3 x4 x5 x6 x7 x8 x11 x13).2.2.1 = [⟨Rect.unit ![0, 0] S256x1024.size inb_S256x1024_S256x1024_0_0, dhNext i x3 x4 x5 x6 x7 x8 x13⟩] from by
    unfold runLaterMid; simp only [runLaterMid.sl.r, runLaterMid.sl.r_1, runLaterMid.sl.r_2, runLaterMid.sl.r_3, runLaterMid.sl.r_4, runLaterMid.sl.r_5, runLaterMid.sl.r_6, runLaterMid.sl.r_7, runLaterMid.sl.r_8, runLaterMid.sl.r_9, runLaterMid.sl.r_10, runLaterMid.sl.r_11, runLaterMid.sl.r_12, runLaterMid.sl.r_13, runLaterMid.sl.r_14, dhNext, dhLo, tapLo, tapHi, dzLo, dzHi, View.readAt_eq_ld, harg2.read_unread, harg3.read_unread, harg4.read_unread, harg5.read_unread, harg6.read_unread, harg7.read_unread, harg8.read_unread, harg11.read_unread, harg13.read_unread]]
  exact View.read_writes_full _ _ _ _ _

end LaterMid

section LaterLast

variable (c : Dev nD) (i : grid0.Coords) (arg2 : Memref sig .tc .vmem S2x1x256x704 .bf16) (harg2 : arg2.IsWhole) (arg3 : Memref sig .tc .vmem S2x1x256x704 .bf16) (harg3 : arg3.IsWhole) (arg4 : Memref sig .tc .vmem S2x1x16x704 .bf16) (harg4 : arg4.IsWhole) (arg5 : Memref sig .tc .vmem S2x4x3x704 .f32) (harg5 : arg5.IsWhole) (arg6 : Memref sig .tc .vmem S1x256x704 .bf16) (harg6 : arg6.IsWhole) (arg7 : Memref sig .tc .vmem S1x16x704 .bf16) (harg7 : arg7.IsWhole) (arg8 : Memref sig .tc .vmem S2x4x1024x704 .bf16) (harg8 : arg8.IsWhole) (arg10 : Memref sig .tc .vmem S2x1x256x704 .bf16) (harg10 : arg10.IsWhole) (arg11 : Memref sig .tc .vmem S2x4x3x704 .f32) (harg11 : arg11.IsWhole) (arg12 : Memref sig .tc .vmem S256x1024 .bf16) (harg12 : arg12.IsWhole) (arg13 : Memref sig .tc .vmem S256x1024 .f32) (harg13 : arg13.IsWhole) (h1 : ¬k0_cond1 i = 1#1) (h2 : k0_cond2 i = 1#1) (h3 : ¬k0_cond3 i = 1#1) (h4 : k0_cond4 i = 1#1) (h5 : ¬k0_cond5 i = 1#1) (h6 : k0_cond6 i = 1#1) (h7 : ¬k0_cond7 i = 1#1) (h8 : k0_cond8 i = 1#1) (h9 : ¬k0_cond9 i = 1#1) (h10 : k0_cond10 i = 1#1) (h11 : ¬k0_cond11 i = 1#1) (h12 : k0_cond12 i = 1#1) (h13 : ¬starts i) (h14 : carries i) (h15 : k0_cond15 i = 1#1)
    (x2 : Vec F S2x1x256x704 .bf16) (x3 : Vec F S2x1x256x704 .bf16) (x4 : Vec F S2x1x16x704 .bf16) (x5 : Vec F S2x4x3x704 .f32) (x6 : Vec F S1x256x704 .bf16) (x7 : Vec F S1x16x704 .bf16) (x8 : Vec F S2x4x1024x704 .bf16) (x11 : Vec F S2x4x3x704 .f32) (x13 : Vec F S256x1024 .f32)

theorem halvesLaterLast (f : arg10.view.ty.Contents (Elt F)) :
    Halves i x3 x4 x5 x6 x7 (arg10.view.read (Elt F) (arg10.view.writes (Elt F) f (runLaterLast c i arg2 harg2 arg3 harg3 arg4 harg4 arg5 harg5 arg6 harg6 arg7 harg7 arg8 harg8 arg10 harg10 arg11 harg11 arg12 harg12 arg13 harg13 h1 h2 h3 h4 h5 h6 h7 h8 h9 h10 h11 h12 h13 h14 h15 x2 x3 x4 x5 x6 x7 x8 x11 x13).1)) := by
  intro s l
  rw [show (runLaterLast c i arg2 harg2 arg3 harg3 arg4 harg4 arg5 harg5 arg6 harg6 arg7 harg7 arg8 harg8 arg10 harg10 arg11 harg11 arg12 harg12 arg13 harg13 h1 h2 h3 h4 h5 h6 h7 h8 h9 h10 h11 h12 h13 h14 h15 x2 x3 x4 x5 x6 x7 x8 x11 x13).1 = [⟨Rect.unit ![1, 0, 0, 0] S1x1x256x704.size inb_S2x1x256x704_S1x1x256x704_1_0_0_0, duHi i x3 x4 x5 x6 x7⟩, ⟨Rect.unit ![0, 0, 0, 0] S1x1x256x704.size inb_S2x1x256x704_S1x1x256x704_0_0_0_0, duLo i x3 x4 x5 x6 x7⟩] from by
    unfold runLaterLast; simp only [runLaterLast.sl.r, runLaterLast.sl.r_1, runLaterLast.sl.r_2, runLaterLast.sl.r_3, runLaterLast.sl.r_4, runLaterLast.sl.r_5, runLaterLast.sl.r_6, runLaterLast.sl.r_7, runLaterLast.sl.r_8, runLaterLast.sl.r_9, runLaterLast.sl.r_10, runLaterLast.sl.r_11, runLaterLast.sl.r_12, runLaterLast.sl.r_13, runLaterLast.sl.r_14, runLaterLast.sl.H13_1, runLaterLast.sl.v145, View.readCov_cons_toLoadRect, duLo, duHi, tapLo, tapHi, dzLo, dzHi, View.readAt_eq_ld, harg2.read_unread, harg3.read_unread, harg4.read_unread, harg5.read_unread, harg6.read_unread, harg7.read_unread, harg8.read_unread, harg11.read_unread, harg13.read_unread]]
  exact read_halves _ f _ _ _ _ s l

theorem rowsLaterLast (hi : (i 0).val ≠ 0) :
    arg11.view.read (Elt F) (arg11.view.writes (Elt F) (harg11.unread x11) (runLaterLast c i arg2 harg2 arg3 harg3 arg4 harg4 arg5 harg5 arg6 harg6 arg7 harg7 arg8 harg8 arg10 harg10 arg11 harg11 arg12 harg12 arg13 harg13 h1 h2 h3 h4 h5 h6 h7 h8 h9 h10 h11 h12 h13 h14 h15 x2 x3 x4 x5 x6 x7 x8 x11 x13).2.1) = filt i x2 x3 x4 x6 x7 x11 := by
  rw [show (runLaterLast c i arg2 harg2 arg3 harg3 arg4 harg4 arg5 harg5 arg6 harg6 arg7 harg7 arg8 harg8 arg10 harg10 arg11 harg11 arg12 harg12 arg13 harg13 h1 h2 h3 h4 h5 h6 h7 h8 h9 h10 h11 h12 h13 h14 h15 x2 x3 x4 x5 x6 x7 x8 x11 x13).2.1 = [⟨Rect.unit (k0_off16 i) S1x1x1x704.size (k0_off16_inb i h12), laterRow i x2 x3 x4 x6 x7 x11 1 2⟩, ⟨Rect.unit (k0_off14 i) S1x1x1x704.size (k0_off14_inb i h10), laterRow i x2 x3 x4 x6 x7 x11 1 1⟩, ⟨Rect.unit (k0_off12 i) S1x1x1x704.size (k0_off12_inb i h8), laterRow i x2 x3 x4 x6 x7 x11 1 0⟩, ⟨Rect.unit (k0_off9 i) S1x1x1x704.size (k0_off9_inb i h6), laterRow i x2 x3 x4 x6 x7 x11 0 2⟩, ⟨Rect.unit (k0_off7 i) S1x1x1x704.size (k0_off7_inb i h4), laterRow i x2 x3 x4 x6 x7 x11 0 1⟩, ⟨Rect.unit (k0_off5 i) S1x1x1x704.size (k0_off5_inb i h2), laterRow i x2 x3 x4 x6 x7 x11 0 0⟩] from by
    unfold runLaterLast; simp only [runLaterLast.sl.r, runLaterLast.sl.r_1, runLaterLast.sl.r_2, runLaterLast.sl.r_3, runLaterLast.sl.r_4, runLaterLast.sl.r_5, runLaterLast.sl.r_6, runLaterLast.sl.r_7, runLaterLast.sl.r_8, runLaterLast.sl.r_9, runLaterLast.sl.r_10, runLaterLast.sl.r_11, runLaterLast.sl.r_12, runLaterLast.sl.r_13, runLaterLast.sl.r_14, runLaterLast.sl.H13_1, runLaterLast.sl.v145, View.readCov_cons_toLoadRect, runLaterLast.sl.v146, runLaterLast.sl.v146_1, runLaterLast.sl.v146_2, runLaterLast.sl.v146_3, runLaterLast.sl.v146_4, laterRow, dzLo, dzHi, View.readAt_eq_ld, harg2.read_unread, harg3.read_unread, harg4.read_unread, harg5.read_unread, harg6.read_unread, harg7.read_unread, harg8.read_unread, harg11.read_unread, harg13.read_unread, ld_row i x11 1 2 _ (k0_off16_inb i h12) (off16 i), ld_row i x11 1 1 _ (k0_off14_inb i h10) (off14 i), ld_row i x11 1 0 _ (k0_off12_inb i h8) (off12 i), ld_row i x11 0 2 _ (k0_off9_inb i h6) (off9 i), ld_row i x11 0 1 _ (k0_off7_inb i h4) (off7 i), ld_row i x11 0 0 _ (k0_off5_inb i h2) (off5 i)]]
  rw [read_rows arg11.view _ (i 1).val (laterRow i x2 x3 x4 x6 x7 x11) _ _ _ _ _ _ _ _ _ _ _ _ (off16 i) (off14 i) (off12 i) (off9 i) (off7 i) (off5 i), harg11.read_unread]
  unfold filt; rw [if_neg hi]

theorem carryLaterLast : arg13.view.read (Elt F) (arg13.view.writes (Elt F) (harg13.unread x13) (runLaterLast c i arg2 harg2 arg3 harg3 arg4 harg4 arg5 harg5 arg6 harg6 arg7 harg7 arg8 harg8 arg10 harg10 arg11 harg11 arg12 harg12 arg13 harg13 h1 h2 h3 h4 h5 h6 h7 h8 h9 h10 h11 h12 h13 h14 h15 x2 x3 x4 x5 x6 x7 x8 x11 x13).2.2.1) = dhNext i x3 x4 x5 x6 x7 x8 x13 := by
  rw [show (runLaterLast c i arg2 harg2 arg3 harg3 arg4 harg4 arg5 harg5 arg6 harg6 arg7 harg7 arg8 harg8 arg10 harg10 arg11 harg11 arg12 harg12 arg13 harg13 h1 h2 h3 h4 h5 h6 h7 h8 h9 h10 h11 h12 h13 h14 h15 x2 x3 x4 x5 x6 x7 x8 x11 x13).2.2.1 = [⟨Rect.unit ![0, 0] S256x1024.size inb_S256x1024_S256x1024_0_0, dhNext i x3 x4 x5 x6 x7 x8 x13⟩] from by
    unfold runLaterLast; simp only [runLaterLast.sl.r, runLaterLast.sl.r_1, runLaterLast.sl.r_2, runLaterLast.sl.r_3, runLaterLast.sl.r_4, runLaterLast.sl.r_5, runLaterLast.sl.r_6, runLaterLast.sl.r_7, runLaterLast.sl.r_8, runLaterLast.sl.r_9, runLaterLast.sl.r_10, runLaterLast.sl.r_11, runLaterLast.sl.r_12, runLaterLast.sl.r_13, runLaterLast.sl.r_14, runLaterLast.sl.H13_1, runLaterLast.sl.v145, View.readCov_cons_toLoadRect, dhNext, dhLo, tapLo, tapHi, dzLo, dzHi, View.readAt_eq_ld, harg2.read_unread, harg3.read_unread, harg4.read_unread, harg5.read_unread, harg6.read_unread, harg7.read_unread, harg8.read_unread, harg11.read_unread, harg13.read_unread]]
  exact View.read_writes_full _ _ _ _ _

theorem outLaterLast (f : arg12.view.ty.Contents (Elt F)) : arg12.view.read (Elt F) (arg12.view.writes (Elt F) f (runLaterLast c i arg2 harg2 arg3 harg3 arg4 harg4 arg5 harg5 arg6 harg6 arg7 harg7 arg8 harg8 arg10 harg10 arg11 harg11 arg12 harg12 arg13 harg13 h1 h2 h3 h4 h5 h6 h7 h8 h9 h10 h11 h12 h13 h14 h15 x2 x3 x4 x5 x6 x7 x8 x11 x13).2.2.2.1) = k0_pay2 (dhNext i x3 x4 x5 x6 x7 x8 x13) := by
  rw [show (runLaterLast c i arg2 harg2 arg3 harg3 arg4 harg4 arg5 harg5 arg6 harg6 arg7 harg7 arg8 harg8 arg10 harg10 arg11 harg11 arg12 harg12 arg13 harg13 h1 h2 h3 h4 h5 h6 h7 h8 h9 h10 h11 h12 h13 h14 h15 x2 x3 x4 x5 x6 x7 x8 x11 x13).2.2.2.1 = [⟨Rect.unit ![0, 0] S256x1024.size inb_S256x1024_S256x1024_0_0, k0_pay2 (dhNext i x3 x4 x5 x6 x7 x8 x13)⟩] from by
    unfold runLaterLast; simp only [runLaterLast.sl.r, runLaterLast.sl.r_1, runLaterLast.sl.r_2, runLaterLast.sl.r_3, runLaterLast.sl.r_4, runLaterLast.sl.r_5, runLaterLast.sl.r_6, runLaterLast.sl.r_7, runLaterLast.sl.r_8, runLaterLast.sl.r_9, runLaterLast.sl.r_10, runLaterLast.sl.r_11, runLaterLast.sl.r_12, runLaterLast.sl.r_13, runLaterLast.sl.r_14, runLaterLast.sl.H13_1, runLaterLast.sl.v145, View.readCov_cons_toLoadRect, dhNext, dhLo, tapLo, tapHi, dzLo, dzHi, View.readAt_eq_ld, harg2.read_unread, harg3.read_unread, harg4.read_unread, harg5.read_unread, harg6.read_unread, harg7.read_unread, harg8.read_unread, harg11.read_unread, harg13.read_unread]]
  exact View.read_writes_full _ _ _ _ _

end LaterLast

end Cert.Kernel7Ideal.Gate

end
-- ==== Proof.GateBody.lean ====
/- Hand-written, untrusted: the body of the FFN gate's gradient at a grid point, whatever the two buffers that live across the grid held. -/
module

public import proofs.«01_k».proof.Proof.GateReads
public import Idealize.ShloMosaic.Lib.Pipeline.DatRel
public import Idealize.ShloMosaic.Lib.Pipeline.ArrRel
public import Idealize.ShloMosaic.Lib.Pipeline.FrameBody

@[expose] public section

set_option maxRecDepth 16384

noncomputable section

namespace Cert.Kernel7Ideal.Gate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.Kernel7Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two buffers that live across the grid hold -/

/-- The carried rows after the first `n` points, started at contents `d`. -/
def rowsHist (c : Dev nD) (d : Vec F S256x1024 .f32) : ℕ → Vec F S256x1024 .f32
  | 0 => d
  | n + 1 => if h : n < cfg0.N then
      (fun t : Fin cfg0.N => carry (grid0.coords t) (iblk m c 1 t) (iblk m c 2 t) (iblk m c 3 t) (iblk m c 4 t) (iblk m c 5 t) (iblk m c 6 t) (rowsHist c d n)) ⟨n, h⟩ else rowsHist c d n

/-- The filter gradient after the first `n` points, started at contents `d`. -/
def filtHist (c : Dev nD) (d : Vec F S2x4x3x704 .f32) : ℕ → Vec F S2x4x3x704 .f32
  | 0 => d
  | n + 1 => if h : n < cfg0.N then
      (fun t : Fin cfg0.N => filt (grid0.coords t) (iblk m c 0 t) (iblk m c 1 t) (iblk m c 2 t) (iblk m c 4 t) (iblk m c 5 t) (filtHist c d n)) ⟨n, h⟩ else filtHist c d n

theorem rowsHist_succ (c : Dev nD) (d : Vec F S256x1024 .f32) (t : Fin cfg0.N) :
    rowsHist m c d (t.val + 1) = carry (grid0.coords t) (iblk m c 1 t) (iblk m c 2 t) (iblk m c 3 t) (iblk m c 4 t) (iblk m c 5 t) (iblk m c 6 t) (rowsHist m c d t.val) := by
  rw [rowsHist, dif_pos t.isLt]

theorem filtHist_succ (c : Dev nD) (d : Vec F S2x4x3x704 .f32) (t : Fin cfg0.N) :
    filtHist m c d (t.val + 1) = filt (grid0.coords t) (iblk m c 0 t) (iblk m c 1 t) (iblk m c 2 t) (iblk m c 4 t) (iblk m c 5 t) (filtHist m c d t.val) := by
  rw [filtHist, dif_pos t.isLt]

/-! ## The proof data -/

/-- The windows the body writes: what it leaves there is held to a property. -/
def marked (w : Fin cfg0.W) : Bool := match w with
  | ⟨7, _⟩ => true
  | ⟨8, _⟩ => true
  | ⟨9, _⟩ => true
  | _ => false

/-- What the body leaves at a point: the gradient of its own block; the filter gradient summed so far; at the last column
    block the carried rows, rounded. -/
def Left (c : Dev nD) (w : Fin cfg0.W) (t : Fin cfg0.N) : ((cfg0.win w).block.Idx → Elt F (cfg0.win w).elt) → Prop := match w with
  | ⟨7, _⟩ => fun X => Halves (F := F) (grid0.coords t) (iblk m c 1 t) (iblk m c 2 t) (iblk m c 3 t) (iblk m c 4 t) (iblk m c 5 t) X
  | ⟨8, _⟩ => fun X => ∃ d, X = filtHist m c d (t.val + 1)
  | ⟨9, _⟩ => fun X => t.val % 4 = 3 → ∃ d, X = k0_pay2 (rowsHist m c d (t.val + 1))
  | _ => fun _ => True

/-- The arrays as the call finds them, each input's block in its buffer, and the carried rows in the scratch buffer. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
  Φ t := iprop((∃ d, owns (c : Thread nD τ) (Memref.whole cc0_scratch0) fullShare (rowsHist m c d t.val)) ∗ ∃ r, prngReg c r)
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- The same data with the written windows held to `Left`. -/
abbrev rdats (c : Dev nD) : RDat τ (Elt F) Unit ℕ (UR sig nD τ) ℕ cfg0 c := (dats m 0 c).toRRel marked (Left m c)

/-- The buffer of the filter gradient holds the sum over the points before. -/
theorem found8 (c : Dev nD) (t : Fin cfg0.N) (Y : Vec F S2x4x3x704 .f32) (h : (rdats m c).Finds 8 t Y) :
    ∃ d, Y = filtHist m c d t.val := by
  by_cases h0 : t.val = 0
  · exact ⟨Y, by rw [h0]; rfl⟩
  · have hN : t.val < 32 := lt_of_lt_of_eq t.isLt (show cfg0.N = 32 from N_0)
    rcases (RDat.finds_of_pos (rdats m c) (w := 8) (t := t) rfl h0 Y).mp h with hf | hl
    · exact absurd ((flush0_8 _).mp hf) (by dsimp only; omega)
    · obtain ⟨d, hd⟩ := (dats m 0 c).toRRel_leaves (w := 8) rfl hl
      refine ⟨d, hd.trans ?_⟩
      rw [Nat.sub_add_cancel (Nat.pos_of_ne_zero h0)]

/-! ## The body at a point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ Y, ⌜(rdats m c).Finds 7 t Y⌝ ∗ owns (c : Thread nD τ) (st0_7 t) fullShare Y)
    ∗ (∃ Y, ⌜(rdats m c).Finds 8 t Y⌝ ∗ owns (c : Thread nD τ) (st0_8 t) fullShare Y)
    ∗ (∃ Y, ⌜(rdats m c).Finds 9 t Y⌝ ∗ owns (c : Thread nD τ) (st0_9 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ X, ⌜Left m c 7 t X⌝ ∗ owns (c : Thread nD τ) (st0_7 t) fullShare X)
    ∗ (∃ X, ⌜Left m c 8 t X⌝ ∗ owns (c : Thread nD τ) (st0_8 t) fullShare X)
    ∗ (∃ X, ⌜Left m c 9 t X⌝ ∗ owns (c : Thread nD τ) (st0_9 t) fullShare X))

theorem coords1 : ∀ t : Fin cfg0.N, (grid0.coords t 1).val = t.val % 4 :=
  (by decide +kernel : ∀ t : Fin grid0.N, (grid0.coords t 1).val = t.val % 4)

theorem carry_zero (i : grid0.Coords) (h : (i 1).val = 0) (x3 x4 x5 x6 x7 x8) (a : Vec F S256x1024 .f32) :
    carry i x3 x4 x5 x6 x7 x8 a = dhStart i x3 x4 x5 x6 x7 x8 := by unfold carry; rw [if_pos h]
theorem carry_next (i : grid0.Coords) (h : (i 1).val ≠ 0) (x3 x4 x5 x6 x7 x8) (a : Vec F S256x1024 .f32) :
    carry i x3 x4 x5 x6 x7 x8 a = dhNext i x3 x4 x5 x6 x7 x8 a := by unfold carry; rw [if_neg h]

set_option maxHeartbeats 4800000 in
theorem bodyFirstZero (c : Dev nD) (t : Fin cfg0.N) (hi : (grid0.coords t 0).val = 0) (hj : (grid0.coords t 1).val = 0) :
    bodyPre m c t ⊢ wp frame (wpE (defs₀ (F := F)) Variants.none c none) Set.univ (bodyAt0 t) (fun _ => bodyPost m c t) := by
  obtain ⟨h1, h2, h3, h4, h5, h6, h7, h8, h9, h10, h11, h12⟩ := firstYes (grid0.coords t) hi
  obtain ⟨h13, h14, h15⟩ := blockZero (grid0.coords t) hj
  unfold bodyPre bodyPost bodyAt0
  simp only [before0_0, before0_1, before0_2, before0_3, before0_4, before0_5, before0_6, after0_0, after0_1, after0_2, after0_3, after0_4, after0_5, after0_6]
  rw [show (dats m 0 c).Φ t.castSucc = iprop((∃ d, owns (c : Thread nD τ) (Memref.whole cc0_scratch0) fullShare (rowsHist m c d t.val)) ∗ ∃ r, prngReg c r) from rfl,
    show (dats m 0 c).Φ t.succ = iprop((∃ d, owns (c : Thread nD τ) (Memref.whole cc0_scratch0) fullShare (rowsHist m c d (t.val + 1))) ∗ ∃ r, prngReg c r) from rfl,
    show (dats m 0 c).owesAt () t.succ = (dats m 0 c).owesAt () t.castSucc from rfl]
  iintro ⟨⟨⟨%d, Hs⟩, Hp⟩, Ho, ⟨%d0, H0⟩, ⟨%d1, H1⟩, ⟨%d2, H2⟩, ⟨%d3, H3⟩, ⟨%d4, H4⟩, ⟨%d5, H5⟩, ⟨%d6, H6⟩, ⟨%Y7, %hY7, H7⟩, ⟨%Y8, %hY8, H8⟩, ⟨%Y9, %hY9, H9⟩⟩
  obtain ⟨e, he⟩ := found8 m c t Y8 hY8
  subst he
  iapply ((runFirstZero c (grid0.coords t) _ _ _ _ _ _ _ _ _ _ _ _ _ _ _ _ _ _ _ _ _ _ h1 h2 h3 h4 h5 h6 h7 h8 h9 h10 h11 h12 h13 h14 h15 (iblk m c 0 t) (iblk m c 1 t) (iblk m c 2 t) (iblk m c 3 t) (iblk m c 4 t) (iblk m c 5 t) (iblk m c 6 t) (filtHist m c e t.val) (rowsHist m c d t.val)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexists _; iexact H9
  isplitl [Hs]; · iexact Hs
  iintro ⟨H0, H1, H2, H3, H4, H5, H6, ⟨%e7, H7⟩, H8, ⟨%e9, H9⟩, Hs⟩
  isplitl [Hs Hp]
  · isplitl [Hs]
    · iexists d; unfold owns; iexists _; isplitr
      swap; · iexact Hs
      ipureintro
      rw [rowsHist_succ, carry_zero _ hj]
      exact carryFirstZero c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) h1 h2 h3 h4 h5 h6 h7 h8 h9 h10 h11 h12 h13 h14 h15 (iblk m c 0 t) (iblk m c 1 t) (iblk m c 2 t) (iblk m c 3 t) (iblk m c 4 t) (iblk m c 5 t) (iblk m c 6 t) (filtHist m c e t.val) (rowsHist m c d t.val) _
    · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr
    swap
    · unfold owns; iexists _; isplitr
      swap; · iexact H7
      ipureintro; rfl
    ipureintro; exact halvesFirstZero c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) h1 h2 h3 h4 h5 h6 h7 h8 h9 h10 h11 h12 h13 h14 h15 (iblk m c 0 t) (iblk m c 1 t) (iblk m c 2 t) (iblk m c 3 t) (iblk m c 4 t) (iblk m c 5 t) (iblk m c 6 t) (filtHist m c e t.val) (rowsHist m c d t.val) _
  isplitl [H8]
  · iexists _; isplitr
    swap
    · unfold owns; iexists _; isplitr
      swap; · iexact H8
      ipureintro; rfl
    ipureintro
    exact ⟨e, (rowsFirstZero c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) h1 h2 h3 h4 h5 h6 h7 h8 h9 h10 h11 h12 h13 h14 h15 (iblk m c 0 t) (iblk m c 1 t) (iblk m c 2 t) (iblk m c 3 t) (iblk m c 4 t) (iblk m c 5 t) (iblk m c 6 t) (filtHist m c e t.val) (rowsHist m c d t.val) hi).trans (filtHist_succ m c e t).symm⟩
  iexists _; isplitr
  swap; · iexact H9
  ipureintro
  exact fun h => absurd ((coords1 t).trans h) (by rw [hj]; decide)

set_option maxHeartbeats 4800000 in
theorem bodyFirstMid (c : Dev nD) (t : Fin cfg0.N) (hi : (grid0.coords t 0).val = 0) (hj : (grid0.coords t 1).val ≠ 0 ∧ (grid0.coords t 1).val ≠ 3) :
    bodyPre m c t ⊢ wp frame (wpE (defs₀ (F := F)) Variants.none c none) Set.univ (bodyAt0 t) (fun _ => bodyPost m c t) := by
  obtain ⟨h1, h2, h3, h4, h5, h6, h7, h8, h9, h10, h11, h12⟩ := firstYes (grid0.coords t) hi
  obtain ⟨h13, h14, h15⟩ := blockMid (grid0.coords t) hj
  unfold bodyPre bodyPost bodyAt0
  simp only [before0_0, before0_1, before0_2, before0_3, before0_4, before0_5, before0_6, after0_0, after0_1, after0_2, after0_3, after0_4, after0_5, after0_6]
  rw [show (dats m 0 c).Φ t.castSucc = iprop((∃ d, owns (c : Thread nD τ) (Memref.whole cc0_scratch0) fullShare (rowsHist m c d t.val)) ∗ ∃ r, prngReg c r) from rfl,
    show (dats m 0 c).Φ t.succ = iprop((∃ d, owns (c : Thread nD τ) (Memref.whole cc0_scratch0) fullShare (rowsHist m c d (t.val + 1))) ∗ ∃ r, prngReg c r) from rfl,
    show (dats m 0 c).owesAt () t.succ = (dats m 0 c).owesAt () t.castSucc from rfl]
  iintro ⟨⟨⟨%d, Hs⟩, Hp⟩, Ho, ⟨%d0, H0⟩, ⟨%d1, H1⟩, ⟨%d2, H2⟩, ⟨%d3, H3⟩, ⟨%d4, H4⟩, ⟨%d5, H5⟩, ⟨%d6, H6⟩, ⟨%Y7, %hY7, H7⟩, ⟨%Y8, %hY8, H8⟩, ⟨%Y9, %hY9, H9⟩⟩
  obtain ⟨e, he⟩ := found8 m c t Y8 hY8
  subst he
  iapply ((runFirstMid c (grid0.coords t) _ _ _ _ _ _ _ _ _ _ _ _ _ _ _ _ _ _ _ _ _ _ h1 h2 h3 h4 h5 h6 h7 h8 h9 h10 h11 h12 h13 h14 h15 (iblk m c 0 t) (iblk m c 1 t) (iblk m c 2 t) (iblk m c 3 t) (iblk m c 4 t) (iblk m c 5 t) (iblk m c 6 t) (filtHist m c e t.val) (rowsHist m c d t.val)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexists _; iexact H9
  isplitl [Hs]; · iexact Hs
  iintro ⟨H0, H1, H2, H3, H4, H5, H6, ⟨%e7, H7⟩, H8, ⟨%e9, H9⟩, Hs⟩
  isplitl [Hs Hp]
  · isplitl [Hs]
    · iexists d; unfold owns; iexists _; isplitr
      swap; · iexact Hs
      ipureintro
      rw [rowsHist_succ, carry_next _ hj.1]
      exact carryFirstMid c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) h1 h2 h3 h4 h5 h6 h7 h8 h9 h10 h11 h12 h13 h14 h15 (iblk m c 0 t) (iblk m c 1 t) (iblk m c 2 t) (iblk m c 3 t) (iblk m c 4 t) (iblk m c 5 t) (iblk m c 6 t) (filtHist m c e t.val) (rowsHist m c d t.val)
    · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr
    swap
    · unfold owns; iexists _; isplitr
      swap; · iexact H7
      ipureintro; rfl
    ipureintro; exact halvesFirstMid c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) h1 h2 h3 h4 h5 h6 h7 h8 h9 h10 h11 h12 h13 h14 h15 (iblk m c 0 t) (iblk m c 1 t) (iblk m c 2 t) (iblk m c 3 t) (iblk m c 4 t) (iblk m c 5 t) (iblk m c 6 t) (filtHist m c e t.val) (rowsHist m c d t.val) _
  isplitl [H8]
  · iexists _; isplitr
    swap
    · unfold owns; iexists _; isplitr
      swap; · iexact H8
      ipureintro; rfl
    ipureintro
    exact ⟨e, (rowsFirstMid c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) h1 h2 h3 h4 h5 h6 h7 h8 h9 h10 h11 h12 h13 h14 h15 (iblk m c 0 t) (iblk m c 1 t) (iblk m c 2 t) (iblk m c 3 t) (iblk m c 4 t) (iblk m c 5 t) (iblk m c 6 t) (filtHist m c e t.val) (rowsHist m c d t.val) hi).trans (filtHist_succ m c e t).symm⟩
  iexists _; isplitr
  swap; · iexact H9
  ipureintro
  exact fun h => absurd ((coords1 t).trans h) hj.2

set_option maxHeartbeats 4800000 in
theorem bodyFirstLast (c : Dev nD) (t : Fin cfg0.N) (hi : (grid0.coords t 0).val = 0) (hj : (grid0.coords t 1).val = 3) :
    bodyPre m c t ⊢ wp frame (wpE (defs₀ (F := F)) Variants.none c none) Set.univ (bodyAt0 t) (fun _ => bodyPost m c t) := by
  obtain ⟨h1, h2, h3, h4, h5, h6, h7, h8, h9, h10, h11, h12⟩ := firstYes (grid0.coords t) hi
  obtain ⟨h13, h14, h15⟩ := blockLast (grid0.coords t) hj
  unfold bodyPre bodyPost bodyAt0
  simp only [before0_0, before0_1, before0_2, before0_3, before0_4, before0_5, before0_6, after0_0, after0_1, after0_2, after0_3, after0_4, after0_5, after0_6]
  rw [show (dats m 0 c).Φ t.castSucc = iprop((∃ d, owns (c : Thread nD τ) (Memref.whole cc0_scratch0) fullShare (rowsHist m c d t.val)) ∗ ∃ r, prngReg c r) from rfl,
    show (dats m 0 c).Φ t.succ = iprop((∃ d, owns (c : Thread nD τ) (Memref.whole cc0_scratch0) fullShare (rowsHist m c d (t.val + 1))) ∗ ∃ r, prngReg c r) from rfl,
    show (dats m 0 c).owesAt () t.succ = (dats m 0 c).owesAt () t.castSucc from rfl]
  iintro ⟨⟨⟨%d, Hs⟩, Hp⟩, Ho, ⟨%d0, H0⟩, ⟨%d1, H1⟩, ⟨%d2, H2⟩, ⟨%d3, H3⟩, ⟨%d4, H4⟩, ⟨%d5, H5⟩, ⟨%d6, H6⟩, ⟨%Y7, %hY7, H7⟩, ⟨%Y8, %hY8, H8⟩, ⟨%Y9, %hY9, H9⟩⟩
  obtain ⟨e, he⟩ := found8 m c t Y8 hY8
  subst he
  iapply ((runFirstLast c (grid0.coords t) _ _ _ _ _ _ _ _ _ _ _ _ _ _ _ _ _ _ _ _ _ _ h1 h2 h3 h4 h5 h6 h7 h8 h9 h10 h11 h12 h13 h14 h15 (iblk m c 0 t) (iblk m c 1 t) (iblk m c 2 t) (iblk m c 3 t) (iblk m c 4 t) (iblk m c 5 t) (iblk m c 6 t) (filtHist m c e t.val) (rowsHist m c d t.val)).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexists _; iexact H9
  isplitl [Hs]; · iexact Hs
  iintro ⟨H0, H1, H2, H3, H4, H5, H6, ⟨%e7, H7⟩, H8, ⟨%e9, H9⟩, Hs⟩
  isplitl [Hs Hp]
  · isplitl [Hs]
    · iexists d; unfold owns; iexists _; isplitr
      swap; · iexact Hs
      ipureintro
      rw [rowsHist_succ, carry_next _ (by rw [hj]; decide)]
      exact carryFirstLast c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) h1 h2 h3 h4 h5 h6 h7 h8 h9 h10 h11 h12 h13 h14 h15 (iblk m c 0 t) (iblk m c 1 t) (iblk m c 2 t) (iblk m c 3 t) (iblk m c 4 t) (iblk m c 5 t) (iblk m c 6 t) (filtHist m c e t.val) (rowsHist m c d t.val)
    · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr
    swap
    · unfold owns; iexists _; isplitr
      swap; · iexact H7
      ipureintro; rfl
    ipureintro; exact halvesFirstLast c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) h1 h2 h3 h4 h5 h6 h7 h8 h9 h10 h11 h12 h13 h14 h15 (iblk m c 0 t) (iblk m c 1 t) (iblk m c 2 t) (iblk m c 3 t) (iblk m c 4 t) (iblk m c 5 t) (iblk m c 6 t) (filtHist m c e t.val) (rowsHist m c d t.val) _
  isplitl [H8]
  · iexists _; isplitr
    swap
    · unfold owns; iexists _; isplitr
      swap; · iexact H8
      ipureintro; rfl
    ipureintro
    exact ⟨e, (rowsFirstLast c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) h1 h2 h3 h4 h5 h6 h7 h8 h9 h10 h11 h12 h13 h14 h15 (iblk m c 0 t) (iblk m c 1 t) (iblk m c 2 t) (iblk m c 3 t) (iblk m c 4 t) (iblk m c 5 t) (iblk m c 6 t) (filtHist m c e t.val) (rowsHist m c d t.val) hi).trans (filtHist_succ m c e t).symm⟩
  iexists _; isplitr
  swap
  · unfold owns; iexists _; isplitr
    swap; · iexact H9
    ipureintro; rfl
  ipureintro
  exact fun _ => ⟨d, by
    rw [rowsHist_succ, carry_next _ (by rw [hj]; decide)]
    exact outFirstLast c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) h1 h2 h3 h4 h5 h6 h7 h8 h9 h10 h11 h12 h13 h14 h15 (iblk m c 0 t) (iblk m c 1 t) (iblk m c 2 t) (iblk m c 3 t) (iblk m c 4 t) (iblk m c 5 t) (iblk m c 6 t) (filtHist m c e t.val) (rowsHist m c d t.val) _⟩

set_option maxHeartbeats 4800000 in
theorem bodyLaterZero (c : Dev nD) (t : Fin cfg0.N) (hi : (grid0.coords t 0).val ≠ 0) (hj : (grid0.coords t 1).val = 0) :
    bodyPre m c t ⊢ wp frame (wpE (defs₀ (F := F)) Variants.none c none) Set.univ (bodyAt0 t) (fun _ => bodyPost m c t) := by
  obtain ⟨h1, h2, h3, h4, h5, h6, h7, h8, h9, h10, h11, h12⟩ := firstNo (grid0.coords t) hi
  obtain ⟨h13, h14, h15⟩ := blockZero (grid0.coords t) hj
  unfold bodyPre bodyPost bodyAt0
  simp only [before0_0, before0_1, before0_2, before0_3, before0_4, before0_5, before0_6, after0_0, after0_1, after0_2, after0_3, after0_4, after0_5, after0_6]
  rw [show (dats m 0 c).Φ t.castSucc = iprop((∃ d, owns (c : Thread nD τ) (Memref.whole cc0_scratch0) fullShare (rowsHist m c d t.val)) ∗ ∃ r, prngReg c r) from rfl,
    show (dats m 0 c).Φ t.succ = iprop((∃ d, owns (c : Thread nD τ) (Memref.whole cc0_scratch0) fullShare (rowsHist m c d (t.val + 1))) ∗ ∃ r, prngReg c r) from rfl,
    show (dats m 0 c).owesAt () t.succ = (dats m 0 c).owesAt () t.castSucc from rfl]
  iintro ⟨⟨⟨%d, Hs⟩, Hp⟩, Ho, ⟨%d0, H0⟩, ⟨%d1, H1⟩, ⟨%d2, H2⟩, ⟨%d3, H3⟩, ⟨%d4, H4⟩, ⟨%d5, H5⟩, ⟨%d6, H6⟩, ⟨%Y7, %hY7, H7⟩, ⟨%Y8, %hY8, H8⟩, ⟨%Y9, %hY9, H9⟩⟩
  obtain ⟨e, he⟩ := found8 m c t Y8 hY8
  subst he
  iapply ((runLaterZero c (grid0.coords t) _ _ _ _ _ _ _ _ _ _ _ _ _ _ _ _ _ _ _ _ _ _ h1 h2 h3 h4 h5 h6 h7 h8 h9 h10 h11 h12 h13 h14 h15 (iblk m c 0 t) (iblk m c 1 t) (iblk m c 2 t) (iblk m c 3 t) (iblk m c 4 t) (iblk m c 5 t) (iblk m c 6 t) (filtHist m c e t.val) (rowsHist m c d t.val)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexists _; iexact H9
  isplitl [Hs]; · iexact Hs
  iintro ⟨H0, H1, H2, H3, H4, H5, H6, ⟨%e7, H7⟩, H8, ⟨%e9, H9⟩, Hs⟩
  isplitl [Hs Hp]
  · isplitl [Hs]
    · iexists d; unfold owns; iexists _; isplitr
      swap; · iexact Hs
      ipureintro
      rw [rowsHist_succ, carry_zero _ hj]
      exact carryLaterZero c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) h1 h2 h3 h4 h5 h6 h7 h8 h9 h10 h11 h12 h13 h14 h15 (iblk m c 0 t) (iblk m c 1 t) (iblk m c 2 t) (iblk m c 3 t) (iblk m c 4 t) (iblk m c 5 t) (iblk m c 6 t) (filtHist m c e t.val) (rowsHist m c d t.val) _
    · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr
    swap
    · unfold owns; iexists _; isplitr
      swap; · iexact H7
      ipureintro; rfl
    ipureintro; exact halvesLaterZero c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) h1 h2 h3 h4 h5 h6 h7 h8 h9 h10 h11 h12 h13 h14 h15 (iblk m c 0 t) (iblk m c 1 t) (iblk m c 2 t) (iblk m c 3 t) (iblk m c 4 t) (iblk m c 5 t) (iblk m c 6 t) (filtHist m c e t.val) (rowsHist m c d t.val) _
  isplitl [H8]
  · iexists _; isplitr
    swap
    · unfold owns; iexists _; isplitr
      swap; · iexact H8
      ipureintro; rfl
    ipureintro
    exact ⟨e, (rowsLaterZero c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) h1 h2 h3 h4 h5 h6 h7 h8 h9 h10 h11 h12 h13 h14 h15 (iblk m c 0 t) (iblk m c 1 t) (iblk m c 2 t) (iblk m c 3 t) (iblk m c 4 t) (iblk m c 5 t) (iblk m c 6 t) (filtHist m c e t.val) (rowsHist m c d t.val) hi).trans (filtHist_succ m c e t).symm⟩
  iexists _; isplitr
  swap; · iexact H9
  ipureintro
  exact fun h => absurd ((coords1 t).trans h) (by rw [hj]; decide)

set_option maxHeartbeats 4800000 in
theorem bodyLaterMid (c : Dev nD) (t : Fin cfg0.N) (hi : (grid0.coords t 0).val ≠ 0) (hj : (grid0.coords t 1).val ≠ 0 ∧ (grid0.coords t 1).val ≠ 3) :
    bodyPre m c t ⊢ wp frame (wpE (defs₀ (F := F)) Variants.none c none) Set.univ (bodyAt0 t) (fun _ => bodyPost m c t) := by
  obtain ⟨h1, h2, h3, h4, h5, h6, h7, h8, h9, h10, h11, h12⟩ := firstNo (grid0.coords t) hi
  obtain ⟨h13, h14, h15⟩ := blockMid (grid0.coords t) hj
  unfold bodyPre bodyPost bodyAt0
  simp only [before0_0, before0_1, before0_2, before0_3, before0_4, before0_5, before0_6, after0_0, after0_1, after0_2, after0_3, after0_4, after0_5, after0_6]
  rw [show (dats m 0 c).Φ t.castSucc = iprop((∃ d, owns (c : Thread nD τ) (Memref.whole cc0_scratch0) fullShare (rowsHist m c d t.val)) ∗ ∃ r, prngReg c r) from rfl,
    show (dats m 0 c).Φ t.succ = iprop((∃ d, owns (c : Thread nD τ) (Memref.whole cc0_scratch0) fullShare (rowsHist m c d (t.val + 1))) ∗ ∃ r, prngReg c r) from rfl,
    show (dats m 0 c).owesAt () t.succ = (dats m 0 c).owesAt () t.castSucc from rfl]
  iintro ⟨⟨⟨%d, Hs⟩, Hp⟩, Ho, ⟨%d0, H0⟩, ⟨%d1, H1⟩, ⟨%d2, H2⟩, ⟨%d3, H3⟩, ⟨%d4, H4⟩, ⟨%d5, H5⟩, ⟨%d6, H6⟩, ⟨%Y7, %hY7, H7⟩, ⟨%Y8, %hY8, H8⟩, ⟨%Y9, %hY9, H9⟩⟩
  obtain ⟨e, he⟩ := found8 m c t Y8 hY8
  subst he
  iapply ((runLaterMid c (grid0.coords t) _ _ _ _ _ _ _ _ _ _ _ _ _ _ _ _ _ _ _ _ _ _ h1 h2 h3 h4 h5 h6 h7 h8 h9 h10 h11 h12 h13 h14 h15 (iblk m c 0 t) (iblk m c 1 t) (iblk m c 2 t) (iblk m c 3 t) (iblk m c 4 t) (iblk m c 5 t) (iblk m c 6 t) (filtHist m c e t.val) (rowsHist m c d t.val)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexists _; iexact H9
  isplitl [Hs]; · iexact Hs
  iintro ⟨H0, H1, H2, H3, H4, H5, H6, ⟨%e7, H7⟩, H8, ⟨%e9, H9⟩, Hs⟩
  isplitl [Hs Hp]
  · isplitl [Hs]
    · iexists d; unfold owns; iexists _; isplitr
      swap; · iexact Hs
      ipureintro
      rw [rowsHist_succ, carry_next _ hj.1]
      exact carryLaterMid c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) h1 h2 h3 h4 h5 h6 h7 h8 h9 h10 h11 h12 h13 h14 h15 (iblk m c 0 t) (iblk m c 1 t) (iblk m c 2 t) (iblk m c 3 t) (iblk m c 4 t) (iblk m c 5 t) (iblk m c 6 t) (filtHist m c e t.val) (rowsHist m c d t.val)
    · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr
    swap
    · unfold owns; iexists _; isplitr
      swap; · iexact H7
      ipureintro; rfl
    ipureintro; exact halvesLaterMid c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) h1 h2 h3 h4 h5 h6 h7 h8 h9 h10 h11 h12 h13 h14 h15 (iblk m c 0 t) (iblk m c 1 t) (iblk m c 2 t) (iblk m c 3 t) (iblk m c 4 t) (iblk m c 5 t) (iblk m c 6 t) (filtHist m c e t.val) (rowsHist m c d t.val) _
  isplitl [H8]
  · iexists _; isplitr
    swap
    · unfold owns; iexists _; isplitr
      swap; · iexact H8
      ipureintro; rfl
    ipureintro
    exact ⟨e, (rowsLaterMid c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) h1 h2 h3 h4 h5 h6 h7 h8 h9 h10 h11 h12 h13 h14 h15 (iblk m c 0 t) (iblk m c 1 t) (iblk m c 2 t) (iblk m c 3 t) (iblk m c 4 t) (iblk m c 5 t) (iblk m c 6 t) (filtHist m c e t.val) (rowsHist m c d t.val) hi).trans (filtHist_succ m c e t).symm⟩
  iexists _; isplitr
  swap; · iexact H9
  ipureintro
  exact fun h => absurd ((coords1 t).trans h) hj.2

set_option maxHeartbeats 4800000 in
theorem bodyLaterLast (c : Dev nD) (t : Fin cfg0.N) (hi : (grid0.coords t 0).val ≠ 0) (hj : (grid0.coords t 1).val = 3) :
    bodyPre m c t ⊢ wp frame (wpE (defs₀ (F := F)) Variants.none c none) Set.univ (bodyAt0 t) (fun _ => bodyPost m c t) := by
  obtain ⟨h1, h2, h3, h4, h5, h6, h7, h8, h9, h10, h11, h12⟩ := firstNo (grid0.coords t) hi
  obtain ⟨h13, h14, h15⟩ := blockLast (grid0.coords t) hj
  unfold bodyPre bodyPost bodyAt0
  simp only [before0_0, before0_1, before0_2, before0_3, before0_4, before0_5, before0_6, after0_0, after0_1, after0_2, after0_3, after0_4, after0_5, after0_6]
  rw [show (dats m 0 c).Φ t.castSucc = iprop((∃ d, owns (c : Thread nD τ) (Memref.whole cc0_scratch0) fullShare (rowsHist m c d t.val)) ∗ ∃ r, prngReg c r) from rfl,
    show (dats m 0 c).Φ t.succ = iprop((∃ d, owns (c : Thread nD τ) (Memref.whole cc0_scratch0) fullShare (rowsHist m c d (t.val + 1))) ∗ ∃ r, prngReg c r) from rfl,
    show (dats m 0 c).owesAt () t.succ = (dats m 0 c).owesAt () t.castSucc from rfl]
  iintro ⟨⟨⟨%d, Hs⟩, Hp⟩, Ho, ⟨%d0, H0⟩, ⟨%d1, H1⟩, ⟨%d2, H2⟩, ⟨%d3, H3⟩, ⟨%d4, H4⟩, ⟨%d5, H5⟩, ⟨%d6, H6⟩, ⟨%Y7, %hY7, H7⟩, ⟨%Y8, %hY8, H8⟩, ⟨%Y9, %hY9, H9⟩⟩
  obtain ⟨e, he⟩ := found8 m c t Y8 hY8
  subst he
  iapply ((runLaterLast c (grid0.coords t) _ _ _ _ _ _ _ _ _ _ _ _ _ _ _ _ _ _ _ _ _ _ h1 h2 h3 h4 h5 h6 h7 h8 h9 h10 h11 h12 h13 h14 h15 (iblk m c 0 t) (iblk m c 1 t) (iblk m c 2 t) (iblk m c 3 t) (iblk m c 4 t) (iblk m c 5 t) (iblk m c 6 t) (filtHist m c e t.val) (rowsHist m c d t.val)).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexists _; iexact H9
  isplitl [Hs]; · iexact Hs
  iintro ⟨H0, H1, H2, H3, H4, H5, H6, ⟨%e7, H7⟩, H8, ⟨%e9, H9⟩, Hs⟩
  isplitl [Hs Hp]
  · isplitl [Hs]
    · iexists d; unfold owns; iexists _; isplitr
      swap; · iexact Hs
      ipureintro
      rw [rowsHist_succ, carry_next _ (by rw [hj]; decide)]
      exact carryLaterLast c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) h1 h2 h3 h4 h5 h6 h7 h8 h9 h10 h11 h12 h13 h14 h15 (iblk m c 0 t) (iblk m c 1 t) (iblk m c 2 t) (iblk m c 3 t) (iblk m c 4 t) (iblk m c 5 t) (iblk m c 6 t) (filtHist m c e t.val) (rowsHist m c d t.val)
    · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr
    swap
    · unfold owns; iexists _; isplitr
      swap; · iexact H7
      ipureintro; rfl
    ipureintro; exact halvesLaterLast c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) h1 h2 h3 h4 h5 h6 h7 h8 h9 h10 h11 h12 h13 h14 h15 (iblk m c 0 t) (iblk m c 1 t) (iblk m c 2 t) (iblk m c 3 t) (iblk m c 4 t) (iblk m c 5 t) (iblk m c 6 t) (filtHist m c e t.val) (rowsHist m c d t.val) _
  isplitl [H8]
  · iexists _; isplitr
    swap
    · unfold owns; iexists _; isplitr
      swap; · iexact H8
      ipureintro; rfl
    ipureintro
    exact ⟨e, (rowsLaterLast c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) h1 h2 h3 h4 h5 h6 h7 h8 h9 h10 h11 h12 h13 h14 h15 (iblk m c 0 t) (iblk m c 1 t) (iblk m c 2 t) (iblk m c 3 t) (iblk m c 4 t) (iblk m c 5 t) (iblk m c 6 t) (filtHist m c e t.val) (rowsHist m c d t.val) hi).trans (filtHist_succ m c e t).symm⟩
  iexists _; isplitr
  swap
  · unfold owns; iexists _; isplitr
    swap; · iexact H9
    ipureintro; rfl
  ipureintro
  exact fun _ => ⟨d, by
    rw [rowsHist_succ, carry_next _ (by rw [hj]; decide)]
    exact outLaterLast c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) h1 h2 h3 h4 h5 h6 h7 h8 h9 h10 h11 h12 h13 h14 h15 (iblk m c 0 t) (iblk m c 1 t) (iblk m c 2 t) (iblk m c 3 t) (iblk m c 4 t) (iblk m c 5 t) (iblk m c 6 t) (filtHist m c e t.val) (rowsHist m c d t.val) _⟩

/-- The body at any point. -/
theorem sound_body (c : Dev nD) (t : Fin cfg0.N) :
    bodyPre m c t ⊢ wp frame (wpE (defs₀ (F := F)) Variants.none c none) Set.univ (bodyAt0 t) (fun _ => bodyPost m c t) := by
  by_cases hi : (grid0.coords t 0).val = 0 <;> by_cases h0 : (grid0.coords t 1).val = 0
  · exact bodyFirstZero m c t hi h0
  · by_cases h3 : (grid0.coords t 1).val = 3
    · exact bodyFirstLast m c t hi h3
    · exact bodyFirstMid m c t hi ⟨h0, h3⟩
  · exact bodyLaterZero m c t hi h0
  · by_cases h3 : (grid0.coords t 1).val = 3
    · exact bodyLaterLast m c t hi h3
    · exact bodyLaterMid m c t hi ⟨h0, h3⟩

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligationRel (dats (F := F) m 0 c) (defs₀ (F := F)) Variants.none () Set.univ marked (Left m c) := fun t => by
  rw [bigSep_W0, bigSep_W0, defs₀_row]
  exact triple_restated (sound_body m c t) rfl .rfl fun _ => .rfl

end Cert.Kernel7Ideal.Gate

end
-- ==== Proof.GateFrame.lean ====
/- Hand-written, untrusted: the run of the FFN gate's gradient and its frame. -/
module

public import proofs.«01_k».proof.Proof.GateBody
public import Idealize.ShloMosaic.Lib.Pipeline.DatRel
public import Idealize.ShloMosaic.Lib.Pipeline.ArrRel
public import Idealize.ShloMosaic.Lib.Pipeline.FrameBody

@[expose] public section

set_option maxRecDepth 16384

noncomputable section

namespace Cert.Kernel7Ideal.Gate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.Kernel7Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run -/

theorem enter (c : Dev nD) : Pipeline.ΦA spec0 c ⊢ (dats (F := F) m 0 c).Φ 0 := by
  show _ ⊢ iprop((∃ d, owns (c : Thread nD τ) (Memref.whole cc0_scratch0) fullShare (rowsHist m c d 0)) ∗ ∃ r, prngReg c r)
  unfold Pipeline.ΦA
  rw [scopedRest0_eq c]
  iintro ⟨⟨%f, H⟩, Hp⟩
  isplitl [H]
  · iexists f; rw [show rowsHist m c f 0 = f from rfl, owns_whole]; iexact H
  · iexact Hp

theorem leave (c : Dev nD) : (dats (F := F) m 0 c).Φ (Fin.last cfg0.N) ⊢ Pipeline.ΦA spec0 c := by
  show iprop((∃ d, owns (c : Thread nD τ) (Memref.whole cc0_scratch0) fullShare (rowsHist m c d cfg0.N)) ∗ ∃ r, prngReg c r) ⊢ _
  unfold Pipeline.ΦA
  rw [scopedRest0_eq c]
  iintro ⟨⟨%d, H⟩, Hp⟩
  isplitl [H]
  · iexists rowsHist m c d cfg0.N; rw [← owns_whole]; iexact H
  · iexact Hp

set_option backward.isDefEq.respectTransparency.types false in
/-- The call runs; at its end every array is one the proof data allow, and every semaphore counter is zero. -/
theorem run_main_quiescent : θ_run defs (onTc (τ := τ) (main (F := F))) (s₀ m ρ)
    (fun r => (RDat.FramePost cfg0 (rdats m) (V m)) r ∧ r.2.sem = fun _ => 0) :=
  Pipeline.RDat.θ_run_frame_track_shared (Q' := _) cfgs (0 : Fin 1) launch₀0 defs₀ Variants.none (rdats m) m ρ main
    (hbody := fun c => (body_obligation m c).toRRel) (hq := fun _ _ _ => rfl)
    (howed := fun _ _ => rfl) (V := V m) (hmain := hmain m Variants.none) (hA := A_eq m) (hin := enter m) (hout := leave m)

/-! Each argument array after the run. -/

theorem in0 (r : PUnit × MemSt nD τ sig (Elt F)) (h : RDat.FramePost cfg0 (rdats m) (V m) r) (c : Dev nD) :
    r.2.mem ((c.tc : Thread nD τ).loc main_arg0) = V m c main_arg0 :=
  (h.arr_in c 0 rfl).trans (A_eq m c 0)
theorem in3 (r : PUnit × MemSt nD τ sig (Elt F)) (h : RDat.FramePost cfg0 (rdats m) (V m) r) (c : Dev nD) :
    r.2.mem ((c.tc : Thread nD τ).loc main_arg1) = V m c main_arg1 :=
  (h.arr_in c 3 rfl).trans (A_eq m c 3)
theorem in5 (r : PUnit × MemSt nD τ sig (Elt F)) (h : RDat.FramePost cfg0 (rdats m) (V m) r) (c : Dev nD) :
    r.2.mem ((c.tc : Thread nD τ).loc main_arg2) = V m c main_arg2 :=
  (h.arr_in c 5 rfl).trans (A_eq m c 5)
theorem in6 (r : PUnit × MemSt nD τ sig (Elt F)) (h : RDat.FramePost cfg0 (rdats m) (V m) r) (c : Dev nD) :
    r.2.mem ((c.tc : Thread nD τ).loc main_arg3) = V m c main_arg3 :=
  (h.arr_in c 6 rfl).trans (A_eq m c 6)
theorem in9 (r : PUnit × MemSt nD τ sig (Elt F)) (h : RDat.FramePost cfg0 (rdats m) (V m) r) (c : Dev nD) :
    r.2.mem ((c.tc : Thread nD τ).loc main_arg4) = V m c main_arg4 :=
  (h c).2 main_arg4 (Pipeline.mem_restRefs_of main_arg4 (by decide) (by decide))

/-- The argument arrays of the call end unchanged. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨(in0 m r h.1 c).trans (V_main_arg0 m c), (in3 m r h.1 c).trans (V_main_arg1 m c),
      (in5 m r h.1 c).trans (V_main_arg2 m c), (in6 m r h.1 c).trans (V_main_arg3 m c), (in9 m r h.1 c).trans (V_main_arg4 m c)⟩, h.2⟩)
    (run_main_quiescent m ρ)

end Cert.Kernel7Ideal.Gate

end
-- ==== Proof.GateHost.lean ====
/-
  The reference's gradient of the conv FFN's gate, cut into named steps, and each step read at an index.
-/
module

public import proofs.«01_k».proof.Proof.Gen.Reference7Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.Reference7Ideal.Gate

open Cert.Reference7Ideal Cert.Reference7Ideal.Gen

abbrev Cols := FVec Ideal S2x4x2048x704 .f32
abbrev Taps := FVec Ideal S2x4x3x704 .f32
abbrev Half := FVec Ideal S4x2048x704 .f32

/-- The filter's taps, each over the rows. -/
def tap0 (cw : Taps) : Cols := broadcastInDim S2x4x2048x704 ![0, 1, 2, 3] bcast_S2x4x1x704_S2x4x2048x704_0_1_2_3 (extractStridedSlice S2x4x1x704 ![0, 0, 0, 0] cw slices_S2x4x3x704_S2x4x1x704_0_0_0_0)
def tap1 (cw : Taps) : Cols := broadcastInDim S2x4x2048x704 ![0, 1, 2, 3] bcast_S2x4x1x704_S2x4x2048x704_0_1_2_3 (extractStridedSlice S2x4x1x704 ![0, 0, 1, 0] cw slices_S2x4x3x704_S2x4x1x704_0_0_1_0)
def tap2 (cw : Taps) : Cols := broadcastInDim S2x4x2048x704 ![0, 1, 2, 3] bcast_S2x4x1x704_S2x4x2048x704_0_1_2_3 (extractStridedSlice S2x4x1x704 ![0, 0, 2, 0] cw slices_S2x4x3x704_S2x4x1x704_0_0_2_0)

/-- The columns one and two rows later, zeros first. -/
def back1 (u : Cols) : Cols :=
  concatenate S2x4x2048x704 2 [⟨S2x4x1x704, broadcastInDim S2x4x1x704 ![] bcast_S_S2x4x1x704 (constant (F := Ideal) S_ .f32 0x00000000#32)⟩, ⟨S2x4x2047x704, extractStridedSlice S2x4x2047x704 ![0, 0, 0, 0] u slices_S2x4x2048x704_S2x4x2047x704_0_0_0_0⟩] concatenates_S2x4x1x704_S2x4x2047x704_S2x4x2048x704_d2
def back2 (u : Cols) : Cols :=
  concatenate S2x4x2048x704 2 [⟨S2x4x2x704, broadcastInDim S2x4x2x704 ![] bcast_S_S2x4x2x704 (constant (F := Ideal) S_ .f32 0x00000000#32)⟩, ⟨S2x4x2046x704, extractStridedSlice S2x4x2046x704 ![0, 0, 0, 0] u slices_S2x4x2048x704_S2x4x2046x704_0_0_0_0⟩] concatenates_S2x4x2x704_S2x4x2046x704_S2x4x2048x704_d2

/-- The causal convolution along the rows. -/
def conv (u : Cols) (cw : Taps) : Cols :=
  addf (addf (addf (broadcastInDim S2x4x2048x704 ![] bcast_S_S2x4x2048x704 (constant S_ .f32 0x00000000#32)) (mulf (tap0 cw) (back2 u))) (mulf (tap1 cw) (back1 u))) (mulf (tap2 cw) u)

/-- Its two halves: what goes into the gate, and what the gate multiplies. -/
def gz (z : Cols) : Half := shapeCast _ (extractStridedSlice S1x4x2048x704 ![0, 0, 0, 0] z slices_S2x4x2048x704_S1x4x2048x704_0_0_0_0) shapeCasts_S1x4x2048x704_S4x2048x704
def uz (z : Cols) : Half := shapeCast _ (extractStridedSlice S1x4x2048x704 ![1, 0, 0, 0] z slices_S2x4x2048x704_S1x4x2048x704_1_0_0_0) shapeCasts_S1x4x2048x704_S4x2048x704

def ones : Half := broadcastInDim S4x2048x704 ![] bcast_S_S4x2048x704 (constant S_ .f32 0x3F800000#32)
/-- The logistic function. -/
def sigm (x : Half) : Half := Host.divf ones (addf ones (Host.exp (Host.negf x)))

/-- The cotangents of the two halves. -/
def dGate (z : Cols) (da : Half) : Half :=
  addf (mulf (mulf da (uz z)) (sigm (gz z))) (mulf (mulf (gz z) (mulf da (uz z))) (mulf (sigm (gz z)) (subf ones (sigm (gz z)))))
def dUp (z : Cols) (da : Half) : Half := mulf (mulf (gz z) (sigm (gz z))) da

/-- The cotangent of the convolution's output. -/
def dz (z : Cols) (da : Half) : Cols :=
  addf (pad S2x4x2048x704 ![1, 0, 0, 0] ![0, 0, 0, 0] ![0, 0, 0, 0] (broadcastInDim S1x4x2048x704 ![1, 2, 3] bcast_S4x2048x704_S1x4x2048x704_1_2_3 (dUp z da)) (constant (F := Ideal) S_ .f32 0x00000000#32) pads_S1x4x2048x704_S2x4x2048x704_100_000_000_000 h_S_)
    (pad S2x4x2048x704 ![0, 0, 0, 0] ![1, 0, 0, 0] ![0, 0, 0, 0] (broadcastInDim S1x4x2048x704 ![1, 2, 3] bcast_S4x2048x704_S1x4x2048x704_1_2_3 (dGate z da)) (constant (F := Ideal) S_ .f32 0x00000000#32) pads_S1x4x2048x704_S2x4x2048x704_010_000_000_000 h_S_)

/-- The gradient to the columns. -/
def du (cw : Taps) (d : Cols) : Cols :=
  addf (addf (mulf (tap2 cw) d)
      (pad S2x4x2048x704 ![0, 0, 0, 0] ![0, 0, 1, 0] ![0, 0, 0, 0] (extractStridedSlice S2x4x2047x704 ![0, 0, 1, 0] (mulf (tap1 cw) d) slices_S2x4x2048x704_S2x4x2047x704_0_0_1_0) (constant (F := Ideal) S_ .f32 0x00000000#32) pads_S2x4x2047x704_S2x4x2048x704_000_000_010_000 h_S_))
    (pad S2x4x2048x704 ![0, 0, 0, 0] ![0, 0, 2, 0] ![0, 0, 0, 0] (extractStridedSlice S2x4x2046x704 ![0, 0, 2, 0] (mulf (tap0 cw) d) slices_S2x4x2048x704_S2x4x2046x704_0_0_2_0) (constant (F := Ideal) S_ .f32 0x00000000#32) pads_S2x4x2046x704_S2x4x2048x704_000_000_020_000 h_S_)

/-- One tap's gradient: the products summed over the rows. -/
def rowSum (d x : Cols) : FVec Ideal S2x4x1x704 .f32 :=
  shapeCast _ (Host.reduceAdd (mulf d x) (constant (F := Ideal) S_ .f32 0x00000000#32) reducesTo_S2x4x2048x704_S2x4x704_d2 h_S_) shapeCasts_S2x4x704_S2x4x1x704

/-- The gradient to the filter. -/
def dcw (d u : Cols) : Taps :=
  addf (addf (pad S2x4x3x704 ![0, 0, 2, 0] ![0, 0, 0, 0] ![0, 0, 0, 0] (rowSum d u) (constant (F := Ideal) S_ .f32 0x00000000#32) pads_S2x4x1x704_S2x4x3x704_000_000_200_000 h_S_)
      (pad S2x4x3x704 ![0, 0, 1, 0] ![0, 0, 1, 0] ![0, 0, 0, 0] (rowSum d (back1 u)) (constant (F := Ideal) S_ .f32 0x00000000#32) pads_S2x4x1x704_S2x4x3x704_000_000_110_000 h_S_))
    (pad S2x4x3x704 ![0, 0, 0, 0] ![0, 0, 2, 0] ![0, 0, 0, 0] (rowSum d (back2 u)) (constant (F := Ideal) S_ .f32 0x00000000#32) pads_S2x4x1x704_S2x4x3x704_000_000_020_000 h_S_)

/-- The gradient to the rows before the up projection. -/
def dh (x : Cols) (w : FVec Ideal S2x4x1024x704 .bf16) : FVec Ideal S2048x1024 .f32 :=
  Host.dotGeneral dot_S2x4x704x2048_S2x4x1024x704_S2048x1024_012_013_3_2_n_n none (transpose S2x4x704x2048 [0, 1, 3, 2] x transposes_S2x4x2048x704_S2x4x704x2048_0_1_3_2) (extf .f32 w bitsLt_bf16_f32)

variable (m : (ℓ : Loc nD τ sig) → Buf (Elt Ideal) ℓ) (c : Dev nD)

/-- The reference's arguments in exact arithmetic. -/
def argU : Cols := extf .f32 (m ((c.tc : Thread nD τ).loc main_arg0) : FVec Ideal S2x4x2048x704 .bf16) bitsLt_bf16_f32
def argW : Taps := m ((c.tc : Thread nD τ).loc main_arg1)
def argA : Half := extf .f32 (m ((c.tc : Thread nD τ).loc main_arg2) : FVec Ideal S4x2048x704 .bf16) bitsLt_bf16_f32
def argP : FVec Ideal S2x4x1024x704 .bf16 := m ((c.tc : Thread nD τ).loc main_arg3)

abbrev argD : Cols := dz (conv (argU m c) (argW m c)) (argA m c)

theorem out0_eq : Value.res_main_v67 m c = truncf .bf16 (du (argW m c) (argD m c)) bitsLt_bf16_f32 := rfl
theorem out1_eq : Value.res_main_v66 m c = dcw (argD m c) (argU m c) := rfl
theorem out2_eq : Value.res_main_v75 m c = truncf .bf16 (dh (extf .f32 (truncf .bf16 (du (argW m c) (argD m c)) bitsLt_bf16_f32) bitsLt_bf16_f32) (argP m c)) bitsLt_bf16_f32 := rfl

/-! The steps at an index. -/
section At
variable (h : Fin 2) (j : Fin 4) (s : Fin 2048) (l : Fin 704)

/-- A row of the columns, zero past the ends. -/
def row (x : Cols) (h : Fin 2) (j : Fin 4) (l : Fin 704) (s : ℕ) : EReal := if q : s < 2048 then x (ix4 h j ⟨s, q⟩ l) else 0

theorem conv_apply (u : Cols) (cw : Taps) :
    conv u cw (ix4 h j s l) = ((0 + cw (ix4 h j 0 l) * back2 u (ix4 h j s l)) + cw (ix4 h j 1 l) * back1 u (ix4 h j s l)) + cw (ix4 h j 2 l) * u (ix4 h j s l) := by
  pointwise [conv, tap0, tap1, tap2]

theorem back1_apply (u : Cols) : back1 u (ix4 h j s l) = if q : s.val < 1 then 0 else u (ix4 h j ⟨s.val - 1, by omega⟩ l) := by
  pointwise [back1]

theorem back2_apply (u : Cols) : back2 u (ix4 h j s l) = if q : s.val < 2 then 0 else u (ix4 h j ⟨s.val - 2, by omega⟩ l) := by
  pointwise [back2]

theorem dz_lo (z : Cols) (da : Half) : dz z da (ix4 0 j s l) = dGate z da (ix3 j s l) := by
  pointwise [dz]

theorem dz_hi (z : Cols) (da : Half) : dz z da (ix4 1 j s l) = dUp z da (ix3 j s l) := by
  pointwise [dz]

theorem gz_apply (z : Cols) : gz z (ix3 j s l) = z (ix4 0 j s l) := by pointwise [gz]
theorem uz_apply (z : Cols) : uz z (ix3 j s l) = z (ix4 1 j s l) := by pointwise [uz]

/-- A term that is zero past the last row, with its factor outside. -/
theorem outside (w : EReal) (x : Cols) (n k : ℕ) (hn : n + k = 2048) (q : ∀ (a : ℕ), a < n → k + a < 2048) (a : ℕ) :
    (if p : a < n then w * x (ix4 h j ⟨k + a, q a p⟩ l) else (0 : EReal)) = w * row x h j l (a + k) := by
  unfold row
  by_cases p : a < n
  · have p' : a + k < 2048 := by omega
    rw [dif_pos p, dif_pos p']
    congr 3
    exact Fin.ext (Nat.add_comm _ _)
  · have p' : ¬ a + k < 2048 := by omega
    rw [dif_neg p, dif_neg p', mul_zero]

theorem row_at (x : Cols) : row x h j l s.val = x (ix4 h j s l) := dif_pos s.isLt

theorem du_apply (cw : Taps) (d : Cols) :
    du cw d (ix4 h j s l) = (cw (ix4 h j 2 l) * row d h j l s + cw (ix4 h j 1 l) * row d h j l (s + 1)) + cw (ix4 h j 0 l) * row d h j l (s + 2) := by
  rw [row_at]
  pointwise [du, tap0, tap1, tap2]
  rw [outside h j l _ d 2047 1 rfl (fun a p => by omega), outside h j l _ d 2046 2 rfl (fun a p => by omega)]

theorem rowSum_apply (d x : Cols) : rowSum d x (ix4 h j 0 l) = ∑ s : Fin 2048, d (ix4 h j s l) * x (ix4 h j s l) := by
  pointwise [rowSum]

theorem dcw_0 (d u : Cols) : dcw d u (ix4 h j 0 l) = rowSum d (back2 u) (ix4 h j 0 l) := by pointwise [dcw]
theorem dcw_1 (d u : Cols) : dcw d u (ix4 h j 1 l) = rowSum d (back1 u) (ix4 h j 0 l) := by pointwise [dcw]
theorem dcw_2 (d u : Cols) : dcw d u (ix4 h j 2 l) = rowSum d u (ix4 h j 0 l) := by pointwise [dcw]

/-- A contraction index of the last product from its coordinates, -/
def contr3 (h : Fin 2) (j : Fin 4) (l : Fin 704) : dot_S2x4x704x2048_S2x4x1024x704_S2048x1024_012_013_3_2_n_n.contr.Idx := fun p =>
  match p with
  | ⟨0, _⟩ => h
  | ⟨1, _⟩ => j
  | ⟨2, _⟩ => l

/-- and each is one. -/
def contr3Equiv : Fin 2 × Fin 4 × Fin 704 ≃ dot_S2x4x704x2048_S2x4x1024x704_S2048x1024_012_013_3_2_n_n.contr.Idx where
  toFun k := contr3 k.1 k.2.1 k.2.2
  invFun q := (q ⟨0, by decide⟩, q ⟨1, by decide⟩, q ⟨2, by decide⟩)
  left_inv _ := rfl
  right_inv q := by
    funext p
    match p with
    | ⟨0, _⟩ => rfl
    | ⟨1, _⟩ => rfl
    | ⟨2, _⟩ => rfl

theorem lhs3 (s : Fin 2048) (k : Fin 1024) : dot_S2x4x704x2048_S2x4x1024x704_S2048x1024_012_013_3_2_n_n.lhsIdx (ix2 s k) (contr3 h j l) = ix4 h j l s := by
  funext a
  match a with
  | ⟨0, _⟩ => rfl
  | ⟨1, _⟩ => rfl
  | ⟨2, _⟩ => rfl
  | ⟨3, _⟩ => rfl

theorem rhs3 (s : Fin 2048) (k : Fin 1024) : dot_S2x4x704x2048_S2x4x1024x704_S2048x1024_012_013_3_2_n_n.rhsIdx (ix2 s k) (contr3 h j l) = ix4 h j k l := by
  funext a
  match a with
  | ⟨0, _⟩ => rfl
  | ⟨1, _⟩ => rfl
  | ⟨2, _⟩ => rfl
  | ⟨3, _⟩ => rfl

theorem dot3 (x : FVec Ideal S2x4x704x2048 .f32) (w : FVec Ideal S2x4x1024x704 .f32) (s : Fin 2048) (k : Fin 1024) :
    Ideal.matmul dot_S2x4x704x2048_S2x4x1024x704_S2048x1024_012_013_3_2_n_n x w (fun _ => 0) (ix2 s k) = ∑ h : Fin 2, ∑ j : Fin 4, ∑ l : Fin 704, x (ix4 h j l s) * w (ix4 h j k l) := by
  refine (zero_add _).trans ((Fintype.sum_equiv contr3Equiv (fun k' => x (ix4 k'.1 k'.2.1 k'.2.2 s) * w (ix4 k'.1 k'.2.1 k k'.2.2)) _ fun q => ?_).symm.trans ?_)
  · exact (congrArg₂ (fun a b => x a * w b) (lhs3 q.1 q.2.1 q.2.2 s k) (rhs3 q.1 q.2.1 q.2.2 s k)).symm
  · simp only [Fintype.sum_prod_type]

theorem dh_apply (x : Cols) (w : FVec Ideal S2x4x1024x704 .bf16) (s : Fin 2048) (k : Fin 1024) :
    dh x w (ix2 s k) = ∑ h : Fin 2, ∑ j : Fin 4, ∑ l : Fin 704, x (ix4 h j s l) * w (ix4 h j k l) := by
  pointwise [dh]
  rw [dot3]
  refine Finset.sum_congr rfl fun h _ => Finset.sum_congr rfl fun j _ => Finset.sum_congr rfl fun l _ => ?_
  pointwise

end At

end Cert.Reference7Ideal.Gate

end
-- ==== Proof.GateSilu.lean ====
/-
  The derivatives of `silu g · u` as the forward pass saves them, against the reference's: of finite arguments the two are the same.
-/
module

public import proofs.«01_k».proof.Proof.GateHost

@[expose] public section

set_option maxRecDepth 16384

noncomputable section

open Idealize.ShloMosaic Idealize.ShloMosaic.TcCoe Idealize.SL.Sem
open scoped BigOperators

namespace Cert.Reference7Ideal.Gate

open Cert.Reference7Ideal Cert.Reference7Ideal.Gen

/-- Neither infinity. -/
def Finite (x : EReal) : Prop := ∃ r : ℝ, x = (r : EReal)

theorem Finite.add {x y : EReal} (hx : Finite x) (hy : Finite y) : Finite (x + y) := by
  obtain ⟨a, rfl⟩ := hx; obtain ⟨b, rfl⟩ := hy; exact ⟨a + b, (EReal.coe_add a b).symm⟩
theorem Finite.mul {x y : EReal} (hx : Finite x) (hy : Finite y) : Finite (x * y) := by
  obtain ⟨a, rfl⟩ := hx; obtain ⟨b, rfl⟩ := hy; exact ⟨a * b, (EReal.coe_mul a b).symm⟩
theorem Finite.zero : Finite 0 := ⟨0, EReal.coe_zero.symm⟩
theorem Finite.sigm {x : EReal} (hx : Finite x) : Finite (Ideal.logistic x) := by
  obtain ⟨a, rfl⟩ := hx; exact ⟨_, Ideal.logistic_coe a⟩
theorem Finite.of_abs {x : EReal} (h : max x (-x) < ⊤) : Finite x := by
  induction x with
  | bot => exact absurd h (by simp)
  | coe r => exact ⟨r, rfl⟩
  | top => exact absurd h (by simp)

/-- The derivative of `silu g · u` to `g`, times a cotangent, in the two forms. -/
theorem silu_der {a u g s : EReal} (ha : Finite a) (hu : Finite u) (hg : Finite g) (hs : Finite s) :
    (a * u) * s + (g * (a * u)) * (s * (1 - s)) = a * (u * (s * (1 + g * (1 - s)))) := by
  obtain ⟨a, rfl⟩ := ha; obtain ⟨u, rfl⟩ := hu; obtain ⟨g, rfl⟩ := hg; obtain ⟨s, rfl⟩ := hs
  rw [← EReal.coe_one]
  simp only [← EReal.coe_mul, ← EReal.coe_add, ← EReal.coe_sub]
  congr 1
  ring

/-- What the forward pass saves: the two derivatives. -/
def facLo (z : Cols) : Half := mulf (uz z) (mulf (sigm (gz z)) (addf ones (mulf (gz z) (subf ones (sigm (gz z))))))
def facHi (z : Cols) : Half := mulf (gz z) (sigm (gz z))

section At
variable (j : Fin 4) (s : Fin 2048) (l : Fin 704)

theorem sigm_apply (x : Half) : sigm x (ix3 j s l) = Ideal.logistic (x (ix3 j s l)) := by
  rw [Ideal.logistic]
  pointwise [sigm, ones]

theorem facLo_apply (z : Cols) : facLo z (ix3 j s l)
    = uz z (ix3 j s l) * (sigm (gz z) (ix3 j s l) * (1 + gz z (ix3 j s l) * (1 - sigm (gz z) (ix3 j s l)))) := by
  generalize hS : sigm (gz z) = S
  generalize hU : uz z = U
  generalize hG : gz z = G
  rw [facLo, hS, hU, hG]
  pointwise [ones]

theorem dGate_apply (z : Cols) (da : Half) : dGate z da (ix3 j s l)
    = (da (ix3 j s l) * uz z (ix3 j s l)) * sigm (gz z) (ix3 j s l) + (gz z (ix3 j s l) * (da (ix3 j s l) * uz z (ix3 j s l))) * (sigm (gz z) (ix3 j s l) * (1 - sigm (gz z) (ix3 j s l))) := by
  generalize hS : sigm (gz z) = S
  generalize hU : uz z = U
  generalize hG : gz z = G
  rw [dGate, hS, hU, hG]
  pointwise [ones]

theorem dUp_apply (z : Cols) (da : Half) : dUp z da (ix3 j s l) = da (ix3 j s l) * facHi z (ix3 j s l) :=
  mul_comm (G := EReal) _ _

/-- The convolution of finite columns with a finite filter is finite. -/
theorem conv_finite (h : Fin 2) (u : Cols) (cw : Taps) (hu : ∀ i, Finite (u i)) (hw : ∀ i, Finite (cw i)) : Finite (conv u cw (ix4 h j s l)) := by
  rw [conv_apply, back1_apply, back2_apply]
  refine (((Finite.zero.add ((hw _).mul ?_)).add ((hw _).mul ?_)).add ((hw _).mul (hu _)))
  · split
    · exact Finite.zero
    · exact hu _
  · split
    · exact Finite.zero
    · exact hu _

/-- The gate half's cotangent is the cotangent times the saved derivative. -/
theorem dGate_eq (u : Cols) (cw : Taps) (da : Half) (hu : ∀ i, Finite (u i)) (hw : ∀ i, Finite (cw i)) (ha : ∀ i, Finite (da i)) :
    dGate (conv u cw) da (ix3 j s l) = da (ix3 j s l) * facLo (conv u cw) (ix3 j s l) := by
  have hg : Finite (gz (conv u cw) (ix3 j s l)) := by rw [gz_apply]; exact conv_finite j s l 0 u cw hu hw
  have hz : Finite (uz (conv u cw) (ix3 j s l)) := by rw [uz_apply]; exact conv_finite j s l 1 u cw hu hw
  have hs : Finite (sigm (gz (conv u cw)) (ix3 j s l)) := by rw [sigm_apply]; exact hg.sigm
  rw [dGate_apply, facLo_apply]
  exact silu_der (ha _) hz hg hs

end At

end Cert.Reference7Ideal.Gate

end
-- ==== Proof.GateSaved.lean ====
/-
  The derivatives that the host lines save, at an index, and the grid's order.
-/
module

public import proofs.«01_k».proof.Proof.GateFrame
public import proofs.«01_k».proof.Proof.GateSilu
public import Idealize.ShloMosaic.Lib.Claim

@[expose] public section

set_option maxRecDepth 16384

noncomputable section

open Idealize.ShloMosaic Idealize.ShloMosaic.TcCoe Idealize.SL.Sem
open scoped BigOperators

namespace Cert.Kernel7Ideal.Gate

open Cert.Kernel7Ideal Cert.Kernel7Ideal.Gen
open Cert.Reference7Ideal.Gate (Cols Taps Half conv facLo facHi gz uz sigm)

variable (m : (ℓ : Loc nD τ sig) → Buf (Elt Ideal) ℓ) (c : Dev nD)

/-- The arguments. -/
def arrU : FVec Ideal S2x4x2048x704 .bf16 := m ((c : Thread nD τ).loc main_arg0)
def arrW : FVec Ideal S2x4x3x704 .f32 := m ((c : Thread nD τ).loc main_arg1)
def arrA : FVec Ideal S4x2048x704 .bf16 := m ((c : Thread nD τ).loc main_arg2)
def arrP : FVec Ideal S2x4x1024x704 .bf16 := m ((c : Thread nD τ).loc main_arg3)
/-- The saved derivatives. -/
def arrZ : FVec Ideal S2x4x2048x704 .bf16 := V m c main_v43

/-- The convolution that the host lines compute. -/
def hostConv : Cols := conv (extf .f32 (arrU m c) bitsLt_bf16_f32) (arrW m c)

theorem arrZ_eq : arrZ m c = truncf .bf16 (concatenate S2x4x2048x704 0 [⟨S1x4x2048x704, broadcastInDim S1x4x2048x704 ![1, 2, 3] bcast_S4x2048x704_S1x4x2048x704_1_2_3 (facLo (hostConv m c))⟩,
    ⟨S1x4x2048x704, broadcastInDim S1x4x2048x704 ![1, 2, 3] bcast_S4x2048x704_S1x4x2048x704_1_2_3 (facHi (hostConv m c))⟩] concatenates_S1x4x2048x704_S1x4x2048x704_S2x4x2048x704_d0) bitsLt_bf16_f32 := by
  unfold arrZ
  entry_read
  rfl

theorem arrZ_lo (j : Fin 4) (s : Fin 2048) (l : Fin 704) : arrZ m c (ix4 0 j s l) = facLo (hostConv m c) (ix3 j s l) := by
  rw [arrZ_eq]
  generalize facLo (hostConv m c) = x
  generalize facHi (hostConv m c) = y
  pointwise

theorem arrZ_hi (j : Fin 4) (s : Fin 2048) (l : Fin 704) : arrZ m c (ix4 1 j s l) = facHi (hostConv m c) (ix3 j s l) := by
  rw [arrZ_eq]
  generalize facLo (hostConv m c) = x
  generalize facHi (hostConv m c) = y
  pointwise

end Cert.Kernel7Ideal.Gate

end
-- ==== Proof.GateTile.lean ====
/-
  What a grid point of the gate's gradient computes, at an index: the cotangents of its rows with the rows below, the gradient to
  the columns, the sums of the filter's gradient and the products with the matrix.
-/
module

public import proofs.«01_k».proof.Proof.GateVals
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.Kernel7Ideal.Gate

open Cert.Kernel7Ideal Cert.Kernel7Ideal.Gen

/-- Whether the rows below a tile are rows of the array: they aren't at the last tile. -/
def keep (i : grid0.Coords) : EReal := if (i 0).val < 7 then 1 else 0

theorem keep_word : ∀ n : Fin 8, (Scalar.extui (Scalar.cmpi .slt (BitVec.ofNat 32 n.val) 7#32) : BitVec 32) = if n.val < 7 then 1#32 else 0#32 := by decide +kernel

theorem keep_eq (i : grid0.Coords) : ((((Scalar.extui (Scalar.cmpi .slt (BitVec.ofNat 32 (i 0).val) 7#32) : BitVec 32).toInt : ℝ)) : EReal) = keep i := by
  rw [keep_word ⟨(i 0).val, (i 0).isLt⟩, keep]
  split
  · exact (congrArg (fun n : ℤ => ((n : ℝ) : EReal)) (by decide : (1#32 : BitVec 32).toInt = 1)).trans (by norm_num)
  · exact (congrArg (fun n : ℤ => ((n : ℝ) : EReal)) (by decide : (0#32 : BitVec 32).toInt = 0)).trans (by norm_num)

theorem off1 : ∀ i : grid0.Coords, k0_off1 i = ![0, (i 1).val, 0, 0] := by decide +kernel
theorem off2 : ∀ i : grid0.Coords, k0_off2 i = ![1, (i 1).val, 0, 0] := by decide +kernel
theorem off3 : ∀ i : grid0.Coords, k0_off3 i = ![0, (i 1).val, 0, 0] := by decide +kernel
theorem off10 : ∀ i : grid0.Coords, k0_off10 i = ![1, (i 1).val, 0, 0] := by decide +kernel

/-- The column block of a grid point. -/
abbrev colBlock (i : grid0.Coords) : Fin 4 := ⟨(i 1).val, (i 1).isLt⟩

theorem tapLo_apply (i : grid0.Coords) (x5 : Vec Ideal S2x4x3x704 .f32) (k : Fin 3) (l : Fin 704) : tapLo i x5 (ix2 k l) = x5 (ix4 0 (colBlock i) k l) := by
  have e := off1 i
  pointwise [tapLo, k0_pay3, e]
  rfl

theorem tapHi_apply (i : grid0.Coords) (x5 : Vec Ideal S2x4x3x704 .f32) (k : Fin 3) (l : Fin 704) : tapHi i x5 (ix2 k l) = x5 (ix4 1 (colBlock i) k l) := by
  have e := off2 i
  pointwise [tapHi, k0_pay4, e]
  rfl

section Rows
variable (i : grid0.Coords) (x2 x3 : FVec Ideal S2x1x256x704 .bf16) (x4 : FVec Ideal S2x1x16x704 .bf16) (x6 : FVec Ideal S1x256x704 .bf16) (x7 : FVec Ideal S1x16x704 .bf16)

theorem dzLo_apply (r : Fin 272) (l : Fin 704) : (dzLo (F := Ideal) i x3 x4 x6 x7 (ix2 r l) : EReal)
    = if q : r.val < 256 then x6 (ix3 0 ⟨r.val, q⟩ l) * x3 (ix4 0 0 ⟨r.val, q⟩ l) else x7 (ix3 0 ⟨r.val - 256, by omega⟩ l) * keep i * x4 (ix4 0 0 ⟨r.val - 256, by omega⟩ l) := by
  pointwise [dzLo, k0_pay6, k0_pay5]
  rw [keep_eq i]
  split <;> rfl

theorem dzHi_apply (r : Fin 272) (l : Fin 704) : (dzHi (F := Ideal) i x3 x4 x6 x7 (ix2 r l) : EReal)
    = if q : r.val < 256 then x6 (ix3 0 ⟨r.val, q⟩ l) * x3 (ix4 1 0 ⟨r.val, q⟩ l) else x7 (ix3 0 ⟨r.val - 256, by omega⟩ l) * keep i * x4 (ix4 1 0 ⟨r.val - 256, by omega⟩ l) := by
  pointwise [dzHi, k0_pay8, k0_pay7, k0_pay5]
  rw [keep_eq i]
  split <;> rfl

end Rows

/-- Rotations by one and two rows up, at the rows that the slice keeps. -/
theorem rot1 (s : Fin 256) (h : (s.val + 272 - 271) % 272 < 272) : (⟨(s.val + 272 - 271) % 272, h⟩ : Fin 272) = ⟨s.val + 1, by omega⟩ := Fin.ext (by show (s.val + 272 - 271) % 272 = s.val + 1; omega)
theorem rot2 (s : Fin 256) (h : (s.val + 272 - 270) % 272 < 272) : (⟨(s.val + 272 - 270) % 272, h⟩ : Fin 272) = ⟨s.val + 2, by omega⟩ := Fin.ext (by show (s.val + 272 - 270) % 272 = s.val + 2; omega)

section Steps
variable (w : FVec Ideal S3x704 .f32) (d : FVec Ideal S272x704 .f32) (s : Fin 256) (l : Fin 704)

theorem pay12_apply : k0_pay12 w d (ix2 s l)
    = (w (ix2 2 l) * d (ix2 ⟨s.val, by omega⟩ l) + w (ix2 1 l) * d (ix2 ⟨s.val + 1, by omega⟩ l)) + w (ix2 0 l) * d (ix2 ⟨s.val + 2, by omega⟩ l) := by
  pointwise [k0_pay12, k0_pay9, k0_pay10, k0_pay11]
  simp only [rot1, rot2]

theorem pay28_apply : k0_pay28 w d (ix2 s l)
    = (w (ix2 2 l) * d (ix2 ⟨s.val, by omega⟩ l) + w (ix2 1 l) * d (ix2 ⟨s.val + 1, by omega⟩ l)) + w (ix2 0 l) * d (ix2 ⟨s.val + 2, by omega⟩ l) := by
  pointwise [k0_pay28, k0_pay25, k0_pay26, k0_pay27]
  simp only [rot1, rot2]

theorem pay13_apply : k0_pay13 w d (ix4 0 0 s l) = k0_pay12 w d (ix2 s l) := by pointwise [k0_pay13]
theorem pay29_apply : k0_pay29 w d (ix4 0 0 s l) = k0_pay28 w d (ix2 s l) := by pointwise [k0_pay29]

theorem pay14_apply (x : FVec Ideal S1x1x1024x704 .bf16) (k : Fin 1024) : k0_pay14 w d x (ix2 s k) = ∑ l : Fin 704, k0_pay12 w d (ix2 s l) * x (ix4 0 0 k l) := by
  pointwise [k0_pay14]

theorem pay30_apply (a : FVec Ideal S256x1024 .f32) (y : FVec Ideal S256x704 .bf16) (x : FVec Ideal S1x1x1024x704 .bf16) (k : Fin 1024) :
    k0_pay30 a y x (ix2 s k) = a (ix2 s k) + ∑ l : Fin 704, y (ix2 s l) * x (ix4 0 0 k l) := by
  pointwise [k0_pay30]

variable (u : FVec Ideal S1x1x256x704 .bf16)

theorem pay16_apply : k0_pay16 d u (ix2 0 l) = ∑ s : Fin 256, u (ix4 0 0 s l) * d (ix2 ⟨s.val + 2, by omega⟩ l) := by
  pointwise [k0_pay16, k0_pay15, k0_pay11]
  simp only [rot1, rot2]
theorem pay17_apply : k0_pay17 d u (ix2 0 l) = ∑ s : Fin 256, u (ix4 0 0 s l) * d (ix2 ⟨s.val + 1, by omega⟩ l) := by
  pointwise [k0_pay17, k0_pay15, k0_pay10]
  simp only [rot1, rot2]
theorem pay18_apply : k0_pay18 d u (ix2 0 l) = ∑ s : Fin 256, u (ix4 0 0 s l) * d (ix2 ⟨s.val, by omega⟩ l) := by pointwise [k0_pay18, k0_pay15, k0_pay9]
theorem pay32_apply : k0_pay32 (k0_pay27 d) u (ix2 0 l) = ∑ s : Fin 256, u (ix4 0 0 s l) * d (ix2 ⟨s.val + 2, by omega⟩ l) := by
  pointwise [k0_pay32, k0_pay31, k0_pay27]
  simp only [rot1, rot2]
theorem pay33_apply : k0_pay33 (k0_pay26 d) u (ix2 0 l) = ∑ s : Fin 256, u (ix4 0 0 s l) * d (ix2 ⟨s.val + 1, by omega⟩ l) := by
  pointwise [k0_pay33, k0_pay31, k0_pay26]
  simp only [rot1, rot2]
theorem pay34_apply : k0_pay34 (k0_pay25 d) u (ix2 0 l) = ∑ s : Fin 256, u (ix4 0 0 s l) * d (ix2 ⟨s.val, by omega⟩ l) := by pointwise [k0_pay34, k0_pay31, k0_pay25]

end Steps

end Cert.Kernel7Ideal.Gate

end
-- ==== Proof.GateBlocks.lean ====
/-
  The blocks of a grid point of the gate's gradient as parts of the whole arrays, and its rows of the convolution's cotangent.
-/
module

public import proofs.«01_k».proof.Proof.GateSaved
public import proofs.«01_k».proof.Proof.GateTile

@[expose] public section

set_option maxRecDepth 16384

noncomputable section

open Idealize.ShloMosaic Idealize.ShloMosaic.TcCoe Idealize.SL.Sem
open scoped BigOperators

namespace Cert.Kernel7Ideal.Gate

open Cert.Kernel7Ideal Cert.Kernel7Ideal.Gen
open Cert.Reference7Ideal.Gate (Cols Taps Half conv facLo facHi gz uz sigm dz row du Finite dz_lo dz_hi dGate_eq dUp_apply du_apply)

theorem idx : ∀ t : Fin cfg0.N, win0_0.index t = ![0, t.val % 4, t.val / 4, 0] ∧ win0_1.index t = ![0, t.val % 4, t.val / 4, 0]
    ∧ win0_2.index t = ![0, t.val % 4, min ((t.val / 4 + 1) * 16) 127, 0] ∧ win0_3.index t = ![0, 0, 0, 0]
    ∧ win0_4.index t = ![t.val % 4, t.val / 4, 0] ∧ win0_5.index t = ![t.val % 4, min ((t.val / 4 + 1) * 16) 127, 0]
    ∧ win0_6.index t = ![0, 0, 0, 0] ∧ win0_7.index t = ![0, t.val % 4, t.val / 4, 0] ∧ win0_8.index t = ![0, 0, 0, 0]
    ∧ win0_9.index t = ![t.val / 4, 0] :=
  (by decide +kernel : ∀ t : Fin grid0.N, _)

theorem coords0 : ∀ t : Fin cfg0.N, (grid0.coords t 0).val = t.val / 4 :=
  (by decide +kernel : ∀ t : Fin grid0.N, _)

variable (m : (ℓ : Loc nD τ sig) → Buf (Elt Ideal) ℓ) (c : Dev nD)

section Point
variable (t : Fin cfg0.N) (q : Fin 8) (j : Fin 4) (hq : t.val / 4 = q.val) (hj : t.val % 4 = j.val)
include hq hj

theorem blkU (h : Fin 2) (s : Fin 256) (r : Fin 2048) (hr : r.val = 256 * q.val + s.val) (l : Fin 704) :
    iblk m c 0 t (ix4 h 0 s l) = arrU m c (ix4 h j r l) := by
  refine (congrFun (V_main_arg0 m c) _).trans (congrArg (arrU m c) (?_ : ((cfg0.win 0).blk t).view.emb _ = _))
  blk_ext [idx t, hq, hj, hr]
  all_goals omega

theorem blkZ (h : Fin 2) (s : Fin 256) (r : Fin 2048) (hr : r.val = 256 * q.val + s.val) (l : Fin 704) :
    iblk m c 1 t (ix4 h 0 s l) = arrZ m c (ix4 h j r l) := by
  refine congrArg (arrZ m c) (?_ : ((cfg0.win 1).blk t).view.emb _ = _)
  blk_ext [idx t, hq, hj, hr]
  all_goals omega

theorem blkZn (hlt : q.val < 7) (h : Fin 2) (s : Fin 16) (r : Fin 2048) (hr : r.val = 256 * q.val + 256 + s.val) (l : Fin 704) :
    iblk m c 2 t (ix4 h 0 s l) = arrZ m c (ix4 h j r l) := by
  refine congrArg (arrZ m c) (?_ : ((cfg0.win 2).blk t).view.emb _ = _)
  blk_ext [idx t, hq, hj, hr]
  all_goals omega

theorem blkA (s : Fin 256) (r : Fin 2048) (hr : r.val = 256 * q.val + s.val) (l : Fin 704) :
    iblk m c 4 t (ix3 0 s l) = arrA m c (ix3 j r l) := by
  refine (congrFun (V_main_arg2 m c) _).trans (congrArg (arrA m c) (?_ : ((cfg0.win 4).blk t).view.emb _ = _))
  blk_ext [idx t, hq, hj, hr]
  all_goals omega

theorem blkAn (hlt : q.val < 7) (s : Fin 16) (r : Fin 2048) (hr : r.val = 256 * q.val + 256 + s.val) (l : Fin 704) :
    iblk m c 5 t (ix3 0 s l) = arrA m c (ix3 j r l) := by
  refine (congrFun (V_main_arg2 m c) _).trans (congrArg (arrA m c) (?_ : ((cfg0.win 5).blk t).view.emb _ = _))
  blk_ext [idx t, hq, hj, hr]
  all_goals omega

end Point

theorem blkW (t : Fin cfg0.N) (h : Fin 2) (j : Fin 4) (k : Fin 3) (l : Fin 704) : iblk m c 3 t (ix4 h j k l) = arrW m c (ix4 h j k l) := by
  refine (congrFun (V_main_arg1 m c) _).trans (congrArg (arrW m c) (?_ : ((cfg0.win 3).blk t).view.emb _ = _))
  blk_ext [idx t]

theorem blkP (t : Fin cfg0.N) (h : Fin 2) (j : Fin 4) (k : Fin 1024) (l : Fin 704) : iblk m c 6 t (ix4 h j k l) = arrP m c (ix4 h j k l) := by
  refine (congrFun (V_main_arg3 m c) _).trans (congrArg (arrP m c) (?_ : ((cfg0.win 6).blk t).view.emb _ = _))
  blk_ext [idx t]

/-- The arguments that the claim asks to be finite. -/
structure FiniteArgs : Prop where
  u : ∀ i, Finite (arrU m c i : EReal)
  w : ∀ i, Finite (arrW m c i : EReal)
  a : ∀ i, Finite (arrA m c i : EReal)

/-- The cotangent of the convolution's output, and the gradient to its input. -/
def cot : Cols := dz (hostConv m c) (extf .f32 (arrA m c) bitsLt_bf16_f32)
def duAll : Cols := du (arrW m c) (cot m c)

theorem cot_lo (H : FiniteArgs m c) (j : Fin 4) (r : Fin 2048) (l : Fin 704) :
    (arrA m c (ix3 j r l) : EReal) * arrZ m c (ix4 0 j r l) = cot m c (ix4 0 j r l) := by
  rw [cot, dz_lo, hostConv, dGate_eq j r l (extf .f32 (arrU m c) bitsLt_bf16_f32) (arrW m c) (extf .f32 (arrA m c) bitsLt_bf16_f32) H.u H.w H.a, arrZ_lo]
  rfl

theorem cot_hi (j : Fin 4) (r : Fin 2048) (l : Fin 704) :
    (arrA m c (ix3 j r l) : EReal) * arrZ m c (ix4 1 j r l) = cot m c (ix4 1 j r l) := by
  rw [cot, dz_hi, dUp_apply, arrZ_hi]
  rfl

section Rows
variable (t : Fin cfg0.N) (q : Fin 8) (j : Fin 4) (hq : t.val / 4 = q.val) (hj : t.val % 4 = j.val)
include hq hj

theorem keep_on (hlt : q.val < 7) : keep (grid0.coords t) = 1 := if_pos (by rw [coords0, hq]; exact hlt)
theorem keep_off (hlt : ¬ q.val < 7) : keep (grid0.coords t) = 0 := if_neg (by rw [coords0, hq]; exact hlt)

abbrev dLo (t : Fin cfg0.N) : FVec Ideal S272x704 .f32 := dzLo (F := Ideal) (grid0.coords t) (iblk m c 1 t) (iblk m c 2 t) (iblk m c 4 t) (iblk m c 5 t)
abbrev dHi (t : Fin cfg0.N) : FVec Ideal S272x704 .f32 := dzHi (F := Ideal) (grid0.coords t) (iblk m c 1 t) (iblk m c 2 t) (iblk m c 4 t) (iblk m c 5 t)

theorem dLo_row (H : FiniteArgs m c) (r : Fin 272) (l : Fin 704) : dLo m c t (ix2 r l) = row (cot m c) 0 j l (256 * q.val + r.val) := by
  refine (dzLo_apply (grid0.coords t) _ _ _ _ r l).trans ?_
  have q8 := q.isLt
  have r272 := r.isLt
  unfold row
  by_cases p : r.val < 256
  · have p' : 256 * q.val + r.val < 2048 := by omega
    rw [dif_pos p, dif_pos p', ← cot_lo m c H]
    exact congrArg₂ (fun a b : EReal => a * b) (blkA m c t q j hq hj ⟨r.val, p⟩ ⟨_, p'⟩ rfl l) (blkZ m c t q j hq hj 0 ⟨r.val, p⟩ ⟨_, p'⟩ rfl l)
  · rw [dif_neg p]
    by_cases hlt : q.val < 7
    · have p' : 256 * q.val + r.val < 2048 := by omega
      rw [dif_pos p', ← cot_lo m c H, keep_on t q j hq hj hlt, mul_one]
      exact congrArg₂ (fun a b : EReal => a * b) (blkAn m c t q j hq hj hlt ⟨r.val - 256, by omega⟩ ⟨_, p'⟩ (by show 256 * q.val + r.val = 256 * q.val + 256 + (r.val - 256); omega) l)
        (blkZn m c t q j hq hj hlt 0 ⟨r.val - 256, by omega⟩ ⟨_, p'⟩ (by show 256 * q.val + r.val = 256 * q.val + 256 + (r.val - 256); omega) l)
    · have p' : ¬ 256 * q.val + r.val < 2048 := by omega
      rw [dif_neg p', keep_off t q j hq hj hlt, mul_zero, zero_mul]

theorem dHi_row (r : Fin 272) (l : Fin 704) : dHi m c t (ix2 r l) = row (cot m c) 1 j l (256 * q.val + r.val) := by
  refine (dzHi_apply (grid0.coords t) _ _ _ _ r l).trans ?_
  have q8 := q.isLt
  have r272 := r.isLt
  unfold row
  by_cases p : r.val < 256
  · have p' : 256 * q.val + r.val < 2048 := by omega
    rw [dif_pos p, dif_pos p', ← cot_hi m c]
    exact congrArg₂ (fun a b : EReal => a * b) (blkA m c t q j hq hj ⟨r.val, p⟩ ⟨_, p'⟩ rfl l) (blkZ m c t q j hq hj 1 ⟨r.val, p⟩ ⟨_, p'⟩ rfl l)
  · rw [dif_neg p]
    by_cases hlt : q.val < 7
    · have p' : 256 * q.val + r.val < 2048 := by omega
      rw [dif_pos p', ← cot_hi m c, keep_on t q j hq hj hlt, mul_one]
      exact congrArg₂ (fun a b : EReal => a * b) (blkAn m c t q j hq hj hlt ⟨r.val - 256, by omega⟩ ⟨_, p'⟩ (by show 256 * q.val + r.val = 256 * q.val + 256 + (r.val - 256); omega) l)
        (blkZn m c t q j hq hj hlt 1 ⟨r.val - 256, by omega⟩ ⟨_, p'⟩ (by show 256 * q.val + r.val = 256 * q.val + 256 + (r.val - 256); omega) l)
    · have p' : ¬ 256 * q.val + r.val < 2048 := by omega
      rw [dif_neg p', keep_off t q j hq hj hlt, mul_zero, zero_mul]

theorem block_eq : colBlock (grid0.coords t) = j := Fin.ext ((coords1 t).trans hj)

theorem wLo (k : Fin 3) (l : Fin 704) : tapLo (grid0.coords t) (iblk m c 3 t) (ix2 k l) = arrW m c (ix4 0 j k l) := by
  rw [tapLo_apply, block_eq t q j hq hj]; exact blkW m c t 0 j k l
theorem wHi (k : Fin 3) (l : Fin 704) : tapHi (grid0.coords t) (iblk m c 3 t) (ix2 k l) = arrW m c (ix4 1 j k l) := by
  rw [tapHi_apply, block_eq t q j hq hj]; exact blkW m c t 1 j k l

/-- The gradient to the convolution's input at a grid point's rows. -/
theorem duLo_at (H : FiniteArgs m c) (s : Fin 256) (r : Fin 2048) (hr : r.val = 256 * q.val + s.val) (l : Fin 704) :
    k0_pay12 (tapLo (grid0.coords t) (iblk m c 3 t)) (dLo m c t) (ix2 s l) = duAll m c (ix4 0 j r l) := by
  rw [pay12_apply, duAll, du_apply, dLo_row m c t q j hq hj H, dLo_row m c t q j hq hj H, dLo_row m c t q j hq hj H, wLo m c t q j hq hj, wLo m c t q j hq hj, wLo m c t q j hq hj, hr]
  rfl

theorem duHi_at (s : Fin 256) (r : Fin 2048) (hr : r.val = 256 * q.val + s.val) (l : Fin 704) :
    k0_pay28 (tapHi (grid0.coords t) (iblk m c 3 t)) (dHi m c t) (ix2 s l) = duAll m c (ix4 1 j r l) := by
  rw [pay28_apply, duAll, du_apply, dHi_row m c t q j hq hj, dHi_row m c t q j hq hj, dHi_row m c t q j hq hj, wHi m c t q j hq hj, wHi m c t q j hq hj, wHi m c t q j hq hj, hr]
  rfl

end Rows

end Cert.Kernel7Ideal.Gate

end
-- ==== Proof.GateFolds.lean ====
/-
  The two sums that the grid carries in the gate's gradient: the filter's gradient over the row tiles and the rows' gradient over the
  column blocks.
-/
module

public import proofs.«01_k».proof.Proof.GateBlocks

@[expose] public section

set_option maxRecDepth 16384

noncomputable section

open Idealize.ShloMosaic Idealize.ShloMosaic.TcCoe Idealize.SL.Sem
open scoped BigOperators

namespace Cert.Kernel7Ideal.Gate

open Cert.Kernel7Ideal Cert.Kernel7Ideal.Gen
open Cert.Reference7Ideal.Gate (Cols row row_at)

/-! ## What one grid point adds -/

section Tile
variable (i : grid0.Coords) (x2 : Vec Ideal S2x1x256x704 .bf16) (x3 : Vec Ideal S2x1x256x704 .bf16) (x4 : Vec Ideal S2x1x16x704 .bf16) (x5 : Vec Ideal S2x4x3x704 .f32)
  (x6 : Vec Ideal S1x256x704 .bf16) (x7 : Vec Ideal S1x16x704 .bf16) (x8 : Vec Ideal S2x4x1024x704 .bf16)

/-- The two halves' cotangents. -/
abbrev halfD (h : Fin 2) : FVec Ideal S272x704 .f32 := if h = 0 then dzLo (F := Ideal) i x3 x4 x6 x7 else dzHi (F := Ideal) i x3 x4 x6 x7

/-- The products of a grid point's rows for one tap. -/
def tapSum (h : Fin 2) (k : Fin 3) (l : Fin 704) : EReal :=
  ∑ s : Fin 256, x2 (ix4 h 0 s l) * halfD i x3 x4 x6 x7 h (ix2 ⟨s.val + (2 - k.val), by omega⟩ l)

theorem rowLo_at (s : Fin 256) (l : Fin 704) : View.ld x2 (Rect.unit ![0, 0, 0, 0] S1x1x256x704.size inb_S2x1x256x704_S1x1x256x704_0_0_0_0) (ix4 0 0 s l) = x2 (ix4 0 0 s l) := by
  pointwise
theorem rowHi_at (s : Fin 256) (l : Fin 704) : View.ld x2 (Rect.unit ![1, 0, 0, 0] S1x1x256x704.size inb_S2x1x256x704_S1x1x256x704_1_0_0_0) (ix4 0 0 s l) = x2 (ix4 1 0 s l) := by
  pointwise

theorem pay19_apply (p : FVec Ideal S1x704 .f32) (l : Fin 704) : k0_pay19 p (ix4 0 0 0 l) = p (ix2 0 l) := by pointwise [k0_pay19]
theorem pay21_apply (p : FVec Ideal S1x704 .f32) (l : Fin 704) : k0_pay21 p (ix4 0 0 0 l) = p (ix2 0 l) := by pointwise [k0_pay21]
theorem pay23_apply (p : FVec Ideal S1x704 .f32) (l : Fin 704) : k0_pay23 p (ix4 0 0 0 l) = p (ix2 0 l) := by pointwise [k0_pay23]
theorem pay20_apply (p : FVec Ideal S1x704 .f32) (o : FVec Ideal S1x1x1x704 .f32) (l : Fin 704) : k0_pay20 p o (ix4 0 0 0 l) = o (ix4 0 0 0 l) + p (ix2 0 l) := by pointwise [k0_pay20]
theorem pay22_apply (p : FVec Ideal S1x704 .f32) (o : FVec Ideal S1x1x1x704 .f32) (l : Fin 704) : k0_pay22 p o (ix4 0 0 0 l) = o (ix4 0 0 0 l) + p (ix2 0 l) := by pointwise [k0_pay22]
theorem pay24_apply (p : FVec Ideal S1x704 .f32) (o : FVec Ideal S1x1x1x704 .f32) (l : Fin 704) : k0_pay24 p o (ix4 0 0 0 l) = o (ix4 0 0 0 l) + p (ix2 0 l) := by pointwise [k0_pay24]

section Hi
variable (d : FVec Ideal S256x704 .f32) (u : FVec Ideal S1x1x256x704 .bf16) (o : FVec Ideal S1x1x1x704 .f32) (l : Fin 704)
theorem pay35_apply : k0_pay35 d u (ix4 0 0 0 l) = k0_pay32 d u (ix2 0 l) := by unfold k0_pay35; generalize k0_pay32 d u = p; pointwise
theorem pay37_apply : k0_pay37 d u (ix4 0 0 0 l) = k0_pay33 d u (ix2 0 l) := by unfold k0_pay37; generalize k0_pay33 d u = p; pointwise
theorem pay39_apply : k0_pay39 d u (ix4 0 0 0 l) = k0_pay34 d u (ix2 0 l) := by unfold k0_pay39; generalize k0_pay34 d u = p; pointwise
theorem pay36_apply : k0_pay36 d u o (ix4 0 0 0 l) = o (ix4 0 0 0 l) + k0_pay32 d u (ix2 0 l) := by unfold k0_pay36; generalize k0_pay32 d u = p; pointwise
theorem pay38_apply : k0_pay38 d u o (ix4 0 0 0 l) = o (ix4 0 0 0 l) + k0_pay33 d u (ix2 0 l) := by unfold k0_pay38; generalize k0_pay33 d u = p; pointwise
theorem pay40_apply : k0_pay40 d u o (ix4 0 0 0 l) = o (ix4 0 0 0 l) + k0_pay34 d u (ix2 0 l) := by unfold k0_pay40; generalize k0_pay34 d u = p; pointwise
end Hi

theorem firstRow_apply (h : Fin 2) (k : Fin 3) (l : Fin 704) : firstRow (F := Ideal) i x2 x3 x4 x6 x7 h k (ix4 0 0 0 l) = tapSum i x2 x3 x4 x6 x7 h k l := by
  fin_cases h <;> fin_cases k
  · refine (pay19_apply _ l).trans ((pay16_apply _ l _).trans (Finset.sum_congr rfl fun s _ => ?_))
    exact congrArg (fun e : EReal => e * _) (rowLo_at x2 s l)
  · refine (pay21_apply _ l).trans ((pay17_apply _ l _).trans (Finset.sum_congr rfl fun s _ => ?_))
    exact congrArg (fun e : EReal => e * _) (rowLo_at x2 s l)
  · refine (pay23_apply _ l).trans ((pay18_apply _ l _).trans (Finset.sum_congr rfl fun s _ => ?_))
    exact congrArg (fun e : EReal => e * _) (rowLo_at x2 s l)
  · refine (pay35_apply _ _ l).trans ((pay32_apply _ l _).trans (Finset.sum_congr rfl fun s _ => ?_))
    exact congrArg (fun e : EReal => e * _) (rowHi_at x2 s l)
  · refine (pay37_apply _ _ l).trans ((pay33_apply _ l _).trans (Finset.sum_congr rfl fun s _ => ?_))
    exact congrArg (fun e : EReal => e * _) (rowHi_at x2 s l)
  · refine (pay39_apply _ _ l).trans ((pay34_apply _ l _).trans (Finset.sum_congr rfl fun s _ => ?_))
    exact congrArg (fun e : EReal => e * _) (rowHi_at x2 s l)

theorem laterRow_apply (x : FVec Ideal S2x4x3x704 .f32) (h : Fin 2) (k : Fin 3) (l : Fin 704) :
    laterRow (F := Ideal) i x2 x3 x4 x6 x7 x h k (ix4 0 0 0 l) = (x (ix4 h (colBlock i) k l) : EReal) + tapSum i x2 x3 x4 x6 x7 h k l := by
  fin_cases h <;> fin_cases k
  · refine (pay20_apply _ _ l).trans (congrArg (fun e : EReal => _ + e) ((pay16_apply _ l _).trans (Finset.sum_congr rfl fun s _ => ?_)))
    exact congrArg (fun e : EReal => e * _) (rowLo_at x2 s l)
  · refine (pay22_apply _ _ l).trans (congrArg (fun e : EReal => _ + e) ((pay17_apply _ l _).trans (Finset.sum_congr rfl fun s _ => ?_)))
    exact congrArg (fun e : EReal => e * _) (rowLo_at x2 s l)
  · refine (pay24_apply _ _ l).trans (congrArg (fun e : EReal => _ + e) ((pay18_apply _ l _).trans (Finset.sum_congr rfl fun s _ => ?_)))
    exact congrArg (fun e : EReal => e * _) (rowLo_at x2 s l)
  · refine (pay36_apply _ _ _ l).trans (congrArg (fun e : EReal => _ + e) ((pay32_apply _ l _).trans (Finset.sum_congr rfl fun s _ => ?_)))
    exact congrArg (fun e : EReal => e * _) (rowHi_at x2 s l)
  · refine (pay38_apply _ _ _ l).trans (congrArg (fun e : EReal => _ + e) ((pay33_apply _ l _).trans (Finset.sum_congr rfl fun s _ => ?_)))
    exact congrArg (fun e : EReal => e * _) (rowHi_at x2 s l)
  · refine (pay40_apply _ _ _ l).trans (congrArg (fun e : EReal => _ + e) ((pay34_apply _ l _).trans (Finset.sum_congr rfl fun s _ => ?_)))
    exact congrArg (fun e : EReal => e * _) (rowHi_at x2 s l)

theorem filt_apply (x : FVec Ideal S2x4x3x704 .f32) (h : Fin 2) (j : Fin 4) (k : Fin 3) (l : Fin 704) :
    filt (F := Ideal) i x2 x3 x4 x6 x7 x (ix4 h j k l)
      = if j.val = (i 1).val then (if (i 0).val = 0 then tapSum i x2 x3 x4 x6 x7 h k l else (x (ix4 h j k l) : EReal) + tapSum i x2 x3 x4 x6 x7 h k l) else x (ix4 h j k l) := by
  show (if j.val = (i 1).val then (if (i 0).val = 0 then firstRow (F := Ideal) i x2 x3 x4 x6 x7 else laterRow (F := Ideal) i x2 x3 x4 x6 x7 x) h k (ix4 0 0 0 l) else x (ix4 h j k l)) = _
  by_cases e : j.val = (i 1).val
  · rw [if_pos e, if_pos e]
    by_cases f : (i 0).val = 0
    · rw [if_pos f, if_pos f]; exact firstRow_apply i x2 x3 x4 x6 x7 h k l
    · rw [if_neg f, if_neg f, show j = colBlock i from Fin.ext e]; exact laterRow_apply i x2 x3 x4 x6 x7 x h k l
  · rw [if_neg e, if_neg e]

theorem matLo_at (k : Fin 1024) (l : Fin 704) : View.ld x8 (Rect.unit (k0_off3 i) S1x1x1024x704.size (k0_off3_inb i)) (ix4 0 0 k l) = x8 (ix4 0 (colBlock i) k l) := by
  have e := off3 i
  pointwise [e]
  rfl
theorem matHi_at (k : Fin 1024) (l : Fin 704) : View.ld x8 (Rect.unit (k0_off10 i) S1x1x1024x704.size (k0_off10_inb i)) (ix4 0 0 k l) = x8 (ix4 1 (colBlock i) k l) := by
  have e := off10 i
  pointwise [e]
  rfl

/-- A grid point's product with the matrix, both halves. -/
def rowProd (s : Fin 256) (k : Fin 1024) : EReal :=
  (∑ l : Fin 704, k0_pay12 (tapLo i x5) (dzLo (F := Ideal) i x3 x4 x6 x7) (ix2 s l) * x8 (ix4 0 (colBlock i) k l))
    + ∑ l : Fin 704, k0_pay28 (tapHi i x5) (dzHi (F := Ideal) i x3 x4 x6 x7) (ix2 s l) * x8 (ix4 1 (colBlock i) k l)

theorem pay41_apply (a : FVec Ideal S256x1024 .f32) (y : FVec Ideal S256x704 .bf16) (x : FVec Ideal S1x1x1024x704 .bf16) (s : Fin 256) (k : Fin 1024) :
    k0_pay41 a y x (ix2 s k) = k0_pay30 a y x (ix2 s k) := by
  unfold k0_pay41; generalize k0_pay30 a y x = p; pointwise
theorem pay1_apply (p : FVec Ideal S256x1024 .f32) (a : FVec Ideal S256x1024 .f32) (s : Fin 256) (k : Fin 1024) :
    k0_pay1 (F := Ideal) p (View.ld a wholeAcc) (ix2 s k) = a (ix2 s k) + p (ix2 s k) := by pointwise [k0_pay1]
theorem pay2_apply (p : FVec Ideal S256x1024 .f32) (s : Fin 256) (k : Fin 1024) : k0_pay2 (F := Ideal) p (ix2 s k) = p (ix2 s k) := by pointwise [k0_pay2]

theorem prod_at (s : Fin 256) (k : Fin 1024) :
    k0_pay30 (dhLo (F := Ideal) i x3 x4 x5 x6 x7 x8) (k0_pay28 (tapHi i x5) (dzHi (F := Ideal) i x3 x4 x6 x7)) (View.ld (S := S2x4x1024x704) x8 (Rect.unit (k0_off10 i) S1x1x1024x704.size (k0_off10_inb i))) (ix2 s k)
      = rowProd i x3 x4 x5 x6 x7 x8 s k := by
  refine (pay30_apply s _ _ _ k).trans ?_
  rw [dhLo, pay14_apply]
  refine congrArg₂ (fun a b : EReal => a + b) (Finset.sum_congr rfl fun l _ => ?_) (Finset.sum_congr rfl fun l _ => ?_)
  · exact congrArg (fun e : EReal => _ * e) (matLo_at i x8 k l)
  · exact congrArg (fun e : EReal => _ * e) (matHi_at i x8 k l)

theorem carry_apply (a : FVec Ideal S256x1024 .f32) (s : Fin 256) (k : Fin 1024) :
    carry (F := Ideal) i x3 x4 x5 x6 x7 x8 a (ix2 s k) = if (i 1).val = 0 then rowProd i x3 x4 x5 x6 x7 x8 s k else (a (ix2 s k) : EReal) + rowProd i x3 x4 x5 x6 x7 x8 s k := by
  unfold carry
  by_cases e : (i 1).val = 0
  · rw [if_pos e, if_pos e, dhStart, pay41_apply, prod_at]
  · rw [if_neg e, if_neg e, dhNext, pay1_apply, prod_at]

end Tile

/-! ## The filter's gradient over the row tiles -/

variable (m : (ℓ : Loc nD τ sig) → Buf (Elt Ideal) ℓ) (c : Dev nD)

/-- The columns in exact arithmetic. -/
def colsU : Cols := extf .f32 (arrU m c) bitsLt_bf16_f32

/-- One row's product for a tap, and a tile's. -/
def term (h : Fin 2) (j : Fin 4) (k : Fin 3) (l : Fin 704) (n : ℕ) : EReal := row (colsU m c) h j l n * row (cot m c) h j l (n + (2 - k.val))
def tileSum (h : Fin 2) (j : Fin 4) (k : Fin 3) (l : Fin 704) (q : ℕ) : EReal := ∑ s ∈ Finset.range 256, term m c h j k l (256 * q + s)

theorem tapSum_at (H : FiniteArgs m c) (t : Fin cfg0.N) (q : Fin 8) (j : Fin 4) (hq : t.val / 4 = q.val) (hj : t.val % 4 = j.val) (h : Fin 2) (k : Fin 3) (l : Fin 704) :
    tapSum (grid0.coords t) (iblk m c 0 t) (iblk m c 1 t) (iblk m c 2 t) (iblk m c 4 t) (iblk m c 5 t) h k l = tileSum m c h j k l q.val := by
  rw [tapSum, tileSum, Finset.sum_range]
  refine Finset.sum_congr rfl fun s _ => ?_
  have q8 := q.isLt
  have s256 := s.isLt
  have p : 256 * q.val + s.val < 2048 := by omega
  unfold term
  refine congrArg₂ (fun a b : EReal => a * b) ?_ ?_
  · unfold row
    rw [dif_pos p]
    exact blkU m c t q j hq hj h s ⟨_, p⟩ rfl l
  · rw [show 256 * q.val + s.val + (2 - k.val) = 256 * q.val + (s.val + (2 - k.val)) from Nat.add_assoc _ _ _]
    fin_cases h
    · exact dLo_row m c t q j hq hj H ⟨s.val + (2 - k.val), by omega⟩ l
    · exact dHi_row m c t q j hq hj ⟨s.val + (2 - k.val), by omega⟩ l

theorem filtHist_at (H : FiniteArgs m c) (d : FVec Ideal S2x4x3x704 .f32) (h : Fin 2) (j : Fin 4) (k : Fin 3) (l : Fin 704) :
    ∀ n : ℕ, n ≤ 32 → 0 < (n + 3 - j.val) / 4 → (filtHist (F := Ideal) m c d n (ix4 h j k l) : EReal) = ∑ q ∈ Finset.range ((n + 3 - j.val) / 4), tileSum m c h j k l q := by
  intro n
  induction n with
  | zero => intro _ hp; exact absurd hp (by have := j.isLt; omega)
  | succ n ih =>
    intro hn hp
    have j4 := j.isLt
    have e := congrFun (filtHist_succ m c d ⟨n, by show n < 32; omega⟩) (ix4 h j k l)
    refine e.trans ((filt_apply _ _ _ _ _ _ _ h j k l).trans ?_)
    have c1 : (grid0.coords (⟨n, by show n < 32; omega⟩ : Fin cfg0.N) 1).val = n % 4 := coords1 ⟨n, by show n < 32; omega⟩
    have c0 : (grid0.coords (⟨n, by show n < 32; omega⟩ : Fin cfg0.N) 0).val = n / 4 := coords0 ⟨n, by show n < 32; omega⟩
    by_cases hj : j.val = n % 4
    · rw [if_pos (hj.trans c1.symm)]
      have hq : n / 4 < 8 := by omega
      rw [tapSum_at m c H ⟨n, by show n < 32; omega⟩ ⟨n / 4, hq⟩ j rfl hj.symm h k l]
      have cn : (n + 1 + 3 - j.val) / 4 = n / 4 + 1 := by omega
      rw [cn, Finset.sum_range_succ]
      by_cases h0 : n / 4 = 0
      · have z : ∑ q ∈ Finset.range (n / 4), tileSum m c h j k l q = 0 := by rw [h0, Finset.sum_range_zero]
        rw [if_pos (c0.trans h0), z, zero_add]
      · have cp : (n + 3 - j.val) / 4 = n / 4 := by omega
        have ih' := ih (by omega) (by omega)
        rw [cp] at ih'
        rw [if_neg (by rw [c0]; exact h0)]
        exact congrArg (fun e : EReal => e + tileSum m c h j k l (n / 4)) ih'
    · rw [if_neg (by rw [c1]; exact hj)]
      have cn : (n + 1 + 3 - j.val) / 4 = (n + 3 - j.val) / 4 := by omega
      rw [cn]
      exact ih (by omega) (by omega)

theorem sum_tiles (f : ℕ → EReal) : ∀ n : ℕ, ∑ q ∈ Finset.range n, ∑ s ∈ Finset.range 256, f (256 * q + s) = ∑ r ∈ Finset.range (256 * n), f r
  | 0 => rfl
  | n + 1 => by rw [Finset.sum_range_succ, sum_tiles f n, Nat.mul_succ, Finset.sum_range_add]

/-- The accumulated filter gradient at the end. -/
theorem filt_end (H : FiniteArgs m c) (d : FVec Ideal S2x4x3x704 .f32) (h : Fin 2) (j : Fin 4) (k : Fin 3) (l : Fin 704) :
    (filtHist (F := Ideal) m c d 32 (ix4 h j k l) : EReal) = ∑ r ∈ Finset.range 2048, term m c h j k l r := by
  have j4 := j.isLt
  have e8 : (32 + 3 - j.val) / 4 = 8 := by omega
  rw [filtHist_at m c H d h j k l 32 (Nat.le_refl _) (by omega), e8]
  exact sum_tiles (term m c h j k l) 8

/-! ## The rows' gradient over the column blocks -/

/-- The product of one column block at one row. -/
def blockProd (r : Fin 2048) (k : Fin 1024) (j : Fin 4) : EReal :=
  (∑ l : Fin 704, duAll m c (ix4 0 j r l) * arrP m c (ix4 0 j k l)) + ∑ l : Fin 704, duAll m c (ix4 1 j r l) * arrP m c (ix4 1 j k l)

theorem rowProd_at (H : FiniteArgs m c) (t : Fin cfg0.N) (q : Fin 8) (j : Fin 4) (hq : t.val / 4 = q.val) (hj : t.val % 4 = j.val) (s : Fin 256) (r : Fin 2048) (hr : r.val = 256 * q.val + s.val) (k : Fin 1024) :
    rowProd (grid0.coords t) (iblk m c 1 t) (iblk m c 2 t) (iblk m c 3 t) (iblk m c 4 t) (iblk m c 5 t) (iblk m c 6 t) s k = blockProd m c r k j := by
  unfold rowProd blockProd
  refine congrArg₂ (fun a b : EReal => a + b) (Finset.sum_congr rfl fun l _ => ?_) (Finset.sum_congr rfl fun l _ => ?_)
  · rw [block_eq t q j hq hj]
    exact congrArg₂ (fun a b : EReal => a * b) (duLo_at m c t q j hq hj H s r hr l) (blkP m c t 0 j k l)
  · rw [block_eq t q j hq hj]
    exact congrArg₂ (fun a b : EReal => a * b) (duHi_at m c t q j hq hj s r hr l) (blkP m c t 1 j k l)

theorem rowsHist_step (H : FiniteArgs m c) (d : FVec Ideal S256x1024 .f32) (t : Fin cfg0.N) (q : Fin 8) (j : Fin 4) (hq : t.val / 4 = q.val) (hj : t.val % 4 = j.val) (s : Fin 256) (r : Fin 2048) (hr : r.val = 256 * q.val + s.val) (k : Fin 1024) :
    (rowsHist (F := Ideal) m c d (t.val + 1) (ix2 s k) : EReal) = if j.val = 0 then blockProd m c r k j else (rowsHist (F := Ideal) m c d t.val (ix2 s k) : EReal) + blockProd m c r k j := by
  refine (congrFun (rowsHist_succ m c d t) (ix2 s k)).trans ((carry_apply _ _ _ _ _ _ _ _ s k).trans ?_)
  rw [rowProd_at m c H t q j hq hj s r hr k, coords1, hj]

/-- The carried rows at the last column block. -/
theorem rows_end (H : FiniteArgs m c) (d : FVec Ideal S256x1024 .f32) (q : Fin 8) (s : Fin 256) (r : Fin 2048) (hr : r.val = 256 * q.val + s.val) (k : Fin 1024) :
    (rowsHist (F := Ideal) m c d (4 * q.val + 4) (ix2 s k) : EReal) = ((blockProd m c r k 0 + blockProd m c r k 1) + blockProd m c r k 2) + blockProd m c r k 3 := by
  have q8 := q.isLt
  have e0 := rowsHist_step m c H d ⟨4 * q.val, by show _ < 32; omega⟩ q 0 (by show 4 * q.val / 4 = q.val; omega) (by show 4 * q.val % 4 = 0; omega) s r hr k
  have e1 := rowsHist_step m c H d ⟨4 * q.val + 1, by show _ < 32; omega⟩ q 1 (by show (4 * q.val + 1) / 4 = q.val; omega) (by show (4 * q.val + 1) % 4 = 1; omega) s r hr k
  have e2 := rowsHist_step m c H d ⟨4 * q.val + 2, by show _ < 32; omega⟩ q 2 (by show (4 * q.val + 2) / 4 = q.val; omega) (by show (4 * q.val + 2) % 4 = 2; omega) s r hr k
  have e3 := rowsHist_step m c H d ⟨4 * q.val + 3, by show _ < 32; omega⟩ q 3 (by show (4 * q.val + 3) / 4 = q.val; omega) (by show (4 * q.val + 3) % 4 = 3; omega) s r hr k
  rw [if_pos (by rfl)] at e0
  rw [if_neg (by decide)] at e1 e2 e3
  refine e3.trans (congrArg (fun e : EReal => e + blockProd m c r k 3) (e2.trans (congrArg (fun e : EReal => e + blockProd m c r k 2) (e1.trans (congrArg (fun e : EReal => e + blockProd m c r k 1) e0)))))

end Cert.Kernel7Ideal.Gate

end
-- ==== Proof.GateSums.lean ====
/-
  The reference's sums over all rows and over all columns, in the form the grid leaves them.
-/
module

public import proofs.«01_k».proof.Proof.GateHost

@[expose] public section

set_option maxRecDepth 16384

noncomputable section

open Idealize.ShloMosaic Idealize.ShloMosaic.TcCoe Idealize.SL.Sem
open scoped BigOperators

namespace Cert.Reference7Ideal.Gate

open Cert.Reference7Ideal Cert.Reference7Ideal.Gen

/-- A sum against columns moved `a` rows on is a sum against the cotangent moved `a` rows back. -/
theorem shift (f g : ℕ → EReal) (a b n : ℕ) (hab : a + b = n) (hz : ∀ r, n ≤ r → g r = 0) :
    ∑ s ∈ Finset.range n, g s * (if s < a then 0 else f (s - a)) = ∑ r ∈ Finset.range n, f r * g (r + a) := by
  have e1 : ∑ s ∈ Finset.range n, g s * (if s < a then 0 else f (s - a)) = ∑ x ∈ Finset.range b, g (a + x) * f x := by
    rw [← hab, Finset.sum_range_add, Finset.sum_eq_zero (fun s hs => by rw [if_pos (Finset.mem_range.mp hs), mul_zero]), zero_add]
    exact Finset.sum_congr rfl fun x _ => by rw [if_neg (by omega), Nat.add_sub_cancel_left]
  have e2 : ∑ r ∈ Finset.range n, f r * g (r + a) = ∑ x ∈ Finset.range b, f x * g (x + a) := by
    rw [← hab, Nat.add_comm a b, Finset.sum_range_add, Finset.sum_eq_zero (s := Finset.range a) (fun s hs => by rw [hz _ (by omega), mul_zero]), add_zero]
  rw [e1, e2]
  exact Finset.sum_congr rfl fun x _ => by rw [mul_comm, Nat.add_comm a x]

section At
variable (h : Fin 2) (j : Fin 4) (l : Fin 704) (d u : Cols)

theorem row_past (n : ℕ) (hn : 2048 ≤ n) : row d h j l n = 0 := dif_neg (by omega)

theorem rowSum_rows (a : ℕ) (x : Cols) (ha : a ≤ 2048) (hx : ∀ s : Fin 2048, x (ix4 h j s l) = if s.val < a then 0 else row u h j l (s.val - a)) :
    rowSum d x (ix4 h j 0 l) = ∑ r ∈ Finset.range 2048, row u h j l r * row d h j l (r + a) := by
  rw [rowSum_apply, ← shift (row u h j l) (row d h j l) a (2048 - a) 2048 (by omega) (row_past h j l d), Finset.sum_range]
  refine Finset.sum_congr rfl fun s _ => ?_
  rw [hx, row_at]

theorem dcw_rows (k : Fin 3) : dcw d u (ix4 h j k l) = ∑ r ∈ Finset.range 2048, row u h j l r * row d h j l (r + (2 - k.val)) := by
  fin_cases k
  · refine (dcw_0 h j l d u).trans (rowSum_rows h j l d u 2 (back2 u) (by omega) fun s => ?_)
    rw [back2_apply]
    split
    · rfl
    · exact (row_at h j ⟨s.val - 2, by omega⟩ l u).symm
  · refine (dcw_1 h j l d u).trans (rowSum_rows h j l d u 1 (back1 u) (by omega) fun s => ?_)
    rw [back1_apply]
    split
    · rfl
    · exact (row_at h j ⟨s.val - 1, by omega⟩ l u).symm
  · refine (dcw_2 h j l d u).trans (rowSum_rows h j l d u 0 u (by omega) fun s => ?_)
    rw [if_neg (Nat.not_lt_zero _)]
    exact (row_at h j s l u).symm

end At

theorem dh_blocks (x : Cols) (w : FVec Ideal S2x4x1024x704 .bf16) (s : Fin 2048) (k : Fin 1024) (P : Fin 4 → EReal)
    (hP : ∀ j, P j = (∑ l : Fin 704, x (ix4 0 j s l) * w (ix4 0 j k l)) + ∑ l : Fin 704, x (ix4 1 j s l) * w (ix4 1 j k l)) :
    dh x w (ix2 s k) = ((P 0 + P 1) + P 2) + P 3 := by
  rw [dh_apply, Finset.sum_comm, Fin.sum_univ_four, hP, hP, hP, hP]
  simp only [Fin.sum_univ_two]

end Cert.Reference7Ideal.Gate

end
-- ==== Proof.GateValue.lean ====
/-
  What the gate's gradient leaves in its three result arrays.
-/
module

public import proofs.«01_k».proof.Proof.GateFolds
public import proofs.«01_k».proof.Proof.GateSums
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat RDat)
open scoped BigOperators

namespace Cert.Kernel7Ideal.Gate

open Cert.Kernel7Ideal Cert.Kernel7Ideal.Gen
open Cert.Reference7Ideal.Gate (Cols dcw dh dcw_rows dh_blocks row)

variable (m : (ℓ : Loc nD τ sig) → Buf (Elt Ideal) ℓ) (c : Dev nD)

/-- The three results. -/
def outU : FVec Ideal S2x4x2048x704 .bf16 := truncf .bf16 (duAll m c) bitsLt_bf16_f32
def outW : FVec Ideal S2x4x3x704 .f32 := dcw (cot m c) (colsU m c)
def outH : FVec Ideal S2048x1024 .bf16 := truncf .bf16 (dh (extf .f32 (outU m c) bitsLt_bf16_f32) (arrP m c)) bitsLt_bf16_f32

/-! ## The gradient to the columns -/

theorem piece7 (H : FiniteArgs m c) (t : Fin cfg0.N) (q : Fin 8) (j : Fin 4) (hq : t.val / 4 = q.val) (hj : t.val % 4 = j.val) (X : Vec Ideal S2x1x256x704 .bf16) (hX : Left m c 7 t X)
    (x : S2x1x256x704.Idx) (h : Fin 2) (s : Fin 256) (r : Fin 2048) (hr : r.val = 256 * q.val + s.val) (l : Fin 704) (hx : x = ix4 h 0 s l) : X x = outU m c (ix4 h j r l) := by
  subst hx
  have hh : Halves (grid0.coords t) (iblk m c 1 t) (iblk m c 2 t) (iblk m c 3 t) (iblk m c 4 t) (iblk m c 5 t) X := hX
  fin_cases h
  · exact (hh s l).1.trans ((pay13_apply _ _ s l).trans (duLo_at m c t q j hq hj H s r hr l))
  · exact (hh s l).2.trans ((pay29_apply _ _ s l).trans (duHi_at m c t q j hq hj s r hr l))

theorem place7 (t : Fin cfg0.N) (q : Fin 8) (j : Fin 4) (hq : t.val / 4 = q.val) (hj : t.val % 4 = j.val) (y : ((cfg0.win 7).xblock (cfg0.grid.coords t)).Idx)
    (h : Fin 2) (r : Fin 2048) (l : Fin 704) (e0 : (y 0).val = h.val) (e2 : r.val = 256 * q.val + (y 2).val) (e3 : (y 3).val = l.val) :
    ((View.whole main_v44_0).slice (win0_7.rect t)).emb y = ix4 h j r l := by
  have z1 : (y 1).val < 1 := (y 1).isLt
  blk_ext [idx t, hq, hj, e2]

theorem blockIdx7 (x : S2x1x256x704.Idx) : x = ix4 (x 0) 0 (x 2) (x 3) := by
  idx_vars x; blk_ext

theorem final7 (H : FiniteArgs m c) (dat : Dat τ (Elt Ideal) Unit ℕ (Idealize.ShloMosaic.UR sig nD τ) ℕ cfg0 c)
    (hd : ∀ t, (cfg0.win 7).flush t = true → Left m c 7 t (dat.after 7 t)) : dat.arrAt 7 cfg0.N = outU m c := by
  refine dat.arrAt_eq_of_covers 7 _ (by decide +kernel) fun t hf y => ?_
  have ht : t.val < 32 := t.isLt
  have y2 : (y 2).val < 256 := (y 2).isLt
  have hL := hd t hf
  blk_simp
  have E := place7 t ⟨t.val / 4, by omega⟩ ⟨t.val % 4, by omega⟩ rfl rfl y
  frame_out
  rw [E (y 0) ⟨256 * (t.val / 4) + (y 2).val, by omega⟩ (y 3) rfl rfl rfl]
  exact piece7 m c H t ⟨t.val / 4, by omega⟩ ⟨t.val % 4, by omega⟩ rfl rfl _ hL _ _ _ _ rfl _ (blockIdx7 _)

/-! ## The gradient to the filter -/

theorem flush8 : ∀ t : Fin cfg0.N, (cfg0.win 8).flush t = true → t.val = 31 :=
  (by decide +kernel : ∀ t : Fin grid0.N, _)

theorem piece8 (H : FiniteArgs m c) (t : Fin cfg0.N) (ht : t.val = 31) (X : Vec Ideal S2x4x3x704 .f32) (hX : Left m c 8 t X) (x : S2x4x3x704.Idx)
    (h : Fin 2) (j : Fin 4) (k : Fin 3) (l : Fin 704) (hx : x = ix4 h j k l) : X x = outW m c (ix4 h j k l) := by
  subst hx
  obtain ⟨d, rfl⟩ := (hX : ∃ d, X = filtHist m c d (t.val + 1))
  rw [ht]
  exact (filt_end m c H d h j k l).trans (dcw_rows h j l (cot m c) (colsU m c) k).symm

theorem place8 (t : Fin cfg0.N) (y : ((cfg0.win 8).xblock (cfg0.grid.coords t)).Idx)
    (h : Fin 2) (j : Fin 4) (k : Fin 3) (l : Fin 704) (e0 : (y 0).val = h.val) (e1 : (y 1).val = j.val) (e2 : (y 2).val = k.val) (e3 : (y 3).val = l.val) :
    ((View.whole main_v44_1).slice (win0_8.rect t)).emb y = ix4 h j k l := by
  blk_ext [idx t]

theorem blockIdx8 (x : S2x4x3x704.Idx) : x = ix4 (x 0) (x 1) (x 2) (x 3) := by
  idx_vars x; blk_ext

theorem final8 (H : FiniteArgs m c) (dat : Dat τ (Elt Ideal) Unit ℕ (Idealize.ShloMosaic.UR sig nD τ) ℕ cfg0 c)
    (hd : ∀ t, (cfg0.win 8).flush t = true → Left m c 8 t (dat.after 8 t)) : dat.arrAt 8 cfg0.N = outW m c := by
  refine dat.arrAt_eq_of_covers 8 _ (by decide +kernel) fun t hf y => ?_
  have ht := flush8 t hf
  have hL := hd t hf
  blk_simp
  have E := place8 t y
  frame_out
  rw [E (y 0) (y 1) (y 2) (y 3) rfl rfl rfl rfl]
  exact piece8 m c H t ht _ hL _ _ _ _ _ (blockIdx8 _)

/-! ## The gradient to the rows before the up projection -/

theorem flush9 : ∀ t : Fin cfg0.N, (cfg0.win 9).flush t = true → t.val % 4 = 3 :=
  (by decide +kernel : ∀ t : Fin grid0.N, _)

theorem piece9 (H : FiniteArgs m c) (t : Fin cfg0.N) (q : Fin 8) (hq : t.val / 4 = q.val) (h3 : t.val % 4 = 3) (X : Vec Ideal S256x1024 .bf16) (hX : Left m c 9 t X) (x : S256x1024.Idx)
    (s : Fin 256) (r : Fin 2048) (hr : r.val = 256 * q.val + s.val) (k : Fin 1024) (hx : x = ix2 s k) : X x = outH m c (ix2 r k) := by
  subst hx
  obtain ⟨d, rfl⟩ := (hX : t.val % 4 = 3 → ∃ d, X = k0_pay2 (rowsHist m c d (t.val + 1))) h3
  refine (pay2_apply _ s k).trans ?_
  rw [show t.val + 1 = 4 * q.val + 4 by omega]
  exact (rows_end m c H d q s r hr k).trans (dh_blocks (extf .f32 (outU m c) bitsLt_bf16_f32) (arrP m c) r k (blockProd m c r k) fun j => rfl).symm

theorem place9 (t : Fin cfg0.N) (q : Fin 8) (hq : t.val / 4 = q.val) (y : ((cfg0.win 9).xblock (cfg0.grid.coords t)).Idx)
    (r : Fin 2048) (k : Fin 1024) (e0 : r.val = 256 * q.val + (y 0).val) (e1 : (y 1).val = k.val) :
    ((View.whole main_v44_2).slice (win0_9.rect t)).emb y = ix2 r k := by
  blk_ext [idx t, hq, e0]

theorem blockIdx9 (x : S256x1024.Idx) : x = ix2 (x 0) (x 1) := by
  idx_vars x; blk_ext

theorem final9 (H : FiniteArgs m c) (dat : Dat τ (Elt Ideal) Unit ℕ (Idealize.ShloMosaic.UR sig nD τ) ℕ cfg0 c)
    (hd : ∀ t, (cfg0.win 9).flush t = true → Left m c 9 t (dat.after 9 t)) : dat.arrAt 9 cfg0.N = outH m c := by
  refine dat.arrAt_eq_of_covers 9 _ (by decide +kernel) fun t hf y => ?_
  have ht : t.val < 32 := t.isLt
  have y0 : (y 0).val < 256 := (y 0).isLt
  have h3 := flush9 t hf
  have hL := hd t hf
  blk_simp
  have E := place9 t ⟨t.val / 4, by omega⟩ rfl y
  frame_out
  rw [E ⟨256 * (t.val / 4) + (y 0).val, by omega⟩ (y 1) rfl rfl]
  exact piece9 m c H t ⟨t.val / 4, by omega⟩ rfl h3 _ hL _ _ _ rfl _ (blockIdx9 _)

/-! ## The run -/

/-- The three result arrays after the call. -/
theorem outs (H : FiniteArgs m c) (r : PUnit × MemSt nD τ sig (Elt Ideal)) (hr : RDat.FramePost cfg0 (rdats m) (V m) r) :
    r.2.mem ((c.tc : Thread nD τ).loc main_v44_0) = outU m c ∧ r.2.mem ((c.tc : Thread nD τ).loc main_v44_1) = outW m c
      ∧ r.2.mem ((c.tc : Thread nD τ).loc main_v44_2) = outH m c := by
  haveI : ∀ e : EltTy, Nonempty (Elt Ideal e) := fun e => by cases e <;> first | exact ⟨(0 : EReal)⟩ | exact ⟨(0#_ : BitVec _)⟩
  obtain ⟨after, hL, hA⟩ := hr.exists_exact c
  exact ⟨(hA 7).trans (final7 m c H _ fun t hf => (dats m 0 c).toRRel_leaves rfl (hL 7 t hf)),
    (hA 8).trans (final8 m c H _ fun t hf => (dats m 0 c).toRRel_leaves rfl (hL 8 t hf)),
    (hA 9).trans (final9 m c H _ fun t hf => (dats m 0 c).toRRel_leaves rfl (hL 9 t hf))⟩

/-- The call runs and leaves the three results and its arguments. -/
theorem run_values (ρ : Dev nD → PrngReg) (H : ∀ c, FiniteArgs m c) : θ_run defs (onTc (τ := τ) (main (F := Ideal))) ⟨m, fun _ => 0, ρ⟩ (fun r => ∀ c : Dev nD,
      r.2.mem ((c.tc : Thread nD τ).loc main_v44_0) = outU m c ∧ r.2.mem ((c.tc : Thread nD τ).loc main_v44_1) = outW m c
      ∧ r.2.mem ((c.tc : Thread nD τ).loc main_v44_2) = outH m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(outs m c (H c) r h.1).1, (outs m c (H c) r h.1).2.1, (outs m c (H c) r h.1).2.2,
      (in0 m r h.1 c).trans (V_main_arg0 m c), (in3 m r h.1 c).trans (V_main_arg1 m c),
      (in5 m r h.1 c).trans (V_main_arg2 m c), (in6 m r h.1 c).trans (V_main_arg3 m c), (in9 m r h.1 c).trans (V_main_arg4 m c)⟩)
    (run_main_quiescent m ρ)

end Cert.Kernel7Ideal.Gate

end
-- ==== Proof.GatePre.lean ====
/-
  The precondition of the gate's gradient: no infinity among its columns, filters and cotangent.
-/
module

public import proofs.«01_k».proof.Pre_finite_gate
public import proofs.«01_k».proof.Proof.GateSilu
public import Idealize.ShloMosaic.Lib.ReduceAll
public import Idealize.ShloMosaic.Lib.Affine

@[expose] public section

set_option maxRecDepth 16384

noncomputable section

open Idealize.ShloMosaic
open Cert.Reference7Ideal.Gate (Finite)

namespace Cert.Pre_finite_gate

/-- The shapes of the precondition fit. -/
instance facts : Facts := ⟨by decide, by decide, by decide, by decide, by decide, by decide, by decide, by decide⟩

theorem inf_word : Ideal.ofBits .f32 0x7F800000#32 = ⊤ := by simp [Ideal.ofBits, Ideal.ieee]

/-- An element whose magnitude compares below infinity is finite. -/
theorem finite_of_word {x : EReal} (h : Ideal.cmp .olt (max x (-x)) (Ideal.ofBits .f32 0x7F800000#32) = 1#1) : Finite x := by
  rw [inf_word] at h
  refine Finite.of_abs ?_
  by_contra hn
  have e : BitVec.ofBool (decide (max x (-x) < ⊤)) = 1#1 := h
  rw [decide_eq_false hn] at e
  exact absurd e (by decide)

theorem finite (a0 : FVec Ideal S2x4x2048x704 .bf16) (a1 : FVec Ideal S2x4x3x704 .f32) (a2 : FVec Ideal S4x2048x704 .bf16) (a3 : FVec Ideal S2x4x1024x704 .bf16) (a4 : FVec Ideal S8x128 .f32)
    (z : S_.Idx) (h : fn a0 a1 a2 a3 a4 z = 1#1) : (∀ i, Finite (a0 i)) ∧ (∀ i, Finite (a1 i)) ∧ ∀ i, Finite (a2 i) := by
  haveI : Subsingleton S_.Idx := ⟨fun a b => funext fun p => Fin.elim0 p⟩
  dsimp only [fn] at h
  obtain ⟨h01, h2⟩ := IntOp.andi_eq_one.mp h
  obtain ⟨h0, h1⟩ := IntOp.andi_eq_one.mp h01
  exact ⟨fun i => finite_of_word (Host.reduce_andi_all _ _ _ _ z h0 i), fun i => finite_of_word (Host.reduce_andi_all _ _ _ _ z h1 i),
    fun i => finite_of_word (Host.reduce_andi_all _ _ _ _ z h2 i)⟩

end Cert.Pre_finite_gate

end
-- ==== Proof.GateSame.lean ====
/-
  The gate's gradient and the reference's leave the same three arrays.
-/
module

public import proofs.«01_k».proof.Proof.GateValue
public import proofs.«01_k».proof.Proof.GatePre

@[expose] public section

set_option maxRecDepth 16384

noncomputable section

open Idealize.ShloMosaic Idealize.ShloMosaic.TcCoe Idealize.SL.Sem

namespace Cert.Kernel7Ideal.Gate

open Cert.Kernel7Ideal Cert.Kernel7Ideal.Gen
open Cert.Reference7Ideal.Gate (argU argW argA argP argD out0_eq out1_eq out2_eq)

variable (m : (ℓ : Loc nD τ sig) → Buf (Elt Ideal) ℓ) (c : Dev nD)
variable (m' : (ℓ : Loc Cert.Reference7Ideal.nD Cert.Reference7Ideal.τ Cert.Reference7Ideal.sig) → Buf (Elt Ideal) ℓ)

section Agree
variable (h0 : m' ((c.tc : Thread Cert.Reference7Ideal.nD Cert.Reference7Ideal.τ).loc Cert.Reference7Ideal.main_arg0) = m ((c.tc : Thread nD τ).loc main_arg0))
  (h1 : m' ((c.tc : Thread Cert.Reference7Ideal.nD Cert.Reference7Ideal.τ).loc Cert.Reference7Ideal.main_arg1) = m ((c.tc : Thread nD τ).loc main_arg1))
  (h2 : m' ((c.tc : Thread Cert.Reference7Ideal.nD Cert.Reference7Ideal.τ).loc Cert.Reference7Ideal.main_arg2) = m ((c.tc : Thread nD τ).loc main_arg2))
  (h3 : m' ((c.tc : Thread Cert.Reference7Ideal.nD Cert.Reference7Ideal.τ).loc Cert.Reference7Ideal.main_arg3) = m ((c.tc : Thread nD τ).loc main_arg3))
include h0 h1 h2 h3

theorem sameU : argU m' c = colsU m c := by rw [argU, h0]; rfl
theorem sameW : argW m' c = arrW m c := h1
theorem sameA : argA m' c = extf .f32 (arrA m c) bitsLt_bf16_f32 := by rw [argA, h2]; rfl
theorem sameP : argP m' c = arrP m c := h3

theorem sameD : argD m' c = cot m c := by
  rw [argD, sameU m c m' h0 h1 h2 h3, sameW m c m' h0 h1 h2 h3, sameA m c m' h0 h1 h2 h3]
  rfl

theorem same0 : Cert.Reference7Ideal.Value.res_main_v67 m' c = outU m c := by
  rw [out0_eq, sameD m c m' h0 h1 h2 h3, sameW m c m' h0 h1 h2 h3]
  rfl
theorem same1 : Cert.Reference7Ideal.Value.res_main_v66 m' c = outW m c := by
  rw [out1_eq, sameD m c m' h0 h1 h2 h3, sameU m c m' h0 h1 h2 h3]
  rfl
theorem same2 : Cert.Reference7Ideal.Value.res_main_v75 m' c = outH m c := by
  rw [out2_eq, sameD m c m' h0 h1 h2 h3, sameW m c m' h0 h1 h2 h3, sameP m c m' h0 h1 h2 h3]
  rfl

end Agree

/-- The precondition's word on a memory makes the arguments finite. -/
theorem finiteArgs (z : Cert.Pre_finite_gate.S_.Idx) (h : Cert.Pre_finite_gate.fn (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) z = 1#1) : FiniteArgs m c :=
  have f := Cert.Pre_finite_gate.finite _ _ _ _ _ z h
  ⟨f.1, f.2.1, f.2.2⟩

end Cert.Kernel7Ideal.Gate

end
-- ==== Proof.GatePrinted.lean ====
/-
  The gate's gradient printed for the machine's floats and printed for the ideal reading is one program, text for
  text. So the run of the second, proved over any floats, is the run of the first.
-/
module

public import proofs.«01_k».proof.Defs
public import proofs.«01_k».proof.Proof.Gen.Kernel7
public import proofs.«01_k».proof.Proof.GateFrame

@[expose] public section

set_option maxRecDepth 16384
set_option maxHeartbeats 4000000

noncomputable section

namespace Cert.Kernel7Ideal.Gate

open Idealize.ShloMosaic Idealize.SL.Sem

theorem bodies_eq : @Cert.Kernel7.defs₀ Bits _ _ = @Cert.Kernel7Ideal.defs₀ Bits _ _ := by
  unfold Cert.Kernel7.defs₀ Cert.Kernel7Ideal.defs₀
  refine congrArg Defs.onTc ?_
  funext l a
  match l, a with
  | 0, (t, s) => rfl

theorem defs_eq : @Cert.Kernel7.defs Bits _ _ = @Cert.Kernel7Ideal.defs Bits _ _ :=
  congrArg (Pipeline.defs (Cert.Kernel7.pcfgs (F := Bits))) bodies_eq

theorem main_eq : @Cert.Kernel7.main Bits _ _ = @Cert.Kernel7Ideal.main Bits _ _ := rfl

/-- The program for the machine's floats runs, leaves its arguments as they were and every semaphore counter at zero. -/
theorem frame_bits : @Cert.quiescent_Kernel7 Cert.Kernel7.Gen.facts := by
  intro m ρ _
  rw [defs_eq, main_eq]
  exact frame (F := Bits) m ρ

end Cert.Kernel7Ideal.Gate

end
-- ==== Proof.AbIn.lean ====
/- Hand-written, untrusted: the product in front of the first two mixers: one entry of the product, the block of a grid point against it, and the array whole. -/
module

public import proofs.«01_k».proof.Proof.Gen.Kernel8Ideal.Value
public import proofs.«01_k».proof.Proof.Gen.Reference8Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Reference8Ideal.AbIn

open Cert.Reference8Ideal Cert.Reference8Ideal.Gen

/-- The reference's result as a function of its two arguments. -/
def res (a0 : FVec Ideal S2048x1024 .bf16) (a1 : FVec Ideal S8x1024x256 .bf16) : FVec Ideal S8x2048x256 .bf16 :=
  truncf .bf16 (transpose S8x2048x256 [1, 0, 2] (shapeCast _ (Host.dotGeneral dot_S2048x1024_S1024x2048_S2048x2048_1_0_0_1_n_n none (extf .f32 a0 bitsLt_bf16_f32) (shapeCast _ (transpose S1024x8x256 [1, 0, 2] (extf .f32 a1 bitsLt_bf16_f32) transposes_S8x1024x256_S1024x8x256_1_0_2) shapeCasts_S1024x8x256_S1024x2048)) shapeCasts_S2048x2048_S2048x8x256) transposes_S2048x8x256_S8x2048x256_1_0_2) bitsLt_bf16_f32

/-- One entry of it: a row of `h` against a column of the matrix. -/
theorem res_at (a0 : FVec Ideal S2048x1024 .bf16) (a1 : FVec Ideal S8x1024x256 .bf16) (j : Fin 8) (s : Fin 2048) (l : Fin 256) :
    res a0 a1 (ix3 j s l) = ∑ k : Fin 1024, a0 (ix2 s k) * a1 (ix3 j k l) := by
  pointwise [res]

end Cert.Reference8Ideal.AbIn

namespace Cert.Kernel8Ideal.AbIn

open Cert.Kernel8Ideal Cert.Kernel8Ideal.Gen

variable (m : (ℓ : Loc nD τ sig) → Buf (Elt Ideal) ℓ) (c : Dev nD)

/-- The block of a grid point: all rows of `h` against one block of columns. -/
theorem block_at (x0 : Vec Ideal S2048x1024 .bf16) (x1 : Vec Ideal S1x1024x256 .bf16) (s : Fin 2048) (l : Fin 256) :
    k0_pay1 (F := Ideal) x0 x1 (ix3 0 s l) = ∑ k : Fin 1024, x0 (ix2 s k) * x1 (ix3 0 k l) := by
  pointwise [k0_pay1]

theorem idx : ∀ t : Fin cfg0.N, win0_0.index t = ![0, 0] ∧ win0_1.index t = ![t.val, 0, 0] ∧ win0_2.index t = ![t.val, 0, 0] :=
  (by decide +kernel : ∀ t : Fin grid0.N, _)

/-- A grid point's block against the reference at its place. -/
theorem piece (t : Fin cfg0.N) (q : Fin 8) (hq : q.val = t.val) (x : S1x2048x256.Idx) (s : Fin 2048) (l : Fin 256) (hx : x = ix3 0 s l) :
    k0_pay1 (F := Ideal) (iblk m c 0 t) (iblk m c 1 t) x
      = Cert.Reference8Ideal.AbIn.res (m ((c.tc : Thread nD τ).loc main_arg0)) (m ((c.tc : Thread nD τ).loc main_arg1)) (ix3 q s l) := by
  subst hx
  rw [block_at, Cert.Reference8Ideal.AbIn.res_at]
  refine Finset.sum_congr rfl fun k _ => ?_
  blk_point [iblk, V, idx t, hq]

theorem place (t : Fin cfg0.N) (q : Fin 8) (hq : q.val = t.val) (y : ((cfg0.win 2).xblock (cfg0.grid.coords t)).Idx) (s : Fin 2048) (l : Fin 256)
    (e1 : (y 1).val = s.val) (e2 : (y 2).val = l.val) :
    ((View.whole main_v0).slice (win0_2.rect t)).emb y = ix3 q s l := by
  blk_ext [idx t, hq]

theorem blockIdx (x : S1x2048x256.Idx) : x = ix3 0 (x 1) (x 2) := by
  idx_vars x; blk_ext

/-- The whole array the call leaves is the reference's. -/
theorem final : (dats m 0 c).arrAt 2 (cfgs 0).N
    = Cert.Reference8Ideal.AbIn.res (m ((c.tc : Thread nD τ).loc main_arg0)) (m ((c.tc : Thread nD τ).loc main_arg1)) := by
  refine (dats m 0 c).arrAt_eq_of_covers 2 _ (by decide +kernel) fun t hf y => ?_
  blk_simp
  rw [after0_2]
  have ht : t.val < 8 := t.isLt
  have E := place t ⟨t.val, ht⟩ rfl y
  frame_out
  rw [E (y 1) (y 2) rfl rfl]
  exact piece m c t ⟨t.val, ht⟩ rfl _ _ _ (blockIdx _)

end Cert.Kernel8Ideal.AbIn

end
-- ==== Proof.AbInDw.lean ====
/- Hand-written, untrusted: the gradient of that product's matrix: one entry of the product, the block of a grid point against it, and the array whole. -/
module

public import proofs.«01_k».proof.Proof.Gen.Kernel9Ideal.Value
public import proofs.«01_k».proof.Proof.Gen.Reference9Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Reference9Ideal.AbInDw

open Cert.Reference9Ideal Cert.Reference9Ideal.Gen

/-- The reference's result as a function of its two arguments. -/
def res (a0 : FVec Ideal S2048x1024 .bf16) (a1 : FVec Ideal S8x2048x256 .bf16) : FVec Ideal S8x1024x256 .bf16 :=
  truncf .bf16 (transpose S8x1024x256 [1, 0, 2] (shapeCast _ (transpose S1024x2048 [1, 0] (Host.dotGeneral dot_S2048x2048_S2048x1024_S2048x1024_0_0_1_1_n_n none (shapeCast _ (transpose S2048x8x256 [1, 0, 2] (extf .f32 a1 bitsLt_bf16_f32) transposes_S8x2048x256_S2048x8x256_1_0_2) shapeCasts_S2048x8x256_S2048x2048) (extf .f32 a0 bitsLt_bf16_f32)) transposes_S2048x1024_S1024x2048_1_0) shapeCasts_S1024x2048_S1024x8x256) transposes_S1024x8x256_S8x1024x256_1_0_2) bitsLt_bf16_f32

/-- One entry of it: a column of `h` against a column of the gradient. -/
theorem res_at (a0 : FVec Ideal S2048x1024 .bf16) (a1 : FVec Ideal S8x2048x256 .bf16) (j : Fin 8) (l : Fin 1024) (d : Fin 256) :
    res a0 a1 (ix3 j l d) = ∑ k : Fin 2048, a0 (ix2 k l) * a1 (ix3 j k d) := by
  pointwise [res]
  exact Finset.sum_congr rfl fun k _ => mul_comm _ _

end Cert.Reference9Ideal.AbInDw

namespace Cert.Kernel9Ideal.AbInDw

open Cert.Kernel9Ideal Cert.Kernel9Ideal.Gen

variable (m : (ℓ : Loc nD τ sig) → Buf (Elt Ideal) ℓ) (c : Dev nD)

/-- The block of a grid point: the columns of `h` against one block of columns of the gradient. -/
theorem block_at (x0 : Vec Ideal S2048x1024 .bf16) (x1 : Vec Ideal S1x2048x256 .bf16) (l : Fin 1024) (d : Fin 256) :
    k0_pay1 (F := Ideal) x0 x1 (ix3 0 l d) = ∑ k : Fin 2048, x0 (ix2 k l) * x1 (ix3 0 k d) := by
  pointwise [k0_pay1]

theorem idx : ∀ t : Fin cfg0.N, win0_0.index t = ![0, 0] ∧ win0_1.index t = ![t.val, 0, 0] ∧ win0_2.index t = ![t.val, 0, 0] :=
  (by decide +kernel : ∀ t : Fin grid0.N, _)

/-- A grid point's block against the reference at its place. -/
theorem piece (t : Fin cfg0.N) (q : Fin 8) (hq : q.val = t.val) (x : S1x1024x256.Idx) (l : Fin 1024) (d : Fin 256) (hx : x = ix3 0 l d) :
    k0_pay1 (F := Ideal) (iblk m c 0 t) (iblk m c 1 t) x
      = Cert.Reference9Ideal.AbInDw.res (m ((c.tc : Thread nD τ).loc main_arg0)) (m ((c.tc : Thread nD τ).loc main_arg1)) (ix3 q l d) := by
  subst hx
  rw [block_at, Cert.Reference9Ideal.AbInDw.res_at]
  refine Finset.sum_congr rfl fun k _ => ?_
  blk_point [iblk, V, idx t, hq]

theorem place (t : Fin cfg0.N) (q : Fin 8) (hq : q.val = t.val) (y : ((cfg0.win 2).xblock (cfg0.grid.coords t)).Idx) (l : Fin 1024) (d : Fin 256)
    (e1 : (y 1).val = l.val) (e2 : (y 2).val = d.val) :
    ((View.whole main_v0).slice (win0_2.rect t)).emb y = ix3 q l d := by
  blk_ext [idx t, hq]

theorem blockIdx (x : S1x1024x256.Idx) : x = ix3 0 (x 1) (x 2) := by
  idx_vars x; blk_ext

/-- The whole array the call leaves is the reference's. -/
theorem final : (dats m 0 c).arrAt 2 (cfgs 0).N
    = Cert.Reference9Ideal.AbInDw.res (m ((c.tc : Thread nD τ).loc main_arg0)) (m ((c.tc : Thread nD τ).loc main_arg1)) := by
  refine (dats m 0 c).arrAt_eq_of_covers 2 _ (by decide +kernel) fun t hf y => ?_
  blk_simp
  rw [after0_2]
  have ht : t.val < 8 := t.isLt
  have E := place t ⟨t.val, ht⟩ rfl y
  frame_out
  rw [E (y 1) (y 2) rfl rfl]
  exact piece m c t ⟨t.val, ht⟩ rfl _ _ _ (blockIdx _)

end Cert.Kernel9Ideal.AbInDw

end
-- ==== Proof.AbInDx.lean ====
/- Hand-written, untrusted: the gradient of the product in front of the first two mixers to its input: one entry of the product,
   the block of a grid point against it, and the array whole. -/
module

public import proofs.«01_k».proof.Proof.Gen.Kernel10Ideal.Value
public import proofs.«01_k».proof.Proof.Gen.Reference10Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Reference10Ideal.AbInDx

open Cert.Reference10Ideal Cert.Reference10Ideal.Gen

/-- The reference's result as a function of its two arguments. -/
def res (a0 : FVec Ideal S8x2048x256 .bf16) (a1 : FVec Ideal S8x1024x256 .bf16) : FVec Ideal S2048x1024 .bf16 :=
  truncf .bf16 (Host.dotGeneral dot_S2048x2048_S1024x2048_S2048x1024_1_1_0_0_n_n none (shapeCast _ (transpose S2048x8x256 [1, 0, 2] (extf .f32 a0 bitsLt_bf16_f32) transposes_S8x2048x256_S2048x8x256_1_0_2) shapeCasts_S2048x8x256_S2048x2048) (shapeCast _ (transpose S1024x8x256 [1, 0, 2] (extf .f32 a1 bitsLt_bf16_f32) transposes_S8x1024x256_S1024x8x256_1_0_2) shapeCasts_S1024x8x256_S1024x2048)) bitsLt_bf16_f32

/-- One entry of it: the eight blocks of the contraction one after the other. -/
theorem res_at (a0 : FVec Ideal S8x2048x256 .bf16) (a1 : FVec Ideal S8x1024x256 .bf16) (s : Fin 2048) (d : Fin 1024) :
    res a0 a1 (ix2 s d) = ∑ q : Fin 8, ∑ k : Fin 256, a0 (ix3 q s k) * a1 (ix3 q d k) := by
  pointwise [res]
  symm
  refine Fin.sum_mul_add_congr fun q k h => ?_
  congr 1 <;> blk_ext

end Cert.Reference10Ideal.AbInDx

namespace Cert.Kernel10Ideal.AbInDx

open Cert.Kernel10Ideal Cert.Kernel10Ideal.Gen
open Cert.Reference10Ideal.AbInDx (res res_at)

variable (m : (ℓ : Loc nD τ sig) → Buf (Elt Ideal) ℓ) (c : Dev nD)

theorem idx : ∀ t : Fin cfg0.N, win0_0.index t = ![0, t.val, 0] ∧ win0_1.index t = ![0, 0, 0] ∧ win0_2.index t = ![t.val, 0] :=
  (by decide +kernel : ∀ t : Fin grid0.N, _)

/-- The sum of the eight products of a grid point's blocks. -/
theorem block_at (x0 x1 x2 x3 x4 x5 x6 x7 w0 w1 w2 w3 w4 w5 w6 w7 : Vec Ideal S1x1024x256 .bf16) (s d : Fin 1024) :
    k0_pay1 (F := Ideal) (k0_pay2 (F := Ideal) x0 w0 x1 w1 x2 w2 x3 w3) (k0_pay3 (F := Ideal) x4) w4 x5 w5 x6 w6 x7 w7 (ix2 s d)
      = (((((((∑ k : Fin 256, x0 (ix3 0 s k) * w0 (ix3 0 d k)) + ∑ k : Fin 256, x1 (ix3 0 s k) * w1 (ix3 0 d k)) + ∑ k : Fin 256, x2 (ix3 0 s k) * w2 (ix3 0 d k)) + ∑ k : Fin 256, x3 (ix3 0 s k) * w3 (ix3 0 d k)) + ∑ k : Fin 256, x4 (ix3 0 s k) * w4 (ix3 0 d k)) + ∑ k : Fin 256, x5 (ix3 0 s k) * w5 (ix3 0 d k)) + ∑ k : Fin 256, x6 (ix3 0 s k) * w6 (ix3 0 d k)) + ∑ k : Fin 256, x7 (ix3 0 s k) * w7 (ix3 0 d k) := by
  pointwise [k0_pay1, k0_pay2, k0_pay3]

/-- The arrays of the two factors. -/
abbrev arrD : FVec Ideal S8x2048x256 .bf16 := m ((c.tc : Thread nD τ).loc main_arg0)
abbrev arrW : FVec Ideal S8x1024x256 .bf16 := m ((c.tc : Thread nD τ).loc main_arg1)

/-- Block 0 of the contraction. -/
abbrev d0 (t : Fin cfg0.N) : Vec Ideal S1x1024x256 .bf16 := View.ld (iblk m c 0 t) r0_0
abbrev w0 (t : Fin cfg0.N) : Vec Ideal S1x1024x256 .bf16 := View.ld (iblk m c 1 t) r0_0
theorem atD0 (t : Fin cfg0.N) (s : Fin 1024) (r : Fin 2048) (hr : r.val = 1024 * t.val + s.val) (k : Fin 256) : d0 m c t (ix3 0 s k) = arrD m c (ix3 0 r k) :=
  congrArg (arrD m c) (show ((cfg0.win 0).blk t).view.emb (r0_0.idx (ix3 0 s k)) = ix3 0 r k from by
    blk_ext [idx t, hr]
    · rfl
    · rw [show (r0_0.idx (ix3 0 s k) 1 : ℕ) = s.val from (Nat.zero_add _).trans (Nat.one_mul _)]; omega
    · exact (Nat.zero_add _).trans (Nat.one_mul _))
theorem atW0 (t : Fin cfg0.N) (d : Fin 1024) (k : Fin 256) : w0 m c t (ix3 0 d k) = arrW m c (ix3 0 d k) :=
  congrArg (arrW m c) (show ((cfg0.win 1).blk t).view.emb (r0_0.idx (ix3 0 d k)) = ix3 0 d k from by
    blk_ext [idx t]
    · rfl
    · exact (Nat.zero_add _).trans (Nat.one_mul _)
    · exact (Nat.zero_add _).trans (Nat.one_mul _))

/-- Block 1 of the contraction. -/
abbrev d1 (t : Fin cfg0.N) : Vec Ideal S1x1024x256 .bf16 := View.ld (iblk m c 0 t) r0_1
abbrev w1 (t : Fin cfg0.N) : Vec Ideal S1x1024x256 .bf16 := View.ld (iblk m c 1 t) r0_1
theorem atD1 (t : Fin cfg0.N) (s : Fin 1024) (r : Fin 2048) (hr : r.val = 1024 * t.val + s.val) (k : Fin 256) : d1 m c t (ix3 0 s k) = arrD m c (ix3 1 r k) :=
  congrArg (arrD m c) (show ((cfg0.win 0).blk t).view.emb (r0_1.idx (ix3 0 s k)) = ix3 1 r k from by
    blk_ext [idx t, hr]
    · rfl
    · rw [show (r0_1.idx (ix3 0 s k) 1 : ℕ) = s.val from (Nat.zero_add _).trans (Nat.one_mul _)]; omega
    · exact (Nat.zero_add _).trans (Nat.one_mul _))
theorem atW1 (t : Fin cfg0.N) (d : Fin 1024) (k : Fin 256) : w1 m c t (ix3 0 d k) = arrW m c (ix3 1 d k) :=
  congrArg (arrW m c) (show ((cfg0.win 1).blk t).view.emb (r0_1.idx (ix3 0 d k)) = ix3 1 d k from by
    blk_ext [idx t]
    · rfl
    · exact (Nat.zero_add _).trans (Nat.one_mul _)
    · exact (Nat.zero_add _).trans (Nat.one_mul _))

/-- Block 2 of the contraction. -/
abbrev d2 (t : Fin cfg0.N) : Vec Ideal S1x1024x256 .bf16 := View.ld (iblk m c 0 t) r0_2
abbrev w2 (t : Fin cfg0.N) : Vec Ideal S1x1024x256 .bf16 := View.ld (iblk m c 1 t) r0_2
theorem atD2 (t : Fin cfg0.N) (s : Fin 1024) (r : Fin 2048) (hr : r.val = 1024 * t.val + s.val) (k : Fin 256) : d2 m c t (ix3 0 s k) = arrD m c (ix3 2 r k) :=
  congrArg (arrD m c) (show ((cfg0.win 0).blk t).view.emb (r0_2.idx (ix3 0 s k)) = ix3 2 r k from by
    blk_ext [idx t, hr]
    · rfl
    · rw [show (r0_2.idx (ix3 0 s k) 1 : ℕ) = s.val from (Nat.zero_add _).trans (Nat.one_mul _)]; omega
    · exact (Nat.zero_add _).trans (Nat.one_mul _))
theorem atW2 (t : Fin cfg0.N) (d : Fin 1024) (k : Fin 256) : w2 m c t (ix3 0 d k) = arrW m c (ix3 2 d k) :=
  congrArg (arrW m c) (show ((cfg0.win 1).blk t).view.emb (r0_2.idx (ix3 0 d k)) = ix3 2 d k from by
    blk_ext [idx t]
    · rfl
    · exact (Nat.zero_add _).trans (Nat.one_mul _)
    · exact (Nat.zero_add _).trans (Nat.one_mul _))

/-- Block 3 of the contraction. -/
abbrev d3 (t : Fin cfg0.N) : Vec Ideal S1x1024x256 .bf16 := View.ld (iblk m c 0 t) r0_3
abbrev w3 (t : Fin cfg0.N) : Vec Ideal S1x1024x256 .bf16 := View.ld (iblk m c 1 t) r0_3
theorem atD3 (t : Fin cfg0.N) (s : Fin 1024) (r : Fin 2048) (hr : r.val = 1024 * t.val + s.val) (k : Fin 256) : d3 m c t (ix3 0 s k) = arrD m c (ix3 3 r k) :=
  congrArg (arrD m c) (show ((cfg0.win 0).blk t).view.emb (r0_3.idx (ix3 0 s k)) = ix3 3 r k from by
    blk_ext [idx t, hr]
    · rfl
    · rw [show (r0_3.idx (ix3 0 s k) 1 : ℕ) = s.val from (Nat.zero_add _).trans (Nat.one_mul _)]; omega
    · exact (Nat.zero_add _).trans (Nat.one_mul _))
theorem atW3 (t : Fin cfg0.N) (d : Fin 1024) (k : Fin 256) : w3 m c t (ix3 0 d k) = arrW m c (ix3 3 d k) :=
  congrArg (arrW m c) (show ((cfg0.win 1).blk t).view.emb (r0_3.idx (ix3 0 d k)) = ix3 3 d k from by
    blk_ext [idx t]
    · rfl
    · exact (Nat.zero_add _).trans (Nat.one_mul _)
    · exact (Nat.zero_add _).trans (Nat.one_mul _))

/-- Block 4 of the contraction. -/
abbrev d4 (t : Fin cfg0.N) : Vec Ideal S1x1024x256 .bf16 := View.ld (iblk m c 0 t) r0_4
abbrev w4 (t : Fin cfg0.N) : Vec Ideal S1x1024x256 .bf16 := View.ld (iblk m c 1 t) r0_4
theorem atD4 (t : Fin cfg0.N) (s : Fin 1024) (r : Fin 2048) (hr : r.val = 1024 * t.val + s.val) (k : Fin 256) : d4 m c t (ix3 0 s k) = arrD m c (ix3 4 r k) :=
  congrArg (arrD m c) (show ((cfg0.win 0).blk t).view.emb (r0_4.idx (ix3 0 s k)) = ix3 4 r k from by
    blk_ext [idx t, hr]
    · rfl
    · rw [show (r0_4.idx (ix3 0 s k) 1 : ℕ) = s.val from (Nat.zero_add _).trans (Nat.one_mul _)]; omega
    · exact (Nat.zero_add _).trans (Nat.one_mul _))
theorem atW4 (t : Fin cfg0.N) (d : Fin 1024) (k : Fin 256) : w4 m c t (ix3 0 d k) = arrW m c (ix3 4 d k) :=
  congrArg (arrW m c) (show ((cfg0.win 1).blk t).view.emb (r0_4.idx (ix3 0 d k)) = ix3 4 d k from by
    blk_ext [idx t]
    · rfl
    · exact (Nat.zero_add _).trans (Nat.one_mul _)
    · exact (Nat.zero_add _).trans (Nat.one_mul _))

/-- Block 5 of the contraction. -/
abbrev d5 (t : Fin cfg0.N) : Vec Ideal S1x1024x256 .bf16 := View.ld (iblk m c 0 t) r0_5
abbrev w5 (t : Fin cfg0.N) : Vec Ideal S1x1024x256 .bf16 := View.ld (iblk m c 1 t) r0_5
theorem atD5 (t : Fin cfg0.N) (s : Fin 1024) (r : Fin 2048) (hr : r.val = 1024 * t.val + s.val) (k : Fin 256) : d5 m c t (ix3 0 s k) = arrD m c (ix3 5 r k) :=
  congrArg (arrD m c) (show ((cfg0.win 0).blk t).view.emb (r0_5.idx (ix3 0 s k)) = ix3 5 r k from by
    blk_ext [idx t, hr]
    · rfl
    · rw [show (r0_5.idx (ix3 0 s k) 1 : ℕ) = s.val from (Nat.zero_add _).trans (Nat.one_mul _)]; omega
    · exact (Nat.zero_add _).trans (Nat.one_mul _))
theorem atW5 (t : Fin cfg0.N) (d : Fin 1024) (k : Fin 256) : w5 m c t (ix3 0 d k) = arrW m c (ix3 5 d k) :=
  congrArg (arrW m c) (show ((cfg0.win 1).blk t).view.emb (r0_5.idx (ix3 0 d k)) = ix3 5 d k from by
    blk_ext [idx t]
    · rfl
    · exact (Nat.zero_add _).trans (Nat.one_mul _)
    · exact (Nat.zero_add _).trans (Nat.one_mul _))

/-- Block 6 of the contraction. -/
abbrev d6 (t : Fin cfg0.N) : Vec Ideal S1x1024x256 .bf16 := View.ld (iblk m c 0 t) r0_6
abbrev w6 (t : Fin cfg0.N) : Vec Ideal S1x1024x256 .bf16 := View.ld (iblk m c 1 t) r0_6
theorem atD6 (t : Fin cfg0.N) (s : Fin 1024) (r : Fin 2048) (hr : r.val = 1024 * t.val + s.val) (k : Fin 256) : d6 m c t (ix3 0 s k) = arrD m c (ix3 6 r k) :=
  congrArg (arrD m c) (show ((cfg0.win 0).blk t).view.emb (r0_6.idx (ix3 0 s k)) = ix3 6 r k from by
    blk_ext [idx t, hr]
    · rfl
    · rw [show (r0_6.idx (ix3 0 s k) 1 : ℕ) = s.val from (Nat.zero_add _).trans (Nat.one_mul _)]; omega
    · exact (Nat.zero_add _).trans (Nat.one_mul _))
theorem atW6 (t : Fin cfg0.N) (d : Fin 1024) (k : Fin 256) : w6 m c t (ix3 0 d k) = arrW m c (ix3 6 d k) :=
  congrArg (arrW m c) (show ((cfg0.win 1).blk t).view.emb (r0_6.idx (ix3 0 d k)) = ix3 6 d k from by
    blk_ext [idx t]
    · rfl
    · exact (Nat.zero_add _).trans (Nat.one_mul _)
    · exact (Nat.zero_add _).trans (Nat.one_mul _))

/-- Block 7 of the contraction. -/
abbrev d7 (t : Fin cfg0.N) : Vec Ideal S1x1024x256 .bf16 := View.ld (iblk m c 0 t) r0_7
abbrev w7 (t : Fin cfg0.N) : Vec Ideal S1x1024x256 .bf16 := View.ld (iblk m c 1 t) r0_7
theorem atD7 (t : Fin cfg0.N) (s : Fin 1024) (r : Fin 2048) (hr : r.val = 1024 * t.val + s.val) (k : Fin 256) : d7 m c t (ix3 0 s k) = arrD m c (ix3 7 r k) :=
  congrArg (arrD m c) (show ((cfg0.win 0).blk t).view.emb (r0_7.idx (ix3 0 s k)) = ix3 7 r k from by
    blk_ext [idx t, hr]
    · rfl
    · rw [show (r0_7.idx (ix3 0 s k) 1 : ℕ) = s.val from (Nat.zero_add _).trans (Nat.one_mul _)]; omega
    · exact (Nat.zero_add _).trans (Nat.one_mul _))
theorem atW7 (t : Fin cfg0.N) (d : Fin 1024) (k : Fin 256) : w7 m c t (ix3 0 d k) = arrW m c (ix3 7 d k) :=
  congrArg (arrW m c) (show ((cfg0.win 1).blk t).view.emb (r0_7.idx (ix3 0 d k)) = ix3 7 d k from by
    blk_ext [idx t]
    · rfl
    · exact (Nat.zero_add _).trans (Nat.one_mul _)
    · exact (Nat.zero_add _).trans (Nat.one_mul _))

theorem piece (t : Fin cfg0.N) (x : S1024x1024.Idx) (s d : Fin 1024) (hx : x = ix2 s d) (r : Fin 2048) (hr : r.val = 1024 * t.val + s.val) :
    k0_pay1 (F := Ideal) (k0_pay2 (F := Ideal) (d0 m c t) (w0 m c t) (d1 m c t) (w1 m c t) (d2 m c t) (w2 m c t) (d3 m c t) (w3 m c t)) (k0_pay3 (F := Ideal) (d4 m c t)) (w4 m c t) (d5 m c t) (w5 m c t) (d6 m c t) (w6 m c t) (d7 m c t) (w7 m c t) x
      = res (m ((c.tc : Thread nD τ).loc main_arg0)) (m ((c.tc : Thread nD τ).loc main_arg1)) (ix2 r d) := by
  subst hx
  rw [block_at, res_at, Fin.sum_univ_eight]
  simp only [atD0 m c t s r hr, atW0 m c t d, atD1 m c t s r hr, atW1 m c t d, atD2 m c t s r hr, atW2 m c t d, atD3 m c t s r hr, atW3 m c t d, atD4 m c t s r hr, atW4 m c t d, atD5 m c t s r hr, atW5 m c t d, atD6 m c t s r hr, atW6 m c t d, atD7 m c t s r hr, atW7 m c t d]

theorem place (t : Fin cfg0.N) (y : ((cfg0.win 2).xblock (cfg0.grid.coords t)).Idx) (s d : Fin 1024) (r : Fin 2048)
    (hr : r.val = 1024 * t.val + s.val) (e0 : (y 0).val = s.val) (e1 : (y 1).val = d.val) :
    ((View.whole main_v0).slice (win0_2.rect t)).emb y = ix2 r d := by
  blk_ext [idx t, hr]

theorem blockIdx (x : S1024x1024.Idx) : x = ix2 (x 0) (x 1) := by
  idx_vars x; blk_ext

/-- The whole array the call leaves is the reference's. -/
theorem final : (dats m 0 c).arrAt 2 (cfgs 0).N
    = res (m ((c.tc : Thread nD τ).loc main_arg0)) (m ((c.tc : Thread nD τ).loc main_arg1)) := by
  refine (dats m 0 c).arrAt_eq_of_covers 2 _ (by decide +kernel) fun t hf y => ?_
  blk_simp
  rw [after0_2]
  have ht : t.val < 2 := t.isLt
  have hy : (y 0).val < 1024 := (y 0).isLt
  have E := place t y
  frame_out
  rw [E (y 0) (y 1) ⟨1024 * t.val + (y 0).val, by omega⟩ rfl rfl rfl]
  exact piece m c t _ _ _ (blockIdx _) _ rfl

end Cert.Kernel10Ideal.AbInDx

end
-- ==== Proof.Out.lean ====
/- Hand-written, untrusted: the product behind two mixers and the gated residual behind it: one entry of the product, the
   blocks of a grid point against it, and the two arrays whole. -/
module

public import proofs.«01_k».proof.Proof.Gen.Kernel11Ideal.Value
public import proofs.«01_k».proof.Proof.Gen.Reference11Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Reference11Ideal.Out

open Cert.Reference11Ideal Cert.Reference11Ideal.Gen

/-- The reference's product, before its rounding. -/
def prod (a : FVec Ideal S2x2048x512 .bf16) (w : FVec Ideal S2x512x1024 .bf16) : FVec Ideal S2048x1024 .f32 :=
  Host.dotGeneral dot_S2048x1024_S1024x1024_S2048x1024_1_0_0_1_n_n none (shapeCast _ (transpose S2048x2x512 [1, 0, 2] (extf .f32 a bitsLt_bf16_f32) transposes_S2x2048x512_S2048x2x512_1_0_2) shapeCasts_S2048x2x512_S2048x1024) (shapeCast _ (extf .f32 w bitsLt_bf16_f32) shapeCasts_S2x512x1024_S1024x1024)

/-- The reference's first result. -/
def res (a : FVec Ideal S2x2048x512 .bf16) (w : FVec Ideal S2x512x1024 .bf16) : FVec Ideal S2048x1024 .bf16 :=
  truncf .bf16 (prod a w) bitsLt_bf16_f32

/-- The reference's second result: the residual stream behind the layer. -/
def resid (a : FVec Ideal S2x2048x512 .bf16) (w : FVec Ideal S2x512x1024 .bf16) (x : FVec Ideal S2048x1024 .f32) (g : FVec Ideal S1x1024 .f32) :
    FVec Ideal S2048x1024 .f32 :=
  addf x (mulf (broadcastInDim S2048x1024 ![0, 1] bcast_S1x1024_S2048x1024_0_1 g) (prod a w))

/-- One entry of the product: the two blocks of the contraction one after the other. -/
theorem prod_at (a : FVec Ideal S2x2048x512 .bf16) (w : FVec Ideal S2x512x1024 .bf16) (s : Fin 2048) (d : Fin 1024) :
    prod a w (ix2 s d) = ∑ q : Fin 2, ∑ k : Fin 512, a (ix3 q s k) * w (ix3 q k d) := by
  pointwise [prod]
  symm
  refine Fin.sum_mul_add_congr fun q k h => ?_
  congr 1 <;> blk_ext

theorem res_at (a : FVec Ideal S2x2048x512 .bf16) (w : FVec Ideal S2x512x1024 .bf16) (s : Fin 2048) (d : Fin 1024) :
    res a w (ix2 s d) = ∑ q : Fin 2, ∑ k : Fin 512, a (ix3 q s k) * w (ix3 q k d) := prod_at a w s d

theorem resid_at (a : FVec Ideal S2x2048x512 .bf16) (w : FVec Ideal S2x512x1024 .bf16) (x : FVec Ideal S2048x1024 .f32)
    (g : FVec Ideal S1x1024 .f32) (s : Fin 2048) (d : Fin 1024) :
    resid a w x g (ix2 s d) = x (ix2 s d) + g (ix2 0 d) * ∑ q : Fin 2, ∑ k : Fin 512, a (ix3 q s k) * w (ix3 q k d) := by
  rw [← prod_at]
  pointwise [resid]

end Cert.Reference11Ideal.Out

namespace Cert.Kernel11Ideal.Out

open Cert.Kernel11Ideal Cert.Kernel11Ideal.Gen
open Cert.Reference11Ideal.Out (res resid res_at resid_at)

variable (m : (ℓ : Loc nD τ sig) → Buf (Elt Ideal) ℓ) (c : Dev nD)

theorem idx : ∀ t : Fin cfg0.N, win0_0.index t = ![0, t.val, 0] ∧ win0_1.index t = ![0, 0, 0] ∧ win0_2.index t = ![t.val, 0]
    ∧ win0_3.index t = ![0, 0] ∧ win0_4.index t = ![t.val, 0] ∧ win0_5.index t = ![t.val, 0] :=
  (by decide +kernel : ∀ t : Fin grid0.N, _)

/-- The sum of the two products of a grid point's blocks. -/
theorem block_at (x0 x1 : Vec Ideal S1x1024x512 .bf16) (w0 w1 : Vec Ideal S1x512x1024 .bf16) (s : Fin 1024) (d : Fin 1024) :
    k0_pay1 (F := Ideal) x0 w0 x1 w1 (ix2 s d)
      = (∑ k : Fin 512, x0 (ix3 0 s k) * w0 (ix3 0 k d)) + ∑ k : Fin 512, x1 (ix3 0 s k) * w1 (ix3 0 k d) := by
  pointwise [k0_pay1]

/-- The arrays of the two factors. -/
abbrev arrA : FVec Ideal S2x2048x512 .bf16 := m ((c.tc : Thread nD τ).loc main_arg0)
abbrev arrW : FVec Ideal S2x512x1024 .bf16 := m ((c.tc : Thread nD τ).loc main_arg1)

/-- The kernel's product at a grid point, over the arrays. -/
abbrev acc (t : Fin cfg0.N) : FVec Ideal S1024x1024 .f32 :=
  k0_pay1 (F := Ideal) (View.ld (iblk m c 0 t) r0_0) (View.ld (iblk m c 1 t) r0_1) (View.ld (iblk m c 0 t) r0_2) (View.ld (iblk m c 1 t) r0_3)

theorem acc_at (t : Fin cfg0.N) (s : Fin 1024) (d : Fin 1024) (r : Fin 2048) (hr : r.val = 1024 * t.val + s.val) :
    acc m c t (ix2 s d) = ∑ q : Fin 2, ∑ k : Fin 512, arrA m c (ix3 q r k) * arrW m c (ix3 q k d) := by
  rw [acc, block_at, Fin.sum_univ_two]
  congr 1
  · exact Finset.sum_congr rfl fun k _ => by pointwise; blk_point [iblk, V, idx t, hr]
  · exact Finset.sum_congr rfl fun k _ => by pointwise; blk_point [iblk, V, idx t, hr]

theorem piece4 (t : Fin cfg0.N) (x : S1024x1024.Idx) (s : Fin 1024) (d : Fin 1024) (hx : x = ix2 s d) (r : Fin 2048) (hr : r.val = 1024 * t.val + s.val) :
    k0_pay2 (F := Ideal) (View.ld (iblk m c 0 t) r0_0) (View.ld (iblk m c 1 t) r0_1) (View.ld (iblk m c 0 t) r0_2) (View.ld (iblk m c 1 t) r0_3) x
      = res (m ((c.tc : Thread nD τ).loc main_arg0)) (m ((c.tc : Thread nD τ).loc main_arg1)) (ix2 r d) := by
  subst hx
  rw [res_at, ← acc_at m c t s d r hr]; rfl

theorem piece5 (t : Fin cfg0.N) (x : S1024x1024.Idx) (s : Fin 1024) (d : Fin 1024) (hx : x = ix2 s d) (r : Fin 2048) (hr : r.val = 1024 * t.val + s.val) :
    k0_pay3 (F := Ideal) (View.ld (iblk m c 0 t) r0_0) (View.ld (iblk m c 1 t) r0_1) (View.ld (iblk m c 0 t) r0_2) (View.ld (iblk m c 1 t) r0_3)
      (iblk m c 2 t) (iblk m c 3 t) x
      = resid (m ((c.tc : Thread nD τ).loc main_arg0)) (m ((c.tc : Thread nD τ).loc main_arg1)) (m ((c.tc : Thread nD τ).loc main_arg2)) (m ((c.tc : Thread nD τ).loc main_arg3)) (ix2 r d) := by
  subst hx
  rw [resid_at, ← acc_at m c t s d r hr]
  unfold k0_pay3 acc
  generalize k0_pay1 (F := Ideal) (View.ld (iblk m c 0 t) r0_0) (View.ld (iblk m c 1 t) r0_1) (View.ld (iblk m c 0 t) r0_2) (View.ld (iblk m c 1 t) r0_3) = A
  pointwise
  blk_point [iblk, V, idx t, hr]

theorem place4 (t : Fin cfg0.N) (y : ((cfg0.win 4).xblock (cfg0.grid.coords t)).Idx) (s : Fin 1024) (d : Fin 1024) (r : Fin 2048)
    (hr : r.val = 1024 * t.val + s.val) (e0 : (y 0).val = s.val) (e1 : (y 1).val = d.val) :
    ((View.whole main_v0_0).slice (win0_4.rect t)).emb y = ix2 r d := by
  blk_ext [idx t, hr]
theorem place5 (t : Fin cfg0.N) (y : ((cfg0.win 5).xblock (cfg0.grid.coords t)).Idx) (s : Fin 1024) (d : Fin 1024) (r : Fin 2048)
    (hr : r.val = 1024 * t.val + s.val) (e0 : (y 0).val = s.val) (e1 : (y 1).val = d.val) :
    ((View.whole main_v0_1).slice (win0_5.rect t)).emb y = ix2 r d := by
  blk_ext [idx t, hr]

theorem blockIdx (x : S1024x1024.Idx) : x = ix2 (x 0) (x 1) := by
  idx_vars x; blk_ext

/-- The product's array is the reference's. -/
theorem final4 : (dats m 0 c).arrAt 4 (cfgs 0).N
    = res (m ((c.tc : Thread nD τ).loc main_arg0)) (m ((c.tc : Thread nD τ).loc main_arg1)) := by
  refine (dats m 0 c).arrAt_eq_of_covers 4 _ (by decide +kernel) fun t hf y => ?_
  blk_simp
  rw [after0_4]
  have ht : t.val < 2 := t.isLt
  have hy : (y 0).val < 1024 := (y 0).isLt
  have E := place4 t y
  frame_out
  rw [E (y 0) (y 1) ⟨1024 * t.val + (y 0).val, by omega⟩ rfl rfl rfl]
  exact piece4 m c t _ _ _ (blockIdx _) _ rfl

/-- The residual stream's array is the reference's. -/
theorem final5 : (dats m 0 c).arrAt 5 (cfgs 0).N
    = resid (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hf y => ?_
  blk_simp
  rw [after0_5]
  have ht : t.val < 2 := t.isLt
  have hy : (y 0).val < 1024 := (y 0).isLt
  have E := place5 t y
  frame_out
  rw [E (y 0) (y 1) ⟨1024 * t.val + (y 0).val, by omega⟩ rfl rfl rfl]
  exact piece5 m c t _ _ _ (blockIdx _) _ rfl

end Cert.Kernel11Ideal.Out

end
-- ==== Proof.OutDx.lean ====
/- Hand-written, untrusted: the gradient of the product behind two mixers to its input: one entry of the product, the block of a grid point against it, and the array whole. -/
module

public import proofs.«01_k».proof.Proof.Gen.Kernel12Ideal.Value
public import proofs.«01_k».proof.Proof.Gen.Reference12Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Reference12Ideal.OutDx

open Cert.Reference12Ideal Cert.Reference12Ideal.Gen

/-- The reference's result as a function of its two arguments. -/
def res (a0 : FVec Ideal S2048x1024 .bf16) (a1 : FVec Ideal S2x512x1024 .bf16) : FVec Ideal S2x2048x512 .f32 :=
  transpose S2x2048x512 [1, 0, 2] (shapeCast _ (Host.dotGeneral dot_S2048x1024_S1024x1024_S2048x1024_1_1_0_0_n_n none (extf .f32 a0 bitsLt_bf16_f32) (shapeCast _ (extf .f32 a1 bitsLt_bf16_f32) shapeCasts_S2x512x1024_S1024x1024)) shapeCasts_S2048x1024_S2048x2x512) transposes_S2048x2x512_S2x2048x512_1_0_2

/-- One entry of it: a row of the gradient against a row of the matrix. -/
theorem res_at (a0 : FVec Ideal S2048x1024 .bf16) (a1 : FVec Ideal S2x512x1024 .bf16) (j : Fin 2) (s : Fin 2048) (l : Fin 512) :
    res a0 a1 (ix3 j s l) = ∑ k : Fin 1024, a0 (ix2 s k) * a1 (ix3 j l k) := by
  pointwise [res]

end Cert.Reference12Ideal.OutDx

namespace Cert.Kernel12Ideal.OutDx

open Cert.Kernel12Ideal Cert.Kernel12Ideal.Gen

variable (m : (ℓ : Loc nD τ sig) → Buf (Elt Ideal) ℓ) (c : Dev nD)

/-- The block of a grid point: all rows of the gradient against one block of rows of the matrix. -/
theorem block_at (x0 : Vec Ideal S2048x1024 .bf16) (x1 : Vec Ideal S1x512x1024 .bf16) (s : Fin 2048) (l : Fin 512) :
    k0_pay1 (F := Ideal) x0 x1 (ix3 0 s l) = ∑ k : Fin 1024, x0 (ix2 s k) * x1 (ix3 0 l k) := by
  pointwise [k0_pay1]

theorem idx : ∀ t : Fin cfg0.N, win0_0.index t = ![0, 0] ∧ win0_1.index t = ![t.val, 0, 0] ∧ win0_2.index t = ![t.val, 0, 0] :=
  (by decide +kernel : ∀ t : Fin grid0.N, _)

/-- A grid point's block against the reference at its place. -/
theorem piece (t : Fin cfg0.N) (q : Fin 2) (hq : q.val = t.val) (x : S1x2048x512.Idx) (s : Fin 2048) (l : Fin 512) (hx : x = ix3 0 s l) :
    k0_pay1 (F := Ideal) (iblk m c 0 t) (iblk m c 1 t) x
      = Cert.Reference12Ideal.OutDx.res (m ((c.tc : Thread nD τ).loc main_arg0)) (m ((c.tc : Thread nD τ).loc main_arg1)) (ix3 q s l) := by
  subst hx
  rw [block_at, Cert.Reference12Ideal.OutDx.res_at]
  refine Finset.sum_congr rfl fun k _ => ?_
  blk_point [iblk, V, idx t, hq]

theorem place (t : Fin cfg0.N) (q : Fin 2) (hq : q.val = t.val) (y : ((cfg0.win 2).xblock (cfg0.grid.coords t)).Idx) (s : Fin 2048) (l : Fin 512)
    (e1 : (y 1).val = s.val) (e2 : (y 2).val = l.val) :
    ((View.whole main_v0).slice (win0_2.rect t)).emb y = ix3 q s l := by
  blk_ext [idx t, hq]

theorem blockIdx (x : S1x2048x512.Idx) : x = ix3 0 (x 1) (x 2) := by
  idx_vars x; blk_ext

/-- The whole array the call leaves is the reference's. -/
theorem final : (dats m 0 c).arrAt 2 (cfgs 0).N
    = Cert.Reference12Ideal.OutDx.res (m ((c.tc : Thread nD τ).loc main_arg0)) (m ((c.tc : Thread nD τ).loc main_arg1)) := by
  refine (dats m 0 c).arrAt_eq_of_covers 2 _ (by decide +kernel) fun t hf y => ?_
  blk_simp
  rw [after0_2]
  have ht : t.val < 2 := t.isLt
  have E := place t ⟨t.val, ht⟩ rfl y
  frame_out
  rw [E (y 1) (y 2) rfl rfl]
  exact piece m c t ⟨t.val, ht⟩ rfl _ _ _ (blockIdx _)

end Cert.Kernel12Ideal.OutDx

end
-- ==== Proof.OutDw.lean ====
/- Hand-written, untrusted: the gradient of the matrix behind two mixers: one entry of the product, the block of a grid point against it, and the array whole. -/
module

public import proofs.«01_k».proof.Proof.Gen.Kernel13Ideal.Value
public import proofs.«01_k».proof.Proof.Gen.Reference13Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Reference13Ideal.OutDw

open Cert.Reference13Ideal Cert.Reference13Ideal.Gen

/-- The reference's result as a function of its two arguments. -/
def res (a0 : FVec Ideal S2x2048x512 .bf16) (a1 : FVec Ideal S2048x1024 .bf16) : FVec Ideal S2x512x1024 .bf16 :=
  truncf .bf16 (shapeCast _ (transpose S1024x1024 [1, 0] (Host.dotGeneral dot_S2048x1024_S2048x1024_S1024x1024_0_0_1_1_n_n none (extf .f32 a1 bitsLt_bf16_f32) (shapeCast _ (transpose S2048x2x512 [1, 0, 2] (extf .f32 a0 bitsLt_bf16_f32) transposes_S2x2048x512_S2048x2x512_1_0_2) shapeCasts_S2048x2x512_S2048x1024)) transposes_S1024x1024_S1024x1024_1_0) shapeCasts_S1024x1024_S2x512x1024) bitsLt_bf16_f32

/-- One entry of it: a column of the mixers against a column of the gradient. -/
theorem res_at (a0 : FVec Ideal S2x2048x512 .bf16) (a1 : FVec Ideal S2048x1024 .bf16) (j : Fin 2) (l : Fin 512) (d : Fin 1024) :
    res a0 a1 (ix3 j l d) = ∑ k : Fin 2048, a0 (ix3 j k l) * a1 (ix2 k d) := by
  pointwise [res]
  exact Finset.sum_congr rfl fun k _ => mul_comm _ _

end Cert.Reference13Ideal.OutDw

namespace Cert.Kernel13Ideal.OutDw

open Cert.Kernel13Ideal Cert.Kernel13Ideal.Gen

variable (m : (ℓ : Loc nD τ sig) → Buf (Elt Ideal) ℓ) (c : Dev nD)

/-- The block of a grid point: one mixer's columns against the columns of the gradient. -/
theorem block_at (x0 : Vec Ideal S1x2048x512 .bf16) (x1 : Vec Ideal S2048x1024 .bf16) (l : Fin 512) (d : Fin 1024) :
    k0_pay1 (F := Ideal) x0 x1 (ix3 0 l d) = ∑ k : Fin 2048, x0 (ix3 0 k l) * x1 (ix2 k d) := by
  pointwise [k0_pay1]

theorem idx : ∀ t : Fin cfg0.N, win0_0.index t = ![t.val, 0, 0] ∧ win0_1.index t = ![0, 0] ∧ win0_2.index t = ![t.val, 0, 0] :=
  (by decide +kernel : ∀ t : Fin grid0.N, _)

/-- A grid point's block against the reference at its place. -/
theorem piece (t : Fin cfg0.N) (q : Fin 2) (hq : q.val = t.val) (x : S1x512x1024.Idx) (l : Fin 512) (d : Fin 1024) (hx : x = ix3 0 l d) :
    k0_pay1 (F := Ideal) (iblk m c 0 t) (iblk m c 1 t) x
      = Cert.Reference13Ideal.OutDw.res (m ((c.tc : Thread nD τ).loc main_arg0)) (m ((c.tc : Thread nD τ).loc main_arg1)) (ix3 q l d) := by
  subst hx
  rw [block_at, Cert.Reference13Ideal.OutDw.res_at]
  refine Finset.sum_congr rfl fun k _ => ?_
  blk_point [iblk, V, idx t, hq]

theorem place (t : Fin cfg0.N) (q : Fin 2) (hq : q.val = t.val) (y : ((cfg0.win 2).xblock (cfg0.grid.coords t)).Idx) (l : Fin 512) (d : Fin 1024)
    (e1 : (y 1).val = l.val) (e2 : (y 2).val = d.val) :
    ((View.whole main_v0).slice (win0_2.rect t)).emb y = ix3 q l d := by
  blk_ext [idx t, hq]

theorem blockIdx (x : S1x512x1024.Idx) : x = ix3 0 (x 1) (x 2) := by
  idx_vars x; blk_ext

/-- The whole array the call leaves is the reference's. -/
theorem final : (dats m 0 c).arrAt 2 (cfgs 0).N
    = Cert.Reference13Ideal.OutDw.res (m ((c.tc : Thread nD τ).loc main_arg0)) (m ((c.tc : Thread nD τ).loc main_arg1)) := by
  refine (dats m 0 c).arrAt_eq_of_covers 2 _ (by decide +kernel) fun t hf y => ?_
  blk_simp
  rw [after0_2]
  have ht : t.val < 2 := t.isLt
  have E := place t ⟨t.val, ht⟩ rfl y
  frame_out
  rw [E (y 1) (y 2) rfl rfl]
  exact piece m c t ⟨t.val, ht⟩ rfl _ _ _ (blockIdx _)

end Cert.Kernel13Ideal.OutDw

end
-- ==== Proof.CdIn.lean ====
/- Hand-written, untrusted: the product in front of the last two mixers: one entry of the product, the block of a grid point against it, and the array whole. -/
module

public import proofs.«01_k».proof.Proof.Gen.Kernel14Ideal.Value
public import proofs.«01_k».proof.Proof.Gen.Reference14Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Reference14Ideal.CdIn

open Cert.Reference14Ideal Cert.Reference14Ideal.Gen

/-- The reference's result as a function of its two arguments. -/
def res (a0 : FVec Ideal S2048x1024 .bf16) (a1 : FVec Ideal S1536x1024 .bf16) : FVec Ideal S2048x1536 .f32 :=
  Host.dotGeneral dot_S2048x1024_S1024x1536_S2048x1536_1_0_0_1_n_n none (extf .f32 a0 bitsLt_bf16_f32) (transpose S1024x1536 [1, 0] (extf .f32 a1 bitsLt_bf16_f32) transposes_S1536x1024_S1024x1536_1_0)

/-- One entry of it: a row of `h` against a row of the transposed matrix. -/
theorem res_at (a0 : FVec Ideal S2048x1024 .bf16) (a1 : FVec Ideal S1536x1024 .bf16) (r : Fin 2048) (l : Fin 1536) :
    res a0 a1 (ix2 r l) = ∑ k : Fin 1024, a0 (ix2 r k) * a1 (ix2 l k) := by
  pointwise [res]

end Cert.Reference14Ideal.CdIn

namespace Cert.Kernel14Ideal.CdIn

open Cert.Kernel14Ideal Cert.Kernel14Ideal.Gen

variable (m : (ℓ : Loc nD τ sig) → Buf (Elt Ideal) ℓ) (c : Dev nD)

/-- The block of a grid point: half the rows of `h` against the matrix. -/
theorem block_at (x0 : Vec Ideal S1024x1024 .bf16) (x1 : Vec Ideal S1536x1024 .bf16) (s : Fin 1024) (l : Fin 1536) :
    k0_pay1 (F := Ideal) x0 x1 (ix2 s l) = ∑ k : Fin 1024, x0 (ix2 s k) * x1 (ix2 l k) := by
  pointwise [k0_pay1]

theorem idx : ∀ t : Fin cfg0.N, win0_0.index t = ![t.val, 0] ∧ win0_1.index t = ![0, 0] ∧ win0_2.index t = ![t.val, 0] :=
  (by decide +kernel : ∀ t : Fin grid0.N, _)

/-- A grid point's block against the reference at its place. -/
theorem piece (t : Fin cfg0.N) (x : S1024x1536.Idx) (s : Fin 1024) (l : Fin 1536) (hx : x = ix2 s l) (q : Fin 2048) (hq : q.val = 1024 * t.val + s.val) :
    k0_pay1 (F := Ideal) (iblk m c 0 t) (iblk m c 1 t) x
      = Cert.Reference14Ideal.CdIn.res (m ((c.tc : Thread nD τ).loc main_arg0)) (m ((c.tc : Thread nD τ).loc main_arg1)) (ix2 q l) := by
  subst hx
  rw [block_at, Cert.Reference14Ideal.CdIn.res_at]
  refine Finset.sum_congr rfl fun k _ => ?_
  blk_point [iblk, V, idx t, hq]

theorem place (t : Fin cfg0.N) (y : ((cfg0.win 2).xblock (cfg0.grid.coords t)).Idx) (s : Fin 1024) (l : Fin 1536) (q : Fin 2048) (hq : q.val = 1024 * t.val + s.val)
    (e1 : (y 0).val = s.val) (e2 : (y 1).val = l.val) :
    ((View.whole main_v0).slice (win0_2.rect t)).emb y = ix2 q l := by
  blk_ext [idx t, hq]

theorem blockIdx (x : S1024x1536.Idx) : x = ix2 (x 0) (x 1) := by
  idx_vars x; blk_ext

/-- The whole array the call leaves is the reference's. -/
theorem final : (dats m 0 c).arrAt 2 (cfgs 0).N
    = Cert.Reference14Ideal.CdIn.res (m ((c.tc : Thread nD τ).loc main_arg0)) (m ((c.tc : Thread nD τ).loc main_arg1)) := by
  refine (dats m 0 c).arrAt_eq_of_covers 2 _ (by decide +kernel) fun t hf y => ?_
  blk_simp
  rw [after0_2]
  have ht : t.val < 2 := t.isLt
  have hy : (y 0).val < 1024 := (y 0).isLt
  have E := place t y
  frame_out
  rw [E (y 0) (y 1) ⟨1024 * t.val + (y 0).val, by omega⟩ rfl rfl rfl]
  exact piece m c t _ _ _ (blockIdx _) _ rfl

end Cert.Kernel14Ideal.CdIn

end
-- ==== Proof.CdInDx.lean ====
/- Hand-written, untrusted: the gradient of that product to its input: one entry of the product, the block of a grid point against it, and the array whole. -/
module

public import proofs.«01_k».proof.Proof.Gen.Kernel15Ideal.Value
public import proofs.«01_k».proof.Proof.Gen.Reference15Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Reference15Ideal.CdInDx

open Cert.Reference15Ideal Cert.Reference15Ideal.Gen

/-- The reference's result as a function of its two arguments. -/
def res (a0 : FVec Ideal S2048x1536 .bf16) (a1 : FVec Ideal S1536x1024 .bf16) : FVec Ideal S2048x1024 .bf16 :=
  truncf .bf16 (Host.dotGeneral dot_S2048x1536_S1024x1536_S2048x1024_1_1_0_0_n_n none (extf .f32 a0 bitsLt_bf16_f32) (transpose S1024x1536 [1, 0] (extf .f32 a1 bitsLt_bf16_f32) transposes_S1536x1024_S1024x1536_1_0)) bitsLt_bf16_f32

/-- One entry of it: a row of the gradient against a column of the transposed matrix. -/
theorem res_at (a0 : FVec Ideal S2048x1536 .bf16) (a1 : FVec Ideal S1536x1024 .bf16) (r : Fin 2048) (l : Fin 1024) :
    res a0 a1 (ix2 r l) = ∑ k : Fin 1536, a0 (ix2 r k) * a1 (ix2 k l) := by
  pointwise [res]

end Cert.Reference15Ideal.CdInDx

namespace Cert.Kernel15Ideal.CdInDx

open Cert.Kernel15Ideal Cert.Kernel15Ideal.Gen

variable (m : (ℓ : Loc nD τ sig) → Buf (Elt Ideal) ℓ) (c : Dev nD)

/-- The block of a grid point: half the rows of the gradient against the matrix. -/
theorem block_at (x0 : Vec Ideal S1024x1536 .bf16) (x1 : Vec Ideal S1536x1024 .bf16) (s : Fin 1024) (l : Fin 1024) :
    k0_pay1 (F := Ideal) x0 x1 (ix2 s l) = ∑ k : Fin 1536, x0 (ix2 s k) * x1 (ix2 k l) := by
  pointwise [k0_pay1]

theorem idx : ∀ t : Fin cfg0.N, win0_0.index t = ![t.val, 0] ∧ win0_1.index t = ![0, 0] ∧ win0_2.index t = ![t.val, 0] :=
  (by decide +kernel : ∀ t : Fin grid0.N, _)

/-- A grid point's block against the reference at its place. -/
theorem piece (t : Fin cfg0.N) (x : S1024x1024.Idx) (s : Fin 1024) (l : Fin 1024) (hx : x = ix2 s l) (q : Fin 2048) (hq : q.val = 1024 * t.val + s.val) :
    k0_pay1 (F := Ideal) (iblk m c 0 t) (iblk m c 1 t) x
      = Cert.Reference15Ideal.CdInDx.res (m ((c.tc : Thread nD τ).loc main_arg0)) (m ((c.tc : Thread nD τ).loc main_arg1)) (ix2 q l) := by
  subst hx
  rw [block_at, Cert.Reference15Ideal.CdInDx.res_at]
  refine Finset.sum_congr rfl fun k _ => ?_
  blk_point [iblk, V, idx t, hq]

theorem place (t : Fin cfg0.N) (y : ((cfg0.win 2).xblock (cfg0.grid.coords t)).Idx) (s : Fin 1024) (l : Fin 1024) (q : Fin 2048) (hq : q.val = 1024 * t.val + s.val)
    (e1 : (y 0).val = s.val) (e2 : (y 1).val = l.val) :
    ((View.whole main_v0).slice (win0_2.rect t)).emb y = ix2 q l := by
  blk_ext [idx t, hq]

theorem blockIdx (x : S1024x1024.Idx) : x = ix2 (x 0) (x 1) := by
  idx_vars x; blk_ext

/-- The whole array the call leaves is the reference's. -/
theorem final : (dats m 0 c).arrAt 2 (cfgs 0).N
    = Cert.Reference15Ideal.CdInDx.res (m ((c.tc : Thread nD τ).loc main_arg0)) (m ((c.tc : Thread nD τ).loc main_arg1)) := by
  refine (dats m 0 c).arrAt_eq_of_covers 2 _ (by decide +kernel) fun t hf y => ?_
  blk_simp
  rw [after0_2]
  have ht : t.val < 2 := t.isLt
  have hy : (y 0).val < 1024 := (y 0).isLt
  have E := place t y
  frame_out
  rw [E (y 0) (y 1) ⟨1024 * t.val + (y 0).val, by omega⟩ rfl rfl rfl]
  exact piece m c t _ _ _ (blockIdx _) _ rfl

end Cert.Kernel15Ideal.CdInDx

end
-- ==== Proof.CdInDw.lean ====
/- Hand-written, untrusted: the gradient of that product's matrix: one entry of the product, the block of a grid point against it, and the array whole. -/
module

public import proofs.«01_k».proof.Proof.Gen.Kernel16Ideal.Value
public import proofs.«01_k».proof.Proof.Gen.Reference16Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Reference16Ideal.CdInDw

open Cert.Reference16Ideal Cert.Reference16Ideal.Gen

/-- The reference's result as a function of its two arguments. -/
def res (a0 : FVec Ideal S2048x1536 .bf16) (a1 : FVec Ideal S2048x1024 .bf16) : FVec Ideal S1536x1024 .f32 :=
  transpose S1536x1024 [1, 0] (transpose S1024x1536 [1, 0] (Host.dotGeneral dot_S2048x1536_S2048x1024_S1536x1024_0_0_1_1_n_n none (extf .f32 a0 bitsLt_bf16_f32) (extf .f32 a1 bitsLt_bf16_f32)) transposes_S1536x1024_S1024x1536_1_0) transposes_S1024x1536_S1536x1024_1_0

/-- One entry of it: a column of the gradient against a column of `h`. -/
theorem res_at (a0 : FVec Ideal S2048x1536 .bf16) (a1 : FVec Ideal S2048x1024 .bf16) (r : Fin 1536) (l : Fin 1024) :
    res a0 a1 (ix2 r l) = ∑ k : Fin 2048, a0 (ix2 k r) * a1 (ix2 k l) := by
  pointwise [res]

end Cert.Reference16Ideal.CdInDw

namespace Cert.Kernel16Ideal.CdInDw

open Cert.Kernel16Ideal Cert.Kernel16Ideal.Gen

variable (m : (ℓ : Loc nD τ sig) → Buf (Elt Ideal) ℓ) (c : Dev nD)

/-- The block of a grid point: half the columns of the gradient against the columns of `h`. -/
theorem block_at (x0 : Vec Ideal S2048x768 .bf16) (x1 : Vec Ideal S2048x1024 .bf16) (s : Fin 768) (l : Fin 1024) :
    k0_pay1 (F := Ideal) x0 x1 (ix2 s l) = ∑ k : Fin 2048, x0 (ix2 k s) * x1 (ix2 k l) := by
  pointwise [k0_pay1]

theorem idx : ∀ t : Fin cfg0.N, win0_0.index t = ![0, t.val] ∧ win0_1.index t = ![0, 0] ∧ win0_2.index t = ![t.val, 0] :=
  (by decide +kernel : ∀ t : Fin grid0.N, _)

/-- A grid point's block against the reference at its place. -/
theorem piece (t : Fin cfg0.N) (x : S768x1024.Idx) (s : Fin 768) (l : Fin 1024) (hx : x = ix2 s l) (q : Fin 1536) (hq : q.val = 768 * t.val + s.val) :
    k0_pay1 (F := Ideal) (iblk m c 0 t) (iblk m c 1 t) x
      = Cert.Reference16Ideal.CdInDw.res (m ((c.tc : Thread nD τ).loc main_arg0)) (m ((c.tc : Thread nD τ).loc main_arg1)) (ix2 q l) := by
  subst hx
  rw [block_at, Cert.Reference16Ideal.CdInDw.res_at]
  refine Finset.sum_congr rfl fun k _ => ?_
  blk_point [iblk, V, idx t, hq]

theorem place (t : Fin cfg0.N) (y : ((cfg0.win 2).xblock (cfg0.grid.coords t)).Idx) (s : Fin 768) (l : Fin 1024) (q : Fin 1536) (hq : q.val = 768 * t.val + s.val)
    (e1 : (y 0).val = s.val) (e2 : (y 1).val = l.val) :
    ((View.whole main_v0).slice (win0_2.rect t)).emb y = ix2 q l := by
  blk_ext [idx t, hq]

theorem blockIdx (x : S768x1024.Idx) : x = ix2 (x 0) (x 1) := by
  idx_vars x; blk_ext

/-- The whole array the call leaves is the reference's. -/
theorem final : (dats m 0 c).arrAt 2 (cfgs 0).N
    = Cert.Reference16Ideal.CdInDw.res (m ((c.tc : Thread nD τ).loc main_arg0)) (m ((c.tc : Thread nD τ).loc main_arg1)) := by
  refine (dats m 0 c).arrAt_eq_of_covers 2 _ (by decide +kernel) fun t hf y => ?_
  blk_simp
  rw [after0_2]
  have ht : t.val < 2 := t.isLt
  have hy : (y 0).val < 768 := (y 0).isLt
  have E := place t y
  frame_out
  rw [E (y 0) (y 1) ⟨768 * t.val + (y 0).val, by omega⟩ rfl rfl rfl]
  exact piece m c t _ _ _ (blockIdx _) _ rfl

end Cert.Kernel16Ideal.CdInDw

end
-- ==== Proof.UqDw.lean ====
/- Hand-written, untrusted: the gradient of the queries' up projection matrix: one entry of the product, the block of a grid point against it, and the array whole. -/
module

public import proofs.«01_k».proof.Proof.Gen.Kernel17Ideal.Value
public import proofs.«01_k».proof.Proof.Gen.Reference17Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Reference17Ideal.UqDw

open Cert.Reference17Ideal Cert.Reference17Ideal.Gen

/-- The reference's result as a function of its two arguments. -/
def res (a0 : FVec Ideal S2048x1024 .bf16) (a1 : FVec Ideal S2048x256 .bf16) : FVec Ideal S1024x256 .f32 :=
  transpose S1024x256 [1, 0] (transpose S256x1024 [1, 0] (Host.dotGeneral dot_S2048x1024_S2048x256_S1024x256_0_0_1_1_n_n none (extf .f32 a0 bitsLt_bf16_f32) (extf .f32 a1 bitsLt_bf16_f32)) transposes_S1024x256_S256x1024_1_0) transposes_S256x1024_S1024x256_1_0

/-- One entry of it: a column of the gradient against a column of the normed queries. -/
theorem res_at (a0 : FVec Ideal S2048x1024 .bf16) (a1 : FVec Ideal S2048x256 .bf16) (r : Fin 1024) (l : Fin 256) :
    res a0 a1 (ix2 r l) = ∑ k : Fin 2048, a0 (ix2 k r) * a1 (ix2 k l) := by
  pointwise [res]

end Cert.Reference17Ideal.UqDw

namespace Cert.Kernel17Ideal.UqDw

open Cert.Kernel17Ideal Cert.Kernel17Ideal.Gen

variable (m : (ℓ : Loc nD τ sig) → Buf (Elt Ideal) ℓ) (c : Dev nD)

/-- The block of a grid point: half the columns of the gradient against the columns of the queries. -/
theorem block_at (x0 : Vec Ideal S2048x512 .bf16) (x1 : Vec Ideal S2048x256 .bf16) (s : Fin 512) (l : Fin 256) :
    k0_pay1 (F := Ideal) x0 x1 (ix2 s l) = ∑ k : Fin 2048, x0 (ix2 k s) * x1 (ix2 k l) := by
  pointwise [k0_pay1]

theorem idx : ∀ t : Fin cfg0.N, win0_0.index t = ![0, t.val] ∧ win0_1.index t = ![0, 0] ∧ win0_2.index t = ![t.val, 0] :=
  (by decide +kernel : ∀ t : Fin grid0.N, _)

/-- A grid point's block against the reference at its place. -/
theorem piece (t : Fin cfg0.N) (x : S512x256.Idx) (s : Fin 512) (l : Fin 256) (hx : x = ix2 s l) (q : Fin 1024) (hq : q.val = 512 * t.val + s.val) :
    k0_pay1 (F := Ideal) (iblk m c 0 t) (iblk m c 1 t) x
      = Cert.Reference17Ideal.UqDw.res (m ((c.tc : Thread nD τ).loc main_arg0)) (m ((c.tc : Thread nD τ).loc main_arg1)) (ix2 q l) := by
  subst hx
  rw [block_at, Cert.Reference17Ideal.UqDw.res_at]
  refine Finset.sum_congr rfl fun k _ => ?_
  blk_point [iblk, V, idx t, hq]

theorem place (t : Fin cfg0.N) (y : ((cfg0.win 2).xblock (cfg0.grid.coords t)).Idx) (s : Fin 512) (l : Fin 256) (q : Fin 1024) (hq : q.val = 512 * t.val + s.val)
    (e1 : (y 0).val = s.val) (e2 : (y 1).val = l.val) :
    ((View.whole main_v0).slice (win0_2.rect t)).emb y = ix2 q l := by
  blk_ext [idx t, hq]

theorem blockIdx (x : S512x256.Idx) : x = ix2 (x 0) (x 1) := by
  idx_vars x; blk_ext

/-- The whole array the call leaves is the reference's. -/
theorem final : (dats m 0 c).arrAt 2 (cfgs 0).N
    = Cert.Reference17Ideal.UqDw.res (m ((c.tc : Thread nD τ).loc main_arg0)) (m ((c.tc : Thread nD τ).loc main_arg1)) := by
  refine (dats m 0 c).arrAt_eq_of_covers 2 _ (by decide +kernel) fun t hf y => ?_
  blk_simp
  rw [after0_2]
  have ht : t.val < 2 := t.isLt
  have hy : (y 0).val < 512 := (y 0).isLt
  have E := place t y
  frame_out
  rw [E (y 0) (y 1) ⟨512 * t.val + (y 0).val, by omega⟩ rfl rfl rfl]
  exact piece m c t _ _ _ (blockIdx _) _ rfl

end Cert.Kernel17Ideal.UqDw

end
-- ==== Proof.UkvDw.lean ====
/- Hand-written, untrusted: the gradient of the keys' and values' up projection matrix: one entry of the product, the block of a grid point against it, and the array whole. -/
module

public import proofs.«01_k».proof.Proof.Gen.Kernel18Ideal.Value
public import proofs.«01_k».proof.Proof.Gen.Reference18Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Reference18Ideal.UkvDw

open Cert.Reference18Ideal Cert.Reference18Ideal.Gen

/-- The reference's result as a function of its two arguments. -/
def res (a0 : FVec Ideal S2048x128 .bf16) (a1 : FVec Ideal S2048x1536 .bf16) : FVec Ideal S128x1536 .f32 :=
  transpose S128x1536 [1, 0] (Host.dotGeneral dot_S2048x1536_S2048x128_S1536x128_0_0_1_1_n_n none (extf .f32 a1 bitsLt_bf16_f32) (extf .f32 a0 bitsLt_bf16_f32)) transposes_S1536x128_S128x1536_1_0

/-- One entry of it: a column of the normed latents against a column of the gradient. -/
theorem res_at (a0 : FVec Ideal S2048x128 .bf16) (a1 : FVec Ideal S2048x1536 .bf16) (s : Fin 128) (r : Fin 1536) :
    res a0 a1 (ix2 s r) = ∑ k : Fin 2048, a0 (ix2 k s) * a1 (ix2 k r) := by
  pointwise [res]
  exact Finset.sum_congr rfl fun k _ => mul_comm _ _

end Cert.Reference18Ideal.UkvDw

namespace Cert.Kernel18Ideal.UkvDw

open Cert.Kernel18Ideal Cert.Kernel18Ideal.Gen

variable (m : (ℓ : Loc nD τ sig) → Buf (Elt Ideal) ℓ) (c : Dev nD)

/-- The block of a grid point: the columns of the latents against a third of the columns of the gradient. -/
theorem block_at (x0 : Vec Ideal S2048x128 .bf16) (x1 : Vec Ideal S2048x512 .bf16) (s : Fin 128) (l : Fin 512) :
    k0_pay1 (F := Ideal) x0 x1 (ix2 s l) = ∑ k : Fin 2048, x0 (ix2 k s) * x1 (ix2 k l) := by
  pointwise [k0_pay1]

theorem idx : ∀ t : Fin cfg0.N, win0_0.index t = ![0, 0] ∧ win0_1.index t = ![0, t.val] ∧ win0_2.index t = ![0, t.val] :=
  (by decide +kernel : ∀ t : Fin grid0.N, _)

/-- A grid point's block against the reference at its place. -/
theorem piece (t : Fin cfg0.N) (x : S128x512.Idx) (s : Fin 128) (l : Fin 512) (hx : x = ix2 s l) (q : Fin 1536) (hq : q.val = 512 * t.val + l.val) :
    k0_pay1 (F := Ideal) (iblk m c 0 t) (iblk m c 1 t) x
      = Cert.Reference18Ideal.UkvDw.res (m ((c.tc : Thread nD τ).loc main_arg0)) (m ((c.tc : Thread nD τ).loc main_arg1)) (ix2 s q) := by
  subst hx
  rw [block_at, Cert.Reference18Ideal.UkvDw.res_at]
  refine Finset.sum_congr rfl fun k _ => ?_
  blk_point [iblk, V, idx t, hq]

theorem place (t : Fin cfg0.N) (y : ((cfg0.win 2).xblock (cfg0.grid.coords t)).Idx) (s : Fin 128) (l : Fin 512) (q : Fin 1536) (hq : q.val = 512 * t.val + l.val)
    (e1 : (y 0).val = s.val) (e2 : (y 1).val = l.val) :
    ((View.whole main_v0).slice (win0_2.rect t)).emb y = ix2 s q := by
  blk_ext [idx t, hq]

theorem blockIdx (x : S128x512.Idx) : x = ix2 (x 0) (x 1) := by
  idx_vars x; blk_ext

/-- The whole array the call leaves is the reference's. -/
theorem final : (dats m 0 c).arrAt 2 (cfgs 0).N
    = Cert.Reference18Ideal.UkvDw.res (m ((c.tc : Thread nD τ).loc main_arg0)) (m ((c.tc : Thread nD τ).loc main_arg1)) := by
  refine (dats m 0 c).arrAt_eq_of_covers 2 _ (by decide +kernel) fun t hf y => ?_
  blk_simp
  rw [after0_2]
  have ht : t.val < 3 := t.isLt
  have hy : (y 1).val < 512 := (y 1).isLt
  have E := place t y
  frame_out
  rw [E (y 0) (y 1) ⟨512 * t.val + (y 1).val, by omega⟩ rfl rfl rfl]
  exact piece m c t _ _ _ (blockIdx _) _ rfl

end Cert.Kernel18Ideal.UkvDw

end
-- ==== Proof.MixFwd.lean ====
/- Hand-written, untrusted: the forward call of the two sequence mixers. The reference's array and what the body stores are
   read at an index as the formulas of MixSpec.lean: the gated convolution in the first half of the result, the pooled and mixed
   rows times the scale in the second. The array the call leaves is then the reference's. -/
module

public import proofs.«01_k».proof.Proof.Gen.Kernel19Ideal.Value
public import proofs.«01_k».proof.Proof.Gen.Reference19Ideal.Run
public import Idealize.ShloMosaic.Lib.Pipeline.ValueKit
public import Idealize.ShloMosaic.Lib.Pointwise
public import proofs.«01_k».proof.Proof.MixKernel
public import proofs.«01_k».proof.Proof.MixReference

@[expose] public section

set_option maxRecDepth 16384

noncomputable section

open Idealize.ShloMosaic Idealize.ShloMosaic.TcCoe Idealize.SL.Sem
open Idealize.ShloMosaic.Pipeline (Dat)
open scoped BigOperators

namespace Cert.MixSpec

/-- The gated convolution. -/
def gated (w : Fin 3 → Fin 128 → EReal) (B C A : Cols) (r : Fin 2048) (l : Fin 128) : EReal := B r l * conv w C A r l
/-- The pooled rows, mixed and scaled. -/
def mixed (n : ℕ) (P : Cols) (sc : Fin 128 → EReal) (mix : Fin 128 → Fin 128 → EReal) (r : Fin 2048) (l : Fin 128) : EReal :=
  (∑ x : Fin 128, pooled n P r x * mix x l) * sc l

end Cert.MixSpec

/-! ## The reference's array -/

namespace Cert.Reference19Ideal.Fwd

open Cert.Reference19Ideal Cert.Reference19Ideal.Gen Cert.Reference19Ideal.Value Cert.MixSpec
open Cert.ReferenceIdeal.Mix (aB aC aA aP aConv aConv_at aPooled aPooled_at grp col win)

variable (z : FVec Ideal S8x2048x256 .bf16) (w : FVec Ideal S3x512 .f32) (mix : FVec Ideal S4x128x128 .f32) (sc : FVec Ideal S1x512 .f32)

def aMixed : FVec Ideal S2048x512 .f32 :=
  mulf (shapeCast S2048x512 (transpose S2048x4x128 [2, 0, 1]
    (Host.dotGeneral dot_S4x128x128_S2048x4x128_S4x128x2048_1_2_2_0_0_1 none mix (aPooled z)) transposes_S4x128x2048_S2048x4x128_2_0_1)
    shapeCasts_S2048x4x128_S2048x512) (broadcastInDim S2048x512 ![0, 1] bcast_S1x512_S2048x512_0_1 sc)
def aY : FVec Ideal S2x2048x512 .bf16 :=
  truncf .bf16 (concatenate S2x2048x512 0 [⟨S1x2048x512, broadcastInDim S1x2048x512 ![1, 2] bcast_S2048x512_S1x2048x512_1_2 (mulf (aB z) (aConv z w))⟩,
    ⟨S1x2048x512, broadcastInDim S1x2048x512 ![1, 2] bcast_S2048x512_S1x2048x512_1_2 (aMixed z mix sc)⟩]
    concatenates_S1x2048x512_S1x2048x512_S2x2048x512_d0) bitsLt_bf16_f32

theorem read_y (m : (ℓ : Loc nD τ sig) → Buf (Elt Ideal) ℓ) (c : Dev nD) :
    res_main_v70 m c = aY (m ((c.tc : Thread nD τ).loc main_arg0)) (m ((c.tc : Thread nD τ).loc main_arg1))
      (m ((c.tc : Thread nD τ).loc main_arg2)) (m ((c.tc : Thread nD τ).loc main_arg3)) := rfl

theorem aMixed_at (g : Fin 4) (r : Fin 2048) (l : Fin 128) : aMixed z mix sc (ix2 r (col g l))
    = mixed (win g) (grp (aP z) g) (fun l => sc (ix2 0 (col g l))) (fun a b => mix (ix3 g a b)) r l := by
  have e1 : ∀ h, (⟨(col g l).val / 128, h⟩ : Fin 4) = g := fun h => Fin.ext (by simp only [col]; omega)
  have e2 : ∀ h, (⟨(col g l).val % 128, h⟩ : Fin 128) = l := fun h => Fin.ext (by simp only [col]; omega)
  pointwise [aMixed]; simp only [e1, e2, aPooled_at]
  exact congrArg (· * _) (Finset.sum_congr rfl fun y _ => mul_comm _ _)

theorem y0 (g : Fin 4) (r : Fin 2048) (l : Fin 128) : aY z w mix sc (ix3 0 r (col g l))
    = gated (fun k l => w (ix2 k (col g l))) (grp (aB z) g) (grp (aC z) g) (grp (aA z) g) r l := by
  pointwise [aY]; rw [aConv_at]; rfl
theorem y1 (g : Fin 4) (r : Fin 2048) (l : Fin 128) : aY z w mix sc (ix3 1 r (col g l))
    = mixed (win g) (grp (aP z) g) (fun l => sc (ix2 0 (col g l))) (fun a b => mix (ix3 g a b)) r l := by
  pointwise [aY]; rw [aMixed_at]

/-- The reference's run, its result by the name above. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v70) = aY (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (read_y m c), (h c).2⟩) (run m ρ)

end Cert.Reference19Ideal.Fwd

/-! ## The stored pieces -/

namespace Cert.Kernel19Ideal.Fwd

open Cert.Kernel19Ideal Cert.Kernel19Ideal.Gen Cert.MixSpec
open Cert.ReferenceIdeal.Mix (aB aC aA aP grp col cell gr win)
open Cert.KernelIdeal.Mix (cols vP vM vPooled vPooled_at vCg vCg_at vP_at vW dn dn1 dn2 T2 T4 T8 T16 T2_at T4_at T8_at T16_at)
open Cert.Reference19Ideal.Fwd (aY y0 y1)

/-- How many rows the window has at each row. -/
def vCount (n : BitVec 32) : FVec Ideal S2048x128 .f32 :=
  sitofp .f32 (minsi (addi (iota .tc S2048x128 32 [0] iota_S2048x128_d0_w32) (broadcast S2048x128 1#32)) (broadcast S2048x128 n))

variable (T : FVec Ideal S2048x128 .f32 → FVec Ideal S2048x128 .f32) (K : FVec Ideal S2048x128 .f32)
variable (B C A X : FVec Ideal S1x2048x128 .bf16) (W : FVec Ideal S3x128 .f32) (M : FVec Ideal S1x128x128 .f32) (sc : FVec Ideal S1x128 .f32)

def vMixed : FVec Ideal S1x2048x128 .bf16 :=
  shapeCast S1x2048x128 (truncf .bf16 (mulf (matmul dot_S2048x128_S128x128_S2048x128_1_0_0_1_n_n none
    (truncf .bf16 (vPooled T K X) bitsLt_bf16_f32) (truncf .bf16 (vM M) bitsLt_bf16_f32) (constant S2048x128 .f32 0x00000000#32))
    (broadcastTo S2048x128 sc broadcasts_S1x128_S2048x128)) bitsLt_bf16_f32) shapeCasts_S2048x128_S1x2048x128
def vGated : FVec Ideal S1x2048x128 .bf16 :=
  shapeCast S1x2048x128 (truncf .bf16 (mulf (vP B) (addf (addf (mulf (vW W 0 slices_S3x128_o0_0_S1x128) (dn 2#32 (vCg C A)))
    (mulf (vW W 1 slices_S3x128_o1_0_S1x128) (dn 1#32 (vCg C A)))) (mulf (vW W 2 slices_S3x128_o2_0_S1x128) (vCg C A)))) bitsLt_bf16_f32)
    shapeCasts_S2048x128_S1x2048x128

theorem vMixed_at (n : ℕ) (r : Fin 2048) (l : Fin 128)
    (hT : ∀ v r l, T v (ix2 r l) = Cert.Window.trail n (fun s => v (ix2 s l)) r) (hK : ∀ r l, K (ix2 r l) = cnt n r) :
    vMixed T K X M sc (ix3 0 r l) = mixed n (cols X) (fun d => sc (ix2 0 d)) (fun a b => M (ix3 0 a b)) r l := by
  pointwise [vMixed, vM]; simp only [vPooled_at n T K _ _ _ hT hK, zero_add]; rfl

theorem gated_at (r l) : k0_pay7 (F := Ideal) C A W B (ix3 0 r l) = gated (fun k l => W (ix2 k l)) (cols B) (cols C) (cols A) r l := by
  refine (congrFun (show _ = vGated B C A W from rfl) _).trans ?_
  pointwise [vGated, vW]; rw [dn1, dn2]; simp only [vCg_at, vP_at]; rfl
theorem mixedA (r l) : k0_pay1 (F := Ideal) X M sc (ix3 0 r l) = mixed 2 (cols X) (fun d => sc (ix2 0 d)) (fun a b => M (ix3 0 a b)) r l :=
  (congrFun (show _ = vMixed T2 (vCount 2#32) X M sc from rfl) _).trans
    (vMixed_at T2 _ X M sc 2 r l T2_at fun r l => by pointwise [vCount]; rfl)
theorem mixedB (r l) : k0_pay2 (F := Ideal) X M sc (ix3 0 r l) = mixed 4 (cols X) (fun d => sc (ix2 0 d)) (fun a b => M (ix3 0 a b)) r l :=
  (congrFun (show _ = vMixed T4 (vCount 4#32) X M sc from rfl) _).trans
    (vMixed_at T4 _ X M sc 4 r l T4_at fun r l => by pointwise [vCount]; rfl)
theorem mixedC (r l) : k0_pay3 (F := Ideal) (k0_pay5 X M sc) (ix3 0 r l)
    = mixed 8 (cols X) (fun d => sc (ix2 0 d)) (fun a b => M (ix3 0 a b)) r l :=
  (congrFun (show _ = vMixed T8 (vCount 8#32) X M sc from rfl) _).trans
    (vMixed_at T8 _ X M sc 8 r l T8_at fun r l => by pointwise [vCount]; rfl)
theorem mixedD (r l) : k0_pay4 (F := Ideal) (k0_pay6 X) M sc (ix3 0 r l)
    = mixed 16 (cols X) (fun d => sc (ix2 0 d)) (fun a b => M (ix3 0 a b)) r l :=
  (congrFun (show _ = vMixed T16 (vCount 16#32) X M sc from rfl) _).trans
    (vMixed_at T16 _ X M sc 16 r l T16_at fun r l => by pointwise [vCount]; rfl)

/-! ## Where the blocks sit -/

variable (m : (ℓ : Loc nD τ sig) → Buf (Elt Ideal) ℓ) (c : Dev nD)

/-- Grid point `t` works on group `t`: lane block `t / 2`, half `t % 2`. -/
def kq (t : Fin cfg0.N) : Fin 2 := ⟨t.val / 2, by have h : t.val < 4 := t.isLt; omega⟩
def hq (t : Fin cfg0.N) : Fin 2 := ⟨t.val % 2, by omega⟩
def gq (t : Fin cfg0.N) : Fin 4 := gr (kq t) (hq t)
theorem gq_val (t : Fin cfg0.N) : (gq t).val = t.val := by
  simp only [gq, gr, kq, hq]; omega
theorem win_gq (t : Fin cfg0.N) : win (gq t) = 2 ^ (t.val + 1) := by unfold win; rw [gq_val]

theorem idx : ∀ t : Fin cfg0.N, win0_0.index t = ![t.val / 2, 0, t.val % 2] ∧ win0_1.index t = ![2 + t.val / 2, 0, t.val % 2]
    ∧ win0_2.index t = ![4 + t.val / 2, 0, t.val % 2] ∧ win0_3.index t = ![6 + t.val / 2, 0, t.val % 2] ∧ win0_4.index t = ![0, t.val]
    ∧ win0_5.index t = ![t.val, 0, 0] ∧ win0_6.index t = ![0, t.val] ∧ win0_7.index t = ![0, 0, t.val] :=
  (by decide +kernel : ∀ t : Fin grid0.N, _)

variable (t : Fin cfg0.N)

theorem colsB : cols (φ := .bf16) (iblk m c 0 t) = grp (aB (m ((c.tc : Thread nD τ).loc main_arg0))) (gq t) := funext fun s => funext fun l => by
  unfold gq; rw [Cert.ReferenceIdeal.Mix.aB_at]; show (iblk m c 0 t : FVec Ideal S1x2048x128 .bf16) (ix3 0 s l) = _; blk_ext [iblk, V, idx t, cell, kq, hq]
theorem colsC : cols (φ := .bf16) (iblk m c 1 t) = grp (aC (m ((c.tc : Thread nD τ).loc main_arg0))) (gq t) := funext fun s => funext fun l => by
  unfold gq; rw [Cert.ReferenceIdeal.Mix.aC_at]; show (iblk m c 1 t : FVec Ideal S1x2048x128 .bf16) (ix3 0 s l) = _; blk_ext [iblk, V, idx t, cell, kq, hq]
theorem colsA : cols (φ := .bf16) (iblk m c 2 t) = grp (aA (m ((c.tc : Thread nD τ).loc main_arg0))) (gq t) := funext fun s => funext fun l => by
  unfold gq; rw [Cert.ReferenceIdeal.Mix.aA_at]; show (iblk m c 2 t : FVec Ideal S1x2048x128 .bf16) (ix3 0 s l) = _; blk_ext [iblk, V, idx t, cell, kq, hq]
theorem colsP : cols (φ := .bf16) (iblk m c 3 t) = grp (aP (m ((c.tc : Thread nD τ).loc main_arg0))) (gq t) := funext fun s => funext fun l => by
  unfold gq; rw [Cert.ReferenceIdeal.Mix.aP_at]; show (iblk m c 3 t : FVec Ideal S1x2048x128 .bf16) (ix3 0 s l) = _; blk_ext [iblk, V, idx t, cell, kq, hq]
theorem wEq : (fun k l => (iblk m c 4 t : FVec Ideal S3x128 .f32) (ix2 k l))
    = fun k l => ((m ((c.tc : Thread nD τ).loc main_arg1)) : FVec Ideal S3x512 .f32) (ix2 k (col (gq t) l)) := funext fun k => funext fun l => by
  blk_ext [iblk, V, idx t, col, gq_val]
theorem mixEq : (fun a b => (iblk m c 5 t : FVec Ideal S1x128x128 .f32) (ix3 0 a b))
    = fun a b => ((m ((c.tc : Thread nD τ).loc main_arg2)) : FVec Ideal S4x128x128 .f32) (ix3 (gq t) a b) := funext fun a => funext fun b => by
  blk_ext [iblk, V, idx t, gq_val]
theorem scEq : (fun l => (iblk m c 6 t : FVec Ideal S1x128 .f32) (ix2 0 l))
    = fun l => ((m ((c.tc : Thread nD τ).loc main_arg3)) : FVec Ideal S1x512 .f32) (ix2 0 (col (gq t) l)) := funext fun l => by
  blk_ext [iblk, V, idx t, col, gq_val]

theorem emb7 (y : ((cfg0.win 7).xblock (cfg0.grid.coords t)).Idx) (i : Fin 2) (r : Fin 2048) (l : Fin 128)
    (e0 : (y 0).val = i.val) (e1 : (y 1).val = r.val) (e2 : (y 2).val = l.val) :
    ((View.whole main_v0).slice (win0_7.rect t)).emb y = ix3 i r (col (gq t) l) := by
  blk_ext [idx t, col, gq_val]

theorem pieceIdx (y : S1x2048x128.Idx) : y = ix3 0 (y 1) (y 2) := by
  idx_vars y; blk_ext

/-- The reference's array of this call's arguments. -/
abbrev Y : FVec Ideal S2x2048x512 .bf16 := aY (m ((c.tc : Thread nD τ).loc main_arg0)) (m ((c.tc : Thread nD τ).loc main_arg1))
  (m ((c.tc : Thread nD τ).loc main_arg2)) (m ((c.tc : Thread nD τ).loc main_arg3))

theorem piece1 (n : ℕ) (hn : win (gq t) = n) (v : FVec Ideal S1x2048x128 .bf16)
    (hv : ∀ r l, v (ix3 0 r l) = mixed n (cols (φ := .bf16) (iblk m c 3 t)) (fun d => (iblk m c 6 t : FVec Ideal S1x128 .f32) (ix2 0 d))
      (fun a b => (iblk m c 5 t : FVec Ideal S1x128x128 .f32) (ix3 0 a b)) r l)
    (y : S1x2048x128.Idx) (r : Fin 2048) (l : Fin 128) (hy : y = ix3 0 r l) : v y = Y m c (ix3 1 r (col (gq t) l)) := by
  subst hy; unfold Y; rw [y1, hv, colsP, mixEq, scEq, ← hn]
theorem piece0 (y : S1x2048x128.Idx) (r : Fin 2048) (l : Fin 128) (hy : y = ix3 0 r l) :
    k0_pay7 (F := Ideal) (iblk m c 1 t) (iblk m c 2 t) (iblk m c 4 t) (iblk m c 0 t) y = Y m c (ix3 0 r (col (gq t) l)) := by
  subst hy; unfold Y; rw [y0, gated_at, colsB, colsC, colsA, wEq]

/-- The array the call leaves. -/
theorem final7 : (dats m 0 c).arrAt 7 (cfgs 0).N = Y m c := by
  refine (dats m 0 c).arrAt_eq_of_covers 7 _ (by decide +kernel) fun t hf y => ?_
  blk_simp
  rw [after0_7]
  have h4 : t.val < 4 := t.isLt
  have hw := win_gq t
  have E := emb7 t y
  rcases (by omega : t.val = 0 ∨ t.val = 1 ∨ t.val = 2 ∨ t.val = 3) with h | h | h | h
  · rw [outsAt0_A m c t (by omega) (by omega) (by omega) (by omega)]; frame_out
    rw [h] at hw
    canon_tiles y hy
    case piece0 =>
      rw [E 1 (y 1) (y 2) (by omega) (by omega) (by omega)]
      exact piece1 m c t 2 hw _ (mixedA _ _ _) y _ _ (pieceIdx y)
    case piece1 =>
      rw [E 0 (y 1) (y 2) (by omega) (by omega) (by omega)]
      exact piece0 m c t y _ _ (pieceIdx y)
  · rw [outsAt0_B m c t (by omega) (by omega) (by omega) (by omega)]; frame_out
    rw [h] at hw
    canon_tiles y hy
    case piece0 =>
      rw [E 1 (y 1) (y 2) (by omega) (by omega) (by omega)]
      exact piece1 m c t 4 hw _ (mixedB _ _ _) y _ _ (pieceIdx y)
    case piece1 =>
      rw [E 0 (y 1) (y 2) (by omega) (by omega) (by omega)]
      exact piece0 m c t y _ _ (pieceIdx y)
  · rw [outsAt0_C m c t (by omega) (by omega) (by omega) (by omega)]; frame_out
    rw [h] at hw
    canon_tiles y hy
    case piece0 =>
      rw [E 1 (y 1) (y 2) (by omega) (by omega) (by omega)]
      exact piece1 m c t 8 hw _ (mixedC _ _ _) y _ _ (pieceIdx y)
    case piece1 =>
      rw [E 0 (y 1) (y 2) (by omega) (by omega) (by omega)]
      exact piece0 m c t y _ _ (pieceIdx y)
  · rw [outsAt0_D m c t (by omega) (by omega) (by omega) (by omega)]; frame_out
    rw [h] at hw
    canon_tiles y hy
    case piece0 =>
      rw [E 1 (y 1) (y 2) (by omega) (by omega) (by omega)]
      exact piece1 m c t 16 hw _ (mixedD _ _ _) y _ _ (pieceIdx y)
    case piece1 =>
      rw [E 0 (y 1) (y 2) (by omega) (by omega) (by omega)]
      exact piece0 m c t y _ _ (pieceIdx y)

end Cert.Kernel19Ideal.Fwd

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.MixBridge
public import proofs.«01_k».proof.Proof.Up
public import proofs.«01_k».proof.Proof.Down
public import proofs.«01_k».proof.Proof.DownDx
public import proofs.«01_k».proof.Proof.DownDw
public import proofs.«01_k».proof.Proof.UpDw
public import proofs.«01_k».proof.Proof.GateSame
public import proofs.«01_k».proof.Proof.GatePrinted
public import proofs.«01_k».proof.Proof.AbIn
public import proofs.«01_k».proof.Proof.AbInDw
public import proofs.«01_k».proof.Proof.AbInDx
public import proofs.«01_k».proof.Proof.Out
public import proofs.«01_k».proof.Proof.OutDx
public import proofs.«01_k».proof.Proof.OutDw
public import proofs.«01_k».proof.Proof.CdIn
public import proofs.«01_k».proof.Proof.CdInDx
public import proofs.«01_k».proof.Proof.CdInDw
public import proofs.«01_k».proof.Proof.UqDw
public import proofs.«01_k».proof.Proof.UkvDw
public import proofs.«01_k».proof.Proof.MixFwd
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The two programs leave the same four gradients. -/
theorem same : Cert.algebraic_KernelIdeal_ReferenceIdeal := by
  pair_intro
  · run_from Cert.KernelIdeal.Gen.run_main m g
  · run_from Cert.ReferenceIdeal.Mix.run_named m' g'
    · exact (Cert.KernelIdeal.Mix.final8 m c).symm
    · exact (Cert.KernelIdeal.Mix.final9 m c).symm
    · exact (Cert.KernelIdeal.Mix.final10 m c).symm
    · exact (Cert.KernelIdeal.Mix.final11 m c).symm

/-- The up projection. -/
theorem same2 : Cert.algebraic_Kernel2Ideal_Reference2Ideal := by
  pair_intro
  · run_from Cert.Kernel2Ideal.Gen.run_main m g
  · run_from Cert.Reference2Ideal.Value.run m' g'
    · exact (Cert.Kernel2Ideal.Up.final m c).symm

/-- The down projection and the residual behind it. -/
theorem same3 : Cert.algebraic_Kernel3Ideal_Reference3Ideal := by
  pair_intro
  · run_from Cert.Kernel3Ideal.Gen.run_main m g
  · run_from Cert.Reference3Ideal.Value.run m' g'
    · exact (Cert.Kernel3Ideal.Down.final4 m c).symm
    · exact (Cert.Kernel3Ideal.Down.final5 m c).symm

/-- The gradient of the down projection to its input. -/
theorem same4 : Cert.algebraic_Kernel4Ideal_Reference4Ideal := by
  pair_intro
  · run_from Cert.Kernel4Ideal.Gen.run_main m g
  · run_from Cert.Reference4Ideal.Value.run m' g'
    · exact (Cert.Kernel4Ideal.DownDx.final m c).symm

/-- The gradient of the down projection to its matrix. -/
theorem same5 : Cert.algebraic_Kernel5Ideal_Reference5Ideal := by
  pair_intro
  · run_from Cert.Kernel5Ideal.Gen.run_main m g
  · run_from Cert.Reference5Ideal.Value.run m' g'
    · exact (Cert.Kernel5Ideal.DownDw.final m c).symm

/-- The gradient of the up projection to its matrix. -/
theorem same6 : Cert.algebraic_Kernel6Ideal_Reference6Ideal := by
  pair_intro
  · run_from Cert.Kernel6Ideal.Gen.run_main m g
  · run_from Cert.Reference6Ideal.Value.run m' g'
    · exact (Cert.Kernel6Ideal.UpDw.final m c).symm

/-- The gate's gradient frames its arguments. -/
theorem frame7 : @Cert.quiescent_Kernel7Ideal Cert.Kernel7Ideal.Gen.facts := fun m ρ _ => Cert.Kernel7Ideal.Gate.frame (F := Ideal) m ρ

/-- The gate's reference frames its arguments. -/
theorem frame7_reference : @Cert.quiescent_Reference7Ideal Cert.Reference7Ideal.Gen.facts :=
  fun m g _ => (θ_run _ _ _).mono (fun _ h => ⟨fun c => (h c).2.2.2, sem_eq_zero_of_no_sems rfl _⟩) (Cert.Reference7Ideal.Value.run m g)

/-- The gate's gradient, of finite columns, filter and gate. -/
theorem same7 : Cert.algebraic_Kernel7Ideal_Reference7Ideal_pre_finite_gate := by
  intro m g m' g' hp hm
  have H : ∀ c, Cert.Kernel7Ideal.Gate.FiniteArgs m c := fun c =>
    Cert.Kernel7Ideal.Gate.finiteArgs m c (fun p => Fin.elim0 p) (congrFun (hp c) _)
  refine ⟨Cert.Kernel7Ideal.Gate.outU m, Cert.Kernel7Ideal.Gate.outW m, Cert.Kernel7Ideal.Gate.outH m, Cert.Kernel7Ideal.Gate.run_values m g H, ?_⟩
  refine (θ_run Cert.Reference7Ideal.defs _ _).mono (fun r h c => ?_) (Cert.Reference7Ideal.Value.run m' g')
  obtain ⟨h0, h1, h2, h3, h4⟩ := hm c
  exact ⟨(h c).1.trans (Cert.Kernel7Ideal.Gate.same0 m c m' h0 h1 h2 h3), (h c).2.1.trans (Cert.Kernel7Ideal.Gate.same1 m c m' h0 h1 h2 h3),
    (h c).2.2.1.trans (Cert.Kernel7Ideal.Gate.same2 m c m' h0 h1 h2 h3), (h c).2.2.2⟩

/-- The product in front of the first two mixers. -/
theorem same8 : Cert.algebraic_Kernel8Ideal_Reference8Ideal := by
  pair_intro
  · run_from Cert.Kernel8Ideal.Gen.run_main m g
  · run_from Cert.Reference8Ideal.Value.run m' g'
    · exact (Cert.Kernel8Ideal.AbIn.final m c).symm

/-- The gradient of that product to its matrix. -/
theorem same9 : Cert.algebraic_Kernel9Ideal_Reference9Ideal := by
  pair_intro
  · run_from Cert.Kernel9Ideal.Gen.run_main m g
  · run_from Cert.Reference9Ideal.Value.run m' g'
    · exact (Cert.Kernel9Ideal.AbInDw.final m c).symm

/-- The gradient of that product to its input. -/
theorem same10 : Cert.algebraic_Kernel10Ideal_Reference10Ideal := by
  pair_intro
  · run_from Cert.Kernel10Ideal.Gen.run_main m g
  · run_from Cert.Reference10Ideal.Value.run m' g'
    · exact (Cert.Kernel10Ideal.AbInDx.final m c).symm

/-- The product behind a mixer and the residual behind it. -/
theorem same11 : Cert.algebraic_Kernel11Ideal_Reference11Ideal := by
  pair_intro
  · run_from Cert.Kernel11Ideal.Gen.run_main m g
  · run_from Cert.Reference11Ideal.Value.run m' g'
    · exact (Cert.Kernel11Ideal.Out.final4 m c).symm
    · exact (Cert.Kernel11Ideal.Out.final5 m c).symm

/-- The gradient of that product to its input. -/
theorem same12 : Cert.algebraic_Kernel12Ideal_Reference12Ideal := by
  pair_intro
  · run_from Cert.Kernel12Ideal.Gen.run_main m g
  · run_from Cert.Reference12Ideal.Value.run m' g'
    · exact (Cert.Kernel12Ideal.OutDx.final m c).symm

/-- The gradient of that product to its matrix. -/
theorem same13 : Cert.algebraic_Kernel13Ideal_Reference13Ideal := by
  pair_intro
  · run_from Cert.Kernel13Ideal.Gen.run_main m g
  · run_from Cert.Reference13Ideal.Value.run m' g'
    · exact (Cert.Kernel13Ideal.OutDw.final m c).symm

/-- The product in front of the attention mixers. -/
theorem same14 : Cert.algebraic_Kernel14Ideal_Reference14Ideal := by
  pair_intro
  · run_from Cert.Kernel14Ideal.Gen.run_main m g
  · run_from Cert.Reference14Ideal.Value.run m' g'
    · exact (Cert.Kernel14Ideal.CdIn.final m c).symm

/-- The gradient of that product to its input. -/
theorem same15 : Cert.algebraic_Kernel15Ideal_Reference15Ideal := by
  pair_intro
  · run_from Cert.Kernel15Ideal.Gen.run_main m g
  · run_from Cert.Reference15Ideal.Value.run m' g'
    · exact (Cert.Kernel15Ideal.CdInDx.final m c).symm

/-- The gradient of that product to its matrix. -/
theorem same16 : Cert.algebraic_Kernel16Ideal_Reference16Ideal := by
  pair_intro
  · run_from Cert.Kernel16Ideal.Gen.run_main m g
  · run_from Cert.Reference16Ideal.Value.run m' g'
    · exact (Cert.Kernel16Ideal.CdInDw.final m c).symm

/-- The gradient of the query product to its matrix. -/
theorem same17 : Cert.algebraic_Kernel17Ideal_Reference17Ideal := by
  pair_intro
  · run_from Cert.Kernel17Ideal.Gen.run_main m g
  · run_from Cert.Reference17Ideal.Value.run m' g'
    · exact (Cert.Kernel17Ideal.UqDw.final m c).symm

/-- The gradient of the key and value product to its matrix. -/
theorem same18 : Cert.algebraic_Kernel18Ideal_Reference18Ideal := by
  pair_intro
  · run_from Cert.Kernel18Ideal.Gen.run_main m g
  · run_from Cert.Reference18Ideal.Value.run m' g'
    · exact (Cert.Kernel18Ideal.UkvDw.final m c).symm

/-- The forward call of the two mixers. -/
theorem same19 : Cert.algebraic_Kernel19Ideal_Reference19Ideal := by
  pair_intro
  · run_from Cert.Kernel19Ideal.Gen.run_main m g
  · run_from Cert.Reference19Ideal.Fwd.run_named m' g'
    · exact (Cert.Kernel19Ideal.Fwd.final7 m c).symm

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Pre_finite_gate.facts,
  fun m ρ _ => Cert.Kernel.Gen.frame m ρ, fun m ρ _ => Cert.KernelIdeal.Gen.frame m ρ,
  fun m g _ => (θ_run _ _ _).mono (fun _ h => ⟨fun c => (h c).2.2.2.2, sem_eq_zero_of_no_sems rfl _⟩) (Cert.ReferenceIdeal.Value.run m g),
  fun m ρ _ => Cert.Kernel2.Gen.frame m ρ, fun m ρ _ => Cert.Kernel2Ideal.Gen.frame m ρ,
  fun m g _ => (θ_run _ _ _).mono (fun _ h => ⟨fun c => (h c).2, sem_eq_zero_of_no_sems rfl _⟩) (Cert.Reference2Ideal.Value.run m g),
  fun m ρ _ => Cert.Kernel3.Gen.frame m ρ, fun m ρ _ => Cert.Kernel3Ideal.Gen.frame m ρ,
  fun m g _ => (θ_run _ _ _).mono (fun _ h => ⟨fun c => (h c).2.2, sem_eq_zero_of_no_sems rfl _⟩) (Cert.Reference3Ideal.Value.run m g),
  fun m ρ _ => Cert.Kernel4.Gen.frame m ρ, fun m ρ _ => Cert.Kernel4Ideal.Gen.frame m ρ,
  fun m g _ => (θ_run _ _ _).mono (fun _ h => ⟨fun c => (h c).2, sem_eq_zero_of_no_sems rfl _⟩) (Cert.Reference4Ideal.Value.run m g),
  fun m ρ _ => Cert.Kernel5.Gen.frame m ρ, fun m ρ _ => Cert.Kernel5Ideal.Gen.frame m ρ,
  fun m g _ => (θ_run _ _ _).mono (fun _ h => ⟨fun c => (h c).2, sem_eq_zero_of_no_sems rfl _⟩) (Cert.Reference5Ideal.Value.run m g),
  fun m ρ _ => Cert.Kernel6.Gen.frame m ρ, fun m ρ _ => Cert.Kernel6Ideal.Gen.frame m ρ,
  fun m g _ => (θ_run _ _ _).mono (fun _ h => ⟨fun c => (h c).2, sem_eq_zero_of_no_sems rfl _⟩) (Cert.Reference6Ideal.Value.run m g),
  Cert.Kernel7Ideal.Gate.frame_bits, frame7, fun m ρ _ => frame7 m ρ trivial, frame7_reference, fun m ρ _ => frame7_reference m ρ trivial,
  fun m ρ _ => Cert.Kernel8.Gen.frame m ρ, fun m ρ _ => Cert.Kernel8Ideal.Gen.frame m ρ,
  fun m g _ => (θ_run _ _ _).mono (fun _ h => ⟨fun c => (h c).2, sem_eq_zero_of_no_sems rfl _⟩) (Cert.Reference8Ideal.Value.run m g),
  fun m ρ _ => Cert.Kernel9.Gen.frame m ρ, fun m ρ _ => Cert.Kernel9Ideal.Gen.frame m ρ,
  fun m g _ => (θ_run _ _ _).mono (fun _ h => ⟨fun c => (h c).2, sem_eq_zero_of_no_sems rfl _⟩) (Cert.Reference9Ideal.Value.run m g),
  fun m ρ _ => Cert.Kernel10.Gen.frame m ρ, fun m ρ _ => Cert.Kernel10Ideal.Gen.frame m ρ,
  fun m g _ => (θ_run _ _ _).mono (fun _ h => ⟨fun c => (h c).2, sem_eq_zero_of_no_sems rfl _⟩) (Cert.Reference10Ideal.Value.run m g),
  fun m ρ _ => Cert.Kernel11.Gen.frame m ρ, fun m ρ _ => Cert.Kernel11Ideal.Gen.frame m ρ,
  fun m g _ => (θ_run _ _ _).mono (fun _ h => ⟨fun c => (h c).2.2, sem_eq_zero_of_no_sems rfl _⟩) (Cert.Reference11Ideal.Value.run m g),
  fun m ρ _ => Cert.Kernel12.Gen.frame m ρ, fun m ρ _ => Cert.Kernel12Ideal.Gen.frame m ρ,
  fun m g _ => (θ_run _ _ _).mono (fun _ h => ⟨fun c => (h c).2, sem_eq_zero_of_no_sems rfl _⟩) (Cert.Reference12Ideal.Value.run m g),
  fun m ρ _ => Cert.Kernel13.Gen.frame m ρ, fun m ρ _ => Cert.Kernel13Ideal.Gen.frame m ρ,
  fun m g _ => (θ_run _ _ _).mono (fun _ h => ⟨fun c => (h c).2, sem_eq_zero_of_no_sems rfl _⟩) (Cert.Reference13Ideal.Value.run m g),
  fun m ρ _ => Cert.Kernel14.Gen.frame m ρ, fun m ρ _ => Cert.Kernel14Ideal.Gen.frame m ρ,
  fun m g _ => (θ_run _ _ _).mono (fun _ h => ⟨fun c => (h c).2, sem_eq_zero_of_no_sems rfl _⟩) (Cert.Reference14Ideal.Value.run m g),
  fun m ρ _ => Cert.Kernel15.Gen.frame m ρ, fun m ρ _ => Cert.Kernel15Ideal.Gen.frame m ρ,
  fun m g _ => (θ_run _ _ _).mono (fun _ h => ⟨fun c => (h c).2, sem_eq_zero_of_no_sems rfl _⟩) (Cert.Reference15Ideal.Value.run m g),
  fun m ρ _ => Cert.Kernel16.Gen.frame m ρ, fun m ρ _ => Cert.Kernel16Ideal.Gen.frame m ρ,
  fun m g _ => (θ_run _ _ _).mono (fun _ h => ⟨fun c => (h c).2, sem_eq_zero_of_no_sems rfl _⟩) (Cert.Reference16Ideal.Value.run m g),
  fun m ρ _ => Cert.Kernel17.Gen.frame m ρ, fun m ρ _ => Cert.Kernel17Ideal.Gen.frame m ρ,
  fun m g _ => (θ_run _ _ _).mono (fun _ h => ⟨fun c => (h c).2, sem_eq_zero_of_no_sems rfl _⟩) (Cert.Reference17Ideal.Value.run m g),
  fun m ρ _ => Cert.Kernel18.Gen.frame m ρ, fun m ρ _ => Cert.Kernel18Ideal.Gen.frame m ρ,
  fun m g _ => (θ_run _ _ _).mono (fun _ h => ⟨fun c => (h c).2, sem_eq_zero_of_no_sems rfl _⟩) (Cert.Reference18Ideal.Value.run m g),
  fun m ρ _ => Cert.Kernel19.Gen.frame m ρ, fun m ρ _ => Cert.Kernel19Ideal.Gen.frame m ρ,
  fun m g _ => (θ_run _ _ _).mono (fun _ h => ⟨fun c => (h c).2, sem_eq_zero_of_no_sems rfl _⟩) (Cert.Reference19Ideal.Value.run m g),
  trivial, same, trivial, same2, trivial, same3, trivial, same4, trivial, same5, trivial, same6, trivial, same7, trivial, same8, trivial, same9, trivial, same10, trivial, same11, trivial, same12, trivial, same13, trivial, same14, trivial, same15, trivial, same16, trivial, same17, trivial, same18, trivial, same19⟩

end Cert.Proof

end
